-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31)
      ∧ r.2.mem ((c.tc : Thread Cert.Kernel19.nD Cert.Kernel19.τ).loc Cert.Kernel19.main_arg32) = m ((c.tc : Thread Cert.Kernel19.nD Cert.Kernel19.τ).loc Cert.Kernel19.main_arg32)
      ∧ r.2.mem ((c.tc : Thread Cert.Kernel19.nD Cert.Kernel19.τ).loc Cert.Kernel19.main_arg33) = m ((c.tc : Thread Cert.Kernel19.nD Cert.Kernel19.τ).loc Cert.Kernel19.main_arg33)
      ∧ r.2.mem ((c.tc : Thread Cert.Kernel19.nD Cert.Kernel19.τ).loc Cert.Kernel19.main_arg34) = m ((c.tc : Thread Cert.Kernel19.nD Cert.Kernel19.τ).loc Cert.Kernel19.main_arg34)
      ∧ r.2.mem ((c.tc : Thread Cert.Kernel19.nD Cert.Kernel19.τ).loc Cert.Kernel19.main_arg35) = m ((c.tc : Thread Cert.Kernel19.nD Cert.Kernel19.τ).loc Cert.Kernel19.main_arg35)
      ∧ r.2.mem ((c.tc : Thread Cert.Kernel19.nD Cert.Kernel19.τ).loc Cert.Kernel19.main_arg36) = m ((c.tc : Thread Cert.Kernel19.nD Cert.Kernel19.τ).loc Cert.Kernel19.main_arg36)
      ∧ r.2.mem ((c.tc : Thread Cert.Kernel19.nD Cert.Kernel19.τ).loc Cert.Kernel19.main_arg37) = m ((c.tc : Thread Cert.Kernel19.nD Cert.Kernel19.τ).loc Cert.Kernel19.main_arg37)
      ∧ r.2.mem ((c.tc : Thread Cert.Kernel19.nD Cert.Kernel19.τ).loc Cert.Kernel19.main_arg38) = m ((c.tc : Thread Cert.Kernel19.nD Cert.Kernel19.τ).loc Cert.Kernel19.main_arg38)
      ∧ r.2.mem ((c.tc : Thread Cert.Kernel19.nD Cert.Kernel19.τ).loc Cert.Kernel19.main_arg39) = m ((c.tc : Thread Cert.Kernel19.nD Cert.Kernel19.τ).loc Cert.Kernel19.main_arg39)
      ∧ r.2.mem ((c.tc : Thread Cert.Kernel19.nD Cert.Kernel19.τ).loc Cert.Kernel19.main_arg40) = m ((c.tc : Thread Cert.Kernel19.nD Cert.Kernel19.τ).loc Cert.Kernel19.main_arg40)
      ∧ r.2.mem ((c.tc : Thread Cert.Kernel19.nD Cert.Kernel19.τ).loc Cert.Kernel19.main_arg41) = m ((c.tc : Thread Cert.Kernel19.nD Cert.Kernel19.τ).loc Cert.Kernel19.main_arg41)
      ∧ r.2.mem ((c.tc : Thread Cert.Kernel19.nD Cert.Kernel19.τ).loc Cert.Kernel19.main_arg42) = m ((c.tc : Thread Cert.Kernel19.nD Cert.Kernel19.τ).loc Cert.Kernel19.main_arg42)
      ∧ r.2.mem ((c.tc : Thread Cert.Kernel19.nD Cert.Kernel19.τ).loc Cert.Kernel19.main_arg43) = m ((c.tc : Thread Cert.Kernel19.nD Cert.Kernel19.τ).loc Cert.Kernel19.main_arg43)
      ∧ r.2.mem ((c.tc : Thread Cert.Kernel19.nD Cert.Kernel19.τ).loc Cert.Kernel19.main_arg44) = m ((c.tc : Thread Cert.Kernel19.nD Cert.Kernel19.τ).loc Cert.Kernel19.main_arg44)
      ∧ r.2.mem ((c.tc : Thread Cert.Kernel19.nD Cert.Kernel19.τ).loc Cert.Kernel19.main_arg45) = m ((c.tc : Thread Cert.Kernel19.nD Cert.Kernel19.τ).loc Cert.Kernel19.main_arg45)
      ∧ r.2.mem ((c.tc : Thread Cert.Kernel19.nD Cert.Kernel19.τ).loc Cert.Kernel19.main_arg46) = m ((c.tc : Thread Cert.Kernel19.nD Cert.Kernel19.τ).loc Cert.Kernel19.main_arg46)
      ∧ r.2.mem ((c.tc : Thread Cert.Kernel19.nD Cert.Kernel19.τ).loc Cert.Kernel19.main_arg47) = m ((c.tc : Thread Cert.Kernel19.nD Cert.Kernel19.τ).loc Cert.Kernel19.main_arg47)
      ∧ r.2.mem ((c.tc : Thread Cert.Kernel19.nD Cert.Kernel19.τ).loc Cert.Kernel19.main_arg48) = m ((c.tc : Thread Cert.Kernel19.nD Cert.Kernel19.τ).loc Cert.Kernel19.main_arg48)
      ∧ r.2.mem ((c.tc : Thread Cert.Kernel19.nD Cert.Kernel19.τ).loc Cert.Kernel19.main_arg49) = m ((c.tc : Thread Cert.Kernel19.nD Cert.Kernel19.τ).loc Cert.Kernel19.main_arg49)
      ∧ r.2.mem ((c.tc : Thread Cert.Kernel19.nD Cert.Kernel19.τ).loc Cert.Kernel19.main_arg50) = m ((c.tc : Thread Cert.Kernel19.nD Cert.Kernel19.τ).loc Cert.Kernel19.main_arg50)
      ∧ r.2.mem ((c.tc : Thread Cert.Kernel19.nD Cert.Kernel19.τ).loc Cert.Kernel19.main_arg51) = m ((c.tc : Thread Cert.Kernel19.nD Cert.Kernel19.τ).loc Cert.Kernel19.main_arg51)
      ∧ r.2.mem ((c.tc : Thread Cert.Kernel19.nD Cert.Kernel19.τ).loc Cert.Kernel19.main_arg52) = m ((c.tc : Thread Cert.Kernel19.nD Cert.Kernel19.τ).loc Cert.Kernel19.main_arg52)
      ∧ r.2.mem ((c.tc : Thread Cert.Kernel19.nD Cert.Kernel19.τ).loc Cert.Kernel19.main_arg53) = m ((c.tc : Thread Cert.Kernel19.nD Cert.Kernel19.τ).loc Cert.Kernel19.main_arg53)
      ∧ r.2.mem ((c.tc : Thread Cert.Kernel19.nD Cert.Kernel19.τ).loc Cert.Kernel19.main_arg54) = m ((c.tc : Thread Cert.Kernel19.nD Cert.Kernel19.τ).loc Cert.Kernel19.main_arg54)
      ∧ r.2.mem ((c.tc : Thread Cert.Kernel19.nD Cert.Kernel19.τ).loc Cert.Kernel19.main_arg55) = m ((c.tc : Thread Cert.Kernel19.nD Cert.Kernel19.τ).loc Cert.Kernel19.main_arg55)
      ∧ r.2.mem ((c.tc : Thread Cert.Kernel19.nD Cert.Kernel19.τ).loc Cert.Kernel19.main_arg56) = m ((c.tc : Thread Cert.Kernel19.nD Cert.Kernel19.τ).loc Cert.Kernel19.main_arg56)
      ∧ r.2.mem ((c.tc : Thread Cert.Kernel19.nD Cert.Kernel19.τ).loc Cert.Kernel19.main_arg57) = m ((c.tc : Thread Cert.Kernel19.nD Cert.Kernel19.τ).loc Cert.Kernel19.main_arg57)
      ∧ r.2.mem ((c.tc : Thread Cert.Kernel19.nD Cert.Kernel19.τ).loc Cert.Kernel19.main_arg58) = m ((c.tc : Thread Cert.Kernel19.nD Cert.Kernel19.τ).loc Cert.Kernel19.main_arg58)
      ∧ r.2.mem ((c.tc : Thread Cert.Kernel19.nD Cert.Kernel19.τ).loc Cert.Kernel19.main_arg59) = m ((c.tc : Thread Cert.Kernel19.nD Cert.Kernel19.τ).loc Cert.Kernel19.main_arg59)
      ∧ r.2.mem ((c.tc : Thread Cert.Kernel19.nD Cert.Kernel19.τ).loc Cert.Kernel19.main_arg60) = m ((c.tc : Thread Cert.Kernel19.nD Cert.Kernel19.τ).loc Cert.Kernel19.main_arg60)
      ∧ r.2.mem ((c.tc : Thread Cert.Kernel19.nD Cert.Kernel19.τ).loc Cert.Kernel19.main_arg61) = m ((c.tc : Thread Cert.Kernel19.nD Cert.Kernel19.τ).loc Cert.Kernel19.main_arg61)
      ∧ r.2.mem ((c.tc : Thread Cert.Kernel19.nD Cert.Kernel19.τ).loc Cert.Kernel19.main_arg62) = m ((c.tc : Thread Cert.Kernel19.nD Cert.Kernel19.τ).loc Cert.Kernel19.main_arg62)
      ∧ r.2.mem ((c.tc : Thread Cert.Kernel19.nD Cert.Kernel19.τ).loc Cert.Kernel19.main_arg63) = m ((c.tc : Thread Cert.Kernel19.nD Cert.Kernel19.τ).loc Cert.Kernel19.main_arg63)
      ∧ r.2.mem ((c.tc : Thread Cert.Kernel19.nD Cert.Kernel19.τ).loc Cert.Kernel19.main_arg64) = m ((c.tc : Thread Cert.Kernel19.nD Cert.Kernel19.τ).loc Cert.Kernel19.main_arg64)
      ∧ r.2.mem ((c.tc : Thread Cert.Kernel19.nD Cert.Kernel19.τ).loc Cert.Kernel19.main_arg65) = m ((c.tc : Thread Cert.Kernel19.nD Cert.Kernel19.τ).loc Cert.Kernel19.main_arg65)
      ∧ r.2.mem ((c.tc : Thread Cert.Kernel19.nD Cert.Kernel19.τ).loc Cert.Kernel19.main_arg66) = m ((c.tc : Thread Cert.Kernel19.nD Cert.Kernel19.τ).loc Cert.Kernel19.main_arg66)
      ∧ r.2.mem ((c.tc : Thread Cert.Kernel19.nD Cert.Kernel19.τ).loc Cert.Kernel19.main_arg67) = m ((c.tc : Thread Cert.Kernel19.nD Cert.Kernel19.τ).loc Cert.Kernel19.main_arg67)
      ∧ r.2.mem ((c.tc : Thread Cert.Kernel19.nD Cert.Kernel19.τ).loc Cert.Kernel19.main_arg68) = m ((c.tc : Thread Cert.Kernel19.nD Cert.Kernel19.τ).loc Cert.Kernel19.main_arg68)
      ∧ r.2.mem ((c.tc : Thread Cert.Kernel19.nD Cert.Kernel19.τ).loc Cert.Kernel19.main_arg69) = m ((c.tc : Thread Cert.Kernel19.nD Cert.Kernel19.τ).loc Cert.Kernel19.main_arg69)
      ∧ r.2.mem ((c.tc : Thread Cert.Kernel19.nD Cert.Kernel19.τ).loc Cert.Kernel19.main_arg70) = m ((c.tc : Thread Cert.Kernel19.nD Cert.Kernel19.τ).loc Cert.Kernel19.main_arg70)
      ∧ r.2.mem ((c.tc : Thread Cert.Kernel19.nD Cert.Kernel19.τ).loc Cert.Kernel19.main_arg71) = m ((c.tc : Thread Cert.Kernel19.nD Cert.Kernel19.τ).loc Cert.Kernel19.main_arg71))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
      ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
      ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
      ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
      ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
      ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
      ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
      ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
      ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
      ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
      ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
      ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
      ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43)
      ∧ r.2.mem ((c.tc : Thread Cert.Kernel19Ideal.nD Cert.Kernel19Ideal.τ).loc Cert.Kernel19Ideal.main_arg44) = m ((c.tc : Thread Cert.Kernel19Ideal.nD Cert.Kernel19Ideal.τ).loc Cert.Kernel19Ideal.main_arg44)
      ∧ r.2.mem ((c.tc : Thread Cert.Kernel19Ideal.nD Cert.Kernel19Ideal.τ).loc Cert.Kernel19Ideal.main_arg45) = m ((c.tc : Thread Cert.Kernel19Ideal.nD Cert.Kernel19Ideal.τ).loc Cert.Kernel19Ideal.main_arg45)
      ∧ r.2.mem ((c.tc : Thread Cert.Kernel19Ideal.nD Cert.Kernel19Ideal.τ).loc Cert.Kernel19Ideal.main_arg46) = m ((c.tc : Thread Cert.Kernel19Ideal.nD Cert.Kernel19Ideal.τ).loc Cert.Kernel19Ideal.main_arg46)
      ∧ r.2.mem ((c.tc : Thread Cert.Kernel19Ideal.nD Cert.Kernel19Ideal.τ).loc Cert.Kernel19Ideal.main_arg47) = m ((c.tc : Thread Cert.Kernel19Ideal.nD Cert.Kernel19Ideal.τ).loc Cert.Kernel19Ideal.main_arg47)
      ∧ r.2.mem ((c.tc : Thread Cert.Kernel19Ideal.nD Cert.Kernel19Ideal.τ).loc Cert.Kernel19Ideal.main_arg48) = m ((c.tc : Thread Cert.Kernel19Ideal.nD Cert.Kernel19Ideal.τ).loc Cert.Kernel19Ideal.main_arg48)
      ∧ r.2.mem ((c.tc : Thread Cert.Kernel19Ideal.nD Cert.Kernel19Ideal.τ).loc Cert.Kernel19Ideal.main_arg49) = m ((c.tc : Thread Cert.Kernel19Ideal.nD Cert.Kernel19Ideal.τ).loc Cert.Kernel19Ideal.main_arg49)
      ∧ r.2.mem ((c.tc : Thread Cert.Kernel19Ideal.nD Cert.Kernel19Ideal.τ).loc Cert.Kernel19Ideal.main_arg50) = m ((c.tc : Thread Cert.Kernel19Ideal.nD Cert.Kernel19Ideal.τ).loc Cert.Kernel19Ideal.main_arg50)
      ∧ r.2.mem ((c.tc : Thread Cert.Kernel19Ideal.nD Cert.Kernel19Ideal.τ).loc Cert.Kernel19Ideal.main_arg51) = m ((c.tc : Thread Cert.Kernel19Ideal.nD Cert.Kernel19Ideal.τ).loc Cert.Kernel19Ideal.main_arg51)
      ∧ r.2.mem ((c.tc : Thread Cert.Kernel19Ideal.nD Cert.Kernel19Ideal.τ).loc Cert.Kernel19Ideal.main_arg52) = m ((c.tc : Thread Cert.Kernel19Ideal.nD Cert.Kernel19Ideal.τ).loc Cert.Kernel19Ideal.main_arg52)
      ∧ r.2.mem ((c.tc : Thread Cert.Kernel19Ideal.nD Cert.Kernel19Ideal.τ).loc Cert.Kernel19Ideal.main_arg53) = m ((c.tc : Thread Cert.Kernel19Ideal.nD Cert.Kernel19Ideal.τ).loc Cert.Kernel19Ideal.main_arg53)
      ∧ r.2.mem ((c.tc : Thread Cert.Kernel19Ideal.nD Cert.Kernel19Ideal.τ).loc Cert.Kernel19Ideal.main_arg54) = m ((c.tc : Thread Cert.Kernel19Ideal.nD Cert.Kernel19Ideal.τ).loc Cert.Kernel19Ideal.main_arg54)
      ∧ r.2.mem ((c.tc : Thread Cert.Kernel19Ideal.nD Cert.Kernel19Ideal.τ).loc Cert.Kernel19Ideal.main_arg55) = m ((c.tc : Thread Cert.Kernel19Ideal.nD Cert.Kernel19Ideal.τ).loc Cert.Kernel19Ideal.main_arg55)
      ∧ r.2.mem ((c.tc : Thread Cert.Kernel19Ideal.nD Cert.Kernel19Ideal.τ).loc Cert.Kernel19Ideal.main_arg56) = m ((c.tc : Thread Cert.Kernel19Ideal.nD Cert.Kernel19Ideal.τ).loc Cert.Kernel19Ideal.main_arg56)
      ∧ r.2.mem ((c.tc : Thread Cert.Kernel19Ideal.nD Cert.Kernel19Ideal.τ).loc Cert.Kernel19Ideal.main_arg57) = m ((c.tc : Thread Cert.Kernel19Ideal.nD Cert.Kernel19Ideal.τ).loc Cert.Kernel19Ideal.main_arg57)
      ∧ r.2.mem ((c.tc : Thread Cert.Kernel19Ideal.nD Cert.Kernel19Ideal.τ).loc Cert.Kernel19Ideal.main_arg58) = m ((c.tc : Thread Cert.Kernel19Ideal.nD Cert.Kernel19Ideal.τ).loc Cert.Kernel19Ideal.main_arg58)
      ∧ r.2.mem ((c.tc : Thread Cert.Kernel19Ideal.nD Cert.Kernel19Ideal.τ).loc Cert.Kernel19Ideal.main_arg59) = m ((c.tc : Thread Cert.Kernel19Ideal.nD Cert.Kernel19Ideal.τ).loc Cert.Kernel19Ideal.main_arg59)
      ∧ r.2.mem ((c.tc : Thread Cert.Kernel19Ideal.nD Cert.Kernel19Ideal.τ).loc Cert.Kernel19Ideal.main_arg60) = m ((c.tc : Thread Cert.Kernel19Ideal.nD Cert.Kernel19Ideal.τ).loc Cert.Kernel19Ideal.main_arg60)
      ∧ r.2.mem ((c.tc : Thread Cert.Kernel19Ideal.nD Cert.Kernel19Ideal.τ).loc Cert.Kernel19Ideal.main_arg61) = m ((c.tc : Thread Cert.Kernel19Ideal.nD Cert.Kernel19Ideal.τ).loc Cert.Kernel19Ideal.main_arg61)
      ∧ r.2.mem ((c.tc : Thread Cert.Kernel19Ideal.nD Cert.Kernel19Ideal.τ).loc Cert.Kernel19Ideal.main_arg62) = m ((c.tc : Thread Cert.Kernel19Ideal.nD Cert.Kernel19Ideal.τ).loc Cert.Kernel19Ideal.main_arg62)
      ∧ r.2.mem ((c.tc : Thread Cert.Kernel19Ideal.nD Cert.Kernel19Ideal.τ).loc Cert.Kernel19Ideal.main_arg63) = m ((c.tc : Thread Cert.Kernel19Ideal.nD Cert.Kernel19Ideal.τ).loc Cert.Kernel19Ideal.main_arg63)
      ∧ r.2.mem ((c.tc : Thread Cert.Kernel19Ideal.nD Cert.Kernel19Ideal.τ).loc Cert.Kernel19Ideal.main_arg64) = m ((c.tc : Thread Cert.Kernel19Ideal.nD Cert.Kernel19Ideal.τ).loc Cert.Kernel19Ideal.main_arg64)
      ∧ r.2.mem ((c.tc : Thread Cert.Kernel19Ideal.nD Cert.Kernel19Ideal.τ).loc Cert.Kernel19Ideal.main_arg65) = m ((c.tc : Thread Cert.Kernel19Ideal.nD Cert.Kernel19Ideal.τ).loc Cert.Kernel19Ideal.main_arg65)
      ∧ r.2.mem ((c.tc : Thread Cert.Kernel19Ideal.nD Cert.Kernel19Ideal.τ).loc Cert.Kernel19Ideal.main_arg66) = m ((c.tc : Thread Cert.Kernel19Ideal.nD Cert.Kernel19Ideal.τ).loc Cert.Kernel19Ideal.main_arg66)
      ∧ r.2.mem ((c.tc : Thread Cert.Kernel19Ideal.nD Cert.Kernel19Ideal.τ).loc Cert.Kernel19Ideal.main_arg67) = m ((c.tc : Thread Cert.Kernel19Ideal.nD Cert.Kernel19Ideal.τ).loc Cert.Kernel19Ideal.main_arg67)
      ∧ r.2.mem ((c.tc : Thread Cert.Kernel19Ideal.nD Cert.Kernel19Ideal.τ).loc Cert.Kernel19Ideal.main_arg68) = m ((c.tc : Thread Cert.Kernel19Ideal.nD Cert.Kernel19Ideal.τ).loc Cert.Kernel19Ideal.main_arg68)
      ∧ r.2.mem ((c.tc : Thread Cert.Kernel19Ideal.nD Cert.Kernel19Ideal.τ).loc Cert.Kernel19Ideal.main_arg69) = m ((c.tc : Thread Cert.Kernel19Ideal.nD Cert.Kernel19Ideal.τ).loc Cert.Kernel19Ideal.main_arg69)
      ∧ r.2.mem ((c.tc : Thread Cert.Kernel19Ideal.nD Cert.Kernel19Ideal.τ).loc Cert.Kernel19Ideal.main_arg70) = m ((c.tc : Thread Cert.Kernel19Ideal.nD Cert.Kernel19Ideal.τ).loc Cert.Kernel19Ideal.main_arg70)
      ∧ r.2.mem ((c.tc : Thread Cert.Kernel19Ideal.nD Cert.Kernel19Ideal.τ).loc Cert.Kernel19Ideal.main_arg71) = m ((c.tc : Thread Cert.Kernel19Ideal.nD Cert.Kernel19Ideal.τ).loc Cert.Kernel19Ideal.main_arg71))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31)
      ∧ r.2.mem ((c.tc : Thread Cert.Reference19Ideal.nD Cert.Reference19Ideal.τ).loc Cert.Reference19Ideal.main_arg32) = m ((c.tc : Thread Cert.Reference19Ideal.nD Cert.Reference19Ideal.τ).loc Cert.Reference19Ideal.main_arg32)
      ∧ r.2.mem ((c.tc : Thread Cert.Reference19Ideal.nD Cert.Reference19Ideal.τ).loc Cert.Reference19Ideal.main_arg33) = m ((c.tc : Thread Cert.Reference19Ideal.nD Cert.Reference19Ideal.τ).loc Cert.Reference19Ideal.main_arg33)
      ∧ r.2.mem ((c.tc : Thread Cert.Reference19Ideal.nD Cert.Reference19Ideal.τ).loc Cert.Reference19Ideal.main_arg34) = m ((c.tc : Thread Cert.Reference19Ideal.nD Cert.Reference19Ideal.τ).loc Cert.Reference19Ideal.main_arg34)
      ∧ r.2.mem ((c.tc : Thread Cert.Reference19Ideal.nD Cert.Reference19Ideal.τ).loc Cert.Reference19Ideal.main_arg35) = m ((c.tc : Thread Cert.Reference19Ideal.nD Cert.Reference19Ideal.τ).loc Cert.Reference19Ideal.main_arg35)
      ∧ r.2.mem ((c.tc : Thread Cert.Reference19Ideal.nD Cert.Reference19Ideal.τ).loc Cert.Reference19Ideal.main_arg36) = m ((c.tc : Thread Cert.Reference19Ideal.nD Cert.Reference19Ideal.τ).loc Cert.Reference19Ideal.main_arg36)
      ∧ r.2.mem ((c.tc : Thread Cert.Reference19Ideal.nD Cert.Reference19Ideal.τ).loc Cert.Reference19Ideal.main_arg37) = m ((c.tc : Thread Cert.Reference19Ideal.nD Cert.Reference19Ideal.τ).loc Cert.Reference19Ideal.main_arg37)
      ∧ r.2.mem ((c.tc : Thread Cert.Reference19Ideal.nD Cert.Reference19Ideal.τ).loc Cert.Reference19Ideal.main_arg38) = m ((c.tc : Thread Cert.Reference19Ideal.nD Cert.Reference19Ideal.τ).loc Cert.Reference19Ideal.main_arg38)
      ∧ r.2.mem ((c.tc : Thread Cert.Reference19Ideal.nD Cert.Reference19Ideal.τ).loc Cert.Reference19Ideal.main_arg39) = m ((c.tc : Thread Cert.Reference19Ideal.nD Cert.Reference19Ideal.τ).loc Cert.Reference19Ideal.main_arg39)
      ∧ r.2.mem ((c.tc : Thread Cert.Reference19Ideal.nD Cert.Reference19Ideal.τ).loc Cert.Reference19Ideal.main_arg40) = m ((c.tc : Thread Cert.Reference19Ideal.nD Cert.Reference19Ideal.τ).loc Cert.Reference19Ideal.main_arg40)
      ∧ r.2.mem ((c.tc : Thread Cert.Reference19Ideal.nD Cert.Reference19Ideal.τ).loc Cert.Reference19Ideal.main_arg41) = m ((c.tc : Thread Cert.Reference19Ideal.nD Cert.Reference19Ideal.τ).loc Cert.Reference19Ideal.main_arg41)
      ∧ r.2.mem ((c.tc : Thread Cert.Reference19Ideal.nD Cert.Reference19Ideal.τ).loc Cert.Reference19Ideal.main_arg42) = m ((c.tc : Thread Cert.Reference19Ideal.nD Cert.Reference19Ideal.τ).loc Cert.Reference19Ideal.main_arg42)
      ∧ r.2.mem ((c.tc : Thread Cert.Reference19Ideal.nD Cert.Reference19Ideal.τ).loc Cert.Reference19Ideal.main_arg43) = m ((c.tc : Thread Cert.Reference19Ideal.nD Cert.Reference19Ideal.τ).loc Cert.Reference19Ideal.main_arg43)
      ∧ r.2.mem ((c.tc : Thread Cert.Reference19Ideal.nD Cert.Reference19Ideal.τ).loc Cert.Reference19Ideal.main_arg44) = m ((c.tc : Thread Cert.Reference19Ideal.nD Cert.Reference19Ideal.τ).loc Cert.Reference19Ideal.main_arg44)
      ∧ r.2.mem ((c.tc : Thread Cert.Reference19Ideal.nD Cert.Reference19Ideal.τ).loc Cert.Reference19Ideal.main_arg45) = m ((c.tc : Thread Cert.Reference19Ideal.nD Cert.Reference19Ideal.τ).loc Cert.Reference19Ideal.main_arg45)
      ∧ r.2.mem ((c.tc : Thread Cert.Reference19Ideal.nD Cert.Reference19Ideal.τ).loc Cert.Reference19Ideal.main_arg46) = m ((c.tc : Thread Cert.Reference19Ideal.nD Cert.Reference19Ideal.τ).loc Cert.Reference19Ideal.main_arg46)
      ∧ r.2.mem ((c.tc : Thread Cert.Reference19Ideal.nD Cert.Reference19Ideal.τ).loc Cert.Reference19Ideal.main_arg47) = m ((c.tc : Thread Cert.Reference19Ideal.nD Cert.Reference19Ideal.τ).loc Cert.Reference19Ideal.main_arg47)
      ∧ r.2.mem ((c.tc : Thread Cert.Reference19Ideal.nD Cert.Reference19Ideal.τ).loc Cert.Reference19Ideal.main_arg48) = m ((c.tc : Thread Cert.Reference19Ideal.nD Cert.Reference19Ideal.τ).loc Cert.Reference19Ideal.main_arg48)
      ∧ r.2.mem ((c.tc : Thread Cert.Reference19Ideal.nD Cert.Reference19Ideal.τ).loc Cert.Reference19Ideal.main_arg49) = m ((c.tc : Thread Cert.Reference19Ideal.nD Cert.Reference19Ideal.τ).loc Cert.Reference19Ideal.main_arg49)
      ∧ r.2.mem ((c.tc : Thread Cert.Reference19Ideal.nD Cert.Reference19Ideal.τ).loc Cert.Reference19Ideal.main_arg50) = m ((c.tc : Thread Cert.Reference19Ideal.nD Cert.Reference19Ideal.τ).loc Cert.Reference19Ideal.main_arg50)
      ∧ r.2.mem ((c.tc : Thread Cert.Reference19Ideal.nD Cert.Reference19Ideal.τ).loc Cert.Reference19Ideal.main_arg51) = m ((c.tc : Thread Cert.Reference19Ideal.nD Cert.Reference19Ideal.τ).loc Cert.Reference19Ideal.main_arg51)
      ∧ r.2.mem ((c.tc : Thread Cert.Reference19Ideal.nD Cert.Reference19Ideal.τ).loc Cert.Reference19Ideal.main_arg52) = m ((c.tc : Thread Cert.Reference19Ideal.nD Cert.Reference19Ideal.τ).loc Cert.Reference19Ideal.main_arg52)
      ∧ r.2.mem ((c.tc : Thread Cert.Reference19Ideal.nD Cert.Reference19Ideal.τ).loc Cert.Reference19Ideal.main_arg53) = m ((c.tc : Thread Cert.Reference19Ideal.nD Cert.Reference19Ideal.τ).loc Cert.Reference19Ideal.main_arg53)
      ∧ r.2.mem ((c.tc : Thread Cert.Reference19Ideal.nD Cert.Reference19Ideal.τ).loc Cert.Reference19Ideal.main_arg54) = m ((c.tc : Thread Cert.Reference19Ideal.nD Cert.Reference19Ideal.τ).loc Cert.Reference19Ideal.main_arg54)
      ∧ r.2.mem ((c.tc : Thread Cert.Reference19Ideal.nD Cert.Reference19Ideal.τ).loc Cert.Reference19Ideal.main_arg55) = m ((c.tc : Thread Cert.Reference19Ideal.nD Cert.Reference19Ideal.τ).loc Cert.Reference19Ideal.main_arg55)
      ∧ r.2.mem ((c.tc : Thread Cert.Reference19Ideal.nD Cert.Reference19Ideal.τ).loc Cert.Reference19Ideal.main_arg56) = m ((c.tc : Thread Cert.Reference19Ideal.nD Cert.Reference19Ideal.τ).loc Cert.Reference19Ideal.main_arg56)
      ∧ r.2.mem ((c.tc : Thread Cert.Reference19Ideal.nD Cert.Reference19Ideal.τ).loc Cert.Reference19Ideal.main_arg57) = m ((c.tc : Thread Cert.Reference19Ideal.nD Cert.Reference19Ideal.τ).loc Cert.Reference19Ideal.main_arg57)
      ∧ r.2.mem ((c.tc : Thread Cert.Reference19Ideal.nD Cert.Reference19Ideal.τ).loc Cert.Reference19Ideal.main_arg58) = m ((c.tc : Thread Cert.Reference19Ideal.nD Cert.Reference19Ideal.τ).loc Cert.Reference19Ideal.main_arg58)
      ∧ r.2.mem ((c.tc : Thread Cert.Reference19Ideal.nD Cert.Reference19Ideal.τ).loc Cert.Reference19Ideal.main_arg59) = m ((c.tc : Thread Cert.Reference19Ideal.nD Cert.Reference19Ideal.τ).loc Cert.Reference19Ideal.main_arg59)
      ∧ r.2.mem ((c.tc : Thread Cert.Reference19Ideal.nD Cert.Reference19Ideal.τ).loc Cert.Reference19Ideal.main_arg60) = m ((c.tc : Thread Cert.Reference19Ideal.nD Cert.Reference19Ideal.τ).loc Cert.Reference19Ideal.main_arg60)
      ∧ r.2.mem ((c.tc : Thread Cert.Reference19Ideal.nD Cert.Reference19Ideal.τ).loc Cert.Reference19Ideal.main_arg61) = m ((c.tc : Thread Cert.Reference19Ideal.nD Cert.Reference19Ideal.τ).loc Cert.Reference19Ideal.main_arg61)
      ∧ r.2.mem ((c.tc : Thread Cert.Reference19Ideal.nD Cert.Reference19Ideal.τ).loc Cert.Reference19Ideal.main_arg62) = m ((c.tc : Thread Cert.Reference19Ideal.nD Cert.Reference19Ideal.τ).loc Cert.Reference19Ideal.main_arg62)
      ∧ r.2.mem ((c.tc : Thread Cert.Reference19Ideal.nD Cert.Reference19Ideal.τ).loc Cert.Reference19Ideal.main_arg63) = m ((c.tc : Thread Cert.Reference19Ideal.nD Cert.Reference19Ideal.τ).loc Cert.Reference19Ideal.main_arg63)
      ∧ r.2.mem ((c.tc : Thread Cert.Reference19Ideal.nD Cert.Reference19Ideal.τ).loc Cert.Reference19Ideal.main_arg64) = m ((c.tc : Thread Cert.Reference19Ideal.nD Cert.Reference19Ideal.τ).loc Cert.Reference19Ideal.main_arg64)
      ∧ r.2.mem ((c.tc : Thread Cert.Reference19Ideal.nD Cert.Reference19Ideal.τ).loc Cert.Reference19Ideal.main_arg65) = m ((c.tc : Thread Cert.Reference19Ideal.nD Cert.Reference19Ideal.τ).loc Cert.Reference19Ideal.main_arg65)
      ∧ r.2.mem ((c.tc : Thread Cert.Reference19Ideal.nD Cert.Reference19Ideal.τ).loc Cert.Reference19Ideal.main_arg66) = m ((c.tc : Thread Cert.Reference19Ideal.nD Cert.Reference19Ideal.τ).loc Cert.Reference19Ideal.main_arg66)
      ∧ r.2.mem ((c.tc : Thread Cert.Reference19Ideal.nD Cert.Reference19Ideal.τ).loc Cert.Reference19Ideal.main_arg67) = m ((c.tc : Thread Cert.Reference19Ideal.nD Cert.Reference19Ideal.τ).loc Cert.Reference19Ideal.main_arg67)
      ∧ r.2.mem ((c.tc : Thread Cert.Reference19Ideal.nD Cert.Reference19Ideal.τ).loc Cert.Reference19Ideal.main_arg68) = m ((c.tc : Thread Cert.Reference19Ideal.nD Cert.Reference19Ideal.τ).loc Cert.Reference19Ideal.main_arg68)
      ∧ r.2.mem ((c.tc : Thread Cert.Reference19Ideal.nD Cert.Reference19Ideal.τ).loc Cert.Reference19Ideal.main_arg69) = m ((c.tc : Thread Cert.Reference19Ideal.nD Cert.Reference19Ideal.τ).loc Cert.Reference19Ideal.main_arg69)
      ∧ r.2.mem ((c.tc : Thread Cert.Reference19Ideal.nD Cert.Reference19Ideal.τ).loc Cert.Reference19Ideal.main_arg70) = m ((c.tc : Thread Cert.Reference19Ideal.nD Cert.Reference19Ideal.τ).loc Cert.Reference19Ideal.main_arg70)
      ∧ r.2.mem ((c.tc : Thread Cert.Reference19Ideal.nD Cert.Reference19Ideal.τ).loc Cert.Reference19Ideal.main_arg71) = m ((c.tc : Thread Cert.Reference19Ideal.nD Cert.Reference19Ideal.τ).loc Cert.Reference19Ideal.main_arg71))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v227) = v1 c
          ∧ r.2.mem ((c.tc : Thread Cert.ReferenceIdeal.nD Cert.ReferenceIdeal.τ).loc Cert.ReferenceIdeal.main_v229) = v2 c
          ∧ r.2.mem ((c.tc : Thread Cert.ReferenceIdeal.nD Cert.ReferenceIdeal.τ).loc Cert.ReferenceIdeal.main_v230) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_v31) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v24) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_1)) (v1 : (c : Dev Cert.Kernel15Ideal.nD) → Buf (Elt Ideal) ((c.tc : Thread Cert.Kernel15Ideal.nD Cert.Kernel15Ideal.τ).loc Cert.Kernel15Ideal.main_v1_2)) (v2 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_1) = v0 c
          ∧ r.2.mem ((c.tc : Thread Cert.Kernel15Ideal.nD Cert.Kernel15Ideal.τ).loc Cert.Kernel15Ideal.main_v1_2) = v1 c
          ∧ r.2.mem ((c.tc : Thread Cert.Kernel15Ideal.nD Cert.Kernel15Ideal.τ).loc Cert.Kernel15Ideal.main_v1_3) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_1)) (v1 : (c : Dev Cert.Kernel16Ideal.nD) → Buf (Elt Ideal) ((c.tc : Thread Cert.Kernel16Ideal.nD Cert.Kernel16Ideal.τ).loc Cert.Kernel16Ideal.main_v1_2)) (v2 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_1) = v0 c
          ∧ r.2.mem ((c.tc : Thread Cert.Kernel16Ideal.nD Cert.Kernel16Ideal.τ).loc Cert.Kernel16Ideal.main_v1_2) = v1 c
          ∧ r.2.mem ((c.tc : Thread Cert.Kernel16Ideal.nD Cert.Kernel16Ideal.τ).loc Cert.Kernel16Ideal.main_v1_3) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_1)) (v1 : (c : Dev Cert.Kernel17Ideal.nD) → Buf (Elt Ideal) ((c.tc : Thread Cert.Kernel17Ideal.nD Cert.Kernel17Ideal.τ).loc Cert.Kernel17Ideal.main_v1_2)) (v2 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_1) = v0 c
          ∧ r.2.mem ((c.tc : Thread Cert.Kernel17Ideal.nD Cert.Kernel17Ideal.τ).loc Cert.Kernel17Ideal.main_v1_2) = v1 c
          ∧ r.2.mem ((c.tc : Thread Cert.Kernel17Ideal.nD Cert.Kernel17Ideal.τ).loc Cert.Kernel17Ideal.main_v1_3) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_1)) (v1 : (c : Dev Cert.Kernel18Ideal.nD) → Buf (Elt Ideal) ((c.tc : Thread Cert.Kernel18Ideal.nD Cert.Kernel18Ideal.τ).loc Cert.Kernel18Ideal.main_v1_2)) (v2 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_1) = v0 c
          ∧ r.2.mem ((c.tc : Thread Cert.Kernel18Ideal.nD Cert.Kernel18Ideal.τ).loc Cert.Kernel18Ideal.main_v1_2) = v1 c
          ∧ r.2.mem ((c.tc : Thread Cert.Kernel18Ideal.nD Cert.Kernel18Ideal.τ).loc Cert.Kernel18Ideal.main_v1_3) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)
      ∧ m' ((c.tc : Thread Cert.Reference19Ideal.nD Cert.Reference19Ideal.τ).loc Cert.Reference19Ideal.main_arg32) = m ((c.tc : Thread Cert.Kernel19Ideal.nD Cert.Kernel19Ideal.τ).loc Cert.Kernel19Ideal.main_arg32)
      ∧ m' ((c.tc : Thread Cert.Reference19Ideal.nD Cert.Reference19Ideal.τ).loc Cert.Reference19Ideal.main_arg33) = m ((c.tc : Thread Cert.Kernel19Ideal.nD Cert.Kernel19Ideal.τ).loc Cert.Kernel19Ideal.main_arg33)
      ∧ m' ((c.tc : Thread Cert.Reference19Ideal.nD Cert.Reference19Ideal.τ).loc Cert.Reference19Ideal.main_arg34) = m ((c.tc : Thread Cert.Kernel19Ideal.nD Cert.Kernel19Ideal.τ).loc Cert.Kernel19Ideal.main_arg34)
      ∧ m' ((c.tc : Thread Cert.Reference19Ideal.nD Cert.Reference19Ideal.τ).loc Cert.Reference19Ideal.main_arg35) = m ((c.tc : Thread Cert.Kernel19Ideal.nD Cert.Kernel19Ideal.τ).loc Cert.Kernel19Ideal.main_arg35)
      ∧ m' ((c.tc : Thread Cert.Reference19Ideal.nD Cert.Reference19Ideal.τ).loc Cert.Reference19Ideal.main_arg36) = m ((c.tc : Thread Cert.Kernel19Ideal.nD Cert.Kernel19Ideal.τ).loc Cert.Kernel19Ideal.main_arg36)
      ∧ m' ((c.tc : Thread Cert.Reference19Ideal.nD Cert.Reference19Ideal.τ).loc Cert.Reference19Ideal.main_arg37) = m ((c.tc : Thread Cert.Kernel19Ideal.nD Cert.Kernel19Ideal.τ).loc Cert.Kernel19Ideal.main_arg37)
      ∧ m' ((c.tc : Thread Cert.Reference19Ideal.nD Cert.Reference19Ideal.τ).loc Cert.Reference19Ideal.main_arg38) = m ((c.tc : Thread Cert.Kernel19Ideal.nD Cert.Kernel19Ideal.τ).loc Cert.Kernel19Ideal.main_arg38)
      ∧ m' ((c.tc : Thread Cert.Reference19Ideal.nD Cert.Reference19Ideal.τ).loc Cert.Reference19Ideal.main_arg39) = m ((c.tc : Thread Cert.Kernel19Ideal.nD Cert.Kernel19Ideal.τ).loc Cert.Kernel19Ideal.main_arg39)
      ∧ m' ((c.tc : Thread Cert.Reference19Ideal.nD Cert.Reference19Ideal.τ).loc Cert.Reference19Ideal.main_arg40) = m ((c.tc : Thread Cert.Kernel19Ideal.nD Cert.Kernel19Ideal.τ).loc Cert.Kernel19Ideal.main_arg40)
      ∧ m' ((c.tc : Thread Cert.Reference19Ideal.nD Cert.Reference19Ideal.τ).loc Cert.Reference19Ideal.main_arg41) = m ((c.tc : Thread Cert.Kernel19Ideal.nD Cert.Kernel19Ideal.τ).loc Cert.Kernel19Ideal.main_arg41)
      ∧ m' ((c.tc : Thread Cert.Reference19Ideal.nD Cert.Reference19Ideal.τ).loc Cert.Reference19Ideal.main_arg42) = m ((c.tc : Thread Cert.Kernel19Ideal.nD Cert.Kernel19Ideal.τ).loc Cert.Kernel19Ideal.main_arg42)
      ∧ m' ((c.tc : Thread Cert.Reference19Ideal.nD Cert.Reference19Ideal.τ).loc Cert.Reference19Ideal.main_arg43) = m ((c.tc : Thread Cert.Kernel19Ideal.nD Cert.Kernel19Ideal.τ).loc Cert.Kernel19Ideal.main_arg43)
      ∧ m' ((c.tc : Thread Cert.Reference19Ideal.nD Cert.Reference19Ideal.τ).loc Cert.Reference19Ideal.main_arg44) = m ((c.tc : Thread Cert.Kernel19Ideal.nD Cert.Kernel19Ideal.τ).loc Cert.Kernel19Ideal.main_arg44)
      ∧ m' ((c.tc : Thread Cert.Reference19Ideal.nD Cert.Reference19Ideal.τ).loc Cert.Reference19Ideal.main_arg45) = m ((c.tc : Thread Cert.Kernel19Ideal.nD Cert.Kernel19Ideal.τ).loc Cert.Kernel19Ideal.main_arg45)
      ∧ m' ((c.tc : Thread Cert.Reference19Ideal.nD Cert.Reference19Ideal.τ).loc Cert.Reference19Ideal.main_arg46) = m ((c.tc : Thread Cert.Kernel19Ideal.nD Cert.Kernel19Ideal.τ).loc Cert.Kernel19Ideal.main_arg46)
      ∧ m' ((c.tc : Thread Cert.Reference19Ideal.nD Cert.Reference19Ideal.τ).loc Cert.Reference19Ideal.main_arg47) = m ((c.tc : Thread Cert.Kernel19Ideal.nD Cert.Kernel19Ideal.τ).loc Cert.Kernel19Ideal.main_arg47)
      ∧ m' ((c.tc : Thread Cert.Reference19Ideal.nD Cert.Reference19Ideal.τ).loc Cert.Reference19Ideal.main_arg48) = m ((c.tc : Thread Cert.Kernel19Ideal.nD Cert.Kernel19Ideal.τ).loc Cert.Kernel19Ideal.main_arg48)
      ∧ m' ((c.tc : Thread Cert.Reference19Ideal.nD Cert.Reference19Ideal.τ).loc Cert.Reference19Ideal.main_arg49) = m ((c.tc : Thread Cert.Kernel19Ideal.nD Cert.Kernel19Ideal.τ).loc Cert.Kernel19Ideal.main_arg49)
      ∧ m' ((c.tc : Thread Cert.Reference19Ideal.nD Cert.Reference19Ideal.τ).loc Cert.Reference19Ideal.main_arg50) = m ((c.tc : Thread Cert.Kernel19Ideal.nD Cert.Kernel19Ideal.τ).loc Cert.Kernel19Ideal.main_arg50)
      ∧ m' ((c.tc : Thread Cert.Reference19Ideal.nD Cert.Reference19Ideal.τ).loc Cert.Reference19Ideal.main_arg51) = m ((c.tc : Thread Cert.Kernel19Ideal.nD Cert.Kernel19Ideal.τ).loc Cert.Kernel19Ideal.main_arg51)
      ∧ m' ((c.tc : Thread Cert.Reference19Ideal.nD Cert.Reference19Ideal.τ).loc Cert.Reference19Ideal.main_arg52) = m ((c.tc : Thread Cert.Kernel19Ideal.nD Cert.Kernel19Ideal.τ).loc Cert.Kernel19Ideal.main_arg52)
      ∧ m' ((c.tc : Thread Cert.Reference19Ideal.nD Cert.Reference19Ideal.τ).loc Cert.Reference19Ideal.main_arg53) = m ((c.tc : Thread Cert.Kernel19Ideal.nD Cert.Kernel19Ideal.τ).loc Cert.Kernel19Ideal.main_arg53)
      ∧ m' ((c.tc : Thread Cert.Reference19Ideal.nD Cert.Reference19Ideal.τ).loc Cert.Reference19Ideal.main_arg54) = m ((c.tc : Thread Cert.Kernel19Ideal.nD Cert.Kernel19Ideal.τ).loc Cert.Kernel19Ideal.main_arg54)
      ∧ m' ((c.tc : Thread Cert.Reference19Ideal.nD Cert.Reference19Ideal.τ).loc Cert.Reference19Ideal.main_arg55) = m ((c.tc : Thread Cert.Kernel19Ideal.nD Cert.Kernel19Ideal.τ).loc Cert.Kernel19Ideal.main_arg55)
      ∧ m' ((c.tc : Thread Cert.Reference19Ideal.nD Cert.Reference19Ideal.τ).loc Cert.Reference19Ideal.main_arg56) = m ((c.tc : Thread Cert.Kernel19Ideal.nD Cert.Kernel19Ideal.τ).loc Cert.Kernel19Ideal.main_arg56)
      ∧ m' ((c.tc : Thread Cert.Reference19Ideal.nD Cert.Reference19Ideal.τ).loc Cert.Reference19Ideal.main_arg57) = m ((c.tc : Thread Cert.Kernel19Ideal.nD Cert.Kernel19Ideal.τ).loc Cert.Kernel19Ideal.main_arg57)
      ∧ m' ((c.tc : Thread Cert.Reference19Ideal.nD Cert.Reference19Ideal.τ).loc Cert.Reference19Ideal.main_arg58) = m ((c.tc : Thread Cert.Kernel19Ideal.nD Cert.Kernel19Ideal.τ).loc Cert.Kernel19Ideal.main_arg58)
      ∧ m' ((c.tc : Thread Cert.Reference19Ideal.nD Cert.Reference19Ideal.τ).loc Cert.Reference19Ideal.main_arg59) = m ((c.tc : Thread Cert.Kernel19Ideal.nD Cert.Kernel19Ideal.τ).loc Cert.Kernel19Ideal.main_arg59)
      ∧ m' ((c.tc : Thread Cert.Reference19Ideal.nD Cert.Reference19Ideal.τ).loc Cert.Reference19Ideal.main_arg60) = m ((c.tc : Thread Cert.Kernel19Ideal.nD Cert.Kernel19Ideal.τ).loc Cert.Kernel19Ideal.main_arg60)
      ∧ m' ((c.tc : Thread Cert.Reference19Ideal.nD Cert.Reference19Ideal.τ).loc Cert.Reference19Ideal.main_arg61) = m ((c.tc : Thread Cert.Kernel19Ideal.nD Cert.Kernel19Ideal.τ).loc Cert.Kernel19Ideal.main_arg61)
      ∧ m' ((c.tc : Thread Cert.Reference19Ideal.nD Cert.Reference19Ideal.τ).loc Cert.Reference19Ideal.main_arg62) = m ((c.tc : Thread Cert.Kernel19Ideal.nD Cert.Kernel19Ideal.τ).loc Cert.Kernel19Ideal.main_arg62)
      ∧ m' ((c.tc : Thread Cert.Reference19Ideal.nD Cert.Reference19Ideal.τ).loc Cert.Reference19Ideal.main_arg63) = m ((c.tc : Thread Cert.Kernel19Ideal.nD Cert.Kernel19Ideal.τ).loc Cert.Kernel19Ideal.main_arg63)
      ∧ m' ((c.tc : Thread Cert.Reference19Ideal.nD Cert.Reference19Ideal.τ).loc Cert.Reference19Ideal.main_arg64) = m ((c.tc : Thread Cert.Kernel19Ideal.nD Cert.Kernel19Ideal.τ).loc Cert.Kernel19Ideal.main_arg64)
      ∧ m' ((c.tc : Thread Cert.Reference19Ideal.nD Cert.Reference19Ideal.τ).loc Cert.Reference19Ideal.main_arg65) = m ((c.tc : Thread Cert.Kernel19Ideal.nD Cert.Kernel19Ideal.τ).loc Cert.Kernel19Ideal.main_arg65)
      ∧ m' ((c.tc : Thread Cert.Reference19Ideal.nD Cert.Reference19Ideal.τ).loc Cert.Reference19Ideal.main_arg66) = m ((c.tc : Thread Cert.Kernel19Ideal.nD Cert.Kernel19Ideal.τ).loc Cert.Kernel19Ideal.main_arg66)
      ∧ m' ((c.tc : Thread Cert.Reference19Ideal.nD Cert.Reference19Ideal.τ).loc Cert.Reference19Ideal.main_arg67) = m ((c.tc : Thread Cert.Kernel19Ideal.nD Cert.Kernel19Ideal.τ).loc Cert.Kernel19Ideal.main_arg67)
      ∧ m' ((c.tc : Thread Cert.Reference19Ideal.nD Cert.Reference19Ideal.τ).loc Cert.Reference19Ideal.main_arg68) = m ((c.tc : Thread Cert.Kernel19Ideal.nD Cert.Kernel19Ideal.τ).loc Cert.Kernel19Ideal.main_arg68)
      ∧ m' ((c.tc : Thread Cert.Reference19Ideal.nD Cert.Reference19Ideal.τ).loc Cert.Reference19Ideal.main_arg69) = m ((c.tc : Thread Cert.Kernel19Ideal.nD Cert.Kernel19Ideal.τ).loc Cert.Kernel19Ideal.main_arg69)
      ∧ m' ((c.tc : Thread Cert.Reference19Ideal.nD Cert.Reference19Ideal.τ).loc Cert.Reference19Ideal.main_arg70) = m ((c.tc : Thread Cert.Kernel19Ideal.nD Cert.Kernel19Ideal.τ).loc Cert.Kernel19Ideal.main_arg70)
      ∧ m' ((c.tc : Thread Cert.Reference19Ideal.nD Cert.Reference19Ideal.τ).loc Cert.Reference19Ideal.main_arg71) = m ((c.tc : Thread Cert.Kernel19Ideal.nD Cert.Kernel19Ideal.τ).loc Cert.Kernel19Ideal.main_arg71)) →
    ∃ (v0 : (c : Dev Cert.Kernel19Ideal.nD) → Buf (Elt Ideal) ((c.tc : Thread Cert.Kernel19Ideal.nD Cert.Kernel19Ideal.τ).loc Cert.Kernel19Ideal.main_v92_1)) (v1 : (c : Dev Cert.Kernel19Ideal.nD) → Buf (Elt Ideal) ((c.tc : Thread Cert.Kernel19Ideal.nD Cert.Kernel19Ideal.τ).loc Cert.Kernel19Ideal.main_v92_2)) (v2 : (c : Dev Cert.Kernel19Ideal.nD) → Buf (Elt Ideal) ((c.tc : Thread Cert.Kernel19Ideal.nD Cert.Kernel19Ideal.τ).loc Cert.Kernel19Ideal.main_v92_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v92_1) = v0 c
          ∧ r.2.mem ((c.tc : Thread Cert.Kernel19Ideal.nD Cert.Kernel19Ideal.τ).loc Cert.Kernel19Ideal.main_v92_2) = v1 c
          ∧ r.2.mem ((c.tc : Thread Cert.Kernel19Ideal.nD Cert.Kernel19Ideal.τ).loc Cert.Kernel19Ideal.main_v92_3) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
          ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
          ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
          ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
          ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
          ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
          ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
          ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
          ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
          ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
          ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
          ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
          ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43)
          ∧ r.2.mem ((c.tc : Thread Cert.Kernel19Ideal.nD Cert.Kernel19Ideal.τ).loc Cert.Kernel19Ideal.main_arg44) = m ((c.tc : Thread Cert.Kernel19Ideal.nD Cert.Kernel19Ideal.τ).loc Cert.Kernel19Ideal.main_arg44)
          ∧ r.2.mem ((c.tc : Thread Cert.Kernel19Ideal.nD Cert.Kernel19Ideal.τ).loc Cert.Kernel19Ideal.main_arg45) = m ((c.tc : Thread Cert.Kernel19Ideal.nD Cert.Kernel19Ideal.τ).loc Cert.Kernel19Ideal.main_arg45)
          ∧ r.2.mem ((c.tc : Thread Cert.Kernel19Ideal.nD Cert.Kernel19Ideal.τ).loc Cert.Kernel19Ideal.main_arg46) = m ((c.tc : Thread Cert.Kernel19Ideal.nD Cert.Kernel19Ideal.τ).loc Cert.Kernel19Ideal.main_arg46)
          ∧ r.2.mem ((c.tc : Thread Cert.Kernel19Ideal.nD Cert.Kernel19Ideal.τ).loc Cert.Kernel19Ideal.main_arg47) = m ((c.tc : Thread Cert.Kernel19Ideal.nD Cert.Kernel19Ideal.τ).loc Cert.Kernel19Ideal.main_arg47)
          ∧ r.2.mem ((c.tc : Thread Cert.Kernel19Ideal.nD Cert.Kernel19Ideal.τ).loc Cert.Kernel19Ideal.main_arg48) = m ((c.tc : Thread Cert.Kernel19Ideal.nD Cert.Kernel19Ideal.τ).loc Cert.Kernel19Ideal.main_arg48)
          ∧ r.2.mem ((c.tc : Thread Cert.Kernel19Ideal.nD Cert.Kernel19Ideal.τ).loc Cert.Kernel19Ideal.main_arg49) = m ((c.tc : Thread Cert.Kernel19Ideal.nD Cert.Kernel19Ideal.τ).loc Cert.Kernel19Ideal.main_arg49)
          ∧ r.2.mem ((c.tc : Thread Cert.Kernel19Ideal.nD Cert.Kernel19Ideal.τ).loc Cert.Kernel19Ideal.main_arg50) = m ((c.tc : Thread Cert.Kernel19Ideal.nD Cert.Kernel19Ideal.τ).loc Cert.Kernel19Ideal.main_arg50)
          ∧ r.2.mem ((c.tc : Thread Cert.Kernel19Ideal.nD Cert.Kernel19Ideal.τ).loc Cert.Kernel19Ideal.main_arg51) = m ((c.tc : Thread Cert.Kernel19Ideal.nD Cert.Kernel19Ideal.τ).loc Cert.Kernel19Ideal.main_arg51)
          ∧ r.2.mem ((c.tc : Thread Cert.Kernel19Ideal.nD Cert.Kernel19Ideal.τ).loc Cert.Kernel19Ideal.main_arg52) = m ((c.tc : Thread Cert.Kernel19Ideal.nD Cert.Kernel19Ideal.τ).loc Cert.Kernel19Ideal.main_arg52)
          ∧ r.2.mem ((c.tc : Thread Cert.Kernel19Ideal.nD Cert.Kernel19Ideal.τ).loc Cert.Kernel19Ideal.main_arg53) = m ((c.tc : Thread Cert.Kernel19Ideal.nD Cert.Kernel19Ideal.τ).loc Cert.Kernel19Ideal.main_arg53)
          ∧ r.2.mem ((c.tc : Thread Cert.Kernel19Ideal.nD Cert.Kernel19Ideal.τ).loc Cert.Kernel19Ideal.main_arg54) = m ((c.tc : Thread Cert.Kernel19Ideal.nD Cert.Kernel19Ideal.τ).loc Cert.Kernel19Ideal.main_arg54)
          ∧ r.2.mem ((c.tc : Thread Cert.Kernel19Ideal.nD Cert.Kernel19Ideal.τ).loc Cert.Kernel19Ideal.main_arg55) = m ((c.tc : Thread Cert.Kernel19Ideal.nD Cert.Kernel19Ideal.τ).loc Cert.Kernel19Ideal.main_arg55)
          ∧ r.2.mem ((c.tc : Thread Cert.Kernel19Ideal.nD Cert.Kernel19Ideal.τ).loc Cert.Kernel19Ideal.main_arg56) = m ((c.tc : Thread Cert.Kernel19Ideal.nD Cert.Kernel19Ideal.τ).loc Cert.Kernel19Ideal.main_arg56)
          ∧ r.2.mem ((c.tc : Thread Cert.Kernel19Ideal.nD Cert.Kernel19Ideal.τ).loc Cert.Kernel19Ideal.main_arg57) = m ((c.tc : Thread Cert.Kernel19Ideal.nD Cert.Kernel19Ideal.τ).loc Cert.Kernel19Ideal.main_arg57)
          ∧ r.2.mem ((c.tc : Thread Cert.Kernel19Ideal.nD Cert.Kernel19Ideal.τ).loc Cert.Kernel19Ideal.main_arg58) = m ((c.tc : Thread Cert.Kernel19Ideal.nD Cert.Kernel19Ideal.τ).loc Cert.Kernel19Ideal.main_arg58)
          ∧ r.2.mem ((c.tc : Thread Cert.Kernel19Ideal.nD Cert.Kernel19Ideal.τ).loc Cert.Kernel19Ideal.main_arg59) = m ((c.tc : Thread Cert.Kernel19Ideal.nD Cert.Kernel19Ideal.τ).loc Cert.Kernel19Ideal.main_arg59)
          ∧ r.2.mem ((c.tc : Thread Cert.Kernel19Ideal.nD Cert.Kernel19Ideal.τ).loc Cert.Kernel19Ideal.main_arg60) = m ((c.tc : Thread Cert.Kernel19Ideal.nD Cert.Kernel19Ideal.τ).loc Cert.Kernel19Ideal.main_arg60)
          ∧ r.2.mem ((c.tc : Thread Cert.Kernel19Ideal.nD Cert.Kernel19Ideal.τ).loc Cert.Kernel19Ideal.main_arg61) = m ((c.tc : Thread Cert.Kernel19Ideal.nD Cert.Kernel19Ideal.τ).loc Cert.Kernel19Ideal.main_arg61)
          ∧ r.2.mem ((c.tc : Thread Cert.Kernel19Ideal.nD Cert.Kernel19Ideal.τ).loc Cert.Kernel19Ideal.main_arg62) = m ((c.tc : Thread Cert.Kernel19Ideal.nD Cert.Kernel19Ideal.τ).loc Cert.Kernel19Ideal.main_arg62)
          ∧ r.2.mem ((c.tc : Thread Cert.Kernel19Ideal.nD Cert.Kernel19Ideal.τ).loc Cert.Kernel19Ideal.main_arg63) = m ((c.tc : Thread Cert.Kernel19Ideal.nD Cert.Kernel19Ideal.τ).loc Cert.Kernel19Ideal.main_arg63)
          ∧ r.2.mem ((c.tc : Thread Cert.Kernel19Ideal.nD Cert.Kernel19Ideal.τ).loc Cert.Kernel19Ideal.main_arg64) = m ((c.tc : Thread Cert.Kernel19Ideal.nD Cert.Kernel19Ideal.τ).loc Cert.Kernel19Ideal.main_arg64)
          ∧ r.2.mem ((c.tc : Thread Cert.Kernel19Ideal.nD Cert.Kernel19Ideal.τ).loc Cert.Kernel19Ideal.main_arg65) = m ((c.tc : Thread Cert.Kernel19Ideal.nD Cert.Kernel19Ideal.τ).loc Cert.Kernel19Ideal.main_arg65)
          ∧ r.2.mem ((c.tc : Thread Cert.Kernel19Ideal.nD Cert.Kernel19Ideal.τ).loc Cert.Kernel19Ideal.main_arg66) = m ((c.tc : Thread Cert.Kernel19Ideal.nD Cert.Kernel19Ideal.τ).loc Cert.Kernel19Ideal.main_arg66)
          ∧ r.2.mem ((c.tc : Thread Cert.Kernel19Ideal.nD Cert.Kernel19Ideal.τ).loc Cert.Kernel19Ideal.main_arg67) = m ((c.tc : Thread Cert.Kernel19Ideal.nD Cert.Kernel19Ideal.τ).loc Cert.Kernel19Ideal.main_arg67)
          ∧ r.2.mem ((c.tc : Thread Cert.Kernel19Ideal.nD Cert.Kernel19Ideal.τ).loc Cert.Kernel19Ideal.main_arg68) = m ((c.tc : Thread Cert.Kernel19Ideal.nD Cert.Kernel19Ideal.τ).loc Cert.Kernel19Ideal.main_arg68)
          ∧ r.2.mem ((c.tc : Thread Cert.Kernel19Ideal.nD Cert.Kernel19Ideal.τ).loc Cert.Kernel19Ideal.main_arg69) = m ((c.tc : Thread Cert.Kernel19Ideal.nD Cert.Kernel19Ideal.τ).loc Cert.Kernel19Ideal.main_arg69)
          ∧ r.2.mem ((c.tc : Thread Cert.Kernel19Ideal.nD Cert.Kernel19Ideal.τ).loc Cert.Kernel19Ideal.main_arg70) = m ((c.tc : Thread Cert.Kernel19Ideal.nD Cert.Kernel19Ideal.τ).loc Cert.Kernel19Ideal.main_arg70)
          ∧ r.2.mem ((c.tc : Thread Cert.Kernel19Ideal.nD Cert.Kernel19Ideal.τ).loc Cert.Kernel19Ideal.main_arg71) = m ((c.tc : Thread Cert.Kernel19Ideal.nD Cert.Kernel19Ideal.τ).loc Cert.Kernel19Ideal.main_arg71))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v496) = v0 c
          ∧ r.2.mem ((c.tc : Thread Cert.Reference19Ideal.nD Cert.Reference19Ideal.τ).loc Cert.Reference19Ideal.main_v498) = v1 c
          ∧ r.2.mem ((c.tc : Thread Cert.Reference19Ideal.nD Cert.Reference19Ideal.τ).loc Cert.Reference19Ideal.main_v500) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31)
          ∧ r.2.mem ((c.tc : Thread Cert.Reference19Ideal.nD Cert.Reference19Ideal.τ).loc Cert.Reference19Ideal.main_arg32) = m' ((c.tc : Thread Cert.Reference19Ideal.nD Cert.Reference19Ideal.τ).loc Cert.Reference19Ideal.main_arg32)
          ∧ r.2.mem ((c.tc : Thread Cert.Reference19Ideal.nD Cert.Reference19Ideal.τ).loc Cert.Reference19Ideal.main_arg33) = m' ((c.tc : Thread Cert.Reference19Ideal.nD Cert.Reference19Ideal.τ).loc Cert.Reference19Ideal.main_arg33)
          ∧ r.2.mem ((c.tc : Thread Cert.Reference19Ideal.nD Cert.Reference19Ideal.τ).loc Cert.Reference19Ideal.main_arg34) = m' ((c.tc : Thread Cert.Reference19Ideal.nD Cert.Reference19Ideal.τ).loc Cert.Reference19Ideal.main_arg34)
          ∧ r.2.mem ((c.tc : Thread Cert.Reference19Ideal.nD Cert.Reference19Ideal.τ).loc Cert.Reference19Ideal.main_arg35) = m' ((c.tc : Thread Cert.Reference19Ideal.nD Cert.Reference19Ideal.τ).loc Cert.Reference19Ideal.main_arg35)
          ∧ r.2.mem ((c.tc : Thread Cert.Reference19Ideal.nD Cert.Reference19Ideal.τ).loc Cert.Reference19Ideal.main_arg36) = m' ((c.tc : Thread Cert.Reference19Ideal.nD Cert.Reference19Ideal.τ).loc Cert.Reference19Ideal.main_arg36)
          ∧ r.2.mem ((c.tc : Thread Cert.Reference19Ideal.nD Cert.Reference19Ideal.τ).loc Cert.Reference19Ideal.main_arg37) = m' ((c.tc : Thread Cert.Reference19Ideal.nD Cert.Reference19Ideal.τ).loc Cert.Reference19Ideal.main_arg37)
          ∧ r.2.mem ((c.tc : Thread Cert.Reference19Ideal.nD Cert.Reference19Ideal.τ).loc Cert.Reference19Ideal.main_arg38) = m' ((c.tc : Thread Cert.Reference19Ideal.nD Cert.Reference19Ideal.τ).loc Cert.Reference19Ideal.main_arg38)
          ∧ r.2.mem ((c.tc : Thread Cert.Reference19Ideal.nD Cert.Reference19Ideal.τ).loc Cert.Reference19Ideal.main_arg39) = m' ((c.tc : Thread Cert.Reference19Ideal.nD Cert.Reference19Ideal.τ).loc Cert.Reference19Ideal.main_arg39)
          ∧ r.2.mem ((c.tc : Thread Cert.Reference19Ideal.nD Cert.Reference19Ideal.τ).loc Cert.Reference19Ideal.main_arg40) = m' ((c.tc : Thread Cert.Reference19Ideal.nD Cert.Reference19Ideal.τ).loc Cert.Reference19Ideal.main_arg40)
          ∧ r.2.mem ((c.tc : Thread Cert.Reference19Ideal.nD Cert.Reference19Ideal.τ).loc Cert.Reference19Ideal.main_arg41) = m' ((c.tc : Thread Cert.Reference19Ideal.nD Cert.Reference19Ideal.τ).loc Cert.Reference19Ideal.main_arg41)
          ∧ r.2.mem ((c.tc : Thread Cert.Reference19Ideal.nD Cert.Reference19Ideal.τ).loc Cert.Reference19Ideal.main_arg42) = m' ((c.tc : Thread Cert.Reference19Ideal.nD Cert.Reference19Ideal.τ).loc Cert.Reference19Ideal.main_arg42)
          ∧ r.2.mem ((c.tc : Thread Cert.Reference19Ideal.nD Cert.Reference19Ideal.τ).loc Cert.Reference19Ideal.main_arg43) = m' ((c.tc : Thread Cert.Reference19Ideal.nD Cert.Reference19Ideal.τ).loc Cert.Reference19Ideal.main_arg43)
          ∧ r.2.mem ((c.tc : Thread Cert.Reference19Ideal.nD Cert.Reference19Ideal.τ).loc Cert.Reference19Ideal.main_arg44) = m' ((c.tc : Thread Cert.Reference19Ideal.nD Cert.Reference19Ideal.τ).loc Cert.Reference19Ideal.main_arg44)
          ∧ r.2.mem ((c.tc : Thread Cert.Reference19Ideal.nD Cert.Reference19Ideal.τ).loc Cert.Reference19Ideal.main_arg45) = m' ((c.tc : Thread Cert.Reference19Ideal.nD Cert.Reference19Ideal.τ).loc Cert.Reference19Ideal.main_arg45)
          ∧ r.2.mem ((c.tc : Thread Cert.Reference19Ideal.nD Cert.Reference19Ideal.τ).loc Cert.Reference19Ideal.main_arg46) = m' ((c.tc : Thread Cert.Reference19Ideal.nD Cert.Reference19Ideal.τ).loc Cert.Reference19Ideal.main_arg46)
          ∧ r.2.mem ((c.tc : Thread Cert.Reference19Ideal.nD Cert.Reference19Ideal.τ).loc Cert.Reference19Ideal.main_arg47) = m' ((c.tc : Thread Cert.Reference19Ideal.nD Cert.Reference19Ideal.τ).loc Cert.Reference19Ideal.main_arg47)
          ∧ r.2.mem ((c.tc : Thread Cert.Reference19Ideal.nD Cert.Reference19Ideal.τ).loc Cert.Reference19Ideal.main_arg48) = m' ((c.tc : Thread Cert.Reference19Ideal.nD Cert.Reference19Ideal.τ).loc Cert.Reference19Ideal.main_arg48)
          ∧ r.2.mem ((c.tc : Thread Cert.Reference19Ideal.nD Cert.Reference19Ideal.τ).loc Cert.Reference19Ideal.main_arg49) = m' ((c.tc : Thread Cert.Reference19Ideal.nD Cert.Reference19Ideal.τ).loc Cert.Reference19Ideal.main_arg49)
          ∧ r.2.mem ((c.tc : Thread Cert.Reference19Ideal.nD Cert.Reference19Ideal.τ).loc Cert.Reference19Ideal.main_arg50) = m' ((c.tc : Thread Cert.Reference19Ideal.nD Cert.Reference19Ideal.τ).loc Cert.Reference19Ideal.main_arg50)
          ∧ r.2.mem ((c.tc : Thread Cert.Reference19Ideal.nD Cert.Reference19Ideal.τ).loc Cert.Reference19Ideal.main_arg51) = m' ((c.tc : Thread Cert.Reference19Ideal.nD Cert.Reference19Ideal.τ).loc Cert.Reference19Ideal.main_arg51)
          ∧ r.2.mem ((c.tc : Thread Cert.Reference19Ideal.nD Cert.Reference19Ideal.τ).loc Cert.Reference19Ideal.main_arg52) = m' ((c.tc : Thread Cert.Reference19Ideal.nD Cert.Reference19Ideal.τ).loc Cert.Reference19Ideal.main_arg52)
          ∧ r.2.mem ((c.tc : Thread Cert.Reference19Ideal.nD Cert.Reference19Ideal.τ).loc Cert.Reference19Ideal.main_arg53) = m' ((c.tc : Thread Cert.Reference19Ideal.nD Cert.Reference19Ideal.τ).loc Cert.Reference19Ideal.main_arg53)
          ∧ r.2.mem ((c.tc : Thread Cert.Reference19Ideal.nD Cert.Reference19Ideal.τ).loc Cert.Reference19Ideal.main_arg54) = m' ((c.tc : Thread Cert.Reference19Ideal.nD Cert.Reference19Ideal.τ).loc Cert.Reference19Ideal.main_arg54)
          ∧ r.2.mem ((c.tc : Thread Cert.Reference19Ideal.nD Cert.Reference19Ideal.τ).loc Cert.Reference19Ideal.main_arg55) = m' ((c.tc : Thread Cert.Reference19Ideal.nD Cert.Reference19Ideal.τ).loc Cert.Reference19Ideal.main_arg55)
          ∧ r.2.mem ((c.tc : Thread Cert.Reference19Ideal.nD Cert.Reference19Ideal.τ).loc Cert.Reference19Ideal.main_arg56) = m' ((c.tc : Thread Cert.Reference19Ideal.nD Cert.Reference19Ideal.τ).loc Cert.Reference19Ideal.main_arg56)
          ∧ r.2.mem ((c.tc : Thread Cert.Reference19Ideal.nD Cert.Reference19Ideal.τ).loc Cert.Reference19Ideal.main_arg57) = m' ((c.tc : Thread Cert.Reference19Ideal.nD Cert.Reference19Ideal.τ).loc Cert.Reference19Ideal.main_arg57)
          ∧ r.2.mem ((c.tc : Thread Cert.Reference19Ideal.nD Cert.Reference19Ideal.τ).loc Cert.Reference19Ideal.main_arg58) = m' ((c.tc : Thread Cert.Reference19Ideal.nD Cert.Reference19Ideal.τ).loc Cert.Reference19Ideal.main_arg58)
          ∧ r.2.mem ((c.tc : Thread Cert.Reference19Ideal.nD Cert.Reference19Ideal.τ).loc Cert.Reference19Ideal.main_arg59) = m' ((c.tc : Thread Cert.Reference19Ideal.nD Cert.Reference19Ideal.τ).loc Cert.Reference19Ideal.main_arg59)
          ∧ r.2.mem ((c.tc : Thread Cert.Reference19Ideal.nD Cert.Reference19Ideal.τ).loc Cert.Reference19Ideal.main_arg60) = m' ((c.tc : Thread Cert.Reference19Ideal.nD Cert.Reference19Ideal.τ).loc Cert.Reference19Ideal.main_arg60)
          ∧ r.2.mem ((c.tc : Thread Cert.Reference19Ideal.nD Cert.Reference19Ideal.τ).loc Cert.Reference19Ideal.main_arg61) = m' ((c.tc : Thread Cert.Reference19Ideal.nD Cert.Reference19Ideal.τ).loc Cert.Reference19Ideal.main_arg61)
          ∧ r.2.mem ((c.tc : Thread Cert.Reference19Ideal.nD Cert.Reference19Ideal.τ).loc Cert.Reference19Ideal.main_arg62) = m' ((c.tc : Thread Cert.Reference19Ideal.nD Cert.Reference19Ideal.τ).loc Cert.Reference19Ideal.main_arg62)
          ∧ r.2.mem ((c.tc : Thread Cert.Reference19Ideal.nD Cert.Reference19Ideal.τ).loc Cert.Reference19Ideal.main_arg63) = m' ((c.tc : Thread Cert.Reference19Ideal.nD Cert.Reference19Ideal.τ).loc Cert.Reference19Ideal.main_arg63)
          ∧ r.2.mem ((c.tc : Thread Cert.Reference19Ideal.nD Cert.Reference19Ideal.τ).loc Cert.Reference19Ideal.main_arg64) = m' ((c.tc : Thread Cert.Reference19Ideal.nD Cert.Reference19Ideal.τ).loc Cert.Reference19Ideal.main_arg64)
          ∧ r.2.mem ((c.tc : Thread Cert.Reference19Ideal.nD Cert.Reference19Ideal.τ).loc Cert.Reference19Ideal.main_arg65) = m' ((c.tc : Thread Cert.Reference19Ideal.nD Cert.Reference19Ideal.τ).loc Cert.Reference19Ideal.main_arg65)
          ∧ r.2.mem ((c.tc : Thread Cert.Reference19Ideal.nD Cert.Reference19Ideal.τ).loc Cert.Reference19Ideal.main_arg66) = m' ((c.tc : Thread Cert.Reference19Ideal.nD Cert.Reference19Ideal.τ).loc Cert.Reference19Ideal.main_arg66)
          ∧ r.2.mem ((c.tc : Thread Cert.Reference19Ideal.nD Cert.Reference19Ideal.τ).loc Cert.Reference19Ideal.main_arg67) = m' ((c.tc : Thread Cert.Reference19Ideal.nD Cert.Reference19Ideal.τ).loc Cert.Reference19Ideal.main_arg67)
          ∧ r.2.mem ((c.tc : Thread Cert.Reference19Ideal.nD Cert.Reference19Ideal.τ).loc Cert.Reference19Ideal.main_arg68) = m' ((c.tc : Thread Cert.Reference19Ideal.nD Cert.Reference19Ideal.τ).loc Cert.Reference19Ideal.main_arg68)
          ∧ r.2.mem ((c.tc : Thread Cert.Reference19Ideal.nD Cert.Reference19Ideal.τ).loc Cert.Reference19Ideal.main_arg69) = m' ((c.tc : Thread Cert.Reference19Ideal.nD Cert.Reference19Ideal.τ).loc Cert.Reference19Ideal.main_arg69)
          ∧ r.2.mem ((c.tc : Thread Cert.Reference19Ideal.nD Cert.Reference19Ideal.τ).loc Cert.Reference19Ideal.main_arg70) = m' ((c.tc : Thread Cert.Reference19Ideal.nD Cert.Reference19Ideal.τ).loc Cert.Reference19Ideal.main_arg70)
          ∧ r.2.mem ((c.tc : Thread Cert.Reference19Ideal.nD Cert.Reference19Ideal.τ).loc Cert.Reference19Ideal.main_arg71) = m' ((c.tc : Thread Cert.Reference19Ideal.nD Cert.Reference19Ideal.τ).loc Cert.Reference19Ideal.main_arg71))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S4096x5632 : Shape := ⟨2, ![4096, 5632]⟩
abbrev S31x1x512 : Shape := ⟨3, ![31, 1, 512]⟩
abbrev S4096x512 : Shape := ⟨2, ![4096, 512]⟩
abbrev S31x4x128 : Shape := ⟨3, ![31, 4, 128]⟩
abbrev S4x31x128 : Shape := ⟨3, ![4, 31, 128]⟩
abbrev S_ : Shape := ⟨0, ![]⟩
abbrev S4x1x128 : Shape := ⟨3, ![4, 1, 128]⟩
abbrev S4x32x128 : Shape := ⟨3, ![4, 32, 128]⟩
abbrev S32x512 : Shape := ⟨2, ![32, 512]⟩
abbrev S1x512 : Shape := ⟨2, ![1, 512]⟩
abbrev S4096x128 : Shape := ⟨2, ![4096, 128]⟩
abbrev S1x32x128 : Shape := ⟨3, ![1, 32, 128]⟩
abbrev S32x128 : Shape := ⟨2, ![32, 128]⟩
abbrev S1x128 : Shape := ⟨2, ![1, 128]⟩
abbrev S4128x128 : Shape := ⟨2, ![4128, 128]⟩
abbrev S128 : Shape := ⟨1, ![128]⟩

abbrev nBuf : Space → Nat
  | .hbm => 12
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S31x1x512, .f32⟩
  | .hbm, ⟨2, _⟩ => ⟨S4096x512, .bf16⟩
  | .hbm, ⟨3, _⟩ => ⟨S31x4x128, .f32⟩
  | .hbm, ⟨4, _⟩ => ⟨S4x31x128, .f32⟩
  | .hbm, ⟨5, _⟩ => ⟨S_, .f32⟩
  | .hbm, ⟨6, _⟩ => ⟨S4x1x128, .f32⟩
  | .hbm, ⟨7, _⟩ => ⟨S4x32x128, .f32⟩
  | .hbm, ⟨8, _⟩ => ⟨S4096x512, .bf16⟩
  | .hbm, ⟨9, _⟩ => ⟨S4096x512, .bf16⟩
  | .hbm, ⟨10, _⟩ => ⟨S32x512, .f32⟩
  | .hbm, ⟨11, _⟩ => ⟨S1x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x32x128, .f32⟩
  | .local _ .vmem, ⟨7, _⟩ => ⟨S1x32x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S32x128, .f32⟩
  | .local _ .vmem, ⟨13, _⟩ => ⟨S32x128, .f32⟩
  | .local _ .vmem, ⟨14, _⟩ => ⟨S1x128, .f32⟩
  | .local _ .vmem, ⟨15, _⟩ => ⟨S1x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x5632 : Shape := ⟨2, ![4096, 5632]⟩
abbrev S31x1x512 : Shape := ⟨3, ![31, 1, 512]⟩
abbrev S4096x512 : Shape := ⟨2, ![4096, 512]⟩
abbrev S_ : Shape := ⟨0, ![]⟩
abbrev S512 : Shape := ⟨1, ![512]⟩
abbrev S30x512 : Shape := ⟨2, ![30, 512]⟩
abbrev S4126x512 : Shape := ⟨2, ![4126, 512]⟩
abbrev S1x4096x512 : Shape := ⟨3, ![1, 4096, 512]⟩
abbrev S16x4096x512 : Shape := ⟨3, ![16, 4096, 512]⟩
abbrev S15x4096x512 : Shape := ⟨3, ![15, 4096, 512]⟩
abbrev S31x4096x512 : Shape := ⟨3, ![31, 4096, 512]⟩
abbrev S1x512 : Shape := ⟨2, ![1, 512]⟩
abbrev S31x512 : Shape := ⟨2, ![31, 512]⟩
abbrev S32x512 : Shape := ⟨2, ![32, 512]⟩

abbrev nBuf : Space → Nat
  | .hbm => 277
  | .vmem => 0
  | .smem => 0
  | _ => 0

abbrev hbmTy0_0 (i : Nat) : BufTy := match i % 128 with
  | 0 => ⟨S4096x5632, .bf16⟩
  | 1 => ⟨S31x1x512, .f32⟩
  | 2 => ⟨S4096x512, .bf16⟩
  | 3 => ⟨S4096x5632, .f32⟩
  | 4 => ⟨S4096x512, .f32⟩
  | 5 => ⟨S4096x512, .f32⟩
  | 6 => ⟨S4096x512, .f32⟩
  | 7 => ⟨S_, .f32⟩
  | 8 => ⟨S512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S4096x512, .f32⟩
  | 22 => ⟨S_, .f32⟩
  | 23 => ⟨S30x512, .f32⟩
  | 24 => ⟨S4126x512, .f32⟩
  | 25 => ⟨S_, .f32⟩
  | 26 => ⟨S30x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S1x4096x512, .f32⟩
  | 59 => ⟨S1x4096x512, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S1x4096x512, .f32⟩
  | 66 => ⟨S1x4096x512, .f32⟩
  | 67 => ⟨S1x4096x512, .f32⟩
  | 68 => ⟨S1x4096x512, .f32⟩
  | 69 => ⟨S1x4096x512, .f32⟩
  | 70 => ⟨S1x4096x512, .f32⟩
  | 71 => ⟨S1x4096x512, .f32⟩
  | 72 => ⟨S1x4096x512, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S1x4096x512, .f32⟩
  | 82 => ⟨S1x4096x512, .f32⟩
  | 83 => ⟨S1x4096x512, .f32⟩
  | 84 => ⟨S1x4096x512, .f32⟩
  | 85 => ⟨S1x4096x512, .f32⟩
  | 86 => ⟨S1x4096x512, .f32⟩
  | 87 => ⟨S1x4096x512, .f32⟩
  | 88 => ⟨S1x4096x512, .f32⟩
  | 89 => ⟨S16x4096x512, .f32⟩
  | 90 => ⟨S15x4096x512, .f32⟩
  | 91 => ⟨S31x4096x512, .f32⟩
  | 92 => ⟨S31x4096x512, .f32⟩
  | 93 => ⟨S31x4096x512, .f32⟩
  | 94 => ⟨S_, .f32⟩
  | 95 => ⟨S4096x512, .f32⟩
  | 96 => ⟨S1x512, .f32⟩
  | 97 => ⟨S4096x512, .f32⟩
  | 98 => ⟨S4096x512, .f32⟩
  | 99 => ⟨S_, .f32⟩
  | 100 => ⟨S512, .f32⟩
  | 101 => ⟨S1x512, .f32⟩
  | 102 => ⟨S_, .f32⟩
  | 103 => ⟨S512, .f32⟩
  | 104 => ⟨S31x4096x512, .f32⟩
  | 105 => ⟨S31x4096x512, .f32⟩
  | 106 => ⟨S_, .f32⟩
  | 107 => ⟨S31x512, .f32⟩
  | 108 => ⟨S31x1x512, .f32⟩
  | 109 => ⟨S31x4096x512, .f32⟩
  | 110 => ⟨S31x4096x512, .f32⟩
  | 111 => ⟨S1x4096x512, .f32⟩
  | 112 => ⟨S4096x512, .f32⟩
  | 113 => ⟨S1x4096x512, .f32⟩
  | 114 => ⟨S4096x512, .f32⟩
  | 115 => ⟨S1x4096x512, .f32⟩
  | 116 => ⟨S4096x512, .f32⟩
  | 117 => ⟨S1x4096x512, .f32⟩
  | 118 => ⟨S4096x512, .f32⟩
  | 119 => ⟨S1x4096x512, .f32⟩
  | 120 => ⟨S4096x512, .f32⟩
  | 121 => ⟨S1x4096x512, .f32⟩
  | 122 => ⟨S4096x512, .f32⟩
  | 123 => ⟨S1x4096x512, .f32⟩
  | 124 => ⟨S4096x512, .f32⟩
  | 125 => ⟨S1x4096x512, .f32⟩
  | 126 => ⟨S4096x512, .f32⟩
  | 127 => ⟨S1x4096x512, .f32⟩
  | _ => ⟨S4096x5632, .bf16⟩

abbrev hbmTy0_1 (i : Nat) : BufTy := match i % 128 with
  | 0 => ⟨S4096x512, .f32⟩
  | 1 => ⟨S1x4096x512, .f32⟩
  | 2 => ⟨S4096x512, .f32⟩
  | 3 => ⟨S1x4096x512, .f32⟩
  | 4 => ⟨S4096x512, .f32⟩
  | 5 => ⟨S1x4096x512, .f32⟩
  | 6 => ⟨S4096x512, .f32⟩
  | 7 => ⟨S1x4096x512, .f32⟩
  | 8 => ⟨S4096x512, .f32⟩
  | 9 => ⟨S1x4096x512, .f32⟩
  | 10 => ⟨S4096x512, .f32⟩
  | 11 => ⟨S1x4096x512, .f32⟩
  | 12 => ⟨S4096x512, .f32⟩
  | 13 => ⟨S1x4096x512, .f32⟩
  | 14 => ⟨S4096x512, .f32⟩
  | 15 => ⟨S1x4096x512, .f32⟩
  | 16 => ⟨S4096x512, .f32⟩
  | 17 => ⟨S1x4096x512, .f32⟩
  | 18 => ⟨S4096x512, .f32⟩
  | 19 => ⟨S1x4096x512, .f32⟩
  | 20 => ⟨S4096x512, .f32⟩
  | 21 => ⟨S1x4096x512, .f32⟩
  | 22 => ⟨S4096x512, .f32⟩
  | 23 => ⟨S1x4096x512, .f32⟩
  | 24 => ⟨S4096x512, .f32⟩
  | 25 => ⟨S1x4096x512, .f32⟩
  | 26 => ⟨S4096x512, .f32⟩
  | 27 => ⟨S1x4096x512, .f32⟩
  | 28 => ⟨S4096x512, .f32⟩
  | 29 => ⟨S1x4096x512, .f32⟩
  | 30 => ⟨S4096x512, .f32⟩
  | 31 => ⟨S1x4096x512, .f32⟩
  | 32 => ⟨S4096x512, .f32⟩
  | 33 => ⟨S1x4096x512, .f32⟩
  | 34 => ⟨S4096x512, .f32⟩
  | 35 => ⟨S1x4096x512, .f32⟩
  | 36 => ⟨S4096x512, .f32⟩
  | 37 => ⟨S1x4096x512, .f32⟩
  | 38 => ⟨S4096x512, .f32⟩
  | 39 => ⟨S1x4096x512, .f32⟩
  | 40 => ⟨S4096x512, .f32⟩
  | 41 => ⟨S1x4096x512, .f32⟩
  | 42 => ⟨S4096x512, .f32⟩
  | 43 => ⟨S1x4096x512, .f32⟩
  | 44 => ⟨S4096x512, .f32⟩
  | 45 => ⟨S_, .f32⟩
  | 46 => ⟨S4126x512, .f32⟩
  | 47 => ⟨S_, .f32⟩
  | 48 => ⟨S4126x512, .f32⟩
  | 49 => ⟨S4126x512, .f32⟩
  | 50 => ⟨S_, .f32⟩
  | 51 => ⟨S4126x512, .f32⟩
  | 52 => ⟨S4126x512, .f32⟩
  | 53 => ⟨S_, .f32⟩
  | 54 => ⟨S4126x512, .f32⟩
  | 55 => ⟨S4126x512, .f32⟩
  | 56 => ⟨S_, .f32⟩
  | 57 => ⟨S4126x512, .f32⟩
  | 58 => ⟨S4126x512, .f32⟩
  | 59 => ⟨S_, .f32⟩
  | 60 => ⟨S4126x512, .f32⟩
  | 61 => ⟨S4126x512, .f32⟩
  | 62 => ⟨S_, .f32⟩
  | 63 => ⟨S4126x512, .f32⟩
  | 64 => ⟨S4126x512, .f32⟩
  | 65 => ⟨S_, .f32⟩
  | 66 => ⟨S4126x512, .f32⟩
  | 67 => ⟨S4126x512, .f32⟩
  | 68 => ⟨S_, .f32⟩
  | 69 => ⟨S4126x512, .f32⟩
  | 70 => ⟨S4126x512, .f32⟩
  | 71 => ⟨S_, .f32⟩
  | 72 => ⟨S4126x512, .f32⟩
  | 73 => ⟨S4126x512, .f32⟩
  | 74 => ⟨S_, .f32⟩
  | 75 => ⟨S4126x512, .f32⟩
  | 76 => ⟨S4126x512, .f32⟩
  | 77 => ⟨S_, .f32⟩
  | 78 => ⟨S4126x512, .f32⟩
  | 79 => ⟨S4126x512, .f32⟩
  | 80 => ⟨S_, .f32⟩
  | 81 => ⟨S4126x512, .f32⟩
  | 82 => ⟨S4126x512, .f32⟩
  | 83 => ⟨S_, .f32⟩
  | 84 => ⟨S4126x512, .f32⟩
  | 85 => ⟨S4126x512, .f32⟩
  | 86 => ⟨S_, .f32⟩
  | 87 => ⟨S4126x512, .f32⟩
  | 88 => ⟨S4126x512, .f32⟩
  | 89 => ⟨S_, .f32⟩
  | 90 => ⟨S4126x512, .f32⟩
  | 91 => ⟨S4126x512, .f32⟩
  | 92 => ⟨S_, .f32⟩
  | 93 => ⟨S4126x512, .f32⟩
  | 94 => ⟨S4126x512, .f32⟩
  | 95 => ⟨S_, .f32⟩
  | 96 => ⟨S4126x512, .f32⟩
  | 97 => ⟨S4126x512, .f32⟩
  | 98 => ⟨S_, .f32⟩
  | 99 => ⟨S4126x512, .f32⟩
  | 100 => ⟨S4126x512, .f32⟩
  | 101 => ⟨S_, .f32⟩
  | 102 => ⟨S4126x512, .f32⟩
  | 103 => ⟨S4126x512, .f32⟩
  | 104 => ⟨S_, .f32⟩
  | 105 => ⟨S4126x512, .f32⟩
  | 106 => ⟨S4126x512, .f32⟩
  | 107 => ⟨S_, .f32⟩
  | 108 => ⟨S4126x512, .f32⟩
  | 109 => ⟨S4126x512, .f32⟩
  | 110 => ⟨S_, .f32⟩
  | 111 => ⟨S4126x512, .f32⟩
  | 112 => ⟨S4126x512, .f32⟩
  | 113 => ⟨S_, .f32⟩
  | 114 => ⟨S4126x512, .f32⟩
  | 115 => ⟨S4126x512, .f32⟩
  | 116 => ⟨S_, .f32⟩
  | 117 => ⟨S4126x512, .f32⟩
  | 118 => ⟨S4126x512, .f32⟩
  | 119 => ⟨S_, .f32⟩
  | 120 => ⟨S4126x512, .f32⟩
  | 121 => ⟨S4126x512, .f32⟩
  | 122 => ⟨S_, .f32⟩
  | 123 => ⟨S4126x512, .f32⟩
  | 124 => ⟨S4126x512, .f32⟩
  | 125 => ⟨S_, .f32⟩
  | 126 => ⟨S4126x512, .f32⟩
  | 127 => ⟨S4126x512, .f32⟩
  | _ => ⟨S4096x5632, .bf16⟩

abbrev hbmTy0_2 (i : Nat) : BufTy := match i % 128 with
  | 0 => ⟨S_, .f32⟩
  | 1 => ⟨S4126x512, .f32⟩
  | 2 => ⟨S4126x512, .f32⟩
  | 3 => ⟨S_, .f32⟩
  | 4 => ⟨S4126x512, .f32⟩
  | 5 => ⟨S4126x512, .f32⟩
  | 6 => ⟨S_, .f32⟩
  | 7 => ⟨S4126x512, .f32⟩
  | 8 => ⟨S4126x512, .f32⟩
  | 9 => ⟨S30x512, .f32⟩
  | 10 => ⟨S4096x512, .f32⟩
  | 11 => ⟨S4096x512, .f32⟩
  | 12 => ⟨S4096x512, .f32⟩
  | 13 => ⟨S4096x512, .f32⟩
  | 14 => ⟨S4096x512, .bf16⟩
  | 15 => ⟨S4096x512, .bf16⟩
  | 16 => ⟨S31x512, .f32⟩
  | 17 => ⟨S_, .i32⟩
  | 18 => ⟨S_, .f32⟩
  | 19 => ⟨S32x512, .f32⟩
  | 20 => ⟨S1x512, .f32⟩
  | _ => ⟨S4096x5632, .bf16⟩

abbrev hbmTy (i : Nat) : BufTy := match i / 128 with
  | 0 => hbmTy0_0 i
  | 1 => hbmTy0_1 i
  | 2 => hbmTy0_2 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_5 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_6 : Ref sig .tc := ⟨.hbm, 99, rfl⟩
abbrev main_v89 : Ref sig .tc := ⟨.hbm, 100, rfl⟩
abbrev main_v90 : Ref sig .tc := ⟨.hbm, 101, rfl⟩
abbrev main_cst_7 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_8 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_cst_9 : Ref sig .tc := ⟨.hbm, 173, rfl⟩
abbrev main_v160 : Ref sig .tc := ⟨.hbm, 174, rfl⟩
abbrev main_cst_10 : Ref sig .tc := ⟨.hbm, 175, rfl⟩
abbrev main_v161 : Ref sig .tc := ⟨.hbm, 176, rfl⟩
abbrev main_v162 : Ref sig .tc := ⟨.hbm, 177, rfl⟩
abbrev main_cst_11 : Ref sig .tc := ⟨.hbm, 178, rfl⟩
abbrev main_v163 : Ref sig .tc := ⟨.hbm, 179, rfl⟩
abbrev main_v164 : Ref sig .tc := ⟨.hbm, 180, rfl⟩
abbrev main_cst_12 : Ref sig .tc := ⟨.hbm, 181, rfl⟩
abbrev main_v165 : Ref sig .tc := ⟨.hbm, 182, rfl⟩
abbrev main_v166 : Ref sig .tc := ⟨.hbm, 183, rfl⟩
abbrev main_cst_13 : Ref sig .tc := ⟨.hbm, 184, rfl⟩
abbrev main_v167 : Ref sig .tc := ⟨.hbm, 185, rfl⟩
abbrev main_v168 : Ref sig .tc := ⟨.hbm, 186, rfl⟩
abbrev main_cst_14 : Ref sig .tc := ⟨.hbm, 187, rfl⟩
abbrev main_v169 : Ref sig .tc := ⟨.hbm, 188, rfl⟩
abbrev main_v170 : Ref sig .tc := ⟨.hbm, 189, rfl⟩
abbrev main_cst_15 : Ref sig .tc := ⟨.hbm, 190, rfl⟩
abbrev main_v171 : Ref sig .tc := ⟨.hbm, 191, rfl⟩
abbrev main_v172 : Ref sig .tc := ⟨.hbm, 192, rfl⟩
abbrev main_cst_16 : Ref sig .tc := ⟨.hbm, 193, rfl⟩
abbrev main_v173 : Ref sig .tc := ⟨.hbm, 194, rfl⟩
abbrev main_v174 : Ref sig .tc := ⟨.hbm, 195, rfl⟩
abbrev main_cst_17 : Ref sig .tc := ⟨.hbm, 196, rfl⟩
abbrev main_v175 : Ref sig .tc := ⟨.hbm, 197, rfl⟩
abbrev main_v176 : Ref sig .tc := ⟨.hbm, 198, rfl⟩
abbrev main_cst_18 : Ref sig .tc := ⟨.hbm, 199, rfl⟩
abbrev main_v177 : Ref sig .tc := ⟨.hbm, 200, rfl⟩
abbrev main_v178 : Ref sig .tc := ⟨.hbm, 201, rfl⟩
abbrev main_cst_19 : Ref sig .tc := ⟨.hbm, 202, rfl⟩
abbrev main_v179 : Ref sig .tc := ⟨.hbm, 203, rfl⟩
abbrev main_v180 : Ref sig .tc := ⟨.hbm, 204, rfl⟩
abbrev main_cst_20 : Ref sig .tc := ⟨.hbm, 205, rfl⟩
abbrev main_v181 : Ref sig .tc := ⟨.hbm, 206, rfl⟩
abbrev main_v182 : Ref sig .tc := ⟨.hbm, 207, rfl⟩
abbrev main_cst_21 : Ref sig .tc := ⟨.hbm, 208, rfl⟩
abbrev main_v183 : Ref sig .tc := ⟨.hbm, 209, rfl⟩
abbrev main_v184 : Ref sig .tc := ⟨.hbm, 210, rfl⟩
abbrev main_cst_22 : Ref sig .tc := ⟨.hbm, 211, rfl⟩
abbrev main_v185 : Ref sig .tc := ⟨.hbm, 212, rfl⟩
abbrev main_v186 : Ref sig .tc := ⟨.hbm, 213, rfl⟩
abbrev main_cst_23 : Ref sig .tc := ⟨.hbm, 214, rfl⟩
abbrev main_v187 : Ref sig .tc := ⟨.hbm, 215, rfl⟩
abbrev main_v188 : Ref sig .tc := ⟨.hbm, 216, rfl⟩
abbrev main_cst_24 : Ref sig .tc := ⟨.hbm, 217, rfl⟩
abbrev main_v189 : Ref sig .tc := ⟨.hbm, 218, rfl⟩
abbrev main_v190 : Ref sig .tc := ⟨.hbm, 219, rfl⟩
abbrev main_cst_25 : Ref sig .tc := ⟨.hbm, 220, rfl⟩
abbrev main_v191 : Ref sig .tc := ⟨.hbm, 221, rfl⟩
abbrev main_v192 : Ref sig .tc := ⟨.hbm, 222, rfl⟩
abbrev main_cst_26 : Ref sig .tc := ⟨.hbm, 223, rfl⟩
abbrev main_v193 : Ref sig .tc := ⟨.hbm, 224, rfl⟩
abbrev main_v194 : Ref sig .tc := ⟨.hbm, 225, rfl⟩
abbrev main_cst_27 : Ref sig .tc := ⟨.hbm, 226, rfl⟩
abbrev main_v195 : Ref sig .tc := ⟨.hbm, 227, rfl⟩
abbrev main_v196 : Ref sig .tc := ⟨.hbm, 228, rfl⟩
abbrev main_cst_28 : Ref sig .tc := ⟨.hbm, 229, rfl⟩
abbrev main_v197 : Ref sig .tc := ⟨.hbm, 230, rfl⟩
abbrev main_v198 : Ref sig .tc := ⟨.hbm, 231, rfl⟩
abbrev main_cst_29 : Ref sig .tc := ⟨.hbm, 232, rfl⟩
abbrev main_v199 : Ref sig .tc := ⟨.hbm, 233, rfl⟩
abbrev main_v200 : Ref sig .tc := ⟨.hbm, 234, rfl⟩
abbrev main_cst_30 : Ref sig .tc := ⟨.hbm, 235, rfl⟩
abbrev main_v201 : Ref sig .tc := ⟨.hbm, 236, rfl⟩
abbrev main_v202 : Ref sig .tc := ⟨.hbm, 237, rfl⟩
abbrev main_cst_31 : Ref sig .tc := ⟨.hbm, 238, rfl⟩
abbrev main_v203 : Ref sig .tc := ⟨.hbm, 239, rfl⟩
abbrev main_v204 : Ref sig .tc := ⟨.hbm, 240, rfl⟩
abbrev main_cst_32 : Ref sig .tc := ⟨.hbm, 241, rfl⟩
abbrev main_v205 : Ref sig .tc := ⟨.hbm, 242, rfl⟩
abbrev main_v206 : Ref sig .tc := ⟨.hbm, 243, rfl⟩
abbrev main_cst_33 : Ref sig .tc := ⟨.hbm, 244, rfl⟩
abbrev main_v207 : Ref sig .tc := ⟨.hbm, 245, rfl⟩
abbrev main_v208 : Ref sig .tc := ⟨.hbm, 246, rfl⟩
abbrev main_cst_34 : Ref sig .tc := ⟨.hbm, 247, rfl⟩
abbrev main_v209 : Ref sig .tc := ⟨.hbm, 248, rfl⟩
abbrev main_v210 : Ref sig .tc := ⟨.hbm, 249, rfl⟩
abbrev main_cst_35 : Ref sig .tc := ⟨.hbm, 250, rfl⟩
abbrev main_v211 : Ref sig .tc := ⟨.hbm, 251, rfl⟩
abbrev main_v212 : Ref sig .tc := ⟨.hbm, 252, rfl⟩
abbrev main_cst_36 : Ref sig .tc := ⟨.hbm, 253, rfl⟩
abbrev main_v213 : Ref sig .tc := ⟨.hbm, 254, rfl⟩
abbrev main_v214 : Ref sig .tc := ⟨.hbm, 255, rfl⟩
abbrev main_cst_37 : Ref sig .tc := ⟨.hbm, 256, rfl⟩
abbrev main_v215 : Ref sig .tc := ⟨.hbm, 257, rfl⟩
abbrev main_v216 : Ref sig .tc := ⟨.hbm, 258, rfl⟩
abbrev main_cst_38 : Ref sig .tc := ⟨.hbm, 259, rfl⟩
abbrev main_v217 : Ref sig .tc := ⟨.hbm, 260, rfl⟩
abbrev main_v218 : Ref sig .tc := ⟨.hbm, 261, rfl⟩
abbrev main_cst_39 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_c : Ref sig .tc := ⟨.hbm, 273, rfl⟩
abbrev main_call0_v0 : Ref sig .tc := ⟨.hbm, 274, rfl⟩
abbrev main_v229 : Ref sig .tc := ⟨.hbm, 275, rfl⟩
abbrev main_v230 : Ref sig .tc := ⟨.hbm, 276, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S4096x4x704 : Shape := ⟨3, ![4096, 4, 704]⟩
abbrev S_ : Shape := ⟨0, ![]⟩
abbrev S4096x4x64 : Shape := ⟨3, ![4096, 4, 64]⟩
abbrev S4096x4x768 : Shape := ⟨3, ![4096, 4, 768]⟩
abbrev S4096x3072 : Shape := ⟨2, ![4096, 3072]⟩
abbrev S4x768x1024 : Shape := ⟨3, ![4, 768, 1024]⟩
abbrev S4096x768 : Shape := ⟨2, ![4096, 768]⟩
abbrev S1x768x1024 : Shape := ⟨3, ![1, 768, 1024]⟩
abbrev S768x1024 : Shape := ⟨2, ![768, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S_, .bf16⟩
  | .hbm, ⟨4, _⟩ => ⟨S4096x4x64, .bf16⟩
  | .hbm, ⟨5, _⟩ => ⟨S4096x4x768, .bf16⟩
  | .hbm, ⟨6, _⟩ => ⟨S4096x3072, .bf16⟩
  | .hbm, ⟨7, _⟩ => ⟨S4x768x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S1x768x1024, .bf16⟩
  | .local _ .vmem, ⟨4, _⟩ => ⟨S1x768x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x768x1024 : Shape := ⟨3, ![4, 768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S_, .i32⟩
  | .hbm, ⟨12, _⟩ => ⟨S_, .f32⟩
  | .hbm, ⟨13, _⟩ => ⟨S4x768x1024, .f32⟩
  | .hbm, ⟨14, _⟩ => ⟨S4x768x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S4096x4x704 : Shape := ⟨3, ![4096, 4, 704]⟩
abbrev S_ : Shape := ⟨0, ![]⟩
abbrev S4096x4x64 : Shape := ⟨3, ![4096, 4, 64]⟩
abbrev S4096x4x768 : Shape := ⟨3, ![4096, 4, 768]⟩
abbrev S4096x3072 : Shape := ⟨2, ![4096, 3072]⟩
abbrev S2816x1024 : Shape := ⟨2, ![2816, 1024]⟩
abbrev S4x704x1024 : Shape := ⟨3, ![4, 704, 1024]⟩
abbrev S4x64x1024 : Shape := ⟨3, ![4, 64, 1024]⟩
abbrev S4x768x1024 : Shape := ⟨3, ![4, 768, 1024]⟩
abbrev S1x1024 : Shape := ⟨2, ![1, 1024]⟩
abbrev S1024x768 : Shape := ⟨2, ![1024, 768]⟩
abbrev S1x768x1024 : Shape := ⟨3, ![1, 768, 1024]⟩
abbrev S1024x1024 : Shape := ⟨2, ![1024, 1024]⟩
abbrev S768x1024 : Shape := ⟨2, ![768, 1024]⟩
abbrev S256x1024 : Shape := ⟨2, ![256, 1024]⟩
abbrev S256 : Shape := ⟨1, ![256]⟩
abbrev S256x1 : Shape := ⟨2, ![256, 1]⟩

abbrev nBuf : Space → Nat
  | .hbm => 30
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x4x704, .bf16⟩
  | .hbm, ⟨8, _⟩ => ⟨S_, .bf16⟩
  | .hbm, ⟨9, _⟩ => ⟨S4096x4x64, .bf16⟩
  | .hbm, ⟨10, _⟩ => ⟨S4096x4x768, .bf16⟩
  | .hbm, ⟨11, _⟩ => ⟨S4096x3072, .bf16⟩
  | .hbm, ⟨12, _⟩ => ⟨S4096x4x704, .bf16⟩
  | .hbm, ⟨13, _⟩ => ⟨S_, .bf16⟩
  | .hbm, ⟨14, _⟩ => ⟨S4096x4x64, .bf16⟩
  | .hbm, ⟨15, _⟩ => ⟨S4096x4x768, .bf16⟩
  | .hbm, ⟨16, _⟩ => ⟨S4096x3072, .bf16⟩
  | .hbm, ⟨17, _⟩ => ⟨S2816x1024, .bf16⟩
  | .hbm, ⟨18, _⟩ => ⟨S4x704x1024, .bf16⟩
  | .hbm, ⟨19, _⟩ => ⟨S_, .bf16⟩
  | .hbm, ⟨20, _⟩ => ⟨S4x64x1024, .bf16⟩
  | .hbm, ⟨21, _⟩ => ⟨S4x768x1024, .bf16⟩
  | .hbm, ⟨22, _⟩ => ⟨S2816x1024, .bf16⟩
  | .hbm, ⟨23, _⟩ => ⟨S4x704x1024, .bf16⟩
  | .hbm, ⟨24, _⟩ => ⟨S_, .bf16⟩
  | .hbm, ⟨25, _⟩ => ⟨S4x64x1024, .bf16⟩
  | .hbm, ⟨26, _⟩ => ⟨S4x768x1024, .bf16⟩
  | .hbm, ⟨27, _⟩ => ⟨S1x1024, .f32⟩
  | .hbm, ⟨28, _⟩ => ⟨S4096x1024, .f32⟩
  | .hbm, ⟨29, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_19 : BitVec 32 := 0#32
  let v25 : BitVec 1 := Scalar.cmpi .ne v24 c0_i32_19
  v25

def k0_cond3 (i : grid0.Coords) : BitVec 1 :=
  let arg0 : BitVec 32 := BitVec.ofNat 32 (i 0).val
  let c0_i32_82 : BitVec 32 := 0#32
  let v159 : BitVec 1 := Scalar.cmpi .eq arg0 c0_i32_82
  let v160 : BitVec 32 := Scalar.extui v159
  let c0_i32_83 : BitVec 32 := 0#32
  let v161 : BitVec 1 := Scalar.cmpi .ne v160 c0_i32_83
  v161

def k0_cond4 (i : grid0.Coords) : BitVec 1 :=
  let arg0 : BitVec 32 := BitVec.ofNat 32 (i 0).val
  let c0_i32_82 : BitVec 32 := 0#32
  let v159 : BitVec 1 := Scalar.cmpi .eq arg0 c0_i32_82
  let v_true : BitVec 1 := 1#1
  let v162 : BitVec 1 := Scalar.xori v159 v_true
  let v163 : BitVec 32 := Scalar.extui v162
  let c0_i32_84 : BitVec 32 := 0#32
  let v164 : BitVec 1 := Scalar.cmpi .ne v163 c0_i32_84
  v164

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x2816, .f32⟩
  | .hbm, ⟨8, _⟩ => ⟨S4096x2816, .f32⟩
  | .hbm, ⟨9, _⟩ => ⟨S1024x2816, .f32⟩
  | .hbm, ⟨10, _⟩ => ⟨S1024x2816, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S4096x4x704 : Shape := ⟨3, ![4096, 4, 704]⟩
abbrev S_ : Shape := ⟨0, ![]⟩
abbrev S4096x4x64 : Shape := ⟨3, ![4096, 4, 64]⟩
abbrev S4096x4x768 : Shape := ⟨3, ![4096, 4, 768]⟩
abbrev S4096x3072 : Shape := ⟨2, ![4096, 3072]⟩
abbrev S4x704x1024 : Shape := ⟨3, ![4, 704, 1024]⟩
abbrev S4x64x1024 : Shape := ⟨3, ![4, 64, 1024]⟩
abbrev S4x768x1024 : Shape := ⟨3, ![4, 768, 1024]⟩
abbrev S1x1024 : Shape := ⟨2, ![1, 1024]⟩
abbrev S3072x1024 : Shape := ⟨2, ![3072, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x4x704, .bf16⟩
  | .hbm, ⟨5, _⟩ => ⟨S_, .bf16⟩
  | .hbm, ⟨6, _⟩ => ⟨S4096x4x64, .bf16⟩
  | .hbm, ⟨7, _⟩ => ⟨S4096x4x768, .bf16⟩
  | .hbm, ⟨8, _⟩ => ⟨S4096x3072, .bf16⟩
  | .hbm, ⟨9, _⟩ => ⟨S4x704x1024, .bf16⟩
  | .hbm, ⟨10, _⟩ => ⟨S_, .bf16⟩
  | .hbm, ⟨11, _⟩ => ⟨S4x64x1024, .bf16⟩
  | .hbm, ⟨12, _⟩ => ⟨S4x768x1024, .bf16⟩
  | .hbm, ⟨13, _⟩ => ⟨S1x1024, .f32⟩
  | .hbm, ⟨14, _⟩ => ⟨S3072x1024, .bf16⟩
  | .hbm, ⟨15, _⟩ => ⟨S4096x1024, .bf16⟩
  | .hbm, ⟨16, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S4096x2816 : Shape := ⟨2, ![4096, 2816]⟩
abbrev S1024x4x1408 : Shape := ⟨3, ![1024, 4, 1408]⟩
abbrev S4x1024x1408 : Shape := ⟨3, ![4, 1024, 1408]⟩
abbrev S1x1024 : Shape := ⟨2, ![1, 1024]⟩
abbrev S1024x1408 : Shape := ⟨2, ![1024, 1408]⟩
abbrev S1x1024x1408 : Shape := ⟨3, ![1, 1024, 1408]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x2816, .bf16⟩
  | .hbm, ⟨6, _⟩ => ⟨S4096x2816, .bf16⟩
  | .hbm, ⟨7, _⟩ => ⟨S1024x4x1408, .bf16⟩
  | .hbm, ⟨8, _⟩ => ⟨S4x1024x1408, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_17 : BitVec 32 := 0#32
  let v45 : BitVec 1 := Scalar.cmpi .ne v44 c0_i32_17
  v45

def k0_cond5 (i : grid0.Coords) : BitVec 1 :=
  let arg0 : BitVec 32 := BitVec.ofNat 32 (i 0).val
  let c0_i32_78 : BitVec 32 := 0#32
  let v179 : BitVec 1 := Scalar.cmpi .eq arg0 c0_i32_78
  let v180 : BitVec 32 := Scalar.extui v179
  let c0_i32_79 : BitVec 32 := 0#32
  let v181 : BitVec 1 := Scalar.cmpi .ne v180 c0_i32_79
  v181

def k0_cond6 (i : grid0.Coords) : BitVec 1 :=
  let arg0 : BitVec 32 := BitVec.ofNat 32 (i 0).val
  let c0_i32_78 : BitVec 32 := 0#32
  let v179 : BitVec 1 := Scalar.cmpi .eq arg0 c0_i32_78
  let v_true : BitVec 1 := 1#1
  let v182 : BitVec 1 := Scalar.xori v179 v_true
  let v183 : BitVec 32 := Scalar.extui v182
  let c0_i32_80 : BitVec 32 := 0#32
  let v184 : BitVec 1 := Scalar.cmpi .ne v183 c0_i32_80
  v184

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x5632, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S4096x1024 : Shape := ⟨2, ![4096, 1024]⟩
abbrev S4096x5632 : Shape := ⟨2, ![4096, 5632]⟩
abbrev S4096x2816 : Shape := ⟨2, ![4096, 2816]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x2816, .bf16⟩
  | .hbm, ⟨3, _⟩ => ⟨S4x1024x1408, .bf16⟩
  | .hbm, ⟨4, _⟩ => ⟨S4096x2816, .bf16⟩
  | .hbm, ⟨5, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S4096x512, .bf16⟩
  | .local _ .vmem, ⟨7, _⟩ => ⟨S4096x512, .bf16⟩
  | .local _ .vmem, ⟨8, _⟩ => ⟨S4096x1408, .bf16⟩
  | .local _ .vmem, ⟨9, _⟩ => ⟨S4096x1408, .bf16⟩
  | .local _ .vmem, ⟨10, _⟩ => ⟨S1x512x1408, .bf16⟩
  | .local _ .vmem, ⟨11, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference6Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4x704x1024 : Shape := ⟨3, ![4, 704, 1024]⟩
abbrev S_ : Shape := ⟨0, ![]⟩
abbrev S4x64x1024 : Shape := ⟨3, ![4, 64, 1024]⟩
abbrev S4x768x1024 : Shape := ⟨3, ![4, 768, 1024]⟩
abbrev S4096x3072 : Shape := ⟨2, ![4096, 3072]⟩
abbrev S1024x1024 : Shape := ⟨2, ![1024, 1024]⟩
abbrev S1x768x1024 : Shape := ⟨3, ![1, 768, 1024]⟩
abbrev S1024x768 : Shape := ⟨2, ![1024, 768]⟩
abbrev S1024x1 : Shape := ⟨2, ![1024, 1]⟩
abbrev S768x1024 : Shape := ⟨2, ![768, 1024]⟩

abbrev nBuf : Space → Nat
  | .hbm => 19
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S1x1024, .f32⟩
  | .hbm, ⟨5, _⟩ => ⟨S2816x1024, .bf16⟩
  | .hbm, ⟨6, _⟩ => ⟨S4x704x1024, .bf16⟩
  | .hbm, ⟨7, _⟩ => ⟨S_, .bf16⟩
  | .hbm, ⟨8, _⟩ => ⟨S4x64x1024, .bf16⟩
  | .hbm, ⟨9, _⟩ => ⟨S4x768x1024, .bf16⟩
  | .hbm, ⟨10, _⟩ => ⟨S2816x1024, .bf16⟩
  | .hbm, ⟨11, _⟩ => ⟨S4x704x1024, .bf16⟩
  | .hbm, ⟨12, _⟩ => ⟨S_, .bf16⟩
  | .hbm, ⟨13, _⟩ => ⟨S4x64x1024, .bf16⟩
  | .hbm, ⟨14, _⟩ => ⟨S4x768x1024, .bf16⟩
  | .hbm, ⟨15, _⟩ => ⟨S4096x1024, .bf16⟩
  | .hbm, ⟨16, _⟩ => ⟨S4096x3072, .bf16⟩
  | .hbm, ⟨17, _⟩ => ⟨S4096x3072, .bf16⟩
  | .hbm, ⟨18, _⟩ => ⟨S4096x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4096x4x768 : Shape := ⟨3, ![4096, 4, 768]⟩
abbrev S4096x3072 : Shape := ⟨2, ![4096, 3072]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S1024x2816, .f32⟩
  | .hbm, ⟨5, _⟩ => ⟨S1024x2816, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x1024, .bf16⟩
  | .hbm, ⟨25, _⟩ => ⟨S4096x4x704, .f32⟩
  | .hbm, ⟨26, _⟩ => ⟨S_, .i32⟩
  | .hbm, ⟨27, _⟩ => ⟨S_, .f32⟩
  | .hbm, ⟨28, _⟩ => ⟨S4096x4x768, .f32⟩
  | .hbm, ⟨29, _⟩ => ⟨S4096x3072, .f32⟩
  | .hbm, ⟨30, _⟩ => ⟨S4096x3072, .bf16⟩
  | .hbm, ⟨31, _⟩ => ⟨S4096x4x704, .f32⟩
  | .hbm, ⟨32, _⟩ => ⟨S_, .i32⟩
  | .hbm, ⟨33, _⟩ => ⟨S_, .f32⟩
  | .hbm, ⟨34, _⟩ => ⟨S4096x4x768, .f32⟩
  | .hbm, ⟨35, _⟩ => ⟨S4096x3072, .f32⟩
  | .hbm, ⟨36, _⟩ => ⟨S4096x3072, .bf16⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x4x704, .f32⟩
  | .hbm, ⟨48, _⟩ => ⟨S_, .i32⟩
  | .hbm, ⟨49, _⟩ => ⟨S_, .f32⟩
  | .hbm, ⟨50, _⟩ => ⟨S4096x4x768, .f32⟩
  | .hbm, ⟨51, _⟩ => ⟨S4096x3072, .f32⟩
  | .hbm, ⟨52, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S1024x4x1408, .bf16⟩
  | .hbm, ⟨5, _⟩ => ⟨S4x1024x1408, .bf16⟩
  | .hbm, ⟨6, _⟩ => ⟨S4096x1024, .bf16⟩
  | .hbm, ⟨7, _⟩ => ⟨S4096x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x5632, .f32⟩
  | .hbm, ⟨21, _⟩ => ⟨S4096x5632, .f32⟩
  | .hbm, ⟨22, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4x512x256, .bf16⟩
  | .hbm, ⟨7, _⟩ => ⟨S4x512x256, .bf16⟩
  | .hbm, ⟨8, _⟩ => ⟨S4x512x256, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S_, .f32⟩
  | .hbm, ⟨7, _⟩ => ⟨S512x1024, .f32⟩
  | .hbm, ⟨8, _⟩ => ⟨S4096x512, .f32⟩
  | .hbm, ⟨9, _⟩ => ⟨S4096x1024, .f32⟩
  | .hbm, ⟨10, _⟩ => ⟨S4096x512, .f32⟩
  | .hbm, ⟨11, _⟩ => ⟨S4096x1024, .f32⟩
  | .hbm, ⟨12, _⟩ => ⟨S4096x512, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024x512, .f32⟩
  | .hbm, ⟨18, _⟩ => ⟨S512x1024, .f32⟩
  | .hbm, ⟨19, _⟩ => ⟨S1024x512, .f32⟩
  | .hbm, ⟨20, _⟩ => ⟨S512x1024, .f32⟩
  | .hbm, ⟨21, _⟩ => ⟨S1024x512, .f32⟩
  | .hbm, ⟨22, _⟩ => ⟨S512x1024, .f32⟩
  | .hbm, ⟨23, _⟩ => ⟨S512x4x256, .f32⟩
  | .hbm, ⟨24, _⟩ => ⟨S4x512x256, .f32⟩
  | .hbm, ⟨25, _⟩ => ⟨S4x512x256, .bf16⟩
  | .hbm, ⟨26, _⟩ => ⟨S512x4x256, .f32⟩
  | .hbm, ⟨27, _⟩ => ⟨S4x512x256, .f32⟩
  | .hbm, ⟨28, _⟩ => ⟨S4x512x256, .bf16⟩
  | .hbm, ⟨29, _⟩ => ⟨S512x4x256, .f32⟩
  | .hbm, ⟨30, _⟩ => ⟨S4x512x256, .f32⟩
  | .hbm, ⟨31, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel13.lean ====
abbrev S4096x256 : Shape := ⟨2, ![4096, 256]⟩
abbrev S4096x1024 : Shape := ⟨2, ![4096, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S4x256x256, .bf16⟩
  | .local _ .vmem, ⟨0, _⟩ => ⟨S4096x256, .f32⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x4x256, .f32⟩
  | .hbm, ⟨9, _⟩ => ⟨S4x256x256, .f32⟩
  | .hbm, ⟨10, _⟩ => ⟨S4x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 12
  | .vmem => 32
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x256x1408, .f32⟩
  | .local _ .vmem, ⟨25, _⟩ => ⟨S1x256x1408, .f32⟩
  | .local _ .vmem, ⟨26, _⟩ => ⟨S1x256x1408, .f32⟩
  | .local _ .vmem, ⟨27, _⟩ => ⟨S1x256x1408, .f32⟩
  | .local _ .vmem, ⟨28, _⟩ => ⟨S1x256x1408, .f32⟩
  | .local _ .vmem, ⟨29, _⟩ => ⟨S1x256x1408, .f32⟩
  | .local _ .vmem, ⟨30, _⟩ => ⟨S1x256x1408, .f32⟩
  | .local _ .vmem, ⟨31, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S1x256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== Reference15Ideal.lean ====
abbrev S4x1024x1408 : Shape := ⟨3, ![4, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x512x256 : Shape := ⟨3, ![4, 512, 256]⟩
abbrev S1x512x256 : Shape := ⟨3, ![1, 512, 256]⟩
abbrev S512x256 : Shape := ⟨2, ![512, 256]⟩

abbrev nBuf : Space → Nat
  | .hbm => 12
  | .vmem => 24
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S4x512x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== Reference16Ideal.lean ====
abbrev S4x512x256 : Shape := ⟨3, ![4, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 12
  | .vmem => 24
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== Reference17Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 12
  | .vmem => 24
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨2, ![3, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 1 → Memref sig .tc .vmem S1x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S1x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S1x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]
-- ==== Reference18Ideal.lean ====
abbrev S4x256x256 : Shape := ⟨3, ![4, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x1024 : Shape := ⟨2, ![4, 1024]⟩
abbrev S4x4x128x128 : Shape := ⟨4, ![4, 4, 128, 128]⟩
abbrev S4x512 : Shape := ⟨2, ![4, 512]⟩
abbrev S4x4x128 : Shape := ⟨3, ![4, 4, 128]⟩
abbrev S4x31x1x128 : Shape := ⟨4, ![4, 31, 1, 128]⟩
abbrev S32x128 : Shape := ⟨2, ![32, 128]⟩
abbrev S2048x128 : Shape := ⟨2, ![2048, 128]⟩
abbrev S16x128 : Shape := ⟨2, ![16, 128]⟩
abbrev S124x128 : Shape := ⟨2, ![124, 128]⟩
abbrev S4432x128 : Shape := ⟨2, ![4432, 128]⟩
abbrev S156x128 : Shape := ⟨2, ![156, 128]⟩
abbrev S4588x128 : Shape := ⟨2, ![4588, 128]⟩
abbrev S_ : Shape := ⟨0, ![]⟩
abbrev S4608x128 : Shape := ⟨2, ![4608, 128]⟩
abbrev S1x4608x128 : Shape := ⟨3, ![1, 4608, 128]⟩
abbrev S1x2304x128 : Shape := ⟨3, ![1, 2304, 128]⟩
abbrev S2304x128 : Shape := ⟨2, ![2304, 128]⟩

abbrev nBuf : Space → Nat
  | .hbm => 176
  | .vmem => 16
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x4x128x128, .f32⟩
  | 4 => ⟨S4x512, .f32⟩
  | 5 => ⟨S4x512, .f32⟩
  | 6 => ⟨S4x512, .f32⟩
  | 7 => ⟨S4x4x128x128, .f32⟩
  | 8 => ⟨S4x4x128, .f32⟩
  | 9 => ⟨S4x512, .f32⟩
  | 10 => ⟨S4x512, .f32⟩
  | 11 => ⟨S4x512, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x31x1x128, .f32⟩
  | 18 => ⟨S4x1024, .f32⟩
  | 19 => ⟨S4x1024, .f32⟩
  | 20 => ⟨S4x1024, .f32⟩
  | 21 => ⟨S4x4x128x128, .f32⟩
  | 22 => ⟨S4x512, .f32⟩
  | 23 => ⟨S4x512, .f32⟩
  | 24 => ⟨S4x512, .f32⟩
  | 25 => ⟨S4x4x128x128, .f32⟩
  | 26 => ⟨S4x4x128, .f32⟩
  | 27 => ⟨S4x512, .f32⟩
  | 28 => ⟨S4x512, .f32⟩
  | 29 => ⟨S4x512, .f32⟩
  | 30 => ⟨S4x1024, .f32⟩
  | 31 => ⟨S4x1024, .f32⟩
  | 32 => ⟨S4x1024, .f32⟩
  | 33 => ⟨S4x1024, .f32⟩
  | 34 => ⟨S4x1024, .f32⟩
  | 35 => ⟨S4x31x1x128, .f32⟩
  | 36 => ⟨S4x1024, .f32⟩
  | 37 => ⟨S4x1024, .f32⟩
  | 38 => ⟨S4x1024, .f32⟩
  | 39 => ⟨S4x4x128x128, .f32⟩
  | 40 => ⟨S4x512, .f32⟩
  | 41 => ⟨S4x512, .f32⟩
  | 42 => ⟨S4x512, .f32⟩
  | 43 => ⟨S4x4x128x128, .f32⟩
  | 44 => ⟨S4x4x128, .f32⟩
  | 45 => ⟨S4x512, .f32⟩
  | 46 => ⟨S4x512, .f32⟩
  | 47 => ⟨S4x512, .f32⟩
  | 48 => ⟨S4x1024, .f32⟩
  | 49 => ⟨S4x1024, .f32⟩
  | 50 => ⟨S4x1024, .f32⟩
  | 51 => ⟨S4x1024, .f32⟩
  | 52 => ⟨S4x1024, .f32⟩
  | 53 => ⟨S4x31x1x128, .f32⟩
  | 54 => ⟨S4x1024, .f32⟩
  | 55 => ⟨S4x1024, .f32⟩
  | 56 => ⟨S4x1024, .f32⟩
  | 57 => ⟨S4x4x128x128, .f32⟩
  | 58 => ⟨S4x512, .f32⟩
  | 59 => ⟨S4x512, .f32⟩
  | 60 => ⟨S4x512, .f32⟩
  | 61 => ⟨S4x4x128x128, .f32⟩
  | 62 => ⟨S4x4x128, .f32⟩
  | 63 => ⟨S4x512, .f32⟩
  | 64 => ⟨S4x512, .f32⟩
  | 65 => ⟨S4x512, .f32⟩
  | 66 => ⟨S4x1024, .f32⟩
  | 67 => ⟨S4x1024, .f32⟩
  | 68 => ⟨S4x1024, .f32⟩
  | 69 => ⟨S4x1024, .f32⟩
  | 70 => ⟨S4x1024, .f32⟩
  | 71 => ⟨S4x31x1x128, .f32⟩
  | 72 => ⟨S32x128, .f32⟩
  | 73 => ⟨S32x128, .f32⟩
  | 74 => ⟨S32x128, .f32⟩
  | 75 => ⟨S2048x128, .f32⟩
  | 76 => ⟨S16x128, .f32⟩
  | 77 => ⟨S16x128, .f32⟩
  | 78 => ⟨S16x128, .f32⟩
  | 79 => ⟨S2048x128, .f32⟩
  | 80 => ⟨S16x128, .f32⟩
  | 81 => ⟨S16x128, .f32⟩
  | 82 => ⟨S16x128, .f32⟩
  | 83 => ⟨S16x128, .f32⟩
  | 84 => ⟨S32x128, .f32⟩
  | 85 => ⟨S32x128, .f32⟩
  | 86 => ⟨S32x128, .f32⟩
  | 87 => ⟨S32x128, .f32⟩
  | 88 => ⟨S32x128, .f32⟩
  | 89 => ⟨S124x128, .f32⟩
  | 90 => ⟨S4432x128, .f32⟩
  | 91 => ⟨S156x128, .f32⟩
  | 92 => ⟨S4588x128, .f32⟩
  | 93 => ⟨S_, .i32⟩
  | 94 => ⟨S_, .f32⟩
  | 95 => ⟨S4608x128, .f32⟩
  | 96 => ⟨S1x4608x128, .f32⟩
  | 97 => ⟨S32x128, .f32⟩
  | 98 => ⟨S32x128, .f32⟩
  | 99 => ⟨S32x128, .f32⟩
  | 100 => ⟨S2048x128, .f32⟩
  | 101 => ⟨S16x128, .f32⟩
  | 102 => ⟨S16x128, .f32⟩
  | 103 => ⟨S16x128, .f32⟩
  | 104 => ⟨S2048x128, .f32⟩
  | 105 => ⟨S16x128, .f32⟩
  | 106 => ⟨S16x128, .f32⟩
  | 107 => ⟨S16x128, .f32⟩
  | 108 => ⟨S16x128, .f32⟩
  | 109 => ⟨S32x128, .f32⟩
  | 110 => ⟨S32x128, .f32⟩
  | 111 => ⟨S32x128, .f32⟩
  | 112 => ⟨S32x128, .f32⟩
  | 113 => ⟨S32x128, .f32⟩
  | 114 => ⟨S124x128, .f32⟩
  | 115 => ⟨S4432x128, .f32⟩
  | 116 => ⟨S156x128, .f32⟩
  | 117 => ⟨S4588x128, .f32⟩
  | 118 => ⟨S_, .i32⟩
  | 119 => ⟨S_, .f32⟩
  | 120 => ⟨S4608x128, .f32⟩
  | 121 => ⟨S1x4608x128, .f32⟩
  | 122 => ⟨S32x128, .f32⟩
  | 123 => ⟨S32x128, .f32⟩
  | 124 => ⟨S32x128, .f32⟩
  | 125 => ⟨S2048x128, .f32⟩
  | 126 => ⟨S16x128, .f32⟩
  | 127 => ⟨S16x128, .f32⟩
  | _ => ⟨S4x1024, .f32⟩

abbrev hbmTy0_1 (i : Nat) : BufTy := match i % 128 with
  | 0 => ⟨S16x128, .f32⟩
  | 1 => ⟨S2048x128, .f32⟩
  | 2 => ⟨S16x128, .f32⟩
  | 3 => ⟨S16x128, .f32⟩
  | 4 => ⟨S16x128, .f32⟩
  | 5 => ⟨S16x128, .f32⟩
  | 6 => ⟨S32x128, .f32⟩
  | 7 => ⟨S32x128, .f32⟩
  | 8 => ⟨S32x128, .f32⟩
  | 9 => ⟨S32x128, .f32⟩
  | 10 => ⟨S32x128, .f32⟩
  | 11 => ⟨S124x128, .f32⟩
  | 12 => ⟨S4432x128, .f32⟩
  | 13 => ⟨S156x128, .f32⟩
  | 14 => ⟨S4588x128, .f32⟩
  | 15 => ⟨S_, .i32⟩
  | 16 => ⟨S_, .f32⟩
  | 17 => ⟨S4608x128, .f32⟩
  | 18 => ⟨S1x4608x128, .f32⟩
  | 19 => ⟨S32x128, .f32⟩
  | 20 => ⟨S32x128, .f32⟩
  | 21 => ⟨S32x128, .f32⟩
  | 22 => ⟨S2048x128, .f32⟩
  | 23 => ⟨S16x128, .f32⟩
  | 24 => ⟨S16x128, .f32⟩
  | 25 => ⟨S16x128, .f32⟩
  | 26 => ⟨S2048x128, .f32⟩
  | 27 => ⟨S16x128, .f32⟩
  | 28 => ⟨S16x128, .f32⟩
  | 29 => ⟨S16x128, .f32⟩
  | 30 => ⟨S16x128, .f32⟩
  | 31 => ⟨S32x128, .f32⟩
  | 32 => ⟨S32x128, .f32⟩
  | 33 => ⟨S32x128, .f32⟩
  | 34 => ⟨S32x128, .f32⟩
  | 35 => ⟨S32x128, .f32⟩
  | 36 => ⟨S124x128, .f32⟩
  | 37 => ⟨S4432x128, .f32⟩
  | 38 => ⟨S156x128, .f32⟩
  | 39 => ⟨S4588x128, .f32⟩
  | 40 => ⟨S_, .i32⟩
  | 41 => ⟨S_, .f32⟩
  | 42 => ⟨S4608x128, .f32⟩
  | 43 => ⟨S1x4608x128, .f32⟩
  | 44 => ⟨S1x4608x128, .f32⟩
  | 45 => ⟨S1x4608x128, .f32⟩
  | 46 => ⟨S1x4608x128, .f32⟩
  | 47 => ⟨S1x4608x128, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S1x2304x128, .f32⟩
  | .local _ .vmem, ⟨9, _⟩ => ⟨S1x2304x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | .local _ .vmem, ⟨14, _⟩ => ⟨S1x2304x128, .f32⟩
  | .local _ .vmem, ⟨15, _⟩ => ⟨S1x2304x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_v0 : Ref sig .tc := ⟨.hbm, 72, rfl⟩
abbrev main_v1 : Ref sig .tc := ⟨.hbm, 73, rfl⟩
abbrev main_v2 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_c : Ref sig .tc := ⟨.hbm, 93, rfl⟩
abbrev main_call0_v0 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_c_0 : Ref sig .tc := ⟨.hbm, 118, rfl⟩
abbrev main_call1_v0 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_1 : Ref sig .tc := ⟨.hbm, 143, rfl⟩
abbrev main_call2_v0 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_c_2 : Ref sig .tc := ⟨.hbm, 168, rfl⟩
abbrev main_call3_v0 : Ref sig .tc := ⟨.hbm, 169, rfl⟩
abbrev main_v90 : Ref sig .tc := ⟨.hbm, 170, rfl⟩
abbrev main_v91 : Ref sig .tc := ⟨.hbm, 171, rfl⟩
abbrev main_v92_0 : Ref sig .tc := ⟨.hbm, 172, rfl⟩
abbrev main_v92_1 : Ref sig .tc := ⟨.hbm, 173, rfl⟩
abbrev main_v92_2 : Ref sig .tc := ⟨.hbm, 174, rfl⟩
abbrev main_v92_3 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S4x1024 : Shape := ⟨2, ![4, 1024]⟩
abbrev S4x4x128x128 : Shape := ⟨4, ![4, 4, 128, 128]⟩
abbrev S4x512 : Shape := ⟨2, ![4, 512]⟩
abbrev S4x4x128 : Shape := ⟨3, ![4, 4, 128]⟩
abbrev S4x31x1x128 : Shape := ⟨4, ![4, 31, 1, 128]⟩
abbrev S_ : Shape := ⟨0, ![]⟩
abbrev S32x128 : Shape := ⟨2, ![32, 128]⟩
abbrev S2048x128 : Shape := ⟨2, ![2048, 128]⟩
abbrev S16x128 : Shape := ⟨2, ![16, 128]⟩
abbrev S124x128 : Shape := ⟨2, ![124, 128]⟩
abbrev S4432x128 : Shape := ⟨2, ![4432, 128]⟩
abbrev S156x128 : Shape := ⟨2, ![156, 128]⟩
abbrev S4588x128 : Shape := ⟨2, ![4588, 128]⟩
abbrev S4608x128 : Shape := ⟨2, ![4608, 128]⟩
abbrev S1x4608x128 : Shape := ⟨3, ![1, 4608, 128]⟩

abbrev nBuf : Space → Nat
  | .hbm => 741
  | .vmem => 0
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x4x128x128, .f32⟩
  | 4 => ⟨S4x512, .f32⟩
  | 5 => ⟨S4x512, .f32⟩
  | 6 => ⟨S4x512, .f32⟩
  | 7 => ⟨S4x4x128x128, .f32⟩
  | 8 => ⟨S4x4x128, .f32⟩
  | 9 => ⟨S4x512, .f32⟩
  | 10 => ⟨S4x512, .f32⟩
  | 11 => ⟨S4x512, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x31x1x128, .f32⟩
  | 18 => ⟨S4x1024, .f32⟩
  | 19 => ⟨S4x1024, .f32⟩
  | 20 => ⟨S4x1024, .f32⟩
  | 21 => ⟨S4x4x128x128, .f32⟩
  | 22 => ⟨S4x512, .f32⟩
  | 23 => ⟨S4x512, .f32⟩
  | 24 => ⟨S4x512, .f32⟩
  | 25 => ⟨S4x4x128x128, .f32⟩
  | 26 => ⟨S4x4x128, .f32⟩
  | 27 => ⟨S4x512, .f32⟩
  | 28 => ⟨S4x512, .f32⟩
  | 29 => ⟨S4x512, .f32⟩
  | 30 => ⟨S4x1024, .f32⟩
  | 31 => ⟨S4x1024, .f32⟩
  | 32 => ⟨S4x1024, .f32⟩
  | 33 => ⟨S4x1024, .f32⟩
  | 34 => ⟨S4x1024, .f32⟩
  | 35 => ⟨S4x31x1x128, .f32⟩
  | 36 => ⟨S4x1024, .f32⟩
  | 37 => ⟨S4x1024, .f32⟩
  | 38 => ⟨S4x1024, .f32⟩
  | 39 => ⟨S4x4x128x128, .f32⟩
  | 40 => ⟨S4x512, .f32⟩
  | 41 => ⟨S4x512, .f32⟩
  | 42 => ⟨S4x512, .f32⟩
  | 43 => ⟨S4x4x128x128, .f32⟩
  | 44 => ⟨S4x4x128, .f32⟩
  | 45 => ⟨S4x512, .f32⟩
  | 46 => ⟨S4x512, .f32⟩
  | 47 => ⟨S4x512, .f32⟩
  | 48 => ⟨S4x1024, .f32⟩
  | 49 => ⟨S4x1024, .f32⟩
  | 50 => ⟨S4x1024, .f32⟩
  | 51 => ⟨S4x1024, .f32⟩
  | 52 => ⟨S4x1024, .f32⟩
  | 53 => ⟨S4x31x1x128, .f32⟩
  | 54 => ⟨S4x1024, .f32⟩
  | 55 => ⟨S4x1024, .f32⟩
  | 56 => ⟨S4x1024, .f32⟩
  | 57 => ⟨S4x4x128x128, .f32⟩
  | 58 => ⟨S4x512, .f32⟩
  | 59 => ⟨S4x512, .f32⟩
  | 60 => ⟨S4x512, .f32⟩
  | 61 => ⟨S4x4x128x128, .f32⟩
  | 62 => ⟨S4x4x128, .f32⟩
  | 63 => ⟨S4x512, .f32⟩
  | 64 => ⟨S4x512, .f32⟩
  | 65 => ⟨S4x512, .f32⟩
  | 66 => ⟨S4x1024, .f32⟩
  | 67 => ⟨S4x1024, .f32⟩
  | 68 => ⟨S4x1024, .f32⟩
  | 69 => ⟨S4x1024, .f32⟩
  | 70 => ⟨S4x1024, .f32⟩
  | 71 => ⟨S4x31x1x128, .f32⟩
  | 72 => ⟨S_, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S4x1024, .f32⟩
  | 127 => ⟨S_, .f32⟩
  | _ => ⟨S4x1024, .f32⟩

abbrev hbmTy0_1 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S4x1024, .f32⟩
  | 17 => ⟨S_, .f32⟩
  | 18 => ⟨S4x1024, .f32⟩
  | 19 => ⟨S4x1024, .f32⟩
  | 20 => ⟨S4x1024, .f32⟩
  | 21 => ⟨S_, .f32⟩
  | 22 => ⟨S4x1024, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S4x1024, .f32⟩
  | 32 => ⟨S_, .f32⟩
  | 33 => ⟨S4x1024, .f32⟩
  | 34 => ⟨S4x1024, .f32⟩
  | 35 => ⟨S4x1024, .f32⟩
  | 36 => ⟨S_, .f32⟩
  | 37 => ⟨S4x1024, .f32⟩
  | 38 => ⟨S4x1024, .f32⟩
  | 39 => ⟨S4x1024, .f32⟩
  | 40 => ⟨S_, .f32⟩
  | 41 => ⟨S4x1024, .f32⟩
  | 42 => ⟨S4x1024, .f32⟩
  | 43 => ⟨S_, .f32⟩
  | 44 => ⟨S4x4x128x128, .f32⟩
  | 45 => ⟨S4x4x128x128, .f32⟩
  | 46 => ⟨S_, .f32⟩
  | 47 => ⟨S4x4x128x128, .f32⟩
  | 48 => ⟨S4x4x128x128, .f32⟩
  | 49 => ⟨S4x4x128x128, .f32⟩
  | 50 => ⟨S_, .f32⟩
  | 51 => ⟨S4x4x128x128, .f32⟩
  | 52 => ⟨S4x4x128x128, .f32⟩
  | 53 => ⟨S4x4x128x128, .f32⟩
  | 54 => ⟨S_, .f32⟩
  | 55 => ⟨S4x4x128x128, .f32⟩
  | 56 => ⟨S4x4x128x128, .f32⟩
  | 57 => ⟨S4x4x128x128, .f32⟩
  | 58 => ⟨S_, .f32⟩
  | 59 => ⟨S4x4x128x128, .f32⟩
  | 60 => ⟨S4x4x128x128, .f32⟩
  | 61 => ⟨S_, .f32⟩
  | 62 => ⟨S4x4x128x128, .f32⟩
  | 63 => ⟨S4x4x128x128, .f32⟩
  | 64 => ⟨S4x4x128x128, .f32⟩
  | 65 => ⟨S_, .f32⟩
  | 66 => ⟨S4x4x128x128, .f32⟩
  | 67 => ⟨S4x4x128x128, .f32⟩
  | 68 => ⟨S4x4x128x128, .f32⟩
  | 69 => ⟨S_, .f32⟩
  | 70 => ⟨S4x4x128x128, .f32⟩
  | 71 => ⟨S4x4x128x128, .f32⟩
  | 72 => ⟨S4x4x128x128, .f32⟩
  | 73 => ⟨S_, .f32⟩
  | 74 => ⟨S4x4x128x128, .f32⟩
  | 75 => ⟨S4x4x128x128, .f32⟩
  | 76 => ⟨S_, .f32⟩
  | 77 => ⟨S4x512, .f32⟩
  | 78 => ⟨S4x512, .f32⟩
  | 79 => ⟨S_, .f32⟩
  | 80 => ⟨S4x512, .f32⟩
  | 81 => ⟨S4x512, .f32⟩
  | 82 => ⟨S4x512, .f32⟩
  | 83 => ⟨S_, .f32⟩
  | 84 => ⟨S4x512, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S_, .f32⟩
  | 95 => ⟨S4x512, .f32⟩
  | 96 => ⟨S4x512, .f32⟩
  | 97 => ⟨S4x512, .f32⟩
  | 98 => ⟨S_, .f32⟩
  | 99 => ⟨S4x512, .f32⟩
  | 100 => ⟨S4x512, .f32⟩
  | 101 => ⟨S4x512, .f32⟩
  | 102 => ⟨S_, .f32⟩
  | 103 => ⟨S4x512, .f32⟩
  | 104 => ⟨S4x512, .f32⟩
  | 105 => ⟨S4x512, .f32⟩
  | 106 => ⟨S_, .f32⟩
  | 107 => ⟨S4x512, .f32⟩
  | 108 => ⟨S4x512, .f32⟩
  | 109 => ⟨S_, .f32⟩
  | 110 => ⟨S4x512, .f32⟩
  | 111 => ⟨S4x512, .f32⟩
  | 112 => ⟨S_, .f32⟩
  | 113 => ⟨S4x512, .f32⟩
  | 114 => ⟨S4x512, .f32⟩
  | 115 => ⟨S4x512, .f32⟩
  | 116 => ⟨S_, .f32⟩
  | 117 => ⟨S4x512, .f32⟩
  | 118 => ⟨S4x512, .f32⟩
  | 119 => ⟨S4x512, .f32⟩
  | 120 => ⟨S_, .f32⟩
  | 121 => ⟨S4x512, .f32⟩
  | 122 => ⟨S4x512, .f32⟩
  | 123 => ⟨S4x512, .f32⟩
  | 124 => ⟨S_, .f32⟩
  | 125 => ⟨S4x512, .f32⟩
  | 126 => ⟨S4x512, .f32⟩
  | 127 => ⟨S_, .f32⟩
  | _ => ⟨S4x1024, .f32⟩

abbrev hbmTy0_2 (i : Nat) : BufTy := match i % 128 with
  | 0 => ⟨S4x512, .f32⟩
  | 1 => ⟨S4x512, .f32⟩
  | 2 => ⟨S4x512, .f32⟩
  | 3 => ⟨S_, .f32⟩
  | 4 => ⟨S4x512, .f32⟩
  | 5 => ⟨S4x512, .f32⟩
  | 6 => ⟨S4x512, .f32⟩
  | 7 => ⟨S_, .f32⟩
  | 8 => ⟨S4x512, .f32⟩
  | 9 => ⟨S4x512, .f32⟩
  | 10 => ⟨S4x512, .f32⟩
  | 11 => ⟨S_, .f32⟩
  | 12 => ⟨S4x512, .f32⟩
  | 13 => ⟨S4x512, .f32⟩
  | 14 => ⟨S_, .f32⟩
  | 15 => ⟨S4x512, .f32⟩
  | 16 => ⟨S4x512, .f32⟩
  | 17 => ⟨S_, .f32⟩
  | 18 => ⟨S4x512, .f32⟩
  | 19 => ⟨S4x512, .f32⟩
  | 20 => ⟨S4x512, .f32⟩
  | 21 => ⟨S_, .f32⟩
  | 22 => ⟨S4x512, .f32⟩
  | 23 => ⟨S4x512, .f32⟩
  | 24 => ⟨S4x512, .f32⟩
  | 25 => ⟨S_, .f32⟩
  | 26 => ⟨S4x512, .f32⟩
  | 27 => ⟨S4x512, .f32⟩
  | 28 => ⟨S4x512, .f32⟩
  | 29 => ⟨S_, .f32⟩
  | 30 => ⟨S4x512, .f32⟩
  | 31 => ⟨S4x512, .f32⟩
  | 32 => ⟨S_, .f32⟩
  | 33 => ⟨S4x512, .f32⟩
  | 34 => ⟨S4x512, .f32⟩
  | 35 => ⟨S4x512, .f32⟩
  | 36 => ⟨S_, .f32⟩
  | 37 => ⟨S4x512, .f32⟩
  | 38 => ⟨S4x512, .f32⟩
  | 39 => ⟨S4x512, .f32⟩
  | 40 => ⟨S_, .f32⟩
  | 41 => ⟨S4x512, .f32⟩
  | 42 => ⟨S4x512, .f32⟩
  | 43 => ⟨S4x512, .f32⟩
  | 44 => ⟨S_, .f32⟩
  | 45 => ⟨S4x512, .f32⟩
  | 46 => ⟨S4x512, .f32⟩
  | 47 => ⟨S_, .f32⟩
  | 48 => ⟨S4x4x128x128, .f32⟩
  | 49 => ⟨S4x4x128x128, .f32⟩
  | 50 => ⟨S_, .f32⟩
  | 51 => ⟨S4x4x128x128, .f32⟩
  | 52 => ⟨S4x4x128x128, .f32⟩
  | 53 => ⟨S4x4x128x128, .f32⟩
  | 54 => ⟨S_, .f32⟩
  | 55 => ⟨S4x4x128x128, .f32⟩
  | 56 => ⟨S4x4x128x128, .f32⟩
  | 57 => ⟨S4x4x128x128, .f32⟩
  | 58 => ⟨S_, .f32⟩
  | 59 => ⟨S4x4x128x128, .f32⟩
  | 60 => ⟨S4x4x128x128, .f32⟩
  | 61 => ⟨S4x4x128x128, .f32⟩
  | 62 => ⟨S_, .f32⟩
  | 63 => ⟨S4x4x128x128, .f32⟩
  | 64 => ⟨S4x4x128x128, .f32⟩
  | 65 => ⟨S_, .f32⟩
  | 66 => ⟨S4x4x128x128, .f32⟩
  | 67 => ⟨S4x4x128x128, .f32⟩
  | 68 => ⟨S4x4x128x128, .f32⟩
  | 69 => ⟨S_, .f32⟩
  | 70 => ⟨S4x4x128x128, .f32⟩
  | 71 => ⟨S4x4x128x128, .f32⟩
  | 72 => ⟨S4x4x128x128, .f32⟩
  | 73 => ⟨S_, .f32⟩
  | 74 => ⟨S4x4x128x128, .f32⟩
  | 75 => ⟨S4x4x128x128, .f32⟩
  | 76 => ⟨S4x4x128x128, .f32⟩
  | 77 => ⟨S_, .f32⟩
  | 78 => ⟨S4x4x128x128, .f32⟩
  | 79 => ⟨S4x4x128x128, .f32⟩
  | 80 => ⟨S_, .f32⟩
  | 81 => ⟨S4x4x128, .f32⟩
  | 82 => ⟨S4x4x128, .f32⟩
  | 83 => ⟨S_, .f32⟩
  | 84 => ⟨S4x4x128, .f32⟩
  | 85 => ⟨S4x4x128, .f32⟩
  | 86 => ⟨S4x4x128, .f32⟩
  | 87 => ⟨S_, .f32⟩
  | 88 => ⟨S4x4x128, .f32⟩
  | 89 => ⟨S4x4x128, .f32⟩
  | 90 => ⟨S4x4x128, .f32⟩
  | 91 => ⟨S_, .f32⟩
  | 92 => ⟨S4x4x128, .f32⟩
  | 93 => ⟨S4x4x128, .f32⟩
  | 94 => ⟨S4x4x128, .f32⟩
  | 95 => ⟨S_, .f32⟩
  | 96 => ⟨S4x4x128, .f32⟩
  | 97 => ⟨S4x4x128, .f32⟩
  | 98 => ⟨S_, .f32⟩
  | 99 => ⟨S4x4x128, .f32⟩
  | 100 => ⟨S4x4x128, .f32⟩
  | 101 => ⟨S4x4x128, .f32⟩
  | 102 => ⟨S_, .f32⟩
  | 103 => ⟨S4x4x128, .f32⟩
  | 104 => ⟨S4x4x128, .f32⟩
  | 105 => ⟨S4x4x128, .f32⟩
  | 106 => ⟨S_, .f32⟩
  | 107 => ⟨S4x4x128, .f32⟩
  | 108 => ⟨S4x4x128, .f32⟩
  | 109 => ⟨S4x4x128, .f32⟩
  | 110 => ⟨S_, .f32⟩
  | 111 => ⟨S4x4x128, .f32⟩
  | 112 => ⟨S4x4x128, .f32⟩
  | 113 => ⟨S_, .f32⟩
  | 114 => ⟨S4x512, .f32⟩
  | 115 => ⟨S4x512, .f32⟩
  | 116 => ⟨S_, .f32⟩
  | 117 => ⟨S4x512, .f32⟩
  | 118 => ⟨S4x512, .f32⟩
  | 119 => ⟨S4x512, .f32⟩
  | 120 => ⟨S_, .f32⟩
  | 121 => ⟨S4x512, .f32⟩
  | 122 => ⟨S4x512, .f32⟩
  | 123 => ⟨S4x512, .f32⟩
  | 124 => ⟨S_, .f32⟩
  | 125 => ⟨S4x512, .f32⟩
  | 126 => ⟨S4x512, .f32⟩
  | 127 => ⟨S4x512, .f32⟩
  | _ => ⟨S4x1024, .f32⟩

abbrev hbmTy0_3 (i : Nat) : BufTy := match i % 128 with
  | 0 => ⟨S_, .f32⟩
  | 1 => ⟨S4x512, .f32⟩
  | 2 => ⟨S4x512, .f32⟩
  | 3 => ⟨S_, .f32⟩
  | 4 => ⟨S4x512, .f32⟩
  | 5 => ⟨S4x512, .f32⟩
  | 6 => ⟨S4x512, .f32⟩
  | 7 => ⟨S_, .f32⟩
  | 8 => ⟨S4x512, .f32⟩
  | 9 => ⟨S4x512, .f32⟩
  | 10 => ⟨S4x512, .f32⟩
  | 11 => ⟨S_, .f32⟩
  | 12 => ⟨S4x512, .f32⟩
  | 13 => ⟨S4x512, .f32⟩
  | 14 => ⟨S4x512, .f32⟩
  | 15 => ⟨S_, .f32⟩
  | 16 => ⟨S4x512, .f32⟩
  | 17 => ⟨S4x512, .f32⟩
  | 18 => ⟨S_, .f32⟩
  | 19 => ⟨S4x512, .f32⟩
  | 20 => ⟨S4x512, .f32⟩
  | 21 => ⟨S_, .f32⟩
  | 22 => ⟨S4x512, .f32⟩
  | 23 => ⟨S4x512, .f32⟩
  | 24 => ⟨S4x512, .f32⟩
  | 25 => ⟨S_, .f32⟩
  | 26 => ⟨S4x512, .f32⟩
  | 27 => ⟨S4x512, .f32⟩
  | 28 => ⟨S4x512, .f32⟩
  | 29 => ⟨S_, .f32⟩
  | 30 => ⟨S4x512, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S_, .f32⟩
  | 37 => ⟨S4x512, .f32⟩
  | 38 => ⟨S4x512, .f32⟩
  | 39 => ⟨S4x512, .f32⟩
  | 40 => ⟨S_, .f32⟩
  | 41 => ⟨S4x512, .f32⟩
  | 42 => ⟨S4x512, .f32⟩
  | 43 => ⟨S4x512, .f32⟩
  | 44 => ⟨S_, .f32⟩
  | 45 => ⟨S4x512, .f32⟩
  | 46 => ⟨S4x512, .f32⟩
  | 47 => ⟨S4x512, .f32⟩
  | 48 => ⟨S_, .f32⟩
  | 49 => ⟨S4x512, .f32⟩
  | 50 => ⟨S4x512, .f32⟩
  | 51 => ⟨S_, .f32⟩
  | 52 => ⟨S4x512, .f32⟩
  | 53 => ⟨S4x512, .f32⟩
  | 54 => ⟨S_, .f32⟩
  | 55 => ⟨S4x512, .f32⟩
  | 56 => ⟨S4x512, .f32⟩
  | 57 => ⟨S4x512, .f32⟩
  | 58 => ⟨S_, .f32⟩
  | 59 => ⟨S4x512, .f32⟩
  | 60 => ⟨S4x512, .f32⟩
  | 61 => ⟨S4x512, .f32⟩
  | 62 => ⟨S_, .f32⟩
  | 63 => ⟨S4x512, .f32⟩
  | 64 => ⟨S4x512, .f32⟩
  | 65 => ⟨S4x512, .f32⟩
  | 66 => ⟨S_, .f32⟩
  | 67 => ⟨S4x512, .f32⟩
  | 68 => ⟨S4x512, .f32⟩
  | 69 => ⟨S_, .f32⟩
  | 70 => ⟨S4x512, .f32⟩
  | 71 => ⟨S4x512, .f32⟩
  | 72 => ⟨S4x512, .f32⟩
  | 73 => ⟨S_, .f32⟩
  | 74 => ⟨S4x512, .f32⟩
  | 75 => ⟨S4x512, .f32⟩
  | 76 => ⟨S4x512, .f32⟩
  | 77 => ⟨S_, .f32⟩
  | 78 => ⟨S4x512, .f32⟩
  | 79 => ⟨S4x512, .f32⟩
  | 80 => ⟨S4x512, .f32⟩
  | 81 => ⟨S_, .f32⟩
  | 82 => ⟨S4x512, .f32⟩
  | 83 => ⟨S4x512, .f32⟩
  | 84 => ⟨S_, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S_, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S4x1024, .f32⟩

abbrev hbmTy0_4 (i : Nat) : BufTy := match i % 128 with
  | 0 => ⟨S_, .f32⟩
  | 1 => ⟨S4x1024, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S4x1024, .f32⟩
  | 11 => ⟨S_, .f32⟩
  | 12 => ⟨S4x1024, .f32⟩
  | 13 => ⟨S4x1024, .f32⟩
  | 14 => ⟨S4x1024, .f32⟩
  | 15 => ⟨S_, .f32⟩
  | 16 => ⟨S4x1024, .f32⟩
  | 17 => ⟨S4x1024, .f32⟩
  | 18 => ⟨S4x1024, .f32⟩
  | 19 => ⟨S_, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S_, .f32⟩
  | 41 => ⟨S4x1024, .f32⟩
  | 42 => ⟨S4x1024, .f32⟩
  | 43 => ⟨S4x1024, .f32⟩
  | 44 => ⟨S_, .f32⟩
  | 45 => ⟨S4x1024, .f32⟩
  | 46 => ⟨S4x1024, .f32⟩
  | 47 => ⟨S4x1024, .f32⟩
  | 48 => ⟨S_, .f32⟩
  | 49 => ⟨S4x1024, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S_, .f32⟩
  | 74 => ⟨S4x1024, .f32⟩
  | 75 => ⟨S4x1024, .f32⟩
  | 76 => ⟨S4x1024, .f32⟩
  | 77 => ⟨S_, .f32⟩
  | 78 => ⟨S4x1024, .f32⟩
  | 79 => ⟨S4x1024, .f32⟩
  | 80 => ⟨S4x1024, .f32⟩
  | 81 => ⟨S_, .f32⟩
  | 82 => ⟨S4x1024, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S_, .f32⟩
  | 115 => ⟨S4x1024, .f32⟩
  | 116 => ⟨S4x1024, .f32⟩
  | 117 => ⟨S4x1024, .f32⟩
  | 118 => ⟨S_, .f32⟩
  | 119 => ⟨S4x1024, .f32⟩
  | 120 => ⟨S4x1024, .f32⟩
  | 121 => ⟨S_, .f32⟩
  | 122 => ⟨S4x31x1x128, .f32⟩
  | 123 => ⟨S4x31x1x128, .f32⟩
  | 124 => ⟨S_, .f32⟩
  | 125 => ⟨S4x31x1x128, .f32⟩
  | 126 => ⟨S4x31x1x128, .f32⟩
  | 127 => ⟨S4x31x1x128, .f32⟩
  | _ => ⟨S4x1024, .f32⟩

abbrev hbmTy0_5 (i : Nat) : BufTy := match i % 128 with
  | 0 => ⟨S_, .f32⟩
  | 1 => ⟨S4x31x1x128, .f32⟩
  | 2 => ⟨S4x31x1x128, .f32⟩
  | 3 => ⟨S4x31x1x128, .f32⟩
  | 4 => ⟨S_, .f32⟩
  | 5 => ⟨S4x31x1x128, .f32⟩
  | 6 => ⟨S4x31x1x128, .f32⟩
  | 7 => ⟨S4x31x1x128, .f32⟩
  | 8 => ⟨S_, .f32⟩
  | 9 => ⟨S4x31x1x128, .f32⟩
  | 10 => ⟨S4x31x1x128, .f32⟩
  | 11 => ⟨S_, .f32⟩
  | 12 => ⟨S4x31x1x128, .f32⟩
  | 13 => ⟨S4x31x1x128, .f32⟩
  | 14 => ⟨S4x31x1x128, .f32⟩
  | 15 => ⟨S_, .f32⟩
  | 16 => ⟨S4x31x1x128, .f32⟩
  | 17 => ⟨S4x31x1x128, .f32⟩
  | 18 => ⟨S4x31x1x128, .f32⟩
  | 19 => ⟨S_, .f32⟩
  | 20 => ⟨S4x31x1x128, .f32⟩
  | 21 => ⟨S4x31x1x128, .f32⟩
  | 22 => ⟨S4x31x1x128, .f32⟩
  | 23 => ⟨S_, .f32⟩
  | 24 => ⟨S4x31x1x128, .f32⟩
  | 25 => ⟨S4x31x1x128, .f32⟩
  | 26 => ⟨S32x128, .f32⟩
  | 27 => ⟨S32x128, .f32⟩
  | 28 => ⟨S32x128, .f32⟩
  | 29 => ⟨S2048x128, .f32⟩
  | 30 => ⟨S16x128, .f32⟩
  | 31 => ⟨S16x128, .f32⟩
  | 32 => ⟨S16x128, .f32⟩
  | 33 => ⟨S2048x128, .f32⟩
  | 34 => ⟨S16x128, .f32⟩
  | 35 => ⟨S16x128, .f32⟩
  | 36 => ⟨S16x128, .f32⟩
  | 37 => ⟨S16x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S124x128, .f32⟩
  | 44 => ⟨S4432x128, .f32⟩
  | 45 => ⟨S156x128, .f32⟩
  | 46 => ⟨S4588x128, .f32⟩
  | 47 => ⟨S32x128, .f32⟩
  | 48 => ⟨S32x128, .f32⟩
  | 49 => ⟨S32x128, .f32⟩
  | 50 => ⟨S2048x128, .f32⟩
  | 51 => ⟨S16x128, .f32⟩
  | 52 => ⟨S16x128, .f32⟩
  | 53 => ⟨S16x128, .f32⟩
  | 54 => ⟨S2048x128, .f32⟩
  | 55 => ⟨S16x128, .f32⟩
  | 56 => ⟨S16x128, .f32⟩
  | 57 => ⟨S16x128, .f32⟩
  | 58 => ⟨S16x128, .f32⟩
  | 59 => ⟨S32x128, .f32⟩
  | 60 => ⟨S32x128, .f32⟩
  | 61 => ⟨S32x128, .f32⟩
  | 62 => ⟨S32x128, .f32⟩
  | 63 => ⟨S32x128, .f32⟩
  | 64 => ⟨S124x128, .f32⟩
  | 65 => ⟨S4432x128, .f32⟩
  | 66 => ⟨S156x128, .f32⟩
  | 67 => ⟨S4588x128, .f32⟩
  | 68 => ⟨S32x128, .f32⟩
  | 69 => ⟨S32x128, .f32⟩
  | 70 => ⟨S32x128, .f32⟩
  | 71 => ⟨S2048x128, .f32⟩
  | 72 => ⟨S16x128, .f32⟩
  | 73 => ⟨S16x128, .f32⟩
  | 74 => ⟨S16x128, .f32⟩
  | 75 => ⟨S2048x128, .f32⟩
  | 76 => ⟨S16x128, .f32⟩
  | 77 => ⟨S16x128, .f32⟩
  | 78 => ⟨S16x128, .f32⟩
  | 79 => ⟨S16x128, .f32⟩
  | 80 => ⟨S32x128, .f32⟩
  | 81 => ⟨S32x128, .f32⟩
  | 82 => ⟨S32x128, .f32⟩
  | 83 => ⟨S32x128, .f32⟩
  | 84 => ⟨S32x128, .f32⟩
  | 85 => ⟨S124x128, .f32⟩
  | 86 => ⟨S4432x128, .f32⟩
  | 87 => ⟨S156x128, .f32⟩
  | 88 => ⟨S4588x128, .f32⟩
  | 89 => ⟨S_, .i32⟩
  | 90 => ⟨S_, .f32⟩
  | 91 => ⟨S4608x128, .f32⟩
  | 92 => ⟨S1x4608x128, .f32⟩
  | 93 => ⟨S_, .i32⟩
  | 94 => ⟨S_, .f32⟩
  | 95 => ⟨S4608x128, .f32⟩
  | 96 => ⟨S1x4608x128, .f32⟩
  | 97 => ⟨S_, .i32⟩
  | 98 => ⟨S_, .f32⟩
  | 99 => ⟨S4608x128, .f32⟩
  | 100 => ⟨S1x4608x128, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_cst : Ref sig .tc := ⟨.hbm, 72, rfl⟩
abbrev main_v0 : Ref sig .tc := ⟨.hbm, 73, rfl⟩
abbrev main_v1 : Ref sig .tc := ⟨.hbm, 74, rfl⟩
abbrev main_cst_0 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst_1 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst_2 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_3 : Ref sig .tc := ⟨.hbm, 87, rfl⟩
abbrev main_v11 : Ref sig .tc := ⟨.hbm, 88, rfl⟩
abbrev main_v12 : Ref sig .tc := ⟨.hbm, 89, rfl⟩
abbrev main_cst_4 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_5 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_cst_6 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_cst_7 : Ref sig .tc := ⟨.hbm, 102, rfl⟩
abbrev main_v22 : Ref sig .tc := ⟨.hbm, 103, rfl⟩
abbrev main_v23 : Ref sig .tc := ⟨.hbm, 104, rfl⟩
abbrev main_cst_8 : Ref sig .tc := ⟨.hbm, 105, rfl⟩
abbrev main_v24 : Ref sig .tc := ⟨.hbm, 106, rfl⟩
abbrev main_v25 : Ref sig .tc := ⟨.hbm, 107, rfl⟩
abbrev main_cst_9 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_10 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_11 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_12 : Ref sig .tc := ⟨.hbm, 120, rfl⟩
abbrev main_v35 : Ref sig .tc := ⟨.hbm, 121, rfl⟩
abbrev main_v36 : Ref sig .tc := ⟨.hbm, 122, rfl⟩
abbrev main_cst_13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_14 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_15 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_cst_16 : Ref sig .tc := ⟨.hbm, 135, rfl⟩
abbrev main_v46 : Ref sig .tc := ⟨.hbm, 136, rfl⟩
abbrev main_v47 : Ref sig .tc := ⟨.hbm, 137, rfl⟩
abbrev main_cst_17 : Ref sig .tc := ⟨.hbm, 138, rfl⟩
abbrev main_v48 : Ref sig .tc := ⟨.hbm, 139, rfl⟩
abbrev main_v49 : Ref sig .tc := ⟨.hbm, 140, rfl⟩
abbrev main_cst_18 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_cst_19 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_cst_20 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_21 : Ref sig .tc := ⟨.hbm, 153, rfl⟩
abbrev main_v59 : Ref sig .tc := ⟨.hbm, 154, rfl⟩
abbrev main_v60 : Ref sig .tc := ⟨.hbm, 155, rfl⟩
abbrev main_cst_22 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_cst_23 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_cst_24 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_25 : Ref sig .tc := ⟨.hbm, 168, rfl⟩
abbrev main_v70 : Ref sig .tc := ⟨.hbm, 169, rfl⟩
abbrev main_v71 : Ref sig .tc := ⟨.hbm, 170, rfl⟩
abbrev main_cst_26 : Ref sig .tc := ⟨.hbm, 171, rfl⟩
abbrev main_v72 : Ref sig .tc := ⟨.hbm, 172, rfl⟩
abbrev main_v73 : Ref sig .tc := ⟨.hbm, 173, rfl⟩
abbrev main_cst_27 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_cst_28 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_29 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_30 : Ref sig .tc := ⟨.hbm, 186, rfl⟩
abbrev main_v83 : Ref sig .tc := ⟨.hbm, 187, rfl⟩
abbrev main_v84 : Ref sig .tc := ⟨.hbm, 188, rfl⟩
abbrev main_cst_31 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_32 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_33 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_34 : Ref sig .tc := ⟨.hbm, 201, rfl⟩
abbrev main_v94 : Ref sig .tc := ⟨.hbm, 202, rfl⟩
abbrev main_v95 : Ref sig .tc := ⟨.hbm, 203, rfl⟩
abbrev main_cst_35 : Ref sig .tc := ⟨.hbm, 204, rfl⟩
abbrev main_v96 : Ref sig .tc := ⟨.hbm, 205, rfl⟩
abbrev main_v97 : Ref sig .tc := ⟨.hbm, 206, rfl⟩
abbrev main_cst_36 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_37 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_38 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_39 : Ref sig .tc := ⟨.hbm, 219, rfl⟩
abbrev main_v107 : Ref sig .tc := ⟨.hbm, 220, rfl⟩
abbrev main_v108 : Ref sig .tc := ⟨.hbm, 221, rfl⟩
abbrev main_cst_40 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_43 : Ref sig .tc := ⟨.hbm, 234, rfl⟩
abbrev main_v118 : Ref sig .tc := ⟨.hbm, 235, rfl⟩
abbrev main_v119 : Ref sig .tc := ⟨.hbm, 236, rfl⟩
abbrev main_cst_44 : Ref sig .tc := ⟨.hbm, 237, rfl⟩
abbrev main_v120 : Ref sig .tc := ⟨.hbm, 238, rfl⟩
abbrev main_v121 : Ref sig .tc := ⟨.hbm, 239, rfl⟩
abbrev main_cst_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_46 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_47 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_48 : Ref sig .tc := ⟨.hbm, 252, rfl⟩
abbrev main_v131 : Ref sig .tc := ⟨.hbm, 253, rfl⟩
abbrev main_v132 : Ref sig .tc := ⟨.hbm, 254, rfl⟩
abbrev main_cst_49 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_50 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_51 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_52 : Ref sig .tc := ⟨.hbm, 267, rfl⟩
abbrev main_v142 : Ref sig .tc := ⟨.hbm, 268, rfl⟩
abbrev main_v143 : Ref sig .tc := ⟨.hbm, 269, rfl⟩
abbrev main_cst_53 : Ref sig .tc := ⟨.hbm, 270, rfl⟩
abbrev main_v144 : Ref sig .tc := ⟨.hbm, 271, rfl⟩
abbrev main_v145 : Ref sig .tc := ⟨.hbm, 272, rfl⟩
abbrev main_cst_54 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_55 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_cst_56 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_cst_57 : Ref sig .tc := ⟨.hbm, 285, rfl⟩
abbrev main_v155 : Ref sig .tc := ⟨.hbm, 286, rfl⟩
abbrev main_v156 : Ref sig .tc := ⟨.hbm, 287, rfl⟩
abbrev main_cst_58 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_cst_59 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_60 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_cst_61 : Ref sig .tc := ⟨.hbm, 300, rfl⟩
abbrev main_v166 : Ref sig .tc := ⟨.hbm, 301, rfl⟩
abbrev main_v167 : Ref sig .tc := ⟨.hbm, 302, rfl⟩
abbrev main_cst_62 : Ref sig .tc := ⟨.hbm, 303, rfl⟩
abbrev main_v168 : Ref sig .tc := ⟨.hbm, 304, rfl⟩
abbrev main_v169 : Ref sig .tc := ⟨.hbm, 305, rfl⟩
abbrev main_cst_63 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_64 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_65 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_cst_66 : Ref sig .tc := ⟨.hbm, 318, rfl⟩
abbrev main_v179 : Ref sig .tc := ⟨.hbm, 319, rfl⟩
abbrev main_v180 : Ref sig .tc := ⟨.hbm, 320, rfl⟩
abbrev main_cst_67 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_68 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_69 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_cst_70 : Ref sig .tc := ⟨.hbm, 333, rfl⟩
abbrev main_v190 : Ref sig .tc := ⟨.hbm, 334, rfl⟩
abbrev main_v191 : Ref sig .tc := ⟨.hbm, 335, rfl⟩
abbrev main_cst_71 : Ref sig .tc := ⟨.hbm, 336, rfl⟩
abbrev main_v192 : Ref sig .tc := ⟨.hbm, 337, rfl⟩
abbrev main_v193 : Ref sig .tc := ⟨.hbm, 338, rfl⟩
abbrev main_cst_72 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_73 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_74 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_cst_75 : Ref sig .tc := ⟨.hbm, 351, rfl⟩
abbrev main_v203 : Ref sig .tc := ⟨.hbm, 352, rfl⟩
abbrev main_v204 : Ref sig .tc := ⟨.hbm, 353, rfl⟩
abbrev main_cst_76 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_77 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_78 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_79 : Ref sig .tc := ⟨.hbm, 366, rfl⟩
abbrev main_v214 : Ref sig .tc := ⟨.hbm, 367, rfl⟩
abbrev main_v215 : Ref sig .tc := ⟨.hbm, 368, rfl⟩
abbrev main_cst_80 : Ref sig .tc := ⟨.hbm, 369, rfl⟩
abbrev main_v216 : Ref sig .tc := ⟨.hbm, 370, rfl⟩
abbrev main_v217 : Ref sig .tc := ⟨.hbm, 371, rfl⟩
abbrev main_cst_81 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_82 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_cst_83 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_cst_84 : Ref sig .tc := ⟨.hbm, 384, rfl⟩
abbrev main_v227 : Ref sig .tc := ⟨.hbm, 385, rfl⟩
abbrev main_v228 : Ref sig .tc := ⟨.hbm, 386, rfl⟩
abbrev main_cst_85 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_cst_86 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_cst_87 : Ref sig .tc := ⟨.hbm, 395, rfl⟩
abbrev main_v235 : Ref sig .tc := ⟨.hbm, 396, rfl⟩
abbrev main_v236 : Ref sig .tc := ⟨.hbm, 397, rfl⟩
abbrev main_v237 : Ref sig .tc := ⟨.hbm, 398, rfl⟩
abbrev main_cst_88 : Ref sig .tc := ⟨.hbm, 399, rfl⟩
abbrev main_v238 : Ref sig .tc := ⟨.hbm, 400, rfl⟩
abbrev main_v239 : Ref sig .tc := ⟨.hbm, 401, rfl⟩
abbrev main_cst_89 : Ref sig .tc := ⟨.hbm, 402, rfl⟩
abbrev main_v240 : Ref sig .tc := ⟨.hbm, 403, rfl⟩
abbrev main_v241 : Ref sig .tc := ⟨.hbm, 404, rfl⟩
abbrev main_cst_90 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_cst_91 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_cst_92 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_cst_93 : Ref sig .tc := ⟨.hbm, 417, rfl⟩
abbrev main_v251 : Ref sig .tc := ⟨.hbm, 418, rfl⟩
abbrev main_v252 : Ref sig .tc := ⟨.hbm, 419, rfl⟩
abbrev main_cst_94 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_cst_95 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_96 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_97 : Ref sig .tc := ⟨.hbm, 432, rfl⟩
abbrev main_v262 : Ref sig .tc := ⟨.hbm, 433, rfl⟩
abbrev main_v263 : Ref sig .tc := ⟨.hbm, 434, rfl⟩
abbrev main_cst_98 : Ref sig .tc := ⟨.hbm, 435, rfl⟩
abbrev main_v264 : Ref sig .tc := ⟨.hbm, 436, rfl⟩
abbrev main_v265 : Ref sig .tc := ⟨.hbm, 437, rfl⟩
abbrev main_cst_99 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_cst_100 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_101 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_cst_102 : Ref sig .tc := ⟨.hbm, 450, rfl⟩
abbrev main_v275 : Ref sig .tc := ⟨.hbm, 451, rfl⟩
abbrev main_v276 : Ref sig .tc := ⟨.hbm, 452, rfl⟩
abbrev main_cst_103 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_cst_104 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_105 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_cst_106 : Ref sig .tc := ⟨.hbm, 465, rfl⟩
abbrev main_v286 : Ref sig .tc := ⟨.hbm, 466, rfl⟩
abbrev main_v287 : Ref sig .tc := ⟨.hbm, 467, rfl⟩
abbrev main_cst_107 : Ref sig .tc := ⟨.hbm, 468, rfl⟩
abbrev main_v288 : Ref sig .tc := ⟨.hbm, 469, rfl⟩
abbrev main_v289 : Ref sig .tc := ⟨.hbm, 470, rfl⟩
abbrev main_cst_108 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_cst_109 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_110 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_111 : Ref sig .tc := ⟨.hbm, 483, rfl⟩
abbrev main_v299 : Ref sig .tc := ⟨.hbm, 484, rfl⟩
abbrev main_v300 : Ref sig .tc := ⟨.hbm, 485, rfl⟩
abbrev main_cst_112 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_cst_113 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_cst_114 : Ref sig .tc := ⟨.hbm, 494, rfl⟩
abbrev main_v307 : Ref sig .tc := ⟨.hbm, 495, rfl⟩
abbrev main_v308 : Ref sig .tc := ⟨.hbm, 496, rfl⟩
abbrev main_v309 : Ref sig .tc := ⟨.hbm, 497, rfl⟩
abbrev main_cst_115 : Ref sig .tc := ⟨.hbm, 498, rfl⟩
abbrev main_v310 : Ref sig .tc := ⟨.hbm, 499, rfl⟩
abbrev main_v311 : Ref sig .tc := ⟨.hbm, 500, rfl⟩
abbrev main_cst_116 : Ref sig .tc := ⟨.hbm, 501, rfl⟩
abbrev main_v312 : Ref sig .tc := ⟨.hbm, 502, rfl⟩
abbrev main_v313 : Ref sig .tc := ⟨.hbm, 503, rfl⟩
abbrev main_cst_117 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_cst_118 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_cst_119 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_120 : Ref sig .tc := ⟨.hbm, 516, rfl⟩
abbrev main_v323 : Ref sig .tc := ⟨.hbm, 517, rfl⟩
abbrev main_v324 : Ref sig .tc := ⟨.hbm, 518, rfl⟩
abbrev main_cst_121 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_cst_122 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_cst_123 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_cst_124 : Ref sig .tc := ⟨.hbm, 531, rfl⟩
abbrev main_v334 : Ref sig .tc := ⟨.hbm, 532, rfl⟩
abbrev main_v335 : Ref sig .tc := ⟨.hbm, 533, rfl⟩
abbrev main_cst_125 : Ref sig .tc := ⟨.hbm, 534, rfl⟩
abbrev main_v336 : Ref sig .tc := ⟨.hbm, 535, rfl⟩
abbrev main_v337 : Ref sig .tc := ⟨.hbm, 536, rfl⟩
abbrev main_cst_126 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_cst_127 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_cst_128 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_129 : Ref sig .tc := ⟨.hbm, 549, rfl⟩
abbrev main_v347 : Ref sig .tc := ⟨.hbm, 550, rfl⟩
abbrev main_v348 : Ref sig .tc := ⟨.hbm, 551, rfl⟩
abbrev main_cst_130 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_cst_131 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_132 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_v358 : Ref sig .tc := ⟨.hbm, 565, rfl⟩
abbrev main_v359 : Ref sig .tc := ⟨.hbm, 566, rfl⟩
abbrev main_cst_134 : Ref sig .tc := ⟨.hbm, 567, rfl⟩
abbrev main_v360 : Ref sig .tc := ⟨.hbm, 568, rfl⟩
abbrev main_v361 : Ref sig .tc := ⟨.hbm, 569, rfl⟩
abbrev main_cst_135 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_cst_136 : Ref sig .tc := ⟨.hbm, 574, rfl⟩
abbrev main_v365 : Ref sig .tc := ⟨.hbm, 575, rfl⟩
abbrev main_v366 : Ref sig .tc := ⟨.hbm, 576, rfl⟩
abbrev main_v367 : Ref sig .tc := ⟨.hbm, 577, rfl⟩
abbrev main_cst_137 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_cst_138 : Ref sig .tc := ⟨.hbm, 582, rfl⟩
abbrev main_v371 : Ref sig .tc := ⟨.hbm, 583, rfl⟩
abbrev main_v372 : Ref sig .tc := ⟨.hbm, 584, rfl⟩
abbrev main_cst_139 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_cst_140 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_cst_141 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_cst_142 : Ref sig .tc := ⟨.hbm, 597, rfl⟩
abbrev main_v382 : Ref sig .tc := ⟨.hbm, 598, rfl⟩
abbrev main_v383 : Ref sig .tc := ⟨.hbm, 599, rfl⟩
abbrev main_cst_143 : Ref sig .tc := ⟨.hbm, 600, rfl⟩
abbrev main_v384 : Ref sig .tc := ⟨.hbm, 601, rfl⟩
abbrev main_v385 : Ref sig .tc := ⟨.hbm, 602, rfl⟩
abbrev main_cst_144 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_cst_145 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_cst_146 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_147 : Ref sig .tc := ⟨.hbm, 615, rfl⟩
abbrev main_v395 : Ref sig .tc := ⟨.hbm, 616, rfl⟩
abbrev main_v396 : Ref sig .tc := ⟨.hbm, 617, rfl⟩
abbrev main_cst_148 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_149 : Ref sig .tc := ⟨.hbm, 622, rfl⟩
abbrev main_v400 : Ref sig .tc := ⟨.hbm, 623, rfl⟩
abbrev main_v401 : Ref sig .tc := ⟨.hbm, 624, rfl⟩
abbrev main_v402 : Ref sig .tc := ⟨.hbm, 625, rfl⟩
abbrev main_cst_150 : Ref sig .tc := ⟨.hbm, 626, rfl⟩
abbrev main_v403 : Ref sig .tc := ⟨.hbm, 627, rfl⟩
abbrev main_v404 : Ref sig .tc := ⟨.hbm, 628, rfl⟩
abbrev main_v405 : Ref sig .tc := ⟨.hbm, 629, rfl⟩
abbrev main_cst_151 : Ref sig .tc := ⟨.hbm, 630, rfl⟩
abbrev main_v406 : Ref sig .tc := ⟨.hbm, 631, rfl⟩
abbrev main_v407 : Ref sig .tc := ⟨.hbm, 632, rfl⟩
abbrev main_cst_152 : Ref sig .tc := ⟨.hbm, 633, rfl⟩
abbrev main_v408 : Ref sig .tc := ⟨.hbm, 634, rfl⟩
abbrev main_v409 : Ref sig .tc := ⟨.hbm, 635, rfl⟩
abbrev main_cst_153 : Ref sig .tc := ⟨.hbm, 636, rfl⟩
abbrev main_v410 : Ref sig .tc := ⟨.hbm, 637, rfl⟩
abbrev main_v411 : Ref sig .tc := ⟨.hbm, 638, rfl⟩
abbrev main_v412 : Ref sig .tc := ⟨.hbm, 639, rfl⟩
abbrev main_cst_154 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_cst_155 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_cst_156 : Ref sig .tc := ⟨.hbm, 648, rfl⟩
abbrev main_v419 : Ref sig .tc := ⟨.hbm, 649, rfl⟩
abbrev main_v420 : Ref sig .tc := ⟨.hbm, 650, rfl⟩
abbrev main_cst_157 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_158 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_cst_159 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_cst_160 : Ref sig .tc := ⟨.hbm, 663, rfl⟩
abbrev main_v430 : Ref sig .tc := ⟨.hbm, 664, rfl⟩
abbrev main_v431 : Ref sig .tc := ⟨.hbm, 665, rfl⟩
abbrev main_v432 : Ref sig .tc := ⟨.hbm, 666, rfl⟩
abbrev main_v433 : Ref sig .tc := ⟨.hbm, 667, rfl⟩
abbrev main_v434 : Ref sig .tc := ⟨.hbm, 668, rfl⟩
abbrev main_v435 : Ref sig .tc := ⟨.hbm, 669, rfl⟩
abbrev main_v436 : Ref sig .tc := ⟨.hbm, 670, rfl⟩
abbrev main_v437 : Ref sig .tc := ⟨.hbm, 671, rfl⟩
abbrev main_v438 : Ref sig .tc := ⟨.hbm, 672, rfl⟩
abbrev main_v439 : Ref sig .tc := ⟨.hbm, 673, rfl⟩
abbrev main_v440 : Ref sig .tc := ⟨.hbm, 674, rfl⟩
abbrev main_v441 : Ref sig .tc := ⟨.hbm, 675, rfl⟩
abbrev main_v442 : Ref sig .tc := ⟨.hbm, 676, rfl⟩
abbrev main_v443 : Ref sig .tc := ⟨.hbm, 677, rfl⟩
abbrev main_v444 : Ref sig .tc := ⟨.hbm, 678, rfl⟩
abbrev main_v445 : Ref sig .tc := ⟨.hbm, 679, rfl⟩
abbrev main_v446 : Ref sig .tc := ⟨.hbm, 680, rfl⟩
abbrev main_v447 : Ref sig .tc := ⟨.hbm, 681, rfl⟩
abbrev main_v448 : Ref sig .tc := ⟨.hbm, 682, rfl⟩
abbrev main_v449 : Ref sig .tc := ⟨.hbm, 683, rfl⟩
abbrev main_v450 : Ref sig .tc := ⟨.hbm, 684, rfl⟩
abbrev main_v451 : Ref sig .tc := ⟨.hbm, 685, rfl⟩
abbrev main_v452 : Ref sig .tc := ⟨.hbm, 686, rfl⟩
abbrev main_v453 : Ref sig .tc := ⟨.hbm, 687, rfl⟩
abbrev main_v454 : Ref sig .tc := ⟨.hbm, 688, rfl⟩
abbrev main_v455 : Ref sig .tc := ⟨.hbm, 689, rfl⟩
abbrev main_v456 : Ref sig .tc := ⟨.hbm, 690, rfl⟩
abbrev main_v457 : Ref sig .tc := ⟨.hbm, 691, rfl⟩
abbrev main_v458 : Ref sig .tc := ⟨.hbm, 692, rfl⟩
abbrev main_v459 : Ref sig .tc := ⟨.hbm, 693, rfl⟩
abbrev main_v460 : Ref sig .tc := ⟨.hbm, 694, rfl⟩
abbrev main_v461 : Ref sig .tc := ⟨.hbm, 695, rfl⟩
abbrev main_v462 : Ref sig .tc := ⟨.hbm, 696, rfl⟩
abbrev main_v463 : Ref sig .tc := ⟨.hbm, 697, rfl⟩
abbrev main_v464 : Ref sig .tc := ⟨.hbm, 698, rfl⟩
abbrev main_v465 : Ref sig .tc := ⟨.hbm, 699, rfl⟩
abbrev main_v466 : Ref sig .tc := ⟨.hbm, 700, rfl⟩
abbrev main_v467 : Ref sig .tc := ⟨.hbm, 701, rfl⟩
abbrev main_v468 : Ref sig .tc := ⟨.hbm, 702, rfl⟩
abbrev main_v469 : Ref sig .tc := ⟨.hbm, 703, rfl⟩
abbrev main_v470 : Ref sig .tc := ⟨.hbm, 704, rfl⟩
abbrev main_v471 : Ref sig .tc := ⟨.hbm, 705, rfl⟩
abbrev main_v472 : Ref sig .tc := ⟨.hbm, 706, rfl⟩
abbrev main_v473 : Ref sig .tc := ⟨.hbm, 707, rfl⟩
abbrev main_v474 : Ref sig .tc := ⟨.hbm, 708, rfl⟩
abbrev main_v475 : Ref sig .tc := ⟨.hbm, 709, rfl⟩
abbrev main_v476 : Ref sig .tc := ⟨.hbm, 710, rfl⟩
abbrev main_v477 : Ref sig .tc := ⟨.hbm, 711, rfl⟩
abbrev main_v478 : Ref sig .tc := ⟨.hbm, 712, rfl⟩
abbrev main_v479 : Ref sig .tc := ⟨.hbm, 713, rfl⟩
abbrev main_v480 : Ref sig .tc := ⟨.hbm, 714, rfl⟩
abbrev main_v481 : Ref sig .tc := ⟨.hbm, 715, rfl⟩
abbrev main_v482 : Ref sig .tc := ⟨.hbm, 716, rfl⟩
abbrev main_v483 : Ref sig .tc := ⟨.hbm, 717, rfl⟩
abbrev main_v484 : Ref sig .tc := ⟨.hbm, 718, rfl⟩
abbrev main_v485 : Ref sig .tc := ⟨.hbm, 719, rfl⟩
abbrev main_v486 : Ref sig .tc := ⟨.hbm, 720, rfl⟩
abbrev main_v487 : Ref sig .tc := ⟨.hbm, 721, rfl⟩
abbrev main_v488 : Ref sig .tc := ⟨.hbm, 722, rfl⟩
abbrev main_v489 : Ref sig .tc := ⟨.hbm, 723, rfl⟩
abbrev main_v490 : Ref sig .tc := ⟨.hbm, 724, rfl⟩
abbrev main_v491 : Ref sig .tc := ⟨.hbm, 725, rfl⟩
abbrev main_v492 : Ref sig .tc := ⟨.hbm, 726, rfl⟩
abbrev main_v493 : Ref sig .tc := ⟨.hbm, 727, rfl⟩
abbrev main_v494 : Ref sig .tc := ⟨.hbm, 728, rfl⟩
abbrev main_c : Ref sig .tc := ⟨.hbm, 729, rfl⟩
abbrev main_call0_v0 : Ref sig .tc := ⟨.hbm, 730, rfl⟩
abbrev main_v495 : Ref sig .tc := ⟨.hbm, 731, rfl⟩
abbrev main_v496 : Ref sig .tc := ⟨.hbm, 732, rfl⟩
abbrev main_c_161 : Ref sig .tc := ⟨.hbm, 733, rfl⟩
abbrev main_call1_v0 : Ref sig .tc := ⟨.hbm, 734, rfl⟩
abbrev main_v497 : Ref sig .tc := ⟨.hbm, 735, rfl⟩
abbrev main_v498 : Ref sig .tc := ⟨.hbm, 736, rfl⟩
abbrev main_c_162 : Ref sig .tc := ⟨.hbm, 737, rfl⟩
abbrev main_call2_v0 : Ref sig .tc := ⟨.hbm, 738, rfl⟩
abbrev main_v499 : Ref sig .tc := ⟨.hbm, 739, rfl⟩
abbrev main_v500 : Ref sig .tc := ⟨.hbm, 740, rfl⟩

abbrev nD : Nat := 1
abbrev τ : Topo := Topo.v7x

variable {F : FTy → Type} [FloatOps F]
-- ==== Proof.ConvBwd.Spec.lean ====
/- The gradient of the gated causal depthwise convolution, column by column, and the logistic function in the form the
   kernel computes it. Both programs are proved equal to the functions of this file. -/
module

public import Idealize.ShloMosaic.Lib.Pipeline.ValueKit

@[expose] public section

noncomputable section

namespace Cert.ConvBwd

open Idealize.ShloMosaic

/-- A column of gated inputs with thirty zeros before it, read at place `j`. -/
def past (x : Fin 4096 → EReal) (j : ℕ) : EReal := if h : 30 ≤ j ∧ j < 4126 then x ⟨j - 30, by omega⟩ else 0

/-- A column of cotangents with zeros after it, read at place `j`. -/
def later (d : Fin 4096 → EReal) (j : ℕ) : EReal := if h : j < 4096 then d ⟨j, h⟩ else 0

/-- The gradient at token `t` of one column of the convolution's input: tap `k` reached it from token `t + 30 - k`. -/
def dInput (w : Fin 31 → EReal) (d : Fin 4096 → EReal) (t : ℕ) : EReal := ∑ k : Fin 31, w k * later d (t + (30 - k.val))

/-- The gradient of tap `k` in one column: each token's cotangent against the input the tap read there. -/
def dTap (d x : Fin 4096 → EReal) (k : ℕ) : EReal := ∑ t : Fin 4096, d t * past x (t.val + k)

/-- Arrays of rank two and three as functions of an index. -/
abbrev A2 (a b : ℕ) := (⟨2, ![a, b]⟩ : Shape).Idx → EReal
abbrev A3 (a b c : ℕ) := (⟨3, ![a, b, c]⟩ : Shape).Idx → EReal

/-- The gate: the logistic function of the columns from 2048 on. -/
def gate (z : A2 4096 5632) (c : Fin 512) (t : Fin 4096) : EReal := Ideal.logistic (z (ix2 t ⟨2048 + c.val, by omega⟩))

/-- The value columns, from 1536 on. -/
def value (z : A2 4096 5632) (c : Fin 512) (t : Fin 4096) : EReal := z (ix2 t ⟨1536 + c.val, by omega⟩)

/-- The gated columns, which the convolution reads. -/
def gated (z : A2 4096 5632) (c : Fin 512) (t : Fin 4096) : EReal := value z c t * gate z c t

/-- The gradient of the gated columns. -/
def dGated (w : A3 31 1 512) (dy : A2 4096 512) (t : Fin 4096) (c : Fin 512) : EReal :=
  dInput (fun k => w (ix3 k 0 c)) (fun u => dy (ix2 u c)) t.val

/-- The four results: the gradients of the value columns, -/
def dValue (z : A2 4096 5632) (w : A3 31 1 512) (dy : A2 4096 512) : A2 4096 512 :=
  fun i => dGated w dy (i 0) (i 1) * gate z (i 1) (i 0)
/-- of the gate's columns, -/
def dGate (z : A2 4096 5632) (w : A3 31 1 512) (dy : A2 4096 512) : A2 4096 512 :=
  fun i => dGated w dy (i 0) (i 1) * value z (i 1) (i 0) * gate z (i 1) (i 0) * (1 - gate z (i 1) (i 0))
/-- of the taps, with a zero row after them, -/
def dTaps (z : A2 4096 5632) (dy : A2 4096 512) : A2 32 512 :=
  fun i => if (i 0).val < 31 then dTap (fun u => dy (ix2 u (i 1))) (gated z (i 1)) (i 0).val else 0
/-- and of the bias. -/
def dBias (dy : A2 4096 512) : A2 1 512 := fun i => ∑ u : Fin 4096, dy (ix2 u (i 1))

/-- Half of one plus the hyperbolic tangent of half the argument is the logistic function, at the infinities too. -/
theorem sigmoid_eq (x : EReal) :
    Ideal.ofBits FTy.f32 0x3F000000#32 * Ideal.tanh (Ideal.ofBits FTy.f32 0x3F000000#32 * x)
      + Ideal.ofBits FTy.f32 0x3F000000#32 = Ideal.logistic x := by
  have hh : Ideal.ofBits FTy.f32 0x3F000000#32 = ((1 / 2 : ℝ) : EReal) := by
    simp [Ideal.ofBits, Ideal.ieee, ← EReal.coe_mul]
    norm_num
  rw [hh]
  induction x with
  | bot =>
    rw [EReal.coe_mul_bot_of_pos (by norm_num)]
    rw [Ideal.logistic_bot]
    show ((1 / 2 : ℝ) : EReal) * ((-1 : ℝ) : EReal) + ((1 / 2 : ℝ) : EReal) = ((0 : ℝ) : EReal)
    rw [← EReal.coe_mul, ← EReal.coe_add]
    norm_num
  | top =>
    rw [EReal.coe_mul_top_of_pos (by norm_num)]
    rw [Ideal.logistic_top]
    show ((1 / 2 : ℝ) : EReal) * ((1 : ℝ) : EReal) + ((1 / 2 : ℝ) : EReal) = ((1 : ℝ) : EReal)
    rw [← EReal.coe_mul, ← EReal.coe_add]
    norm_num
  | coe r =>
    rw [Ideal.logistic_coe, ← EReal.coe_mul]
    show ((1 / 2 : ℝ) : EReal) * ((Real.tanh (1 / 2 * r) : ℝ) : EReal) + ((1 / 2 : ℝ) : EReal) = _
    rw [← EReal.coe_mul, ← EReal.coe_add, EReal.coe_eq_coe_iff, Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [h1]
    have p := Real.exp_pos (1 / 2 * r)
    have q := Real.exp_pos (-(1 / 2 * r))
    generalize Real.exp (1 / 2 * r) = u at *
    generalize Real.exp (-(1 / 2 * r)) = v at *
    have : u + v ≠ 0 := by positivity
    have : 1 + v * v ≠ 0 := by positivity
    field_simp
    nlinarith

end Cert.ConvBwd

end
-- ==== Proof.ConvBwd.Kernel.lean ====
/- What the kernel of the convolution's gradient leaves in its four result arrays, at any contents of its arguments:
   the functions of Spec.lean. One grid point handles 128 columns. -/
module

public import proofs.«01_k».proof.Proof.Gen.KernelIdeal.Value
public import proofs.«01_k».proof.Proof.ConvBwd.Spec
public import Idealize.ShloMosaic.Lib.KernelVsHost
public import Idealize.ShloMosaic.Lib.Pipeline.ValueKit

@[expose] public section

set_option maxRecDepth 16384

noncomputable section

namespace Cert.ConvBwd

open Cert.KernelIdeal Cert.KernelIdeal.Gen Idealize.ShloMosaic Idealize.ShloMosaic.TcCoe Idealize.SL.Sem

section Block

/-! ## One block of 128 columns -/

variable (a b d : Vec Ideal S4096x128 .bf16) (kw : Vec Ideal S1x32x128 .f32)

/-- A column of the block's gated inputs. -/
abbrev xcol (l : Fin 128) (t : Fin 4096) : EReal := a (ix2 t l) * Ideal.logistic (b (ix2 t l))

/-- The gate as the kernel computes it. -/
theorem pay8_eq : k0_pay8 b = fun i => Ideal.logistic (b i) := by
  funext i
  unfold k0_pay8
  pointwise
  exact sigmoid_eq _

/-- The padded gated inputs, two places behind `past`. -/
theorem pay11_apply (j : Fin 4128) (l : Fin 128) :
    k0_pay11 a b (ix2 j l) = past (xcol a b l) (j.val - 2) := by
  unfold k0_pay11 k0_pay7
  rw [pay8_eq]
  pointwise
  unfold past
  by_cases h : j.val < 32
  · rw [dif_pos h, dif_neg (by omega)]
  · rw [dif_neg h, dif_pos (by omega)]
    congr 3 <;> (apply congrArg; blk_ext)

/-- The padded cotangents. -/
theorem pay12_apply (j : Fin 4128) (l : Fin 128) :
    k0_pay12 d (ix2 j l) = later (fun t => d (ix2 t l)) j.val := by
  unfold k0_pay12 k0_pay9
  pointwise
  unfold later
  by_cases h : j.val < 4096
  · rw [dif_pos h]
  · rw [dif_neg h]

/-- The gated inputs rotated down by `s`. -/
theorem rotate_pay11 (s : ℕ) (w : BitVec 32) (hw : w.toNat = s) (hs : s < 4128) (h : S4128x128.Rotates 0 none) :
    dynamicRotate 0 w none (k0_pay11 a b) h = fun i => past (xcol a b (i 1)) (((i 0).val + 4128 - s) % 4128 - 2) := by
  funext i
  idx_vars i
  rw [dynamicRotate_apply 0 w _ h _ (ix2 ⟨(i0.val + 4128 - s) % 4128, Nat.mod_lt _ (by omega)⟩ i1) ?_, pay11_apply]
  intro c
  match c with
  | ⟨0, _⟩ => subst hw; exact (congrArg (fun n => (i0.val + 4128 - n) % 4128) (Nat.mod_eq_of_lt hs)).symm
  | ⟨1, _⟩ => rfl

/-- The cotangents rotated up by `s`. -/
theorem rotate_pay12 (s : ℕ) (w : BitVec 32) (hw : w.toNat = 4128 - s) (hs : 0 < s) (h : S4128x128.Rotates 0 none) :
    dynamicRotate 0 w none (k0_pay12 d) h = fun i => later (fun t => d (ix2 t (i 1))) (((i 0).val + 4128 - (4128 - s)) % 4128) := by
  funext i
  idx_vars i
  rw [dynamicRotate_apply 0 w _ h _ (ix2 ⟨(i0.val + 4128 - (4128 - s)) % 4128, Nat.mod_lt _ (by omega)⟩ i1) ?_, pay12_apply]
  intro c
  match c with
  | ⟨0, _⟩ =>
    rw [← hw]; exact (congrArg (fun n => (i0.val + 4128 - n) % 4128) (Nat.mod_eq_of_lt (by omega : w.toNat < 4128))).symm
  | ⟨1, _⟩ => rfl

/-- The sum over the taps in the order in which the kernel adds it. -/
theorem conv_order (f : Fin 31 → EReal) :
    ∑ k, f k = ((((((((((((((((((((((((((((((((0 + f 30) + f 22) + f 14) + f 6) + f 29) + f 21) + f 13) + f 5) + f 28) + f 20) + f 12) + f 4) + f 27) + f 19) + f 11) + f 3) + f 26) + f 18) + f 10) + f 2) + f 25) + f 17) + f 9) + f 1) + f 24) + f 16) + f 8) + f 0) + f 23) + f 15) + f 7)) := by
  have h : ∀ k : Fin 31, f k = (fun n : ℕ => if h : n < 31 then f ⟨n, h⟩ else 0) k.val := fun k => by simp
  rw [Finset.sum_congr rfl fun k _ => h k, Fin.sum_univ_eq_sum_range (fun n : ℕ => if h : n < 31 then f ⟨n, h⟩ else 0) 31]
  simp only [Finset.sum_range_succ, Finset.sum_range_zero]
  simp
  abel

/-- The gradient with respect to the gated inputs. -/
theorem pay3_apply (t : Fin 4096) (l : Fin 128) :
    k0_pay3 (k0_pay10 kw) (k0_pay69 (k0_pay12 d))
      (k0_pay71 (k0_pay10 kw) (k0_pay12 d) (k0_pay61 (k0_pay12 d)) (k0_pay63 (k0_pay10 kw) (k0_pay12 d) (k0_pay53 (k0_pay12 d)) (k0_pay55 (k0_pay10 kw) (k0_pay12 d) (k0_pay45 (k0_pay12 d)) (k0_pay47 (k0_pay10 kw) (k0_pay12 d) (k0_pay37 (k0_pay12 d)) (k0_pay39 (k0_pay10 kw) (k0_pay12 d) (k0_pay29 (k0_pay12 d)) (k0_pay31 (k0_pay10 kw) (k0_pay12 d) (k0_pay21 (k0_pay12 d)) (k0_pay23 (k0_pay10 kw) (k0_pay12 d) (k0_pay15 d kw)))))))) (ix2 t l)
    = dInput (fun k => kw (ix3 0 ⟨k.val, by omega⟩ l)) (fun t => d (ix2 t l)) t := by
  unfold dInput
  rw [conv_order]
  unfold k0_pay3 k0_pay71 k0_pay63 k0_pay55 k0_pay47 k0_pay39 k0_pay31 k0_pay23 k0_pay15
  simp only [k0_pay69, k0_pay61, k0_pay53, k0_pay45, k0_pay37, k0_pay29, k0_pay21, rotate_pay12 d 1 4127#32 rfl (by omega), rotate_pay12 d 2 4126#32 rfl (by omega), rotate_pay12 d 3 4125#32 rfl (by omega), rotate_pay12 d 4 4124#32 rfl (by omega), rotate_pay12 d 5 4123#32 rfl (by omega), rotate_pay12 d 6 4122#32 rfl (by omega), rotate_pay12 d 7 4121#32 rfl (by omega)]
  pointwise
  simp only [pay12_apply]
  repeat' (refine congrArg₂ (· + ·) ?_ ?_)
  all_goals
    refine congrArg₂ (· * ·) ?_ (congrArg _ ?_)
    · unfold k0_pay10
      pointwise
    · have := t.isLt
      first | omega | (show _ = t.val + _; omega)

/-- One row of a block written row by row: the last row written there. -/
theorem canon_row (k : ℕ) (hk : k < 32) (r : Fin 32) (l : Fin 128) (inb) (w : S1x128.Idx → EReal)
    (L : List (View.Piece (Elt Ideal) S32x128 .f32)) :
    View.canon (⟨Rect.unit ![k, 0] ![1, 128] inb, w⟩ :: L) (ix2 r l) = if r.val = k then w (ix2 0 l) else View.canon L (ix2 r l) := by
  split
  · next h =>
    subst h
    rw [show (ix2 r l : S32x128.Idx) = (Rect.unit ![r.val, 0] ![1, 128] inb).emb (ix2 0 l) from ?_]
    · exact View.canon_cons_emb _ _ _ _
    · funext c; match c with
      | ⟨0, _⟩ => apply Fin.ext; show r.val = r.val + 1 * 0; omega
      | ⟨1, _⟩ => apply Fin.ext; show l.val = 0 + 1 * l.val; omega
  · next h =>
    refine View.canon_cons_of_not_mem _ _ ?_
    refine Rect.not_mem_set_of_axis _ _ 0 k 1 rfl rfl rfl ?_
    · show r.val < k ∨ k + 1 ≤ r.val
      omega

/-- One case of a chain of cases by the row. -/
theorem ite_row {r k : ℕ} {x y g : EReal} (hy : ¬r = k → y = g) (hx : r = k → x = g) : (if r = k then x else y) = g := by
  split
  · next h => exact hx h
  · next h => exact hy h

/-- The kernel writes the gradient of the taps row by row, over zeros. -/
theorem rows_apply (r : Fin 32) (l : Fin 128) :
    View.canon
      ([⟨Rect.unit ![7, 0] ![1, 128] inb_S32x128_S1x128_7_0, k0_pay2 (k0_pay9 d) (k0_pay68 (k0_pay11 a b))⟩,
       ⟨Rect.unit ![15, 0] ![1, 128] inb_S32x128_S1x128_15_0, k0_pay1 (k0_pay72 (k0_pay9 d) (k0_pay11 a b))⟩,
       ⟨Rect.unit ![23, 0] ![1, 128] inb_S32x128_S1x128_23_0, k0_pay70 (k0_pay9 d) (k0_pay11 a b)⟩,
       ⟨Rect.unit ![0, 0] ![1, 128] inb_S32x128_S1x128_0_0, k0_pay67 (k0_pay9 d) (k0_pay60 (k0_pay11 a b))⟩,
       ⟨Rect.unit ![8, 0] ![1, 128] inb_S32x128_S1x128_8_0, k0_pay66 (k0_pay9 d) (k0_pay60 (k0_pay11 a b))⟩,
       ⟨Rect.unit ![16, 0] ![1, 128] inb_S32x128_S1x128_16_0, k0_pay65 (k0_pay64 (k0_pay9 d) (k0_pay11 a b))⟩,
       ⟨Rect.unit ![24, 0] ![1, 128] inb_S32x128_S1x128_24_0, k0_pay62 (k0_pay9 d) (k0_pay11 a b)⟩,
       ⟨Rect.unit ![1, 0] ![1, 128] inb_S32x128_S1x128_1_0, k0_pay59 (k0_pay9 d) (k0_pay52 (k0_pay11 a b))⟩,
       ⟨Rect.unit ![9, 0] ![1, 128] inb_S32x128_S1x128_9_0, k0_pay58 (k0_pay9 d) (k0_pay52 (k0_pay11 a b))⟩,
       ⟨Rect.unit ![17, 0] ![1, 128] inb_S32x128_S1x128_17_0, k0_pay57 (k0_pay56 (k0_pay9 d) (k0_pay11 a b))⟩,
       ⟨Rect.unit ![25, 0] ![1, 128] inb_S32x128_S1x128_25_0, k0_pay54 (k0_pay9 d) (k0_pay11 a b)⟩,
       ⟨Rect.unit ![2, 0] ![1, 128] inb_S32x128_S1x128_2_0, k0_pay51 (k0_pay9 d) (k0_pay44 (k0_pay11 a b))⟩,
       ⟨Rect.unit ![10, 0] ![1, 128] inb_S32x128_S1x128_10_0, k0_pay50 (k0_pay9 d) (k0_pay44 (k0_pay11 a b))⟩,
       ⟨Rect.unit ![18, 0] ![1, 128] inb_S32x128_S1x128_18_0, k0_pay49 (k0_pay48 (k0_pay9 d) (k0_pay11 a b))⟩,
       ⟨Rect.unit ![26, 0] ![1, 128] inb_S32x128_S1x128_26_0, k0_pay46 (k0_pay9 d) (k0_pay11 a b)⟩,
       ⟨Rect.unit ![3, 0] ![1, 128] inb_S32x128_S1x128_3_0, k0_pay43 (k0_pay9 d) (k0_pay36 (k0_pay11 a b))⟩,
       ⟨Rect.unit ![11, 0] ![1, 128] inb_S32x128_S1x128_11_0, k0_pay42 (k0_pay9 d) (k0_pay36 (k0_pay11 a b))⟩,
       ⟨Rect.unit ![19, 0] ![1, 128] inb_S32x128_S1x128_19_0, k0_pay41 (k0_pay40 (k0_pay9 d) (k0_pay11 a b))⟩,
       ⟨Rect.unit ![27, 0] ![1, 128] inb_S32x128_S1x128_27_0, k0_pay38 (k0_pay9 d) (k0_pay11 a b)⟩,
       ⟨Rect.unit ![4, 0] ![1, 128] inb_S32x128_S1x128_4_0, k0_pay35 (k0_pay9 d) (k0_pay28 (k0_pay11 a b))⟩,
       ⟨Rect.unit ![12, 0] ![1, 128] inb_S32x128_S1x128_12_0, k0_pay34 (k0_pay9 d) (k0_pay28 (k0_pay11 a b))⟩,
       ⟨Rect.unit ![20, 0] ![1, 128] inb_S32x128_S1x128_20_0, k0_pay33 (k0_pay32 (k0_pay9 d) (k0_pay11 a b))⟩,
       ⟨Rect.unit ![28, 0] ![1, 128] inb_S32x128_S1x128_28_0, k0_pay30 (k0_pay9 d) (k0_pay11 a b)⟩,
       ⟨Rect.unit ![5, 0] ![1, 128] inb_S32x128_S1x128_5_0, k0_pay27 (k0_pay9 d) (k0_pay20 (k0_pay11 a b))⟩,
       ⟨Rect.unit ![13, 0] ![1, 128] inb_S32x128_S1x128_13_0, k0_pay26 (k0_pay9 d) (k0_pay20 (k0_pay11 a b))⟩,
       ⟨Rect.unit ![21, 0] ![1, 128] inb_S32x128_S1x128_21_0, k0_pay25 (k0_pay24 (k0_pay9 d) (k0_pay11 a b))⟩,
       ⟨Rect.unit ![29, 0] ![1, 128] inb_S32x128_S1x128_29_0, k0_pay22 (k0_pay9 d) (k0_pay11 a b)⟩,
       ⟨Rect.unit ![6, 0] ![1, 128] inb_S32x128_S1x128_6_0, k0_pay19 (k0_pay9 d) (k0_pay11 a b)⟩,
       ⟨Rect.unit ![14, 0] ![1, 128] inb_S32x128_S1x128_14_0, k0_pay18 (k0_pay9 d) (k0_pay11 a b)⟩,
       ⟨Rect.unit ![22, 0] ![1, 128] inb_S32x128_S1x128_22_0, k0_pay17 (k0_pay16 a b d)⟩,
       ⟨Rect.unit ![30, 0] ![1, 128] inb_S32x128_S1x128_30_0, k0_pay14 a b d⟩,
       ⟨Rect.unit ![0, 0] ![32, 128] inb_S32x128_S32x128_0_0, k0_pay13 (F := Ideal)⟩] : List (View.Piece (Elt Ideal) S32x128 .f32)) (ix2 r l)
    = if r.val < 31 then dTap (fun t => d (ix2 t l)) (xcol a b l) r.val else (0 : EReal) := by
  repeat' rw [canon_row _ (by norm_num)]
  iterate 31 refine ite_row (fun _ => ?_) fun h => ?_
  · rw [show (ix2 r l : S32x128.Idx) = (Rect.unit ![0, 0] ![32, 128] inb_S32x128_S32x128_0_0).emb (ix2 r l) from
      (Rect.emb_eq_of_coords _ _ _ fun c => by
        match c with
        | ⟨0, _⟩ => show r.val = 0 + 1 * r.val; omega
        | ⟨1, _⟩ => show l.val = 0 + 1 * l.val; omega).symm, View.canon_cons_emb, if_neg (by omega)]
    unfold k0_pay13
    pointwise
  all_goals
    rw [h, if_pos (by norm_num)]
    clear h
    unfold dTap
    simp only [k0_pay1, k0_pay2, k0_pay14, k0_pay16, k0_pay17, k0_pay18, k0_pay19, k0_pay22, k0_pay24, k0_pay25, k0_pay26, k0_pay27, k0_pay30, k0_pay32, k0_pay33, k0_pay34, k0_pay35, k0_pay38, k0_pay40, k0_pay41, k0_pay42, k0_pay43, k0_pay46, k0_pay48, k0_pay49, k0_pay50, k0_pay51, k0_pay54, k0_pay56, k0_pay57, k0_pay58, k0_pay59, k0_pay62, k0_pay64, k0_pay65, k0_pay66, k0_pay67, k0_pay70, k0_pay72, k0_pay20, k0_pay28, k0_pay36, k0_pay44, k0_pay52, k0_pay60, k0_pay68, rotate_pay11 a b 1 1#32 rfl (by omega), rotate_pay11 a b 2 2#32 rfl (by omega), rotate_pay11 a b 3 3#32 rfl (by omega), rotate_pay11 a b 4 4#32 rfl (by omega), rotate_pay11 a b 5 5#32 rfl (by omega), rotate_pay11 a b 6 6#32 rfl (by omega), rotate_pay11 a b 7 7#32 rfl (by omega)]
  all_goals
    pointwise
    refine Finset.sum_congr rfl fun x _ => congrArg₂ (· * ·) ?_ ?_
    · unfold k0_pay9
      pointwise
    · try rw [pay11_apply]
      have := x.isLt
      refine congrArg _ ?_
      try dsimp only
      omega

/-- The gradient of the bias adds the cotangents of the column. -/
theorem pay4_apply (i : Fin 1) (l : Fin 128) : k0_pay4 (k0_pay9 d) (ix2 i l) = ∑ t : Fin 4096, d (ix2 t l) := by
  unfold k0_pay4 k0_pay9
  pointwise

end Block

end Cert.ConvBwd

end
-- ==== Proof.ConvBwd.Arrays.lean ====
/- The four arrays the kernel of the convolution's gradient leaves, as the functions of Spec.lean. -/
module

public import proofs.«01_k».proof.Proof.ConvBwd.Kernel

@[expose] public section

set_option maxRecDepth 16384

noncomputable section

namespace Cert.ConvBwd

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments: the projections, the taps and the cotangent. -/
abbrev argZ : A2 4096 5632 := m ((c : Thread nD τ).loc main_arg0)
abbrev argW : A3 31 1 512 := m ((c : Thread nD τ).loc main_arg1)
abbrev argD : A2 4096 512 := m ((c : Thread nD τ).loc main_arg2)

/-- Where each window's block stands at a grid point. -/
theorem idx : ∀ t : Fin grid0.N, win0_0.index t = ![0, t.val] ∧ win0_1.index t = ![0, 12 + t.val] ∧ win0_2.index t = ![0, 16 + t.val]
    ∧ win0_3.index t = ![t.val, 0, 0] ∧ win0_4.index t = ![0, t.val] ∧ win0_5.index t = ![0, t.val] ∧ win0_6.index t = ![0, t.val]
    ∧ win0_7.index t = ![0, t.val] := by decide +kernel

/-- The column of the arrays that column `l` of block `t` is. -/
abbrev col (t : Fin grid0.N) (l : Fin 128) : Fin 512 := ⟨t.val * 128 + l.val, by have : t.val < 4 := t.isLt; omega⟩

theorem blk_d (t : Fin grid0.N) (i : Fin 4096) (l : Fin 128) : iblk m c 0 t (ix2 i l) = argD m c (ix2 i (col t l)) := by
  blk_ext [iblk, V, idx t]
theorem blk_a (t : Fin grid0.N) (i : Fin 4096) (l : Fin 128) : iblk m c 1 t (ix2 i l) = value (argZ m c) (col t l) i := by
  unfold value
  blk_ext [iblk, V, idx t]
theorem blk_b (t : Fin grid0.N) (i : Fin 4096) (l : Fin 128) :
    Ideal.logistic (iblk m c 2 t (ix2 i l)) = gate (argZ m c) (col t l) i := by
  unfold gate
  congr 1
  blk_ext [iblk, V, idx t]

/-- The taps, laid out in four blocks of 128 columns. -/
theorem taps (h : Fin 4) (k : Fin 32) (l : Fin 128) (hk : k.val < 31) :
    V m c main_v3 (ix3 h k l) = argW m c (ix3 ⟨k.val, hk⟩ 0 ⟨h.val * 128 + l.val, by omega⟩) := by
  unfold V
  simp only [List.flatten_cons, List.flatten_nil, hostOps0, List.cons_append, List.nil_append, List.append_nil]
  entry_read
  pointwise
  exact dif_pos hk

theorem blk_k (t : Fin grid0.N) (k : Fin 31) (l : Fin 128) :
    iblk m c 3 t (ix3 0 ⟨k.val, by omega⟩ l) = argW m c (ix3 k 0 (col t l)) := by
  have := taps m c t ⟨k.val, by omega⟩ l k.isLt
  refine Eq.trans ?_ this
  blk_ext [iblk, idx t]

/-- The gradient of the gated columns, block by block. -/
theorem dGated_blk (t : Fin grid0.N) (i : Fin 4096) (l : Fin 128) :
    dInput (fun k => iblk m c 3 t (ix3 0 ⟨k.val, by omega⟩ l)) (fun t' => iblk m c 0 t (ix2 t' l)) i = dGated (argW m c) (argD m c) i (col t l) := by
  unfold dGated
  rw [show (fun k : Fin 31 => iblk m c 3 t (ix3 0 ⟨k.val, by omega⟩ l)) = fun k => argW m c (ix3 k 0 (col t l)) from funext fun k => blk_k m c t k l]
  rw [show (fun t' : Fin 4096 => iblk m c 0 t (ix2 t' l)) = fun t' => argD m c (ix2 t' (col t l)) from funext fun k => blk_d m c t k l]

/-- The gradient of the value columns. -/
theorem arr4 : (dats m 0 c).arrAt 4 (cfgs 0).N = dValue (argZ m c) (argW m c) (argD m c) := by
  refine (dats m 0 c).arrAt_eq_of_covers 4 _ (by decide +kernel) fun t hf y => ?_
  blk_simp
  rw [after0_4]
  unfold outsAt0
  frame_out
  idx_vars y
  refine Eq.trans ?_ (congrArg (dValue (argZ m c) (argW m c) (argD m c)) (?_ : ix2 y0 (col t y1) = _))
  · unfold k0_pay5
    rw [pay8_eq]
    pointwise
    rw [pay3_apply, dGated_blk, blk_b]
    rfl
  · blk_ext [idx t]

/-- The gradient of the gate's columns. -/
theorem arr5 : (dats m 0 c).arrAt 5 (cfgs 0).N = dGate (argZ m c) (argW m c) (argD m c) := by
  refine (dats m 0 c).arrAt_eq_of_covers 5 _ (by decide +kernel) fun t hf y => ?_
  blk_simp
  rw [after0_5]
  unfold outsAt0
  frame_out
  idx_vars y
  refine Eq.trans ?_ (congrArg (dGate (argZ m c) (argW m c) (argD m c)) (?_ : ix2 y0 (col t y1) = _))
  · unfold k0_pay6 k0_pay7
    rw [pay8_eq]
    pointwise
    rw [pay3_apply, dGated_blk, blk_b, blk_a]
    rfl
  · blk_ext [idx t]

/-- The gradient of the taps, a zero row after it. -/
theorem arr6 : (dats m 0 c).arrAt 6 (cfgs 0).N = dTaps (argZ m c) (argD m c) := by
  refine (dats m 0 c).arrAt_eq_of_covers 6 _ (by decide +kernel) fun t hf y => ?_
  blk_simp
  rw [after0_6]
  unfold outsAt0
  frame_out
  idx_vars y
  refine Eq.trans ?_ (congrArg (dTaps (argZ m c) (argD m c)) (?_ : ix2 y0 (col t y1) = _))
  · rw [rows_apply, show (fun t' : Fin 4096 => iblk m c 0 t (ix2 t' y1)) = fun t' => argD m c (ix2 t' (col t y1)) from
        funext fun k => blk_d m c t k y1, show xcol (iblk m c 1 t) (iblk m c 2 t) y1 = gated (argZ m c) (col t y1) from
        funext fun k => congrArg₂ (· * ·) (blk_a m c t k y1) (blk_b m c t k y1)]
    rfl
  · blk_ext [idx t]

/-- The gradient of the bias. -/
theorem arr7 : (dats m 0 c).arrAt 7 (cfgs 0).N = dBias (argD m c) := by
  refine (dats m 0 c).arrAt_eq_of_covers 7 _ (by decide +kernel) fun t hf y => ?_
  blk_simp
  rw [after0_7]
  unfold outsAt0
  frame_out
  idx_vars y
  refine Eq.trans ?_ (congrArg (dBias (argD m c)) (?_ : ix2 y0 (col t y1) = _))
  · exact (pay4_apply _ _ _).trans (Finset.sum_congr rfl fun x _ => blk_d m c t x y1)
  · blk_ext [idx t]

end Cert.ConvBwd

end
-- ==== Proof.ConvBwd.Reference.lean ====
/- What the reference of the convolution's gradient computes: the functions of Spec.lean. -/
module

public import proofs.«01_k».proof.Proof.Gen.ReferenceIdeal.Run
public import proofs.«01_k».proof.Proof.ConvBwd.Spec
public import Idealize.ShloMosaic.Lib.KernelVsHost
public import Idealize.ShloMosaic.Lib.Pipeline.ValueKit

@[expose] public section

set_option maxRecDepth 16384

noncomputable section

namespace Cert.ConvBwd

open Cert.ReferenceIdeal Cert.ReferenceIdeal.Value Idealize.ShloMosaic Idealize.ShloMosaic.TcCoe Idealize.SL.Sem
open Idealize.ShloMosaic.StableHlo

variable (V0 : Valuation τ sig (Elt Ideal))

/-- The arguments: the projections, the taps and the cotangent. -/
abbrev refZ : A2 4096 5632 := V0 (Proc.devRef .tc main_arg0)
abbrev refW : A3 31 1 512 := V0 (Proc.devRef .tc main_arg1)
abbrev refD : A2 4096 512 := V0 (Proc.devRef .tc main_arg2)

theorem v1_apply (t : Fin 4096) (c : Fin 512) : res_main_v1 V0 (ix2 t c) = refD V0 (ix2 t c) := rfl

theorem v2_apply (t : Fin 4096) (c : Fin 512) : res_main_v2 V0 (ix2 t c) = value (refZ V0) c t := by
  unfold res_main_v2 res_main_v0
  pointwise
  rfl

theorem v10_apply (t : Fin 4096) (c : Fin 512) : res_main_v10 V0 (ix2 t c) = gate (refZ V0) c t := by
  unfold res_main_v10 res_main_v0 gate
  pointwise
  rfl

/-- The gated columns with thirty zero rows before them. -/
theorem v16_apply (j : Fin 4126) (c : Fin 512) : res_main_v16 V0 (ix2 j c) = past (gated (refZ V0) c) j.val := by
  unfold res_main_v16
  pointwise
  simp only [v2_apply, v10_apply]
  unfold past
  by_cases h : j.val < 30
  · rw [dif_pos h, dif_neg (by omega)]
  · rw [dif_neg h, dif_pos (by omega)]
    rfl

/-- Both cases alike. -/
theorem dite_eq {p : Prop} [Decidable p] {x : p → EReal} {y : ¬p → EReal} {g : EReal} (hx : ∀ h, x h = g) (hy : ∀ h, y h = g) :
    dite p x y = g := by
  split
  · exact hx _
  · exact hy _

/-- One tap's part of the gradient, read through the padding of its shift. -/
theorem tap_eq (d : Fin 4096 → EReal) (w : EReal) (n : ℕ) {p : Prop} [Decidable p] {j : p → Fin 4096} (hp : p ↔ n < 4096)
    (hj : ∀ h, (j h).val = n) : (if h : p then d (j h) * w else 0) = w * later d n := by
  unfold later
  by_cases h : p
  · rw [dif_pos h, dif_pos (hp.mp h), mul_comm]
    exact congrArg (fun u => w * d u) (Fin.ext (hj h))
  · rw [dif_neg h, dif_neg (fun h' => h (hp.mpr h')), mul_zero]

/-- The sum over the taps from the last to the first. -/
theorem conv_down (f : Fin 31 → EReal) :
    ∑ k, f k = f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  have h : ∀ k : Fin 31, f k = (fun n : ℕ => if h : n < 31 then f ⟨n, h⟩ else 0) k.val := fun k => by simp
  rw [Finset.sum_congr rfl fun k _ => h k, Fin.sum_univ_eq_sum_range (fun n : ℕ => if h : n < 31 then f ⟨n, h⟩ else 0) 31]
  simp only [Finset.sum_range_succ, Finset.sum_range_zero]
  simp
  abel

/-- The stack of the thirty-one shifted copies of them. -/
theorem v82_apply (k : Fin 31) (t : Fin 4096) (c : Fin 512) : res_main_v82 V0 (ix3 k t c) = past (gated (refZ V0) c) (t.val + k.val) := by
  unfold res_main_v82
  pointwise
  simp only [v16_apply]
  repeat' (with_reducible refine dite_eq (fun _ => ?_) (fun _ => ?_))
  all_goals
    refine congrArg _ ?_
    try dsimp only
    omega

theorem v97_apply (k : Fin 31) (t : Fin 4096) (c : Fin 512) :
    res_main_v97 V0 (ix3 k t c) = refD V0 (ix2 t c) * refW V0 (ix3 k 0 c) := by
  unfold res_main_v97 res_main_v92
  pointwise
  rfl

theorem v222_apply (t : Fin 4096) (c : Fin 512) : res_main_v222 V0 (ix2 t c) = dGated (refW V0) (refD V0) t c := by
  unfold res_main_v222 res_main_v220 res_main_v218 res_main_v188
  pointwise
  simp only [v97_apply]
  unfold dGated dInput
  rw [conv_down]
  repeat' (refine congrArg₂ (· + ·) ?_ ?_)
  · unfold later
    rw [dif_pos (by have := t.isLt; show t.val + (30 - 30) < 4096; omega), mul_comm]
    rfl
  all_goals
    refine tap_eq (fun u => refD V0 (ix2 u c)) _ _ ?_ fun _ => ?_
    all_goals
      try dsimp only
      simp
      try omega

/-- The reference's four results. -/
theorem ref_value : (truncf .bf16 (mulf (res_main_v222 V0) (res_main_v10 V0)) Gen.bitsLt_bf16_f32 : A2 4096 512)
    = dValue (refZ V0) (refW V0) (refD V0) := by
  funext i
  idx_vars i
  pointwise
  rw [v222_apply, v10_apply]
  rfl

theorem ref_gate : (truncf .bf16 (mulf (mulf (res_main_v2 V0) (res_main_v222 V0)) (mulf (res_main_v10 V0)
      (subf (broadcastInDim S4096x512 ![] Gen.bcast_S_S4096x512 (constant S_ .f32 0x3F800000#32)) (res_main_v10 V0)))) Gen.bitsLt_bf16_f32 : A2 4096 512)
    = dGate (refZ V0) (refW V0) (refD V0) := by
  funext i
  idx_vars i
  pointwise
  rw [v222_apply, v10_apply, v2_apply]
  unfold dGate
  rw [← mul_assoc]
  exact congrArg (fun x => x * _ * _) (mul_comm _ _)

theorem ref_taps : (pad S32x512 ![0, 0] ![1, 0] ![0, 0] (shapeCast _ (shapeCast _ (Host.reduceAdd (mulf (res_main_v82 V0) (res_main_v92 V0))
      (constant S_ .f32 0x00000000#32) Gen.reducesTo_S31x4096x512_S31x512_d1 Gen.h_S_) Gen.shapeCasts_S31x512_S31x1x512) Gen.shapeCasts_S31x1x512_S31x512)
      (sitofp (F := Ideal) .f32 (constantI S_ 32 0#32)) Gen.pads_S31x512_S32x512_010_000 Gen.h_S_ : A2 32 512)
    = dTaps (refZ V0) (refD V0) := by
  funext i
  idx_vars i
  pointwise
  simp only [v82_apply]
  show _ = if i0.val < 31 then dTap (fun u => refD V0 (ix2 u i1)) (gated (refZ V0) i1) i0.val else 0
  by_cases h : i0.val < 31
  · rw [dif_pos h, if_pos h]
    unfold dTap
    refine Finset.sum_congr rfl fun x _ => (mul_comm _ _).trans (congrArg (fun u => u * _) ?_)
    unfold res_main_v92
    pointwise
    rfl
  · rw [dif_neg h, if_neg h]
    show ((((0#32 : BitVec 32).toInt : ℤ) : ℝ) : EReal) = 0
    simp

theorem ref_bias : (shapeCast _ (Host.reduceAdd (shapeCast _ (Host.reduceAdd (res_main_v1 V0) (constant S_ .f32 0x00000000#32)
      Gen.reducesTo_S4096x512_S512_d0 Gen.h_S_) Gen.shapeCasts_S512_S1x512) (constant S_ .f32 0x00000000#32) Gen.reducesTo_S1x512_S512_d0 Gen.h_S_)
      Gen.shapeCasts_S512_S1x512 : A2 1 512)
    = dBias (refD V0) := by
  funext i
  idx_vars i
  pointwise
  rw [Fin.sum_univ_one]
  rfl

end Cert.ConvBwd

end
-- ==== Proof.ConvBwd.Claim.lean ====
/- The kernel of the convolution's gradient and its reference compute the same arrays. -/
module

public import proofs.«01_k».proof.Defs
public import proofs.«01_k».proof.Proof.ConvBwd.Arrays
public import proofs.«01_k».proof.Proof.ConvBwd.Reference
public import Idealize.ShloMosaic.Lib.Claim

@[expose] public section

set_option maxRecDepth 16384

noncomputable section

namespace Cert.ConvBwd

open Idealize.ShloMosaic Idealize.SL.Sem

/-- The reference ends with its arguments as they were, and it has no semaphores. -/
theorem frame_reference : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩)
    (Cert.ReferenceIdeal.Value.run (F := Ideal) m ρ)

/-- Equal results: all four are the functions of Spec.lean of the arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => dValue (argZ m c) (argW m c) (argD m c), fun c => dGate (argZ m c) (argW m c) (argD m c),
    fun c => dTaps (argZ m c) (argD m c), fun c => dBias (argD m c), ?_, ?_⟩
  · exact (θ_run _ _ _).mono (fun r h c => ⟨(h c).1.trans (arr4 m c), (h c).2.1.trans (arr5 m c), (h c).2.2.1.trans (arr6 m c),
      (h c).2.2.2.1.trans (arr7 m c), (h c).2.2.2.2⟩) (Cert.KernelIdeal.Value.run_blocks (F := Ideal) m ρ)
  · refine (θ_run _ _ _).mono (fun r h c => ⟨(h c).1.trans ?_, (h c).2.1.trans ?_, (h c).2.2.1.trans ?_, (h c).2.2.2.1.trans ?_, (h c).2.2.2.2⟩)
      (Cert.ReferenceIdeal.Value.run (F := Ideal) m' ρ')
    all_goals
      obtain ⟨h0, h1, h2⟩ := hagree c
      have e0 : refZ (StableHlo.launchContents m' c) = argZ m c := h0
      have e1 : refW (StableHlo.launchContents m' c) = argW m c := h1
      have e2 : refD (StableHlo.launchContents m' c) = argD m c := h2
    · exact (ref_value _).trans (by rw [e0, e1, e2])
    · exact (ref_gate _).trans (by rw [e0, e1, e2])
    · exact (ref_taps _).trans (by rw [e0, e2])
    · exact (ref_bias _).trans (by rw [e2])

end Cert.ConvBwd

end
-- ==== Proof.FfnWeight.Spec.lean ====
/- The gradient of a weight of the feed-forward block's first products, laid out as the step keeps it: the 2816 columns
   in four blocks of 704 rows, each followed by 64 zero rows. -/
module

public import Idealize.ShloMosaic.Lib.Pipeline.ValueKit

@[expose] public section

noncomputable section

namespace Cert.FfnWeight

open Idealize.ShloMosaic

/-- Arrays of rank two and three as functions of an index. -/
abbrev A2 (a b : ℕ) := (⟨2, ![a, b]⟩ : Shape).Idx → EReal
abbrev A3 (a b c : ℕ) := (⟨3, ![a, b, c]⟩ : Shape).Idx → EReal

/-- Column `k` of block `b` of the 2816 columns. -/
abbrev shardCol (b : Fin 4) (k : ℕ) (h : k < 704) : Fin 2816 := ⟨b.val * 704 + k, by omega⟩

/-- The gradient of a weight: for each of its columns and input features the sum over the tokens. -/
def dWeight (d : A2 4096 2816) (n : A2 4096 1024) : A3 4 768 1024 := fun i =>
  if h : (i 1).val < 704 then ∑ t : Fin 4096, d (ix2 t (shardCol (i 0) (i 1).val h)) * n (ix2 t (i 2)) else 0

end Cert.FfnWeight

end
-- ==== Proof.FfnWeight.Kernel.lean ====
/- What the call for a weight's gradient leaves in its result array. One grid point handles one of the four blocks. -/
module

public import proofs.«01_k».proof.Proof.Gen.Kernel2Ideal.Value
public import proofs.«01_k».proof.Proof.FfnWeight.Spec
public import Idealize.ShloMosaic.Lib.KernelVsHost
public import Idealize.ShloMosaic.Lib.Pipeline.ValueKit

@[expose] public section

set_option maxRecDepth 16384

noncomputable section

namespace Cert.FfnWeight

open Cert.Kernel2Ideal Cert.Kernel2Ideal.Gen Idealize.ShloMosaic Idealize.ShloMosaic.TcCoe Idealize.SL.Sem

/-- One block's product. -/
theorem pay1_apply (a : Vec Ideal S4096x768 .bf16) (n : Vec Ideal S4096x1024 .bf16) (z : Fin 1) (k : Fin 768) (l : Fin 1024) :
    k0_pay1 a n (ix3 z k l) = ∑ t : Fin 4096, a (ix2 t k) * n (ix2 t l) := by
  unfold k0_pay1
  pointwise

/-- A block's product is the gradient's block: the padded columns give zero rows. -/
theorem point (d : A2 4096 2816) (n : A2 4096 1024) (a : Vec Ideal S4096x768 .bf16) (b : Vec Ideal S4096x1024 .bf16) (t : Fin 4) (k : Fin 768)
    (l : Fin 1024) (ha : ∀ i k, a (ix2 i k) = if h : k.val < 704 then d (ix2 i (shardCol t k.val h)) else 0)
    (hb : ∀ i l, b (ix2 i l) = n (ix2 i l)) :
    ∑ i : Fin 4096, a (ix2 i k) * b (ix2 i l) = dWeight d n (ix3 t k l) := by
  show _ = if h : k.val < 704 then ∑ i : Fin 4096, d (ix2 i (shardCol t k.val h)) * n (ix2 i l) else 0
  by_cases h : k.val < 704
  · rw [dif_pos h]
    exact Finset.sum_congr rfl fun i _ => congrArg₂ (· * ·) ((ha i k).trans (dif_pos h)) (hb i l)
  · rw [dif_neg h]
    exact Finset.sum_eq_zero fun i _ => (congrArg (· * _) ((ha i k).trans (dif_neg h))).trans (zero_mul _)

variable (m : (ℓ : Loc nD τ sig) → Buf (Elt Ideal) ℓ) (c : Dev nD)

/-- The arguments: the gradient of the product, and its left operand. -/
abbrev argD : A2 4096 2816 := m ((c : Thread nD τ).loc main_arg0)
abbrev argN : A2 4096 1024 := m ((c : Thread nD τ).loc main_arg1)

/-- Where each window's block stands at a grid point. -/
theorem idx : ∀ t : Fin grid0.N, win0_0.index t = ![0, t.val] ∧ win0_1.index t = ![0, 0] ∧ win0_2.index t = ![t.val, 0, 0] := by
  decide +kernel

/-- The padded columns. -/
theorem padded (i : Fin 4096) (b : Fin 4) (k : Fin 768) :
    V m c main_v3 (ix2 i ⟨b.val * 768 + k.val, by omega⟩) = if h : k.val < 704 then argD m c (ix2 i (shardCol b k.val h)) else 0 := by
  unfold V
  simp only [List.flatten_cons, List.flatten_nil, hostOps0, List.cons_append, List.nil_append, List.append_nil]
  entry_read
  pointwise

theorem blk_n (t : Fin grid0.N) (i : Fin 4096) (l : Fin 1024) : iblk m c 1 t (ix2 i l) = argN m c (ix2 i l) := by
  blk_ext [iblk, V, idx t]
theorem blk_d (t : Fin 4) (i : Fin 4096) (k : Fin 768) :
    iblk m c 0 t (ix2 i k) = if h : k.val < 704 then argD m c (ix2 i (shardCol t k.val h)) else 0 := by
  refine Eq.trans ?_ (padded m c i t k)
  blk_ext [iblk, idx t]

theorem arr2 : (dats m 0 c).arrAt 2 (cfgs 0).N = dWeight (argD m c) (argN m c) := by
  refine (dats m 0 c).arrAt_eq_of_covers 2 _ (by decide +kernel) fun t hf y => ?_
  blk_simp
  rw [after0_2]
  unfold out0_2
  frame_out
  idx_vars y
  refine Eq.trans ?_ (congrArg (dWeight (argD m c) (argN m c)) (?_ : ix3 t y1 y2 = _))
  · refine (pay1_apply _ _ _ _ _).trans ?_
    exact point _ _ _ _ t y1 y2 (blk_d m c t) (blk_n m c t)
  · blk_ext [idx t]

end Cert.FfnWeight

end
-- ==== Proof.FfnWeight.Reference.lean ====
/- What the reference of a weight's gradient computes, and the claims about both programs. -/
module

public import proofs.«01_k».proof.Defs
public import proofs.«01_k».proof.Proof.Gen.Reference2Ideal.Run
public import proofs.«01_k».proof.Proof.FfnWeight.Kernel
public import Idealize.ShloMosaic.Lib.Claim

@[expose] public section

set_option maxRecDepth 16384

noncomputable section

namespace Cert.FfnWeight

open Idealize.ShloMosaic Idealize.ShloMosaic.TcCoe Idealize.SL.Sem

section Ref
open Cert.Reference2Ideal Cert.Reference2Ideal.Value Idealize.ShloMosaic.StableHlo

/-- The reference's result. -/
theorem ref_weight (d : A2 4096 2816) (n : A2 4096 1024) : (truncf .bf16 (pad S4x768x1024 ![0, 0, 0] ![0, 64, 0] ![0, 0, 0]
      (shapeCast _ (transpose S2816x1024 [1, 0] (transpose S1024x2816 [1, 0] (Host.dotGeneral (F := Ideal) (φ₁ := .f32) (φ₂ := .f32)
        dot_S4096x2816_S4096x1024_S2816x1024_0_0_1_1_n_n none (extf (F := Ideal) (φ := .bf16) .f32 d Gen.bitsLt_bf16_f32) (extf (F := Ideal) (φ := .bf16) .f32 n Gen.bitsLt_bf16_f32))
        Gen.transposes_S2816x1024_S1024x2816_1_0) Gen.transposes_S1024x2816_S2816x1024_1_0) Gen.shapeCasts_S2816x1024_S4x704x1024)
      (sitofp (F := Ideal) .f32 (constantI S_ 32 0#32)) Gen.pads_S4x704x1024_S4x768x1024_000_0640_000 Gen.h_S_) Gen.bitsLt_bf16_f32 : A3 4 768 1024)
    = dWeight d n := by
  funext i
  idx_vars i
  unfold dWeight
  pointwise
  refine dite_congr rfl (fun _ => rfl) fun _ => ?_
  show (((0#32).toInt : ℝ) : EReal) = 0
  simp

end Ref

/-- The reference ends with its arguments as they were, and it has no semaphores. -/
theorem frame_reference : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

/-- Equal results: the function of Spec.lean of the arguments. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => dWeight (argD m c) (argN m c), ?_, ?_⟩
  · exact (θ_run _ _ _).mono (fun r h c => ⟨(h c).1.trans (arr2 m c), (h c).2⟩) (Cert.Kernel2Ideal.Value.run_blocks (F := Ideal) m ρ)
  · refine (θ_run _ _ _).mono (fun r h c => ⟨(h c).1.trans ?_, (h c).2⟩) (Cert.Reference2Ideal.Value.run (F := Ideal) m' ρ')
    obtain ⟨h0, h1⟩ := hagree c
    exact (ref_weight _ _).trans (congrArg₂ dWeight h0 h1)

end Cert.FfnWeight

end
-- ==== Proof.Norm.Math.lean ====
/- The root-mean-square norm over 1024 features and its gradient, for one token. The gradient in the closed form that the
   kernels compute is the one that the chain rule gives, at the infinities too: the inverse root is a real number and not
   negative, so it can be taken out of sums and differences. -/
module

public import Idealize.ShloMosaic.Lib.Pipeline.ValueKit

@[expose] public section

noncomputable section

namespace Cert.Norm

open Idealize.ShloMosaic

/-- The number of features, the constant added to the mean square, and minus one half. -/
abbrev width : EReal := Ideal.ofBits FTy.f32 0x44800000#32
abbrev eps : EReal := Ideal.ofBits FTy.f32 0x358637BD#32
abbrev minusHalf : EReal := Ideal.ofBits FTy.f32 0xBF000000#32

theorem width_eq : width = ((1024 : ℝ) : EReal) := by
  simp [width, Ideal.ofBits, Ideal.ieee, ← EReal.coe_mul]
  norm_num

theorem minusHalf_eq : minusHalf = ((-(1 / 2) : ℝ) : EReal) := by
  simp [minusHalf, Ideal.ofBits, Ideal.ieee, -EReal.coe_mul]
  norm_num

theorem eps_pos : ∃ e : ℝ, 0 < e ∧ eps = (e : EReal) := by
  refine ⟨8796093 * 2 ^ (-43 : ℤ), by positivity, ?_⟩
  simp [eps, Ideal.ofBits, Ideal.ieee, ← EReal.coe_mul]
  try norm_num

/-- The mean square of a token's features, the constant added. -/
def meanSq (x : Fin 1024 → EReal) : EReal := Ideal.div (∑ j, x j * x j) width + eps

/-- The inverse root of it. -/
def inv (x : Fin 1024 → EReal) : EReal := Ideal.rsqrt (meanSq x)

/-- The gradient of a token's features through the norm of gains `g`, at the cotangent `d`. -/
def back (x g d : Fin 1024 → EReal) (k : Fin 1024) : EReal :=
  inv x * (d k * g k - x k * inv x * Ideal.div (∑ j, d j * g j * (x j * inv x)) width)

theorem mul_self_nonneg (a : EReal) : 0 ≤ a * a := by
  rcases le_total 0 a with h | h
  · exact EReal.mul_nonneg h h
  · have := EReal.mul_nonneg (EReal.neg_nonneg.mpr h) (EReal.neg_nonneg.mpr h)
    rwa [neg_mul_neg] at this

theorem div_width (a : EReal) : Ideal.div a width = a * ((1 / 1024 : ℝ) : EReal) := by
  rw [width_eq]
  exact Ideal.div_coe (by norm_num) a

/-- The mean square is infinite or a positive real number. -/
theorem meanSq_cases (x : Fin 1024 → EReal) : meanSq x = ⊤ ∨ ∃ r : ℝ, 0 < r ∧ meanSq x = (r : EReal) := by
  obtain ⟨e, he, h⟩ := eps_pos
  unfold meanSq
  rw [h, div_width]
  have hs : 0 ≤ (∑ j, x j * x j) * ((1 / 1024 : ℝ) : EReal) :=
    EReal.mul_nonneg (Finset.sum_nonneg fun j _ => mul_self_nonneg _) (by exact_mod_cast (by norm_num : (0 : ℝ) ≤ 1 / 1024))
  generalize (∑ j, x j * x j) * ((1 / 1024 : ℝ) : EReal) = s at hs
  induction s with
  | bot => exact absurd hs (by decide)
  | top => exact .inl (EReal.top_add_coe e)
  | coe r => exact .inr ⟨r + e, by have : (0 : ℝ) ≤ r := by exact_mod_cast hs
                                   positivity, by norm_cast⟩

/-- The inverse root is a real number, not negative, and its quotient by the mean square is its cube. -/
theorem inv_real (x : Fin 1024 → EReal) : ∃ r : ℝ, 0 ≤ r ∧ inv x = (r : EReal) ∧ Ideal.div (inv x) (meanSq x) = ((r * r * r : ℝ) : EReal) := by
  unfold inv
  rcases meanSq_cases x with h | ⟨v, hv, h⟩
  · refine ⟨0, le_refl _, ?_, ?_⟩
    · rw [h]; simp
    · rw [h]
      simp [Ideal.div]
  · have hs := Real.sqrt_pos.mpr hv
    refine ⟨(Real.sqrt v)⁻¹, by positivity, ?_, ?_⟩
    · rw [h, Ideal.rsqrt_coe, if_neg (not_lt.mpr hv.le), if_neg hv.ne']
    · rw [h, Ideal.rsqrt_coe, if_neg (not_lt.mpr hv.le), if_neg hv.ne', Ideal.div_coe hv.ne', ← EReal.coe_mul]
      congr 1
      have : Real.sqrt v * Real.sqrt v = v := Real.mul_self_sqrt hv.le
      field_simp
      nlinarith [this]

/-- A real factor that is not negative comes out of a sum. -/
theorem sum_mul_coe {ι : Type} (s : Finset ι) (f : ι → EReal) {r : ℝ} (hr : 0 ≤ r) : ∑ j ∈ s, f j * (r : EReal) = (∑ j ∈ s, f j) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem half_add_half (w : EReal) : w * ((-(1 / 2) : ℝ) : EReal) + w * ((-(1 / 2) : ℝ) : EReal) = -w := by
  induction w with
  | bot => rw [EReal.bot_mul_coe_of_neg (by norm_num)]; rfl
  | top => rw [EReal.top_mul_coe_of_neg (by norm_num)]; rfl
  | coe r =>
    rw [← EReal.coe_mul, ← EReal.coe_add, ← EReal.coe_neg]
    congr 1
    ring

/-- The chain rule's form of the gradient, added to the cotangent of the residual. -/
theorem back_eq (x g d : Fin 1024 → EReal) (k : Fin 1024) (dh c : EReal)
    (hc : c = Ideal.div ((∑ j, x j * (d j * g j)) * (minusHalf * Ideal.div (inv x) (meanSq x))) width) :
    dh + d k * g k * inv x + x k * c + c * x k = dh + back x g d k := by
  obtain ⟨r, hr, h, h3⟩ := inv_real x
  unfold back
  rw [h3, div_width, minusHalf_eq] at hc
  rw [h, div_width, show (fun j => d j * g j * (x j * (r : EReal))) = fun j => x j * (d j * g j) * (r : EReal) from
    funext fun j => by rw [← mul_assoc, mul_comm (d j * g j)], sum_mul_coe _ _ hr]
  generalize ∑ j, x j * (d j * g j) = S at hc ⊢
  rw [sub_eq_add_neg, EReal.left_distrib_of_nonneg_of_ne_top (by exact_mod_cast hr) (EReal.coe_ne_top r), add_assoc, add_assoc]
  refine congrArg (dh + ·) (congrArg₂ (· + ·) (mul_comm _ _) ?_)
  have hw : x k * c = x k * (r : EReal) * (S * (r : EReal) * ((1 / 1024 : ℝ) : EReal)) * (r : EReal) * ((-(1 / 2) : ℝ) : EReal) := by
    rw [hc, EReal.coe_mul, EReal.coe_mul]
    ac_rfl
  rw [mul_comm c, hw, half_add_half, mul_neg, mul_comm (r : EReal) (_ * _)]

end Cert.Norm

end
-- ==== Proof.FfnBack.Spec.lean ====
/- The gradient of the feed-forward block's input: through the two products, then through the root-mean-square norm before
   them. -/
module

public import proofs.«01_k».proof.Proof.FfnWeight.Spec
public import proofs.«01_k».proof.Proof.Norm.Math

@[expose] public section

noncomputable section

namespace Cert.FfnBack

open Idealize.ShloMosaic Cert.FfnWeight

/-- The gradient of a token's normalised features, from both products. -/
def dNorm (d u : A2 4096 2816) (wd wu : A2 1024 2816) (t : Fin 4096) (k : Fin 1024) : EReal :=
  ∑ j : Fin 2816, d (ix2 t j) * wd (ix2 k j) + ∑ j : Fin 2816, u (ix2 t j) * wu (ix2 k j)

/-- The gradient of the input: what the residual brings, and what comes back through the norm. -/
def dInput (d u : A2 4096 2816) (wd wu : A2 1024 2816) (dh h : A2 4096 1024) (g : Fin 1024 → EReal) : A2 4096 1024 := fun y =>
  dh y + Norm.back (fun j => h (ix2 (y 0) j)) g (dNorm d u wd wu (y 0)) (y 1)

/-- The gradient of the norm's gains. -/
def dGain (d u : A2 4096 2816) (wd wu : A2 1024 2816) (h : A2 4096 1024) : A2 1 1024 := fun y =>
  ∑ t : Fin 4096, dNorm d u wd wu t (y 1) * (h (ix2 t (y 1)) * Norm.inv fun j => h (ix2 t j))

/-- The sum over the columns, block by block, with the zeros that fill each block. -/
theorem sum_padded (f : Fin 2816 → EReal) :
    ∑ b : Fin 4, ∑ k : Fin 768, (if h : k.val < 704 then f (shardCol b k.val h) else 0) = ∑ j : Fin 2816, f j := by
  rw [← Fin.sum_mul_add_fin 4 704 f]
  refine Finset.sum_congr rfl fun b _ => ?_
  refine (Fin.sum_univ_add (a := 704) (b := 64) fun k => if h : k.val < 704 then f (shardCol b k.val h) else 0).trans ?_
  rw [Finset.sum_eq_zero (s := Finset.univ) (f := fun i : Fin 64 => _) fun i _ => dif_neg (by simp), add_zero]
  exact Finset.sum_congr rfl fun k _ => dif_pos k.isLt

/-- A product of two entries that are zero from 704 on. -/
theorem mul_padded {k : ℕ} (x y : k < 704 → EReal) :
    (if h : k < 704 then x h else 0) * (if h : k < 704 then y h else 0) = if h : k < 704 then x h * y h else 0 := by
  by_cases h : k < 704
  · simp only [dif_pos h]
  · simp only [dif_neg h, zero_mul]

end Cert.FfnBack

end
-- ==== Proof.FfnBack.Block.lean ====
/- What the stored values of the kernel `ffn_bwd_in` are, at an index of a block. -/
module

public import proofs.«01_k».proof.Proof.Gen.Kernel3Ideal.Skeleton
public import proofs.«01_k».proof.Proof.Norm.Math
public import Idealize.ShloMosaic.Lib.Pipeline.ReadBack
public import Idealize.ShloMosaic.Lib.KernelVsHost
public import Idealize.ShloMosaic.Lib.Pipeline.ValueKit

@[expose] public section

set_option maxRecDepth 16384

noncomputable section

namespace Cert.FfnBack

open Cert.Kernel3Ideal Cert.Kernel3Ideal.Gen Idealize.ShloMosaic

/-- A row of 256. -/
abbrev row (h : Vec Ideal S256x1024 .f32) (p : Fin 256) : Fin 1024 → EReal := fun j => h (ix2 p j)

/-- The gains. -/
abbrev gains (g : Vec Ideal S1x1024 .f32) : Fin 1024 → EReal := fun j => g (ix2 0 j)

theorem pay1_apply (i l : Fin 1024) : (k0_pay1 (F := Ideal)) (ix2 i l) = 0 := by
  unfold k0_pay1
  pointwise

/-- The product of one block of columns, added to what the accumulator holds. -/
theorem pay2_apply (a : Vec Ideal S1024x1024 .f32) (d : Vec Ideal S1024x768 .bf16) (w : Vec Ideal S1x768x1024 .bf16) (i l : Fin 1024) :
    k0_pay2 a d w (ix2 i l) = a (ix2 i l) + ∑ k : Fin 768, d (ix2 i k) * w (ix3 0 k l) := by
  unfold k0_pay2
  pointwise
theorem pay3_apply (a : Vec Ideal S1024x1024 .f32) (d : Vec Ideal S1024x768 .bf16) (w : Vec Ideal S1x768x1024 .bf16) (i l : Fin 1024) :
    k0_pay3 a d w (ix2 i l) = a (ix2 i l) + ∑ k : Fin 768, d (ix2 i k) * w (ix3 0 k l) := by
  unfold k0_pay3
  pointwise

/-- The inverse root of a row's mean square. -/
theorem pay7_apply (h : Vec Ideal S256x1024 .f32) (p : Fin 256) : k0_pay7 h (ix2 p 0) = Norm.inv (row h p) := by
  unfold k0_pay7
  pointwise
  rfl

theorem pay8_apply (h : Vec Ideal S256x1024 .f32) (p : Fin 256) (l : Fin 1024) : k0_pay8 h (ix2 p l) = h (ix2 p l) * Norm.inv (row h p) := by
  unfold k0_pay8
  pointwise
  exact congrArg (h (ix2 p l) * ·) (pay7_apply h p)

/-- The gradient of 256 rows. -/
theorem pay9_apply (h : Vec Ideal S256x1024 .f32) (g : Vec Ideal S1x1024 .f32) (a dh : Vec Ideal S256x1024 .f32) (p : Fin 256) (l : Fin 1024) :
    k0_pay9 h g a dh (ix2 p l) = dh (ix2 p l) + Norm.back (row h p) (gains g) (row a p) l := by
  unfold k0_pay9
  pointwise
  unfold Norm.back
  simp only [pay7_apply, pay8_apply]

/-- The other three pieces of 256 rows are computed alike. -/
theorem pay14_eq (h : Vec Ideal S256x1024 .f32) (g : Vec Ideal S1x1024 .f32) (a dh : Vec Ideal S256x1024 .f32) :
    k0_pay14 h (k0_pay11 g) a dh = k0_pay9 h g a dh := rfl
theorem pay20_eq (h : Vec Ideal S256x1024 .f32) (g : Vec Ideal S1x1024 .f32) (a dh : Vec Ideal S256x1024 .f32) :
    k0_pay20 h (k0_pay16 g) a (k0_pay17 h) (Scalar.ofBits .f32 0x358637BD#32) dh = k0_pay9 h g a dh := rfl
theorem pay4_eq (h : Vec Ideal S256x1024 .f32) (g : Vec Ideal S1x1024 .f32) (a dh : Vec Ideal S256x1024 .f32) :
    k0_pay4 (k0_pay22 h) (k0_pay23 h) (k0_pay24 g a) (k0_pay25 h g a) dh = k0_pay9 h g a dh := rfl

/-- What 256 rows give to the gradient of the gains. -/
def gPart (h a : Vec Ideal S256x1024 .f32) (l : Fin 1024) : EReal := ∑ p : Fin 256, a (ix2 p l) * (h (ix2 p l) * Norm.inv (row h p))

theorem pay10_apply (h a : Vec Ideal S256x1024 .f32) (l : Fin 1024) : k0_pay10 h a (ix2 0 l) = gPart h a l := by
  unfold k0_pay10
  pointwise
  simp only [pay8_apply]
  rfl
theorem pay15_apply (v : Vec Ideal S1x1024 .f32) (h a : Vec Ideal S256x1024 .f32) (l : Fin 1024) :
    k0_pay15 v h a (ix2 0 l) = v (ix2 0 l) + gPart h a l := by
  unfold k0_pay15
  pointwise
  simp only [show k0_pay13 h = k0_pay8 h from rfl, pay8_apply]
  rfl
theorem pay21_apply (v : Vec Ideal S1x1024 .f32) (h a : Vec Ideal S256x1024 .f32) (l : Fin 1024) :
    k0_pay21 v h a (k0_pay17 h) (Scalar.ofBits .f32 0x358637BD#32) (ix2 0 l) = v (ix2 0 l) + gPart h a l :=
  pay15_apply v h a l
theorem pay5_apply (v : Vec Ideal S1x1024 .f32) (h a : Vec Ideal S256x1024 .f32) (l : Fin 1024) :
    k0_pay5 v a (k0_pay23 h) (ix2 0 l) = v (ix2 0 l) + gPart h a l :=
  pay15_apply v h a l
theorem pay6_apply (v : Vec Ideal S1x1024 .f32) (h a : Vec Ideal S256x1024 .f32) (o : Vec Ideal S1x1024 .f32) (l : Fin 1024) :
    k0_pay6 v a (k0_pay23 h) o (ix2 0 l) = o (ix2 0 l) + (v (ix2 0 l) + gPart h a l) := by
  unfold k0_pay6
  pointwise
  exact congrArg (o (ix2 0 l) + ·) (pay5_apply v h a l)

/-- The gradient of a block of 1024 rows. -/
def outBlock (h : Vec Ideal S1024x1024 .f32) (g : Vec Ideal S1x1024 .f32) (a dh : Vec Ideal S1024x1024 .f32) (y : S1024x1024.Idx) : EReal :=
  dh y + Norm.back (fun j => h (ix2 (y 0) j)) (gains g) (fun j => a (ix2 (y 0) j)) (y 1)

/-- What a block of 1024 rows gives to the gradient of the gains. -/
def gBlock (h a : Vec Ideal S1024x1024 .f32) (l : Fin 1024) : EReal :=
  ∑ i : Fin 1024, a (ix2 i l) * (h (ix2 i l) * Norm.inv fun j => h (ix2 i j))

theorem emb_row (o : ℕ) (ho : o + 256 ≤ 1024) (inb) (p : Fin 256) (l : Fin 1024) :
    (Rect.unit (s := S1024x1024) ![o, 0] ![256, 1024] inb).emb (ix2 p l) = ix2 (⟨o + p.val, by omega⟩ : Fin 1024) l := by
  funext a
  exact Fin.ext (match a with
    | ⟨0, _⟩ => (show o + 1 * p.val = o + p.val by omega)
    | ⟨1, _⟩ => (show 0 + 1 * l.val = l.val by omega))

theorem ld_row (o : ℕ) (ho : o + 256 ≤ 1024) (inb) (X : Vec Ideal S1024x1024 .f32) (p : Fin 256) (l : Fin 1024) :
    View.ld X (Rect.unit (s := S1024x1024) ![o, 0] ![256, 1024] inb) (ix2 p l) = X (ix2 (⟨o + p.val, by omega⟩ : Fin 1024) l) :=
  congrArg X (emb_row o ho inb p l)

theorem mem_row (o : ℕ) (inb) (i l : Fin 1024) (h : o ≤ i.val) (h' : i.val < o + 256) :
    ix2 i l ∈ (Rect.unit (s := S1024x1024) ![o, 0] ![256, 1024] inb).set := by
  rw [Rect.mem_set_unit]
  intro a
  match a with
  | ⟨0, _⟩ => exact ⟨h, h'⟩
  | ⟨1, _⟩ => exact ⟨Nat.zero_le _, show l.val < 0 + 1024 by omega⟩

theorem piece (o : ℕ) (ho : o + 256 ≤ 1024) (inb) (h : Vec Ideal S1024x1024 .f32) (g : Vec Ideal S1x1024 .f32) (a dh : Vec Ideal S1024x1024 .f32)
    (x : S256x1024.Idx) :
    k0_pay9 (View.ld h (Rect.unit (s := S1024x1024) ![o, 0] ![256, 1024] inb)) g (View.ld a (Rect.unit (s := S1024x1024) ![o, 0] ![256, 1024] inb))
      (View.ld dh (Rect.unit (s := S1024x1024) ![o, 0] ![256, 1024] inb)) x
      = outBlock h g a dh ((Rect.unit (s := S1024x1024) ![o, 0] ![256, 1024] inb).emb x) := by
  idx_vars x
  refine (pay9_apply _ _ _ _ _ _).trans ?_
  refine Eq.trans ?_ (congrArg (outBlock h g a dh) (emb_row o ho inb x0 x1).symm)
  unfold outBlock
  rw [ld_row o ho, show row (View.ld h (Rect.unit (s := S1024x1024) ![o, 0] ![256, 1024] inb)) x0 = _ from funext fun j => ld_row o ho inb h x0 j,
    show row (View.ld a (Rect.unit (s := S1024x1024) ![o, 0] ![256, 1024] inb)) x0 = _ from funext fun j => ld_row o ho inb a x0 j]
  rfl

theorem gPiece (o : ℕ) (ho : o + 256 ≤ 1024) (inb) (h a : Vec Ideal S1024x1024 .f32) (l : Fin 1024) :
    gPart (View.ld h (Rect.unit (s := S1024x1024) ![o, 0] ![256, 1024] inb)) (View.ld a (Rect.unit (s := S1024x1024) ![o, 0] ![256, 1024] inb)) l
      = ∑ p : Fin 256, a (ix2 (⟨o + p.val, by omega⟩ : Fin 1024) l) * (h (ix2 (⟨o + p.val, by omega⟩ : Fin 1024) l)
        * Norm.inv fun j => h (ix2 (⟨o + p.val, by omega⟩ : Fin 1024) j)) := by
  unfold gPart
  refine Finset.sum_congr rfl fun p _ => ?_
  rw [ld_row o ho, ld_row o ho, show row (View.ld h (Rect.unit (s := S1024x1024) ![o, 0] ![256, 1024] inb)) p = _ from funext fun j => ld_row o ho inb h p j]

theorem pieces (h : Vec Ideal S1024x1024 .f32) (g : Vec Ideal S1x1024 .f32) (a dh : Vec Ideal S1024x1024 .f32) (i l : Fin 1024) :
    View.canon (Val := Elt Ideal) (s := S1024x1024) (e := .f32)
      [⟨Rect.unit ![768, 0] ![256, 1024] inb_S1024x1024_S256x1024_768_0,
          k0_pay9 (F := Ideal) (View.ld h (Rect.unit ![768, 0] ![256, 1024] inb_S1024x1024_S256x1024_768_0)) g (View.ld a (Rect.unit ![768, 0] ![256, 1024] inb_S1024x1024_S256x1024_768_0))
             (View.ld dh (Rect.unit ![768, 0] ![256, 1024] inb_S1024x1024_S256x1024_768_0))⟩,
       ⟨Rect.unit ![512, 0] ![256, 1024] inb_S1024x1024_S256x1024_512_0,
          k0_pay9 (View.ld h (Rect.unit ![512, 0] ![256, 1024] inb_S1024x1024_S256x1024_512_0)) g (View.ld a (Rect.unit ![512, 0] ![256, 1024] inb_S1024x1024_S256x1024_512_0))
             (View.ld dh (Rect.unit ![512, 0] ![256, 1024] inb_S1024x1024_S256x1024_512_0))⟩,
       ⟨Rect.unit ![256, 0] ![256, 1024] inb_S1024x1024_S256x1024_256_0,
          k0_pay9 (View.ld h (Rect.unit ![256, 0] ![256, 1024] inb_S1024x1024_S256x1024_256_0)) g (View.ld a (Rect.unit ![256, 0] ![256, 1024] inb_S1024x1024_S256x1024_256_0))
             (View.ld dh (Rect.unit ![256, 0] ![256, 1024] inb_S1024x1024_S256x1024_256_0))⟩,
       ⟨Rect.unit ![0, 0] ![256, 1024] inb_S1024x1024_S256x1024_0_0,
          k0_pay9 (View.ld h (Rect.unit ![0, 0] ![256, 1024] inb_S1024x1024_S256x1024_0_0)) g (View.ld a (Rect.unit ![0, 0] ![256, 1024] inb_S1024x1024_S256x1024_0_0))
             (View.ld dh (Rect.unit ![0, 0] ![256, 1024] inb_S1024x1024_S256x1024_0_0))⟩] (ix2 i l) =
     outBlock h g a dh (ix2 i l) := by
  refine View.canon_apply_of_pieces (Val := Elt Ideal) (e := .f32) (outBlock h g a dh) _ (fun p hp => ?_) _ ?_
  · simp only [List.mem_cons, List.not_mem_nil, or_false] at hp
    rcases hp with rfl | rfl | rfl | rfl
    · exact piece 768 (by norm_num) _ h g a dh
    · exact piece 512 (by norm_num) _ h g a dh
    · exact piece 256 (by norm_num) _ h g a dh
    · exact piece 0 (by norm_num) _ h g a dh
  · rcases (show i.val / 256 = 0 ∨ i.val / 256 = 1 ∨ i.val / 256 = 2 ∨ i.val / 256 = 3 by omega) with hi | hi | hi | hi
    · exact ⟨_, .tail _ (.tail _ (.tail _ (.head _))), mem_row 0 inb_S1024x1024_S256x1024_0_0 i l (by omega) (by omega)⟩
    · exact ⟨_, .tail _ (.tail _ (.head _)), mem_row 256 inb_S1024x1024_S256x1024_256_0 i l (by omega) (by omega)⟩
    · exact ⟨_, .tail _ (.head _), mem_row 512 inb_S1024x1024_S256x1024_512_0 i l (by omega) (by omega)⟩
    · exact ⟨_, .head _, mem_row 768 inb_S1024x1024_S256x1024_768_0 i l (by omega) (by omega)⟩

/-- The four pieces' sums together. -/
theorem gSum (h a : Vec Ideal S1024x1024 .f32) (l : Fin 1024) :
    gPart (View.ld h (Rect.unit ![0, 0] ![256, 1024] inb_S1024x1024_S256x1024_0_0)) (View.ld a (Rect.unit ![0, 0] ![256, 1024] inb_S1024x1024_S256x1024_0_0)) l
    + gPart (View.ld h (Rect.unit ![256, 0] ![256, 1024] inb_S1024x1024_S256x1024_256_0)) (View.ld a (Rect.unit ![256, 0] ![256, 1024] inb_S1024x1024_S256x1024_256_0)) l
    + gPart (View.ld h (Rect.unit ![512, 0] ![256, 1024] inb_S1024x1024_S256x1024_512_0)) (View.ld a (Rect.unit ![512, 0] ![256, 1024] inb_S1024x1024_S256x1024_512_0)) l
    + gPart (View.ld h (Rect.unit ![768, 0] ![256, 1024] inb_S1024x1024_S256x1024_768_0)) (View.ld a (Rect.unit ![768, 0] ![256, 1024] inb_S1024x1024_S256x1024_768_0)) l
    = gBlock h a l := by
  rw [gPiece 0 (by norm_num), gPiece 256 (by norm_num), gPiece 512 (by norm_num), gPiece 768 (by norm_num)]
  unfold gBlock
  refine Eq.trans ?_ (Fin.sum_mul_add_fin 4 256 (fun i : Fin 1024 => (a (ix2 i l) * (h (ix2 i l) * Norm.inv fun j => h (ix2 i j)) : EReal)))
  rw [Fin.sum_univ_four]
  rfl
end Cert.FfnBack

end
-- ==== Proof.FfnBack.Points.lean ====
/- What the kernel `ffn_bwd_in` leaves at each grid point: point `4 a + b` adds column block `b` to the accumulator of row
   block `a`, and the last point of a row block writes the gradients. -/
module

public import proofs.«01_k».proof.Proof.Gen.Kernel3Ideal.Value
public import proofs.«01_k».proof.Proof.FfnBack.Block
public import Idealize.ShloMosaic.Lib.Pipeline.ReadBack
public import Idealize.ShloMosaic.Lib.KernelVsHost
public import Idealize.ShloMosaic.Lib.Pipeline.ValueKit

@[expose] public section

set_option maxRecDepth 16384

noncomputable section

namespace Cert.FfnBack

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The accumulator after a point that does not start a row block. -/
abbrev accStep (t : Fin cfg0.N) : Vec Ideal S1024x1024 .f32 :=
  k0_pay3 (k0_pay2 (outsAt0 m c (t.val - 1) (Nat.lt_of_le_of_lt (Nat.sub_le _ _) t.isLt)).2.2 (iblk m c 0 t) (iblk m c 2 t))
    (iblk m c 1 t) (iblk m c 3 t)

theorem acc_A (t : Fin cfg0.N) (h0 : t.val % 4 = 0) :
    (outsAt0 m c t.val t.isLt).2.2 = k0_pay3 (k0_pay2 k0_pay1 (iblk m c 0 t) (iblk m c 2 t)) (iblk m c 1 t) (iblk m c 3 t) := by
  rw [outsAt0_A m c t h0 (by omega)]
  dsimp only
  frame_open
  simp (disch := decide) only [↓ View.readCov_skip, ↓ View.readCov_cons_toLoadRect, ↓ View.readCov_fill]
  frame_out

theorem acc_B (t : Fin cfg0.N) (h0 : ¬t.val % 4 = 0) (h1 : ¬t.val % 4 = 3) : (outsAt0 m c t.val t.isLt).2.2 = accStep m c t := by
  rw [outsAt0_B m c t h0 h1]
  dsimp only
  frame_open
  simp (disch := decide) only [↓ View.readCov_skip, ↓ View.readCov_cons_toLoadRect, ↓ View.readCov_fill]
  frame_out
  simp only [read_unread_whole]

theorem acc_C (t : Fin cfg0.N) (h0 : ¬t.val % 4 = 0) (h1 : t.val % 4 = 3) (h2 : t.val < 4) (h3 : ¬4 ≤ t.val) :
    (outsAt0 m c t.val t.isLt).2.2 = accStep m c t := by
  rw [outsAt0_C m c t h0 h1 h2 h3]
  dsimp only
  frame_open
  simp (disch := decide) only [↓ View.readCov_skip, ↓ View.readCov_cons_toLoadRect, ↓ View.readCov_fill]
  frame_out
  simp only [read_unread_whole]

theorem acc_D (t : Fin cfg0.N) (h0 : ¬t.val % 4 = 0) (h1 : t.val % 4 = 3) (h2 : ¬t.val < 4) (h3 : 4 ≤ t.val) :
    (outsAt0 m c t.val t.isLt).2.2 = accStep m c t := by
  rw [outsAt0_D m c t h0 h1 h2 h3]
  dsimp only
  frame_open
  simp (disch := decide) only [↓ View.readCov_skip, ↓ View.readCov_cons_toLoadRect, ↓ View.readCov_fill]
  frame_out
  simp only [read_unread_whole]

theorem acc_step (t : Fin cfg0.N) (h0 : ¬t.val % 4 = 0) : (outsAt0 m c t.val t.isLt).2.2 = accStep m c t := by
  by_cases h1 : t.val % 4 = 3
  · by_cases h2 : t.val < 4
    · exact acc_C m c t h0 h1 h2 (by omega)
    · exact acc_D m c t h0 h1 h2 (by omega)
  · exact acc_B m c t h0 h1

/-- The input's gradient at the last point of a row block. -/
theorem out_C (t : Fin cfg0.N) (h0 : ¬t.val % 4 = 0) (h1 : t.val % 4 = 3) (h2 : t.val < 4) (h3 : ¬4 ≤ t.val) (i l : Fin 1024) :
    (outsAt0 m c t.val t.isLt).1 (ix2 i l) = outBlock (iblk m c 5 t) (iblk m c 6 t) (accStep m c t) (iblk m c 4 t) (ix2 i l) := by
  rw [outsAt0_C m c t h0 h1 h2 h3]
  dsimp only
  frame_open
  simp (disch := decide) only [↓ View.readCov_skip, ↓ View.readCov_cons_toLoadRect, ↓ View.readCov_fill]
  frame_out
  simp only [read_unread_whole, pay4_eq, pay14_eq, pay20_eq]
  exact pieces (iblk m c 5 t) (iblk m c 6 t) (accStep m c t) (iblk m c 4 t) i l

theorem out_D (t : Fin cfg0.N) (h0 : ¬t.val % 4 = 0) (h1 : t.val % 4 = 3) (h2 : ¬t.val < 4) (h3 : 4 ≤ t.val) (i l : Fin 1024) :
    (outsAt0 m c t.val t.isLt).1 (ix2 i l) = outBlock (iblk m c 5 t) (iblk m c 6 t) (accStep m c t) (iblk m c 4 t) (ix2 i l) := by
  rw [outsAt0_D m c t h0 h1 h2 h3]
  dsimp only
  frame_open
  simp (disch := decide) only [↓ View.readCov_skip, ↓ View.readCov_cons_toLoadRect, ↓ View.readCov_fill]
  frame_out
  simp only [read_unread_whole, pay4_eq, pay14_eq, pay20_eq]
  exact pieces (iblk m c 5 t) (iblk m c 6 t) (accStep m c t) (iblk m c 4 t) i l

theorem out_last (t : Fin cfg0.N) (h1 : t.val % 4 = 3) (i l : Fin 1024) :
    (outsAt0 m c t.val t.isLt).1 (ix2 i l)
      = outBlock (iblk m c 5 t) (iblk m c 6 t) (outsAt0 m c t.val t.isLt).2.2 (iblk m c 4 t) (ix2 i l) := by
  rw [acc_step m c t (by omega)]
  by_cases h2 : t.val < 4
  · exact out_C m c t (by omega) h1 h2 (by omega) i l
  · exact out_D m c t (by omega) h1 h2 (by omega) i l

/-- The gains' gradient: the first row block starts it, each later one adds to it, and no other point changes it. -/
theorem gain_first (t : Fin cfg0.N) (h1 : t.val % 4 = 3) (h2 : t.val < 4) (l : Fin 1024) :
    (outsAt0 m c t.val t.isLt).2.1 (ix2 0 l) = gBlock (iblk m c 5 t) (outsAt0 m c t.val t.isLt).2.2 l := by
  rw [acc_step m c t (by omega), outsAt0_C m c t (by omega) h1 h2 (by omega)]
  dsimp only
  frame_open
  simp (disch := decide) only [↓ View.readCov_skip, ↓ View.readCov_cons_toLoadRect, ↓ View.readCov_fill]
  frame_out
  simp only [read_unread_whole]
  refine Eq.trans ?_ (gSum (iblk m c 5 t) (accStep m c t) l)
  refine (pay5_apply _ _ _ _).trans (congrArg (· + _) ?_)
  refine (pay21_apply _ _ _ _).trans (congrArg (· + _) ?_)
  refine (pay15_apply _ _ _ _).trans (congrArg (· + _) ?_)
  exact pay10_apply _ _ _

theorem gain_add (t : Fin cfg0.N) (h1 : t.val % 4 = 3) (h2 : ¬t.val < 4) (l : Fin 1024) :
    (outsAt0 m c t.val t.isLt).2.1 (ix2 0 l) = (outsAt0 m c (t.val - 1) (Nat.lt_of_le_of_lt (Nat.sub_le _ _) t.isLt)).2.1 (ix2 0 l)
      + gBlock (iblk m c 5 t) (outsAt0 m c t.val t.isLt).2.2 l := by
  rw [acc_step m c t (by omega), outsAt0_D m c t (by omega) h1 h2 (by omega)]
  dsimp only
  frame_open
  simp (disch := decide) only [↓ View.readCov_skip, ↓ View.readCov_cons_toLoadRect, ↓ View.readCov_fill]
  frame_out
  simp only [read_unread_whole]
  refine (pay6_apply _ _ _ _ _).trans (congrArg (_ + ·) ?_)
  refine Eq.trans ?_ (gSum (iblk m c 5 t) (accStep m c t) l)
  refine congrArg (· + _) ?_
  refine (pay21_apply _ _ _ _).trans (congrArg (· + _) ?_)
  refine (pay15_apply _ _ _ _).trans (congrArg (· + _) ?_)
  exact pay10_apply _ _ _

theorem gain_keep (t : Fin cfg0.N) (h1 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 h1]
    rfl
  · rw [outsAt0_B m c t h0 h1]
    rfl

end Cert.FfnBack

end
-- ==== Proof.FfnBack.Kernel.lean ====
/- What the kernel `ffn_bwd_in` leaves in its two result arrays. -/
module

public import proofs.«01_k».proof.Proof.FfnBack.Spec
public import proofs.«01_k».proof.Proof.FfnBack.Points

@[expose] public section

set_option maxRecDepth 16384

noncomputable section

namespace Cert.FfnBack

open Cert.FfnWeight (A2 A3 shardCol)
open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The arguments: the gradients of the two products, their weights, the residual's cotangent, the input, the gains. -/
abbrev argD : A2 4096 2816 := m ((c : Thread nD τ).loc main_arg0)
abbrev argU : A2 4096 2816 := m ((c : Thread nD τ).loc main_arg1)
abbrev argWd : A2 1024 2816 := m ((c : Thread nD τ).loc main_arg2)
abbrev argWu : A2 1024 2816 := m ((c : Thread nD τ).loc main_arg3)
abbrev argDh : A2 4096 1024 := m ((c : Thread nD τ).loc main_arg4)
abbrev argH : A2 4096 1024 := m ((c : Thread nD τ).loc main_arg5)
abbrev argG : Fin 1024 → EReal := fun l => (m ((c : Thread nD τ).loc main_arg6) : (⟨1, ![1024]⟩ : Shape).Idx → EReal) (ix1 l)

/-- Where each window's block stands at a grid point. -/
theorem idx : ∀ t : Fin grid0.N, win0_0.index t = ![t.val / 4, t.val % 4] ∧ win0_1.index t = ![t.val / 4, t.val % 4]
    ∧ win0_2.index t = ![t.val % 4, 0, 0] ∧ win0_3.index t = ![t.val % 4, 0, 0] ∧ win0_4.index t = ![t.val / 4, 0]
    ∧ win0_5.index t = ![t.val / 4, 0] ∧ win0_6.index t = ![0, 0] ∧ win0_7.index t = ![t.val / 4, 0] ∧ win0_8.index t = ![0, 0] := by
  decide +kernel

/-- The arguments as the host code prepares them. -/
theorem padded_d (i : Fin 4096) (b : Fin 4) (k : Fin 768) :
    V m c main_v3 (ix2 i ⟨b.val * 768 + k.val, by omega⟩) = if h : k.val < 704 then argD m c (ix2 i (shardCol b k.val h)) else 0 := by
  unfold V
  simp only [List.flatten_cons, List.flatten_nil, hostOps0, List.cons_append, List.nil_append, List.append_nil]
  entry_read
  pointwise
theorem padded_u (i : Fin 4096) (b : Fin 4) (k : Fin 768) :
    V m c main_v7 (ix2 i ⟨b.val * 768 + k.val, by omega⟩) = if h : k.val < 704 then argU m c (ix2 i (shardCol b k.val h)) else 0 := by
  unfold V
  simp only [List.flatten_cons, List.flatten_nil, hostOps0, List.cons_append, List.nil_append, List.append_nil]
  entry_read
  pointwise
theorem padded_wd (b : Fin 4) (k : Fin 768) (l : Fin 1024) :
    V m c main_v11 (ix3 b k l) = if h : k.val < 704 then argWd m c (ix2 l (shardCol b k.val h)) else 0 := by
  unfold V
  simp only [List.flatten_cons, List.flatten_nil, hostOps0, List.cons_append, List.nil_append, List.append_nil]
  entry_read
  pointwise
theorem padded_wu (b : Fin 4) (k : Fin 768) (l : Fin 1024) :
    V m c main_v15 (ix3 b k l) = if h : k.val < 704 then argWu m c (ix2 l (shardCol b k.val h)) else 0 := by
  unfold V
  simp only [List.flatten_cons, List.flatten_nil, hostOps0, List.cons_append, List.nil_append, List.append_nil]
  entry_read
  pointwise
theorem gains_row (l : Fin 1024) : V m c main_v16 (ix2 0 l) = argG m c l := by
  unfold V
  simp only [List.flatten_cons, List.flatten_nil, hostOps0, List.cons_append, List.nil_append, List.append_nil]
  entry_read
  pointwise

/-- The blocks at point `4 a + b`. -/
abbrev pt (a b : Fin 4) : Fin cfg0.N := ⟨4 * a.val + b.val, show 4 * a.val + b.val < 16 by omega⟩
abbrev rowOf (a : Fin 4) (i : Fin 1024) : Fin 4096 := ⟨a.val * 1024 + i.val, by omega⟩

theorem blk_d (a b : Fin 4) (i : Fin 1024) (k : Fin 768) :
    iblk m c 0 (pt a b) (ix2 i k) = if h : k.val < 704 then argD m c (ix2 (rowOf a i) (shardCol b k.val h)) else 0 := by
  refine Eq.trans ?_ (padded_d m c (rowOf a i) b k)
  blk_ext [iblk, idx (pt a b)]
theorem blk_u (a b : Fin 4) (i : Fin 1024) (k : Fin 768) :
    iblk m c 1 (pt a b) (ix2 i k) = if h : k.val < 704 then argU m c (ix2 (rowOf a i) (shardCol b k.val h)) else 0 := by
  refine Eq.trans ?_ (padded_u m c (rowOf a i) b k)
  blk_ext [iblk, idx (pt a b)]
theorem blk_wd (a b : Fin 4) (k : Fin 768) (l : Fin 1024) :
    iblk m c 2 (pt a b) (ix3 0 k l) = if h : k.val < 704 then argWd m c (ix2 l (shardCol b k.val h)) else 0 := by
  refine Eq.trans ?_ (padded_wd m c b k l)
  blk_ext [iblk, idx (pt a b)]
theorem blk_wu (a b : Fin 4) (k : Fin 768) (l : Fin 1024) :
    iblk m c 3 (pt a b) (ix3 0 k l) = if h : k.val < 704 then argWu m c (ix2 l (shardCol b k.val h)) else 0 := by
  refine Eq.trans ?_ (padded_wu m c b k l)
  blk_ext [iblk, idx (pt a b)]
theorem blk_dh (a b : Fin 4) (i l : Fin 1024) : iblk m c 4 (pt a b) (ix2 i l) = argDh m c (ix2 (rowOf a i) l) := by
  blk_ext [iblk, V, idx (pt a b)]
theorem blk_h (a b : Fin 4) (i l : Fin 1024) : iblk m c 5 (pt a b) (ix2 i l) = argH m c (ix2 (rowOf a i) l) := by
  blk_ext [iblk, V, idx (pt a b)]
theorem blk_g (a b : Fin 4) (l : Fin 1024) : iblk m c 6 (pt a b) (ix2 0 l) = argG m c l := by
  refine Eq.trans ?_ (gains_row m c l)
  blk_ext [iblk, idx (pt a b)]

/-- What one point adds to the accumulator. -/
def products (d u : Vec Ideal S1024x768 .bf16) (wd wu : Vec Ideal S1x768x1024 .bf16) (y : S1024x1024.Idx) : EReal :=
  ∑ k : Fin 768, d (ix2 (y 0) k) * wd (ix3 0 k (y 1)) + ∑ k : Fin 768, u (ix2 (y 0) k) * wu (ix3 0 k (y 1))

theorem products_congr (d u : Vec Ideal S1024x768 .bf16) (wd wu : Vec Ideal S1x768x1024 .bf16) (i l : Fin 1024) (d' wd' u' wu' : Fin 768 → EReal)
    (hd : ∀ k, d (ix2 i k) = d' k) (hwd : ∀ k, wd (ix3 0 k l) = wd' k) (hu : ∀ k, u (ix2 i k) = u' k) (hwu : ∀ k, wu (ix3 0 k l) = wu' k) :
    products d u wd wu (ix2 i l) = ∑ k, d' k * wd' k + ∑ k, u' k * wu' k :=
  congrArg₂ (· + ·) (Finset.sum_congr rfl fun k _ => congrArg₂ (· * ·) (hd k) (hwd k))
    (Finset.sum_congr rfl fun k _ => congrArg₂ (· * ·) (hu k) (hwu k))

abbrev term (t : Fin cfg0.N) : S1024x1024.Idx → EReal := products (iblk m c 0 t) (iblk m c 1 t) (iblk m c 2 t) (iblk m c 3 t)

theorem acc_sum (t : Fin cfg0.N) (h1 : t.val % 4 = 3) (y : S1024x1024.Idx) :
    (outsAt0 m c t.val t.isLt).2.2 y = ∑ s : Fin 4, term m c ⟨4 * (t.val / 4) + s.val, Pipeline.run_point_lt_of_flush t h1 s⟩ y := by
  refine (Pipeline.eq_sum_fin_of_reset_step_apply_of_flush (M := EReal) (fun n h => (outsAt0 m c n h).2.2) 4 (fun _ => 0) (term m c)
    (fun t h y => ?_) (fun t h y => ?_) t h1 y).trans (zero_add _)
  · idx_vars y
    refine (congrFun (acc_A m c t h) _).trans ?_
    refine (pay3_apply _ _ _ _ _).trans ((congrArg (· + _) (pay2_apply _ _ _ _ _)).trans ?_)
    exact (congrArg (fun z : EReal => z + _ + _) (pay1_apply _ _)).trans (add_assoc (G := EReal) _ _ _)
  · idx_vars y
    refine (congrFun (acc_step m c t h) _).trans ?_
    refine (pay3_apply _ _ _ _ _).trans ((congrArg (· + _) (pay2_apply _ _ _ _ _)).trans ?_)
    exact add_assoc (G := EReal) _ _ _

/-- One column block of the two products. -/
theorem term_eq (a b : Fin 4) (i l : Fin 1024) : term m c (pt a b) (ix2 i l)
    = (∑ k : Fin 768, if h : k.val < 704 then argD m c (ix2 (rowOf a i) (shardCol b k.val h)) * argWd m c (ix2 l (shardCol b k.val h)) else 0)
      + ∑ k : Fin 768, if h : k.val < 704 then argU m c (ix2 (rowOf a i) (shardCol b k.val h)) * argWu m c (ix2 l (shardCol b k.val h)) else 0 :=
  (products_congr _ _ _ _ i l _ _ _ _ (blk_d m c a b i) (fun k => blk_wd m c a b k l) (blk_u m c a b i) (fun k => blk_wu m c a b k l)).trans
    (congrArg₂ (· + ·) (Finset.sum_congr rfl fun k _ => mul_padded _ _) (Finset.sum_congr rfl fun k _ => mul_padded _ _))

/-- The accumulator at the last point of a row block. -/
theorem acc_last (a : Fin 4) (i l : Fin 1024) : (outsAt0 m c (pt a 3).val (pt a 3).isLt).2.2 (ix2 i l)
    = dNorm (argD m c) (argU m c) (argWd m c) (argWu m c) (rowOf a i) l := by
  refine (acc_sum m c (pt a 3) (show (4 * a.val + 3) % 4 = 3 by omega) _).trans ?_
  refine (Finset.sum_congr rfl fun s _ => ((congrArg (fun t => term m c t (ix2 i l))
    (show _ = pt a s from Fin.ext (show 4 * ((4 * a.val + 3) / 4) + s.val = 4 * a.val + s.val by omega))).trans (term_eq m c a s i l))).trans ?_
  rw [Finset.sum_add_distrib]
  exact congrArg₂ (· + ·) (sum_padded fun j => argD m c (ix2 (rowOf a i) j) * argWd m c (ix2 l j))
    (sum_padded fun j => argU m c (ix2 (rowOf a i) j) * argWu m c (ix2 l j))

/-- The gradient of the input at the last point of a row block. -/
theorem out_block (a : Fin 4) (i l : Fin 1024) : (outsAt0 m c (pt a 3).val (pt a 3).isLt).1 (ix2 i l)
    = dInput (argD m c) (argU m c) (argWd m c) (argWu m c) (argDh m c) (argH m c) (argG m c) (ix2 (rowOf a i) l) := by
  refine (out_last m c (pt a 3) (show (4 * a.val + 3) % 4 = 3 by omega) i l).trans ?_
  exact congrArg₂ (· + ·) (blk_dh m c a 3 i l) (congrFun (congr (congrArg₂ Norm.back (funext fun j => blk_h m c a 3 i j)
    (funext fun j => blk_g m c a 3 j)) (funext fun j => acc_last m c a i j)) l)

theorem arr7 : (dats m 0 c).arrAt 7 (cfgs 0).N
    = dInput (argD m c) (argU m c) (argWd m c) (argWu m c) (argDh m c) (argH m c) (argG m c) := by
  refine (dats m 0 c).arrAt_eq_of_covers 7 _ (by decide +kernel) fun t hf y => ?_
  have ht : t.val % 4 = 3 := (flush0_7 t).mp hf
  obtain ⟨a, rfl⟩ : ∃ a : Fin 4, t = pt a 3 := ⟨⟨t.val / 4, by have : t.val < 16 := t.isLt; omega⟩, Fin.ext (show t.val = 4 * (t.val / 4) + 3 by omega)⟩
  blk_simp
  rw [after0_7]
  idx_vars y
  refine (out_block m c a y0 y1).trans (congrArg _ ?_)
  blk_ext [idx (pt a 3)]

/-- What a row block gives to the gains' gradient. -/
theorem gain_block (a : Fin 4) (l : Fin 1024) : gBlock (iblk m c 5 (pt a 3)) (outsAt0 m c (pt a 3).val (pt a 3).isLt).2.2 l
    = ∑ i : Fin 1024, dNorm (argD m c) (argU m c) (argWd m c) (argWu m c) (rowOf a i) l
        * (argH m c (ix2 (rowOf a i) l) * Norm.inv fun j => argH m c (ix2 (rowOf a i) j)) :=
  Finset.sum_congr rfl fun i _ => congrArg₂ (· * ·) (acc_last m c a i l) (congrArg₂ (· * ·) (blk_h m c a 3 i l)
    (congrArg Norm.inv (funext fun j => blk_h m c a 3 i j)))

/-- From the last point of a row block to the one before the last of the next nothing changes. -/
theorem gain_carry (a : ℕ) (ha : a < 3) (l : Fin 1024) (h : 4 * a + 3 < cfg0.N) (h' : 4 * a + 6 < cfg0.N) :
    (outsAt0 m c (4 * a + 6) h').2.1 (ix2 0 l) = (outsAt0 m c (4 * a + 3) h).2.1 (ix2 0 l) := by
  have h4 : 4 * a + 4 < cfg0.N := by omega
  have h5 : 4 * a + 5 < cfg0.N := by omega
  exact congrFun ((gain_keep m c ⟨4 * a + 6, h'⟩ (show ¬(4 * a + 6) % 4 = 3 by omega)).trans
    ((gain_keep m c ⟨4 * a + 5, h5⟩ (show ¬(4 * a + 5) % 4 = 3 by omega)).trans
      (gain_keep m c ⟨4 * a + 4, h4⟩ (show ¬(4 * a + 4) % 4 = 3 by omega)))) _

theorem gain_next (a : ℕ) (ha : a < 3) (l : Fin 1024) : (outsAt0 m c (pt ⟨a + 1, by omega⟩ 3).val (pt ⟨a + 1, by omega⟩ 3).isLt).2.1 (ix2 0 l)
    = (outsAt0 m c (pt ⟨a, by omega⟩ 3).val (pt ⟨a, by omega⟩ 3).isLt).2.1 (ix2 0 l)
      + gBlock (iblk m c 5 (pt ⟨a + 1, by omega⟩ 3)) (outsAt0 m c (pt ⟨a + 1, by omega⟩ 3).val (pt ⟨a + 1, by omega⟩ 3).isLt).2.2 l :=
  (gain_add m c (pt ⟨a + 1, by omega⟩ 3) (show (4 * (a + 1) + 3) % 4 = 3 by omega) (show ¬4 * (a + 1) + 3 < 4 by omega) l).trans
    (congrArg (· + _) (gain_carry m c a ha l _ (show 4 * a + 6 < 16 by omega)))

/-- The gains' gradient at the last point. -/
theorem gain_last (l : Fin 1024) : (outsAt0 m c (pt 3 3).val (pt 3 3).isLt).2.1 (ix2 0 l)
    = dGain (argD m c) (argU m c) (argWd m c) (argWu m c) (argH m c) (ix2 0 l) := by
  refine (gain_next m c 2 (by omega) l).trans ((congrArg (· + _) ((gain_next m c 1 (by omega) l).trans
    (congrArg (· + _) ((gain_next m c 0 (by omega) l).trans (congrArg (· + _) (gain_first m c (pt 0 3) rfl (by decide) l)))))).trans ?_)
  refine Eq.trans ?_ (Fin.sum_mul_add_fin 4 1024 fun t : Fin 4096 => dNorm (argD m c) (argU m c) (argWd m c) (argWu m c) t l
    * (argH m c (ix2 t l) * Norm.inv fun j => argH m c (ix2 t j)))
  rw [Fin.sum_univ_four]
  exact congrArg₂ (· + ·) (congrArg₂ (· + ·) (congrArg₂ (· + ·) (gain_block m c 0 l) (gain_block m c 1 l)) (gain_block m c 2 l))
    (gain_block m c 3 l)

theorem arr8 : (dats m 0 c).arrAt 8 (cfgs 0).N = dGain (argD m c) (argU m c) (argWd m c) (argWu m c) (argH m c) := by
  refine (dats m 0 c).arrAt_eq_of_covers 8 _ (by decide +kernel) fun t hf y => ?_
  have ht : t.val = 15 := by have := (flush0_8 t).mp hf; have h16 : t.val < 16 := t.isLt; omega
  obtain rfl : t = pt 3 3 := Fin.ext ht
  blk_simp
  rw [after0_8]
  idx_vars y
  obtain rfl : y0 = 0 := Subsingleton.elim _ _
  refine (gain_last m c y1).trans (congrArg _ ?_)
  blk_ext [idx (pt 3 3)]

end Cert.FfnBack

end
-- ==== Proof.FfnBack.Reference.lean ====
/- What the reference of the input's gradient computes, and the claims about both programs. -/
module

public import proofs.«01_k».proof.Defs
public import proofs.«01_k».proof.Proof.Gen.Reference3Ideal.Run
public import proofs.«01_k».proof.Proof.FfnBack.Kernel
public import Idealize.ShloMosaic.Lib.Claim

@[expose] public section

set_option maxRecDepth 16384

noncomputable section

namespace Cert.FfnBack

open Cert.FfnWeight (A2)
open Idealize.ShloMosaic Idealize.ShloMosaic.TcCoe Idealize.SL.Sem

section Ref
open Cert.Reference3Ideal Cert.Reference3Ideal.Value Cert.Reference3Ideal.Gen Idealize.ShloMosaic.StableHlo

variable (d u : A2 4096 2816) (wd wu : A2 1024 2816) (dh h : A2 4096 1024) (g : (⟨1, ![1024]⟩ : Shape).Idx → EReal)

/-- The gradient of the normalised features. -/
def rNorm : Vec Ideal S4096x1024 .f32 :=
  addf (Host.dotGeneral (F := Ideal) (φ₁ := .f32) (φ₂ := .f32) dot_S4096x2816_S1024x2816_S4096x1024_1_1_0_0_n_n none (extf (F := Ideal) (φ := .bf16) .f32 u bitsLt_bf16_f32) (extf (F := Ideal) (φ := .bf16) .f32 wu bitsLt_bf16_f32))
    (Host.dotGeneral (F := Ideal) (φ₁ := .f32) (φ₂ := .f32) dot_S4096x2816_S1024x2816_S4096x1024_1_1_0_0_n_n none (extf (F := Ideal) (φ := .bf16) .f32 d bitsLt_bf16_f32) (extf (F := Ideal) (φ := .bf16) .f32 wd bitsLt_bf16_f32))

theorem rNorm_apply (t : Fin 4096) (k : Fin 1024) : rNorm d u wd wu (ix2 t k) = dNorm d u wd wu t k := by
  unfold rNorm dNorm
  pointwise
  exact add_comm _ _

/-- The mean square of each token, the constant added. -/
def rMean : Vec Ideal S4096x1 .f32 :=
  addf (Host.divf (broadcastInDim S4096x1 ![0] bcast_S4096_S4096x1_0 (Host.reduceAdd (F := Ideal) (φ := .f32) (mulf (F := Ideal) (φ := .f32) h h) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem rMean_apply (t : Fin 4096) (z : Fin 1) : rMean h (ix2 t z) = Norm.meanSq fun j => h (ix2 t j) := by
  unfold rMean Norm.meanSq
  pointwise

/-- The gradient before the norm's gains. -/
def rScaled : Vec Ideal S4096x1024 .f32 :=
  mulf (F := Ideal) (φ := .f32) (rNorm d u wd wu) (broadcastInDim (α := Elt Ideal .f32) S4096x1024 ![0, 1] bcast_S1x1024_S4096x1024_0_1 (broadcastInDim (α := Elt Ideal .f32) S1x1024 ![1] bcast_S1024_S1x1024_1 g))

theorem rScaled_apply (t : Fin 4096) (k : Fin 1024) : rScaled d u wd wu g (ix2 t k) = dNorm d u wd wu t k * g (ix1 k) := by
  unfold rScaled
  pointwise
  exact congrArg (· * _) (rNorm_apply d u wd wu t k)

/-- The part of the gradient that comes through the mean square. -/
def rThrough : Vec Ideal S4096 .f32 :=
  Host.reduceAdd (Host.divf (mulf (shapeCast _ (Host.reduceAdd (F := Ideal) (φ := .f32) (mulf (F := Ideal) (φ := .f32) h (rScaled d u wd wu g)) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (rMean h)) (rMean h))))
    (broadcastInDim S4096x1 ![] bcast_S_S4096x1 (constant S_ .f32 0x44800000#32))) (constant S_ .f32 0x00000000#32) reducesTo_S4096x1_S4096_d1 h_S_

theorem rThrough_apply (t : Fin 4096) : rThrough d u wd wu h g (ix1 t)
    = Ideal.div ((∑ j, h (ix2 t j) * (dNorm d u wd wu t j * g (ix1 j)))
      * (Norm.minusHalf * Ideal.div (Norm.inv fun j => h (ix2 t j)) (Norm.meanSq fun j => h (ix2 t j)))) Norm.width := by
  unfold rThrough
  pointwise
  simp only [rMean_apply, rScaled_apply]
  exact Finset.sum_const _ |>.trans (one_nsmul _)

/-- The reference's two results. -/
theorem ref_input : addf (F := Ideal) (φ := .f32) (addf (addf dh (mulf (F := Ideal) (φ := .f32) (rScaled d u wd wu g) (broadcastInDim S4096x1024 ![0, 1] bcast_S4096x1_S4096x1024_0_1 (Host.rsqrt (F := Ideal) (φ := .f32) (rMean h)))))
      (mulf (F := Ideal) (φ := .f32) h (broadcastInDim S4096x1024 ![0] bcast_S4096_S4096x1024_0 (rThrough d u wd wu h g))))
      (mulf (F := Ideal) (φ := .f32) (broadcastInDim S4096x1024 ![0] bcast_S4096_S4096x1024_0 (rThrough d u wd wu h g)) h)
    = dInput d u wd wu dh h fun l => g (ix1 l) := by
  funext y
  idx_vars y
  pointwise
  simp only [rMean_apply, rScaled_apply]
  exact Norm.back_eq (fun j => h (ix2 y0 j)) (fun j => g (ix1 j)) (dNorm d u wd wu y0) y1 _ _ (rThrough_apply d u wd wu h g y0)

theorem ref_gain : (shapeCast _ (Host.reduceAdd (shapeCast _ (Host.reduceAdd (F := Ideal) (φ := .f32) (mulf (mulf (F := Ideal) (φ := .f32) h (broadcastInDim S4096x1024 ![0, 1] bcast_S4096x1_S4096x1024_0_1 (Host.rsqrt (rMean h))))
      (rNorm d u wd wu)) (constant S_ .f32 0x00000000#32) reducesTo_S4096x1024_S1024_d0 h_S_) shapeCasts_S1024_S1x1024)
      (constant S_ .f32 0x00000000#32) reducesTo_S1x1024_S1024_d0 h_S_) shapeCasts_S1024_S1x1024 : A2 1 1024)
    = dGain d u wd wu h := by
  funext y
  idx_vars y
  pointwise
  simp only [rMean_apply, rNorm_apply]
  obtain rfl : y0 = 0 := Subsingleton.elim _ _
  unfold dGain
  simp only [Finset.univ_unique, Finset.sum_singleton]
  exact Finset.sum_congr rfl fun t _ => mul_comm _ _

end Ref

/-- Equal arguments give equal functions. -/
theorem dInput_congr {d d' u u' : A2 4096 2816} {wd wd' wu wu' : A2 1024 2816} {dh dh' h h' : A2 4096 1024} {g g' : Fin 1024 → EReal}
    (e0 : d = d') (e1 : u = u') (e2 : wd = wd') (e3 : wu = wu') (e4 : dh = dh') (e5 : h = h') (e6 : g = g') :
    dInput d u wd wu dh h g = dInput d' u' wd' wu' dh' h' g' := by
  subst e0 e1 e2 e3 e4 e5 e6
  rfl
theorem dGain_congr {d d' u u' : A2 4096 2816} {wd wd' wu wu' : A2 1024 2816} {h h' : A2 4096 1024}
    (e0 : d = d') (e1 : u = u') (e2 : wd = wd') (e3 : wu = wu') (e5 : h = h') : dGain d u wd wu h = dGain d' u' wd' wu' h' := by
  subst e0 e1 e2 e3 e5
  rfl

/-- The reference ends with its arguments as they were, and it has no semaphores. -/
theorem frame_reference : Cert.quiescent_Reference3Ideal (hReference3Ideal := Cert.Reference3Ideal.Gen.facts) := fun m ρ _ =>
  (θ_run _ _ _).mono (fun r h => ⟨fun c => (h c).2.2, sem_eq_zero_of_no_sems (by decide) r.2⟩)
    (Cert.Reference3Ideal.Value.run (F := Ideal) m ρ)

/-- Equal results: the functions of Spec.lean of the arguments. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => dInput (argD m c) (argU m c) (argWd m c) (argWu m c) (argDh m c) (argH m c) (argG m c),
    fun c => dGain (argD m c) (argU m c) (argWd m c) (argWu m c) (argH m c), ?_, ?_⟩
  · exact (θ_run _ _ _).mono (fun r h c => ⟨(h c).1.trans (arr7 m c), (h c).2.1.trans (arr8 m c), (h c).2.2⟩)
      (Cert.Kernel3Ideal.Value.run_blocks (F := Ideal) m ρ)
  · refine (θ_run _ _ _).mono (fun r h c => ⟨(h c).1.trans ?_, (h c).2.1.trans ?_, (h c).2.2⟩) (Cert.Reference3Ideal.Value.run (F := Ideal) m' ρ')
    · obtain ⟨h0, h1, h2, h3, h4, h5, h6⟩ := hagree c
      unfold Cert.Reference3Ideal.Value.res_main_v45
      exact (ref_input _ _ _ _ _ _ _).trans (dInput_congr h0 h1 h2 h3 h4 h5 (funext fun l => congrFun h6 (ix1 l)))
    · obtain ⟨h0, h1, h2, h3, h4, h5, h6⟩ := hagree c
      exact (ref_gain _ _ _ _ _).trans (dGain_congr h0 h1 h2 h3 h5)

end Cert.FfnBack

end
-- ==== Proof.FfnOut.Kernel.lean ====
/- The feed-forward block's output product and the norm after it, and what the kernel `ffn_out` leaves in its two result
   arrays. One grid point handles 512 tokens; the columns stand in four blocks of 704 filled with zeros to 768. -/
module

public import proofs.«01_k».proof.Proof.Gen.Kernel4Ideal.Value
public import proofs.«01_k».proof.Proof.FfnBack.Spec
public import Idealize.ShloMosaic.Lib.KernelVsHost
public import Idealize.ShloMosaic.Lib.Pipeline.ValueKit

@[expose] public section

set_option maxRecDepth 16384

noncomputable section

namespace Cert.FfnOut

open Cert.FfnWeight (A2 A3 shardCol)
open Cert.FfnBack (sum_padded mul_padded)
open Cert.Kernel4Ideal Cert.Kernel4Ideal.Gen Idealize.ShloMosaic Idealize.ShloMosaic.TcCoe Idealize.SL.Sem

/-- One half, the scale of the block's contribution. -/
abbrev half : EReal := Ideal.ofBits FTy.f32 0x3F000000#32

/-- The product. -/
def prod (a : A2 4096 2816) (w : A2 2816 1024) (t : Fin 4096) (l : Fin 1024) : EReal := ∑ j : Fin 2816, a (ix2 t j) * w (ix2 j l)

/-- The product as an array: the first result. -/
def product (a : A2 4096 2816) (w : A2 2816 1024) : A2 4096 1024 := fun y => prod a w (y 0) (y 1)

/-- The residual, and half of the normalised product with its gains added to it: the second result. -/
def output (a : A2 4096 2816) (w : A2 2816 1024) (h : A2 4096 1024) (g : Fin 1024 → EReal) : A2 4096 1024 := fun y =>
  h y + half * (prod a w (y 0) (y 1) * Norm.inv (prod a w (y 0)) * g (y 1))

/-- The product of one block of tokens. -/
theorem pay1_apply (a : Vec Ideal S512x3072 .bf16) (w : Vec Ideal S3072x1024 .bf16) (i : Fin 512) (l : Fin 1024) :
    k0_pay1 a w (ix2 i l) = ∑ k : Fin 3072, a (ix2 i k) * w (ix2 k l) := by
  unfold k0_pay1
  pointwise

theorem pay2_apply (a : Vec Ideal S512x3072 .bf16) (w : Vec Ideal S3072x1024 .bf16) (h : Vec Ideal S512x1024 .f32) (g : Vec Ideal S1x1024 .f32)
    (i : Fin 512) (l : Fin 1024) :
    k0_pay2 a w h g (ix2 i l) = h (ix2 i l) + half * (k0_pay1 a w (ix2 i l) * Norm.inv (fun j => k0_pay1 a w (ix2 i j)) * g (ix2 0 l)) := by
  unfold k0_pay2
  pointwise
  rfl

variable (m : (ℓ : Loc nD τ sig) → Buf (Elt Ideal) ℓ) (c : Dev nD)

/-- The arguments: the activation, the weight, the residual, the gains. -/
abbrev argA : A2 4096 2816 := m ((c : Thread nD τ).loc main_arg0)
abbrev argW : A2 2816 1024 := m ((c : Thread nD τ).loc main_arg1)
abbrev argH : A2 4096 1024 := m ((c : Thread nD τ).loc main_arg2)
abbrev argG : Fin 1024 → EReal := fun l => (m ((c : Thread nD τ).loc main_arg3) : (⟨1, ![1024]⟩ : Shape).Idx → EReal) (ix1 l)

/-- Where each window's block stands at a grid point. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

/-- The arguments as the host code prepares them. -/
theorem padded_a (i : Fin 4096) (b : Fin 4) (k : Fin 768) :
    V m c main_v3 (ix2 i ⟨b.val * 768 + k.val, by omega⟩) = if h : k.val < 704 then argA m c (ix2 i (shardCol b k.val h)) else 0 := by
  unfold V
  simp only [List.flatten_cons, List.flatten_nil, hostOps0, List.cons_append, List.nil_append, List.append_nil]
  entry_read
  pointwise
theorem padded_w (b : Fin 4) (k : Fin 768) (l : Fin 1024) :
    V m c main_v8 (ix2 ⟨b.val * 768 + k.val, by omega⟩ l) = if h : k.val < 704 then argW m c (ix2 (shardCol b k.val h) l) else 0 := by
  unfold V
  simp only [List.flatten_cons, List.flatten_nil, hostOps0, List.cons_append, List.nil_append, List.append_nil]
  entry_read
  pointwise
theorem gains_row (l : Fin 1024) : V m c main_v7 (ix2 0 l) = argG m c l := by
  unfold V
  simp only [List.flatten_cons, List.flatten_nil, hostOps0, List.cons_append, List.nil_append, List.append_nil]
  entry_read
  pointwise

abbrev rowOf (t : Fin 8) (i : Fin 512) : Fin 4096 := ⟨t.val * 512 + i.val, by omega⟩

theorem blk_a (t : Fin 8) (i : Fin 512) (b : Fin 4) (k : Fin 768) :
    iblk m c 0 t (ix2 i (⟨b.val * 768 + k.val, by omega⟩ : Fin 3072)) = if h : k.val < 704 then argA m c (ix2 (rowOf t i) (shardCol b k.val h)) else 0 := by
  refine Eq.trans ?_ (padded_a m c (rowOf t i) b k)
  blk_ext [iblk, idx t]
theorem blk_w (t : Fin 8) (l : Fin 1024) (b : Fin 4) (k : Fin 768) :
    iblk m c 1 t (ix2 (⟨b.val * 768 + k.val, by omega⟩ : Fin 3072) l) = if h : k.val < 704 then argW m c (ix2 (shardCol b k.val h) l) else 0 := by
  refine Eq.trans ?_ (padded_w m c b k l)
  blk_ext [iblk, idx t]
theorem blk_h (t : Fin 8) (i : Fin 512) (l : Fin 1024) : iblk m c 2 t (ix2 i l) = argH m c (ix2 (rowOf t i) l) := by
  blk_ext [iblk, V, idx t]
theorem blk_g (t : Fin 8) (l : Fin 1024) : iblk m c 3 t (ix2 0 l) = argG m c l := by
  refine Eq.trans ?_ (gains_row m c l)
  blk_ext [iblk, idx t]

/-- The sum over the padded columns of two blocks' entries. -/
theorem product_sum (x : Vec Ideal S512x3072 .bf16) (w : Vec Ideal S3072x1024 .bf16) (f g : Fin 2816 → EReal) (i : Fin 512) (l : Fin 1024)
    (hx : ∀ (b : Fin 4) (k : Fin 768), x (ix2 i (⟨b.val * 768 + k.val, by omega⟩ : Fin 3072)) = if h : k.val < 704 then f (shardCol b k.val h) else 0)
    (hw : ∀ (b : Fin 4) (k : Fin 768), w (ix2 (⟨b.val * 768 + k.val, by omega⟩ : Fin 3072) l) = if h : k.val < 704 then g (shardCol b k.val h) else 0) :
    ∑ k : Fin 3072, x (ix2 i k) * w (ix2 k l) = ∑ j : Fin 2816, f j * g j := by
  refine (Fin.sum_mul_add_fin 4 768 (fun k : Fin 3072 => (x (ix2 i k) * w (ix2 k l) : EReal))).symm.trans ?_
  refine Eq.trans ?_ (sum_padded fun j => f j * g j)
  exact Finset.sum_congr rfl fun b _ => Finset.sum_congr rfl fun k _ => (congrArg₂ (· * ·) (hx b k) (hw b k)).trans (mul_padded _ _)

/-- The product of a block of tokens, of the arguments. -/
theorem product_block (t : Fin 8) (i : Fin 512) (l : Fin 1024) :
    k0_pay1 (iblk m c 0 t) (iblk m c 1 t) (ix2 i l) = prod (argA m c) (argW m c) (rowOf t i) l :=
  (pay1_apply _ _ _ _).trans (product_sum _ _ (fun j => argA m c (ix2 (rowOf t i) j)) (fun j => argW m c (ix2 j l)) i l
    (blk_a m c t i) (blk_w m c t l))

theorem output_block (t : Fin 8) (i : Fin 512) (l : Fin 1024) :
    k0_pay2 (iblk m c 0 t) (iblk m c 1 t) (iblk m c 2 t) (iblk m c 3 t) (ix2 i l)
      = output (argA m c) (argW m c) (argH m c) (argG m c) (ix2 (rowOf t i) l) :=
  (pay2_apply _ _ _ _ _ _).trans (congrArg₂ (· + ·) (blk_h m c t i l) (congrArg (half * ·) (congrArg₂ (· * ·)
    (congrArg₂ (· * ·) (product_block m c t i l) (congrArg Norm.inv (funext fun j => product_block m c t i j))) (blk_g m c t l))))

theorem arr4 : (dats m 0 c).arrAt 4 (cfgs 0).N = product (argA m c) (argW m c) := by
  refine (dats m 0 c).arrAt_eq_of_covers 4 _ (by decide +kernel) fun t hf y => ?_
  blk_simp
  rw [after0_4]
  unfold out0_4
  frame_out
  idx_vars y
  refine Eq.trans ?_ (congrArg (product (argA m c) (argW m c)) (?_ : ix2 (rowOf t y0) y1 = _))
  · exact product_block m c t y0 y1
  · blk_ext [idx t]

theorem arr5 : (dats m 0 c).arrAt 5 (cfgs 0).N = output (argA m c) (argW m c) (argH m c) (argG m c) := by
  refine (dats m 0 c).arrAt_eq_of_covers 5 _ (by decide +kernel) fun t hf y => ?_
  blk_simp
  rw [after0_5]
  unfold out0_5
  frame_out
  idx_vars y
  refine Eq.trans ?_ (congrArg (output (argA m c) (argW m c) (argH m c) (argG m c)) (?_ : ix2 (rowOf t y0) y1 = _))
  · exact output_block m c t y0 y1
  · blk_ext [idx t]

end Cert.FfnOut

end
-- ==== Proof.FfnOut.Reference.lean ====
/- What the reference of the feed-forward block's output computes, and the claims about both programs. -/
module

public import proofs.«01_k».proof.Defs
public import proofs.«01_k».proof.Proof.Gen.Reference4Ideal.Run
public import proofs.«01_k».proof.Proof.FfnOut.Kernel
public import Idealize.ShloMosaic.Lib.Claim

@[expose] public section

set_option maxRecDepth 16384

noncomputable section

namespace Cert.FfnOut

open Cert.FfnWeight (A2)
open Idealize.ShloMosaic Idealize.ShloMosaic.TcCoe Idealize.SL.Sem

section Ref
open Cert.Reference4Ideal Cert.Reference4Ideal.Value Cert.Reference4Ideal.Gen Idealize.ShloMosaic.StableHlo

variable (a : A2 4096 2816) (w : A2 2816 1024) (h : A2 4096 1024) (g : (⟨1, ![1024]⟩ : Shape).Idx → EReal)

/-- The product. -/
def rProd : Vec Ideal S4096x1024 .f32 :=
  Host.dotGeneral (F := Ideal) (φ₁ := .f32) (φ₂ := .f32) dot_S4096x2816_S2816x1024_S4096x1024_1_0_0_1_n_n none (extf (F := Ideal) (φ := .bf16) .f32 a bitsLt_bf16_f32) (extf (F := Ideal) (φ := .bf16) .f32 w bitsLt_bf16_f32)

theorem rProd_apply (t : Fin 4096) (l : Fin 1024) : rProd a w (ix2 t l) = prod a w t l := by
  unfold rProd prod
  pointwise

theorem ref_product : (truncf (F := Ideal) (φ := .f32) .bf16 (rProd a w) bitsLt_bf16_f32 : A2 4096 1024) = product a w := by
  funext y
  idx_vars y
  pointwise
  exact rProd_apply a w y0 y1

/-- The inverse root of each token's mean square. -/
def rInv : Vec Ideal S4096x1 .f32 :=
  Host.rsqrt (F := Ideal) (φ := .f32) (addf (Host.divf (broadcastInDim S4096x1 ![0] bcast_S4096_S4096x1_0 (Host.reduceAdd (F := Ideal) (φ := .f32) (mulf (F := Ideal) (φ := .f32) (rProd a w) (rProd a w)) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))

theorem rInv_apply (t : Fin 4096) (z : Fin 1) : rInv a w (ix2 t z) = Norm.inv (prod a w t) := by
  unfold rInv Norm.inv Norm.meanSq
  pointwise
  simp only [rProd_apply]

theorem ref_output : addf (F := Ideal) (φ := .f32) h (mulf (F := Ideal) (φ := .f32) (broadcastInDim S4096x1024 ![] bcast_S_S4096x1024 (constant (F := Ideal) S_ .f32 0x3F000000#32)) (mulf (F := Ideal) (φ := .f32)
      (mulf (F := Ideal) (φ := .f32) (rProd a w) (broadcastInDim S4096x1024 ![0, 1] bcast_S4096x1_S4096x1024_0_1 (rInv a w)))
      (broadcastInDim (α := Elt Ideal .f32) S4096x1024 ![0, 1] bcast_S1x1024_S4096x1024_0_1 (broadcastInDim (α := Elt Ideal .f32) S1x1024 ![1] bcast_S1024_S1x1024_1 g))))
    = output a w h fun l => g (ix1 l) := by
  funext y
  idx_vars y
  pointwise
  simp only [rProd_apply, rInv_apply]
  rfl

end Ref

/-- Equal arguments give equal functions. -/
theorem output_congr {a a' : A2 4096 2816} {w w' : A2 2816 1024} {h h' : A2 4096 1024} {g g' : Fin 1024 → EReal}
    (e0 : a = a') (e1 : w = w') (e2 : h = h') (e3 : g = g') : output a w h g = output a' w' h' g' := by
  subst e0 e1 e2 e3
  rfl

/-- The reference ends with its arguments as they were, and it has no semaphores. -/
theorem frame_reference : Cert.quiescent_Reference4Ideal (hReference4Ideal := Cert.Reference4Ideal.Gen.facts) := fun m ρ _ =>
  (θ_run _ _ _).mono (fun r h => ⟨fun c => (h c).2.2, sem_eq_zero_of_no_sems (by decide) r.2⟩)
    (Cert.Reference4Ideal.Value.run (F := Ideal) m ρ)

/-- Equal results: `product` and `output` of the arguments. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => product (argA m c) (argW m c), fun c => output (argA m c) (argW m c) (argH m c) (argG m c), ?_, ?_⟩
  · exact (θ_run _ _ _).mono (fun r h c => ⟨(h c).1.trans (arr4 m c), (h c).2.1.trans (arr5 m c), (h c).2.2⟩)
      (Cert.Kernel4Ideal.Value.run_blocks (F := Ideal) m ρ)
  · refine (θ_run _ _ _).mono (fun r h c => ⟨(h c).1.trans ?_, (h c).2.1.trans ?_, (h c).2.2⟩) (Cert.Reference4Ideal.Value.run (F := Ideal) m' ρ')
    · obtain ⟨h0, h1, h2, h3⟩ := hagree c
      exact (ref_product _ _).trans (congrArg₂ product h0 h1)
    · obtain ⟨h0, h1, h2, h3⟩ := hagree c
      exact (ref_output _ _ _ _).trans (output_congr h0 h1 h2 (funext fun l => congrFun h3 (ix1 l)))

end Cert.FfnOut

end
-- ==== Proof.MixBack.Spec.lean ====
/- The gradient of the mixer's input: through the input product, then through the root-mean-square norm before it. -/
module

public import proofs.«01_k».proof.Proof.FfnWeight.Spec
public import proofs.«01_k».proof.Proof.Norm.Math

@[expose] public section

noncomputable section

namespace Cert.MixBack

open Idealize.ShloMosaic Cert.FfnWeight

/-- The gradient of a token's normalised features. -/
def dNorm (z : A2 4096 5632) (w : A2 1024 5632) (t : Fin 4096) (k : Fin 1024) : EReal := ∑ j : Fin 5632, z (ix2 t j) * w (ix2 k j)

/-- The gradient of the input: what the residual brings, and what comes back through the norm. -/
def dInput (z : A2 4096 5632) (w : A2 1024 5632) (dh h : A2 4096 1024) (g : Fin 1024 → EReal) : A2 4096 1024 := fun y =>
  dh y + Norm.back (fun j => h (ix2 (y 0) j)) g (dNorm z w (y 0)) (y 1)

/-- The gradient of the norm's gains. -/
def dGain (z : A2 4096 5632) (w : A2 1024 5632) (h : A2 4096 1024) : A2 1 1024 := fun y =>
  ∑ t : Fin 4096, dNorm z w t (y 1) * (h (ix2 t (y 1)) * Norm.inv fun j => h (ix2 t j))

end Cert.MixBack

end
-- ==== Proof.MixBack.Block.lean ====
/- What the stored values of the kernel `mix_bwd_in` are, at an index of a block. The way back through the norm is computed as
   in `ffn_bwd_in`, so the statements about its pieces serve here too. -/
module

public import proofs.«01_k».proof.Proof.Gen.Kernel5Ideal.Skeleton
public import proofs.«01_k».proof.Proof.FfnBack.Block

@[expose] public section

set_option maxRecDepth 16384

noncomputable section

namespace Cert.MixBack

open Cert.FfnBack (gPart outBlock gBlock gSum pieces)
open Cert.Kernel5Ideal Cert.Kernel5Ideal.Gen Idealize.ShloMosaic

theorem pay24_apply (i l : Fin 1024) : (k0_pay24 (F := Ideal)) (ix2 i l) = 0 := by
  unfold k0_pay24
  pointwise

/-- The product of one block of columns, added to what the accumulator holds. -/
theorem pay1_apply (a : Vec Ideal S1024x1024 .f32) (d : Vec Ideal S1024x1408 .bf16) (w : Vec Ideal S1x1024x1408 .bf16) (i l : Fin 1024) :
    k0_pay1 a d w (ix2 i l) = a (ix2 i l) + ∑ k : Fin 1408, d (ix2 i k) * w (ix3 0 l k) := by
  unfold k0_pay1
  pointwise
theorem pay25_eq (a : Vec Ideal S1024x1024 .f32) (d : Vec Ideal S1024x1408 .bf16) (w : Vec Ideal S1x1024x1408 .bf16) :
    k0_pay25 a d w = k0_pay1 a d w := rfl

/-- The four pieces of 256 rows. -/
theorem pay7_eq (h : Vec Ideal S256x1024 .f32) (g : Vec Ideal S1x1024 .f32) (a dh : Vec Ideal S256x1024 .f32) :
    k0_pay7 h g a dh = Cert.Kernel3Ideal.Gen.k0_pay9 h g a dh := rfl
theorem pay12_eq (h : Vec Ideal S256x1024 .f32) (g : Vec Ideal S1x1024 .f32) (a dh : Vec Ideal S256x1024 .f32) :
    k0_pay12 h (k0_pay9 g) a dh = Cert.Kernel3Ideal.Gen.k0_pay9 h g a dh := rfl
theorem pay18_eq (h : Vec Ideal S256x1024 .f32) (g : Vec Ideal S1x1024 .f32) (a dh : Vec Ideal S256x1024 .f32) :
    k0_pay18 h (k0_pay14 g) a (k0_pay15 h) (Scalar.ofBits .f32 0x358637BD#32) dh = Cert.Kernel3Ideal.Gen.k0_pay9 h g a dh := rfl
theorem pay2_eq (h : Vec Ideal S256x1024 .f32) (g : Vec Ideal S1x1024 .f32) (a dh : Vec Ideal S256x1024 .f32) :
    k0_pay2 (k0_pay20 h) (k0_pay21 h) (k0_pay22 g a) (k0_pay23 h g a) dh = Cert.Kernel3Ideal.Gen.k0_pay9 h g a dh := rfl

/-- What each piece gives to the gradient of the gains. -/
theorem pay8_apply (h a : Vec Ideal S256x1024 .f32) (l : Fin 1024) : k0_pay8 h a (ix2 0 l) = gPart h a l :=
  Cert.FfnBack.pay10_apply h a l
theorem pay13_apply (v : Vec Ideal S1x1024 .f32) (h a : Vec Ideal S256x1024 .f32) (l : Fin 1024) :
    k0_pay13 v h a (ix2 0 l) = v (ix2 0 l) + gPart h a l :=
  Cert.FfnBack.pay15_apply v h a l
theorem pay19_apply (v : Vec Ideal S1x1024 .f32) (h a : Vec Ideal S256x1024 .f32) (l : Fin 1024) :
    k0_pay19 v h a (k0_pay15 h) (Scalar.ofBits .f32 0x358637BD#32) (ix2 0 l) = v (ix2 0 l) + gPart h a l :=
  Cert.FfnBack.pay15_apply v h a l
theorem pay3_apply (v : Vec Ideal S1x1024 .f32) (h a : Vec Ideal S256x1024 .f32) (l : Fin 1024) :
    k0_pay3 v a (k0_pay21 h) (ix2 0 l) = v (ix2 0 l) + gPart h a l :=
  Cert.FfnBack.pay15_apply v h a l
theorem pay4_apply (v : Vec Ideal S1x1024 .f32) (h a : Vec Ideal S256x1024 .f32) (o : Vec Ideal S1x1024 .f32) (l : Fin 1024) :
    k0_pay4 v a (k0_pay21 h) o (ix2 0 l) = o (ix2 0 l) + (v (ix2 0 l) + gPart h a l) :=
  Cert.FfnBack.pay6_apply v h a o l

end Cert.MixBack

end
-- ==== Proof.MixBack.Points.lean ====
/- What the kernel `mix_bwd_in` leaves at each grid point: point `4 a + b` adds column block `b` to the accumulator of row
   block `a`, and the last point of a row block writes the gradients. -/
module

public import proofs.«01_k».proof.Proof.Gen.Kernel5Ideal.Value
public import proofs.«01_k».proof.Proof.MixBack.Block
public import Idealize.ShloMosaic.Lib.Pipeline.ReadBack
public import Idealize.ShloMosaic.Lib.KernelVsHost
public import Idealize.ShloMosaic.Lib.Pipeline.ValueKit

@[expose] public section

set_option maxRecDepth 16384

noncomputable section

namespace Cert.MixBack

open Cert.FfnBack (gPart outBlock gBlock gSum pieces)
open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The columns that a point takes: the lower half's blocks at a row block's first two points, then the upper half's. -/
def cols (t : Fin cfg0.N) : Vec Ideal S1024x1408 .bf16 := if t.val % 4 ≤ 1 then iblk m c 0 t else iblk m c 1 t

/-- The accumulator after a point that does not start a row block. -/
abbrev accStep (t : Fin cfg0.N) : Vec Ideal S1024x1024 .f32 :=
  k0_pay1 (outsAt0 m c (t.val - 1) (Nat.lt_of_le_of_lt (Nat.sub_le _ _) t.isLt)).2.2 (cols m c t) (iblk m c 2 t)

theorem acc_A (t : Fin cfg0.N) (h0 : t.val % 4 = 0) :
    (outsAt0 m c t.val t.isLt).2.2 = k0_pay1 k0_pay24 (cols m c t) (iblk m c 2 t) := by
  rw [outsAt0_A m c t h0 (by omega) (by omega) (by omega), cols, if_pos (by omega)]
  dsimp only
  frame_open
  simp (disch := decide) only [↓ View.readCov_skip, ↓ View.readCov_cons_toLoadRect, ↓ View.readCov_fill]
  frame_out
  rfl

theorem acc_B (t : Fin cfg0.N) (h0 : ¬t.val % 4 = 0) (h1 : t.val % 4 ≤ 1) : (outsAt0 m c t.val t.isLt).2.2 = accStep m c t := by
  rw [outsAt0_B m c t h0 h1 (by omega) (by omega), accStep, cols, if_pos h1]
  dsimp only
  frame_open
  simp (disch := decide) only [↓ View.readCov_skip, ↓ View.readCov_cons_toLoadRect, ↓ View.readCov_fill]
  frame_out
  simp only [read_unread_whole]
  rfl

theorem acc_C (t : Fin cfg0.N) (h2 : 2 ≤ t.val % 4) (h3 : ¬t.val % 4 = 3) : (outsAt0 m c t.val t.isLt).2.2 = accStep m c t := by
  rw [outsAt0_C m c t (by omega) (by omega) h2 h3, accStep, cols, if_neg (by omega)]
  dsimp only
  frame_open
  simp (disch := decide) only [↓ View.readCov_skip, ↓ View.readCov_cons_toLoadRect, ↓ View.readCov_fill]
  frame_out
  simp only [read_unread_whole]

theorem acc_D (t : Fin cfg0.N) (h3 : t.val % 4 = 3) (h4 : t.val < 4) : (outsAt0 m c t.val t.isLt).2.2 = accStep m c t := by
  rw [outsAt0_D m c t (by omega) (by omega) (by omega) h3 h4 (by omega), accStep, cols, if_neg (by omega)]
  dsimp only
  frame_open
  simp (disch := decide) only [↓ View.readCov_skip, ↓ View.readCov_cons_toLoadRect, ↓ View.readCov_fill]
  frame_out
  simp only [read_unread_whole]

theorem acc_E (t : Fin cfg0.N) (h3 : t.val % 4 = 3) (h4 : ¬t.val < 4) : (outsAt0 m c t.val t.isLt).2.2 = accStep m c t := by
  rw [outsAt0_E m c t (by omega) (by omega) (by omega) h3 h4 (by omega), accStep, cols, if_neg (by omega)]
  dsimp only
  frame_open
  simp (disch := decide) only [↓ View.readCov_skip, ↓ View.readCov_cons_toLoadRect, ↓ View.readCov_fill]
  frame_out
  simp only [read_unread_whole]

theorem acc_step (t : Fin cfg0.N) (h0 : ¬t.val % 4 = 0) : (outsAt0 m c t.val t.isLt).2.2 = accStep m c t := by
  by_cases h1 : t.val % 4 ≤ 1
  · exact acc_B m c t h0 h1
  · by_cases h3 : t.val % 4 = 3
    · by_cases h4 : t.val < 4
      · exact acc_D m c t h3 h4
      · exact acc_E m c t h3 h4
    · exact acc_C m c t (by omega) h3

/-- The accumulator at a row block's last point. -/
theorem accStep_last (t : Fin cfg0.N) (h3 : t.val % 4 = 3) : accStep m c t = k0_pay1 (outsAt0 m c (t.val - 1) (Nat.lt_of_le_of_lt (Nat.sub_le _ _) t.isLt)).2.2 (iblk m c 1 t) (iblk m c 2 t) := by
  rw [accStep, cols, if_neg (by omega)]

/-- The input's gradient at the last point of a row block. -/
theorem out_D (t : Fin cfg0.N) (h3 : t.val % 4 = 3) (h4 : t.val < 4) (i l : Fin 1024) :
    (outsAt0 m c t.val t.isLt).1 (ix2 i l) = outBlock (iblk m c 4 t) (iblk m c 5 t) (accStep m c t) (iblk m c 3 t) (ix2 i l) := by
  rw [outsAt0_D m c t (by omega) (by omega) (by omega) h3 h4 (by omega), accStep_last m c t h3]
  dsimp only
  frame_open
  simp (disch := decide) only [↓ View.readCov_skip, ↓ View.readCov_cons_toLoadRect, ↓ View.readCov_fill]
  frame_out
  simp only [read_unread_whole, pay2_eq, pay7_eq, pay12_eq, pay18_eq]
  exact pieces (iblk m c 4 t) (iblk m c 5 t) _ (iblk m c 3 t) i l

theorem out_E (t : Fin cfg0.N) (h3 : t.val % 4 = 3) (h4 : ¬t.val < 4) (i l : Fin 1024) :
    (outsAt0 m c t.val t.isLt).1 (ix2 i l) = outBlock (iblk m c 4 t) (iblk m c 5 t) (accStep m c t) (iblk m c 3 t) (ix2 i l) := by
  rw [outsAt0_E m c t (by omega) (by omega) (by omega) h3 h4 (by omega), accStep_last m c t h3]
  dsimp only
  frame_open
  simp (disch := decide) only [↓ View.readCov_skip, ↓ View.readCov_cons_toLoadRect, ↓ View.readCov_fill]
  frame_out
  simp only [read_unread_whole, pay2_eq, pay7_eq, pay12_eq, pay18_eq]
  exact pieces (iblk m c 4 t) (iblk m c 5 t) _ (iblk m c 3 t) i l

theorem out_last (t : Fin cfg0.N) (h3 : t.val % 4 = 3) (i l : Fin 1024) :
    (outsAt0 m c t.val t.isLt).1 (ix2 i l)
      = outBlock (iblk m c 4 t) (iblk m c 5 t) (outsAt0 m c t.val t.isLt).2.2 (iblk m c 3 t) (ix2 i l) := by
  rw [acc_step m c t (by omega)]
  by_cases h4 : t.val < 4
  · exact out_D m c t h3 h4 i l
  · exact out_E m c t h3 h4 i l

/-- The gains' gradient: the first row block starts it, each later one adds to it, and no other point changes it. -/
theorem gain_first (t : Fin cfg0.N) (h3 : t.val % 4 = 3) (h4 : t.val < 4) (l : Fin 1024) :
    (outsAt0 m c t.val t.isLt).2.1 (ix2 0 l) = gBlock (iblk m c 4 t) (outsAt0 m c t.val t.isLt).2.2 l := by
  rw [acc_step m c t (by omega), accStep_last m c t h3, outsAt0_D m c t (by omega) (by omega) (by omega) h3 h4 (by omega)]
  dsimp only
  frame_open
  simp (disch := decide) only [↓ View.readCov_skip, ↓ View.readCov_cons_toLoadRect, ↓ View.readCov_fill]
  frame_out
  simp only [read_unread_whole]
  refine Eq.trans ?_ (gSum (iblk m c 4 t) _ l)
  refine (pay3_apply _ _ _ _).trans (congrArg (· + _) ?_)
  refine (pay19_apply _ _ _ _).trans (congrArg (· + _) ?_)
  refine (pay13_apply _ _ _ _).trans (congrArg (· + _) ?_)
  exact pay8_apply _ _ _

theorem gain_add (t : Fin cfg0.N) (h3 : t.val % 4 = 3) (h4 : ¬t.val < 4) (l : Fin 1024) :
    (outsAt0 m c t.val t.isLt).2.1 (ix2 0 l) = (outsAt0 m c (t.val - 1) (Nat.lt_of_le_of_lt (Nat.sub_le _ _) t.isLt)).2.1 (ix2 0 l)
      + gBlock (iblk m c 4 t) (outsAt0 m c t.val t.isLt).2.2 l := by
  rw [acc_step m c t (by omega), accStep_last m c t h3, outsAt0_E m c t (by omega) (by omega) (by omega) h3 h4 (by omega)]
  dsimp only
  frame_open
  simp (disch := decide) only [↓ View.readCov_skip, ↓ View.readCov_cons_toLoadRect, ↓ View.readCov_fill]
  frame_out
  simp only [read_unread_whole]
  refine (pay4_apply _ _ _ _ _).trans (congrArg (_ + ·) ?_)
  refine Eq.trans ?_ (gSum (iblk m c 4 t) _ l)
  refine congrArg (· + _) ?_
  refine (pay19_apply _ _ _ _).trans (congrArg (· + _) ?_)
  refine (pay13_apply _ _ _ _).trans (congrArg (· + _) ?_)
  exact pay8_apply _ _ _

theorem gain_keep (t : Fin cfg0.N) (h3 : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 (by omega) (by omega) (by omega)]
    rfl
  · by_cases h1 : t.val % 4 ≤ 1
    · rw [outsAt0_B m c t h0 h1 (by omega) h3]
      rfl
    · rw [outsAt0_C m c t h0 h1 (by omega) h3]
      rfl

end Cert.MixBack

end
-- ==== Proof.MixBack.Kernel.lean ====
/- What the kernel `mix_bwd_in` leaves in its two result arrays. -/
module

public import proofs.«01_k».proof.Proof.MixBack.Spec
public import proofs.«01_k».proof.Proof.MixBack.Points

@[expose] public section

set_option maxRecDepth 16384

noncomputable section

namespace Cert.MixBack

open Cert.FfnWeight (A2 A3)
open Cert.FfnBack (gPart outBlock gBlock)
open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The arguments: the gradient of the product, its weight, the residual's cotangent, the input, the gains. -/
abbrev argZ : A2 4096 5632 := m ((c : Thread nD τ).loc main_arg0)
abbrev argW : A2 1024 5632 := m ((c : Thread nD τ).loc main_arg1)
abbrev argDh : A2 4096 1024 := m ((c : Thread nD τ).loc main_arg2)
abbrev argH : A2 4096 1024 := m ((c : Thread nD τ).loc main_arg3)
abbrev argG : Fin 1024 → EReal := fun l => (m ((c : Thread nD τ).loc main_arg4) : (⟨1, ![1024]⟩ : Shape).Idx → EReal) (ix1 l)

/-- Where each window's block stands at a grid point. -/
theorem idx : ∀ t : Fin grid0.N, win0_0.index t = ![t.val / 4, min (t.val % 4) 1] ∧ win0_1.index t = ![t.val / 4, t.val % 4 - 2]
    ∧ win0_2.index t = ![t.val % 4, 0, 0] ∧ win0_3.index t = ![t.val / 4, 0]
    ∧ win0_4.index t = ![t.val / 4, 0] ∧ win0_5.index t = ![0, 0] ∧ win0_6.index t = ![t.val / 4, 0] ∧ win0_7.index t = ![0, 0] := by
  decide +kernel

/-- The arguments as the host code prepares them. -/
theorem lower_z (i : Fin 4096) (k : Fin 2816) : V m c main_v0 (ix2 i k) = argZ m c (ix2 i (⟨k.val, by omega⟩ : Fin 5632)) := by
  unfold V
  simp only [List.flatten_cons, List.flatten_nil, hostOps0, List.cons_append, List.nil_append, List.append_nil]
  entry_read
  pointwise
theorem upper_z (i : Fin 4096) (k : Fin 2816) : V m c main_v1 (ix2 i k) = argZ m c (ix2 i (⟨2816 + k.val, by omega⟩ : Fin 5632)) := by
  unfold V
  simp only [List.flatten_cons, List.flatten_nil, hostOps0, List.cons_append, List.nil_append, List.append_nil]
  entry_read
  pointwise
theorem blocks_w (b : Fin 4) (l : Fin 1024) (k : Fin 1408) :
    V m c main_v3 (ix3 b l k) = argW m c (ix2 l (⟨b.val * 1408 + k.val, by omega⟩ : Fin 5632)) := by
  unfold V
  simp only [List.flatten_cons, List.flatten_nil, hostOps0, List.cons_append, List.nil_append, List.append_nil]
  entry_read
  pointwise
theorem gains_row (l : Fin 1024) : V m c main_v4 (ix2 0 l) = argG m c l := by
  unfold V
  simp only [List.flatten_cons, List.flatten_nil, hostOps0, List.cons_append, List.nil_append, List.append_nil]
  entry_read
  pointwise

/-- The blocks at point `4 a + b`. -/
abbrev pt (a b : Fin 4) : Fin cfg0.N := ⟨4 * a.val + b.val, show 4 * a.val + b.val < 16 by omega⟩
abbrev rowOf (a : Fin 4) (i : Fin 1024) : Fin 4096 := ⟨a.val * 1024 + i.val, by omega⟩
abbrev colOf (b : Fin 4) (k : Fin 1408) : Fin 5632 := ⟨b.val * 1408 + k.val, by omega⟩

theorem blk_lo (a b : Fin 4) (hb : b.val ≤ 1) (i : Fin 1024) (k : Fin 1408) :
    iblk m c 0 (pt a b) (ix2 i k) = argZ m c (ix2 (rowOf a i) (colOf b k)) := by
  refine Eq.trans ?_ (lower_z m c (rowOf a i) (⟨b.val * 1408 + k.val, by omega⟩ : Fin 2816))
  blk_ext [iblk, idx (pt a b)]
theorem blk_hi (a b : Fin 4) (hb : ¬b.val ≤ 1) (i : Fin 1024) (k : Fin 1408) :
    iblk m c 1 (pt a b) (ix2 i k) = argZ m c (ix2 (rowOf a i) (colOf b k)) := by
  refine Eq.trans ?_ ((upper_z m c (rowOf a i) (⟨(b.val - 2) * 1408 + k.val, by omega⟩ : Fin 2816)).trans
    (congrArg (fun j => argZ m c (ix2 (rowOf a i) j)) (Fin.ext (show 2816 + ((b.val - 2) * 1408 + k.val) = b.val * 1408 + k.val by omega))))
  blk_ext [iblk, idx (pt a b)]
theorem blk_z (a b : Fin 4) (i : Fin 1024) (k : Fin 1408) :
    cols m c (pt a b) (ix2 i k) = argZ m c (ix2 (rowOf a i) (colOf b k)) := by
  unfold cols
  by_cases hb : b.val ≤ 1
  · rw [if_pos (show (4 * a.val + b.val) % 4 ≤ 1 by omega)]
    exact blk_lo m c a b hb i k
  · rw [if_neg (show ¬(4 * a.val + b.val) % 4 ≤ 1 by omega)]
    exact blk_hi m c a b hb i k
theorem blk_w (a b : Fin 4) (k : Fin 1408) (l : Fin 1024) :
    iblk m c 2 (pt a b) (ix3 0 l k) = argW m c (ix2 l (colOf b k)) := by
  refine Eq.trans ?_ (blocks_w m c b l k)
  blk_ext [iblk, idx (pt a b)]
theorem blk_dh (a b : Fin 4) (i l : Fin 1024) : iblk m c 3 (pt a b) (ix2 i l) = argDh m c (ix2 (rowOf a i) l) := by
  blk_ext [iblk, V, idx (pt a b)]
theorem blk_h (a b : Fin 4) (i l : Fin 1024) : iblk m c 4 (pt a b) (ix2 i l) = argH m c (ix2 (rowOf a i) l) := by
  blk_ext [iblk, V, idx (pt a b)]
theorem blk_g (a b : Fin 4) (l : Fin 1024) : iblk m c 5 (pt a b) (ix2 0 l) = argG m c l := by
  refine Eq.trans ?_ (gains_row m c l)
  blk_ext [iblk, idx (pt a b)]

/-- What one point adds to the accumulator. -/
def product (z : Vec Ideal S1024x1408 .bf16) (w : Vec Ideal S1x1024x1408 .bf16) (y : S1024x1024.Idx) : EReal :=
  ∑ k : Fin 1408, z (ix2 (y 0) k) * w (ix3 0 (y 1) k)

abbrev term (t : Fin cfg0.N) : S1024x1024.Idx → EReal := product (cols m c t) (iblk m c 2 t)

theorem acc_sum (t : Fin cfg0.N) (h1 : t.val % 4 = 3) (y : S1024x1024.Idx) :
    (outsAt0 m c t.val t.isLt).2.2 y = ∑ s : Fin 4, term m c ⟨4 * (t.val / 4) + s.val, Pipeline.run_point_lt_of_flush t h1 s⟩ y := by
  refine (Pipeline.eq_sum_fin_of_reset_step_apply_of_flush (M := EReal) (fun n h => (outsAt0 m c n h).2.2) 4 (fun _ => 0) (term m c)
    (fun t h y => ?_) (fun t h y => ?_) t h1 y).trans (zero_add _)
  · idx_vars y
    refine (congrFun (acc_A m c t h) _).trans ?_
    exact (pay1_apply _ _ _ _ _).trans (congrArg (fun z : EReal => z + _) (pay24_apply _ _))
  · idx_vars y
    exact (congrFun (acc_step m c t h) _).trans (pay1_apply _ _ _ _ _)

/-- One column block of the product. -/
theorem term_eq (a b : Fin 4) (i l : Fin 1024) : term m c (pt a b) (ix2 i l)
    = ∑ k : Fin 1408, argZ m c (ix2 (rowOf a i) (colOf b k)) * argW m c (ix2 l (colOf b k)) :=
  Finset.sum_congr rfl fun k _ => congrArg₂ (· * ·) (blk_z m c a b i k) (blk_w m c a b k l)

/-- The accumulator at the last point of a row block. -/
theorem acc_last (a : Fin 4) (i l : Fin 1024) : (outsAt0 m c (pt a 3).val (pt a 3).isLt).2.2 (ix2 i l)
    = dNorm (argZ m c) (argW m c) (rowOf a i) l := by
  refine (acc_sum m c (pt a 3) (show (4 * a.val + 3) % 4 = 3 by omega) _).trans ?_
  refine (Finset.sum_congr rfl fun s _ => ((congrArg (fun t => term m c t (ix2 i l))
    (show _ = pt a s from Fin.ext (show 4 * ((4 * a.val + 3) / 4) + s.val = 4 * a.val + s.val by omega))).trans (term_eq m c a s i l))).trans ?_
  exact Fin.sum_mul_add_fin 4 1408 fun j : Fin 5632 => (argZ m c (ix2 (rowOf a i) j) * argW m c (ix2 l j) : EReal)

/-- The gradient of the input at the last point of a row block. -/
theorem out_block (a : Fin 4) (i l : Fin 1024) : (outsAt0 m c (pt a 3).val (pt a 3).isLt).1 (ix2 i l)
    = dInput (argZ m c) (argW m c) (argDh m c) (argH m c) (argG m c) (ix2 (rowOf a i) l) := by
  refine (out_last m c (pt a 3) (show (4 * a.val + 3) % 4 = 3 by omega) i l).trans ?_
  exact congrArg₂ (· + ·) (blk_dh m c a 3 i l) (congrFun (congr (congrArg₂ Norm.back (funext fun j => blk_h m c a 3 i j)
    (funext fun j => blk_g m c a 3 j)) (funext fun j => acc_last m c a i j)) l)

theorem arr6 : (dats m 0 c).arrAt 6 (cfgs 0).N
    = dInput (argZ m c) (argW m c) (argDh m c) (argH m c) (argG m c) := by
  refine (dats m 0 c).arrAt_eq_of_covers 6 _ (by decide +kernel) fun t hf y => ?_
  have ht : t.val % 4 = 3 := (flush0_6 t).mp hf
  obtain ⟨a, rfl⟩ : ∃ a : Fin 4, t = pt a 3 := ⟨⟨t.val / 4, by have : t.val < 16 := t.isLt; omega⟩, Fin.ext (show t.val = 4 * (t.val / 4) + 3 by omega)⟩
  blk_simp
  rw [after0_6]
  idx_vars y
  refine (out_block m c a y0 y1).trans (congrArg _ ?_)
  blk_ext [idx (pt a 3)]

/-- What a row block gives to the gains' gradient. -/
theorem gain_block (a : Fin 4) (l : Fin 1024) : gBlock (iblk m c 4 (pt a 3)) (outsAt0 m c (pt a 3).val (pt a 3).isLt).2.2 l
    = ∑ i : Fin 1024, dNorm (argZ m c) (argW m c) (rowOf a i) l
        * (argH m c (ix2 (rowOf a i) l) * Norm.inv fun j => argH m c (ix2 (rowOf a i) j)) :=
  Finset.sum_congr rfl fun i _ => congrArg₂ (· * ·) (acc_last m c a i l) (congrArg₂ (· * ·) (blk_h m c a 3 i l)
    (congrArg Norm.inv (funext fun j => blk_h m c a 3 i j)))

/-- From the last point of a row block to the one before the last of the next nothing changes. -/
theorem gain_carry (a : ℕ) (ha : a < 3) (l : Fin 1024) (h : 4 * a + 3 < cfg0.N) (h' : 4 * a + 6 < cfg0.N) :
    (outsAt0 m c (4 * a + 6) h').2.1 (ix2 0 l) = (outsAt0 m c (4 * a + 3) h).2.1 (ix2 0 l) := by
  have h4 : 4 * a + 4 < cfg0.N := by omega
  have h5 : 4 * a + 5 < cfg0.N := by omega
  exact congrFun ((gain_keep m c ⟨4 * a + 6, h'⟩ (show ¬(4 * a + 6) % 4 = 3 by omega)).trans
    ((gain_keep m c ⟨4 * a + 5, h5⟩ (show ¬(4 * a + 5) % 4 = 3 by omega)).trans
      (gain_keep m c ⟨4 * a + 4, h4⟩ (show ¬(4 * a + 4) % 4 = 3 by omega)))) _

theorem gain_next (a : ℕ) (ha : a < 3) (l : Fin 1024) : (outsAt0 m c (pt ⟨a + 1, by omega⟩ 3).val (pt ⟨a + 1, by omega⟩ 3).isLt).2.1 (ix2 0 l)
    = (outsAt0 m c (pt ⟨a, by omega⟩ 3).val (pt ⟨a, by omega⟩ 3).isLt).2.1 (ix2 0 l)
      + gBlock (iblk m c 4 (pt ⟨a + 1, by omega⟩ 3)) (outsAt0 m c (pt ⟨a + 1, by omega⟩ 3).val (pt ⟨a + 1, by omega⟩ 3).isLt).2.2 l :=
  (gain_add m c (pt ⟨a + 1, by omega⟩ 3) (show (4 * (a + 1) + 3) % 4 = 3 by omega) (show ¬4 * (a + 1) + 3 < 4 by omega) l).trans
    (congrArg (· + _) (gain_carry m c a ha l _ (show 4 * a + 6 < 16 by omega)))

/-- The gains' gradient at the last point. -/
theorem gain_last (l : Fin 1024) : (outsAt0 m c (pt 3 3).val (pt 3 3).isLt).2.1 (ix2 0 l)
    = dGain (argZ m c) (argW m c) (argH m c) (ix2 0 l) := by
  refine (gain_next m c 2 (by omega) l).trans ((congrArg (· + _) ((gain_next m c 1 (by omega) l).trans
    (congrArg (· + _) ((gain_next m c 0 (by omega) l).trans (congrArg (· + _) (gain_first m c (pt 0 3) rfl (by decide) l)))))).trans ?_)
  refine Eq.trans ?_ (Fin.sum_mul_add_fin 4 1024 fun t : Fin 4096 => dNorm (argZ m c) (argW m c) t l
    * (argH m c (ix2 t l) * Norm.inv fun j => argH m c (ix2 t j)))
  rw [Fin.sum_univ_four]
  exact congrArg₂ (· + ·) (congrArg₂ (· + ·) (congrArg₂ (· + ·) (gain_block m c 0 l) (gain_block m c 1 l)) (gain_block m c 2 l))
    (gain_block m c 3 l)

theorem arr7 : (dats m 0 c).arrAt 7 (cfgs 0).N = dGain (argZ m c) (argW m c) (argH m c) := by
  refine (dats m 0 c).arrAt_eq_of_covers 7 _ (by decide +kernel) fun t hf y => ?_
  have ht : t.val = 15 := by have := (flush0_7 t).mp hf; have h16 : t.val < 16 := t.isLt; omega
  obtain rfl : t = pt 3 3 := Fin.ext ht
  blk_simp
  rw [after0_7]
  idx_vars y
  obtain rfl : y0 = 0 := Subsingleton.elim _ _
  refine (gain_last m c y1).trans (congrArg _ ?_)
  blk_ext [idx (pt 3 3)]

end Cert.MixBack

end
-- ==== Proof.MixBack.Reference.lean ====
/- What the reference of the input's gradient computes, and the claims about both programs. -/
module

public import proofs.«01_k».proof.Defs
public import proofs.«01_k».proof.Proof.Gen.Reference5Ideal.Run
public import proofs.«01_k».proof.Proof.MixBack.Kernel
public import Idealize.ShloMosaic.Lib.Claim

@[expose] public section

set_option maxRecDepth 16384

noncomputable section

namespace Cert.MixBack

open Cert.FfnWeight (A2)
open Idealize.ShloMosaic Idealize.ShloMosaic.TcCoe Idealize.SL.Sem

section Ref
open Cert.Reference5Ideal Cert.Reference5Ideal.Value Cert.Reference5Ideal.Gen Idealize.ShloMosaic.StableHlo

variable (z : A2 4096 5632) (w : A2 1024 5632) (dh h : A2 4096 1024) (g : (⟨1, ![1024]⟩ : Shape).Idx → EReal)

/-- The gradient of the normalised features. -/
def rNorm : Vec Ideal S4096x1024 .f32 :=
  Host.dotGeneral (F := Ideal) (φ₁ := .f32) (φ₂ := .f32) dot_S4096x5632_S1024x5632_S4096x1024_1_1_0_0_n_n none (extf (F := Ideal) (φ := .bf16) .f32 z bitsLt_bf16_f32) (extf (F := Ideal) (φ := .bf16) .f32 w bitsLt_bf16_f32)

theorem rNorm_apply (t : Fin 4096) (k : Fin 1024) : rNorm z w (ix2 t k) = dNorm z w t k := by
  unfold rNorm dNorm
  pointwise

/-- The mean square of each token, the constant added. -/
def rMean : Vec Ideal S4096x1 .f32 :=
  addf (Host.divf (broadcastInDim S4096x1 ![0] bcast_S4096_S4096x1_0 (Host.reduceAdd (F := Ideal) (φ := .f32) (mulf (F := Ideal) (φ := .f32) h h) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem rMean_apply (t : Fin 4096) (z : Fin 1) : rMean h (ix2 t z) = Norm.meanSq fun j => h (ix2 t j) := by
  unfold rMean Norm.meanSq
  pointwise

/-- The gradient before the norm's gains. -/
def rScaled : Vec Ideal S4096x1024 .f32 :=
  mulf (F := Ideal) (φ := .f32) (rNorm z w) (broadcastInDim (α := Elt Ideal .f32) S4096x1024 ![0, 1] bcast_S1x1024_S4096x1024_0_1 (broadcastInDim (α := Elt Ideal .f32) S1x1024 ![1] bcast_S1024_S1x1024_1 g))

theorem rScaled_apply (t : Fin 4096) (k : Fin 1024) : rScaled z w g (ix2 t k) = dNorm z w t k * g (ix1 k) := by
  unfold rScaled
  pointwise
  exact congrArg (· * _) (rNorm_apply z w t k)

/-- The part of the gradient that comes through the mean square. -/
def rThrough : Vec Ideal S4096 .f32 :=
  Host.reduceAdd (Host.divf (mulf (shapeCast _ (Host.reduceAdd (F := Ideal) (φ := .f32) (mulf (F := Ideal) (φ := .f32) h (rScaled z w g)) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (rMean h)) (rMean h))))
    (broadcastInDim S4096x1 ![] bcast_S_S4096x1 (constant S_ .f32 0x44800000#32))) (constant S_ .f32 0x00000000#32) reducesTo_S4096x1_S4096_d1 h_S_

theorem rThrough_apply (t : Fin 4096) : rThrough z w h g (ix1 t)
    = Ideal.div ((∑ j, h (ix2 t j) * (dNorm z w t j * g (ix1 j)))
      * (Norm.minusHalf * Ideal.div (Norm.inv fun j => h (ix2 t j)) (Norm.meanSq fun j => h (ix2 t j)))) Norm.width := by
  unfold rThrough
  pointwise
  simp only [rMean_apply, rScaled_apply]
  exact Finset.sum_const _ |>.trans (one_nsmul _)

/-- The reference's two results. -/
theorem ref_input : addf (F := Ideal) (φ := .f32) (addf (addf dh (mulf (F := Ideal) (φ := .f32) (rScaled z w g) (broadcastInDim S4096x1024 ![0, 1] bcast_S4096x1_S4096x1024_0_1 (Host.rsqrt (F := Ideal) (φ := .f32) (rMean h)))))
      (mulf (F := Ideal) (φ := .f32) h (broadcastInDim S4096x1024 ![0] bcast_S4096_S4096x1024_0 (rThrough z w h g))))
      (mulf (F := Ideal) (φ := .f32) (broadcastInDim S4096x1024 ![0] bcast_S4096_S4096x1024_0 (rThrough z w h g)) h)
    = dInput z w dh h fun l => g (ix1 l) := by
  funext y
  idx_vars y
  pointwise
  simp only [rMean_apply, rScaled_apply]
  exact Norm.back_eq (fun j => h (ix2 y0 j)) (fun j => g (ix1 j)) (dNorm z w y0) y1 _ _ (rThrough_apply z w h g y0)

theorem ref_gain : (shapeCast _ (Host.reduceAdd (shapeCast _ (Host.reduceAdd (F := Ideal) (φ := .f32) (mulf (mulf (F := Ideal) (φ := .f32) h (broadcastInDim S4096x1024 ![0, 1] bcast_S4096x1_S4096x1024_0_1 (Host.rsqrt (rMean h))))
      (rNorm z w)) (constant S_ .f32 0x00000000#32) reducesTo_S4096x1024_S1024_d0 h_S_) shapeCasts_S1024_S1x1024)
      (constant S_ .f32 0x00000000#32) reducesTo_S1x1024_S1024_d0 h_S_) shapeCasts_S1024_S1x1024 : A2 1 1024)
    = dGain z w h := by
  funext y
  idx_vars y
  pointwise
  simp only [rMean_apply, rNorm_apply]
  obtain rfl : y0 = 0 := Subsingleton.elim _ _
  unfold dGain
  simp only [Finset.univ_unique, Finset.sum_singleton]
  exact Finset.sum_congr rfl fun t _ => mul_comm _ _

end Ref

/-- Equal arguments give equal functions. -/
theorem dInput_congr {z z' : A2 4096 5632} {w w' : A2 1024 5632} {dh dh' h h' : A2 4096 1024} {g g' : Fin 1024 → EReal}
    (e0 : z = z') (e1 : w = w') (e2 : dh = dh') (e3 : h = h') (e4 : g = g') : dInput z w dh h g = dInput z' w' dh' h' g' := by
  subst e0 e1 e2 e3 e4
  rfl
theorem dGain_congr {z z' : A2 4096 5632} {w w' : A2 1024 5632} {h h' : A2 4096 1024}
    (e0 : z = z') (e1 : w = w') (e3 : h = h') : dGain z w h = dGain z' w' h' := by
  subst e0 e1 e3
  rfl

/-- The reference ends with its arguments as they were, and it has no semaphores. -/
theorem frame_reference : Cert.quiescent_Reference5Ideal (hReference5Ideal := Cert.Reference5Ideal.Gen.facts) := fun m ρ _ =>
  (θ_run _ _ _).mono (fun r h => ⟨fun c => (h c).2.2, sem_eq_zero_of_no_sems (by decide) r.2⟩)
    (Cert.Reference5Ideal.Value.run (F := Ideal) m ρ)

/-- Equal results: the functions of Spec.lean of the arguments. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => dInput (argZ m c) (argW m c) (argDh m c) (argH m c) (argG m c),
    fun c => dGain (argZ m c) (argW m c) (argH m c), ?_, ?_⟩
  · exact (θ_run _ _ _).mono (fun r h c => ⟨(h c).1.trans (arr6 m c), (h c).2.1.trans (arr7 m c), (h c).2.2⟩)
      (Cert.Kernel5Ideal.Value.run_blocks (F := Ideal) m ρ)
  · refine (θ_run _ _ _).mono (fun r h c => ⟨(h c).1.trans ?_, (h c).2.1.trans ?_, (h c).2.2⟩) (Cert.Reference5Ideal.Value.run (F := Ideal) m' ρ')
    · obtain ⟨h0, h1, h2, h3, h4⟩ := hagree c
      unfold Cert.Reference5Ideal.Value.res_main_v40
      exact (ref_input _ _ _ _ _).trans (dInput_congr h0 h1 h2 h3 (funext fun l => congrFun h4 (ix1 l)))
    · obtain ⟨h0, h1, h2, h3, h4⟩ := hagree c
      exact (ref_gain _ _ _).trans (dGain_congr h0 h1 h3)

end Cert.MixBack

end
-- ==== Proof.MixWeight.Kernel.lean ====
/- The gradient of the weight of the mixer's wide first product, and what the two calls for it leave in their common
   result array. The weight's 5632 columns form four blocks of 1408. The first call writes blocks 0 and 1 from the lower
   half of the columns, the second call blocks 2 and 3 from the upper half, into the array the first call left. -/
module

public import proofs.«01_k».proof.Proof.Gen.Kernel6Ideal.Frame
public import proofs.«01_k».proof.Proof.FfnWeight.Spec
public import Idealize.ShloMosaic.Lib.KernelVsHost
public import Idealize.ShloMosaic.Lib.Pipeline.ValueKit

@[expose] public section

set_option maxRecDepth 16384

noncomputable section

namespace Cert.MixWeight

open Cert.FfnWeight (A2 A3)
open Cert.Kernel6Ideal Cert.Kernel6Ideal.Gen Idealize.ShloMosaic Idealize.ShloMosaic.TcCoe Idealize.SL.Sem

/-- The gradient of the weight, in four blocks of columns: for each block, input feature and column of the block the sum
    over the tokens. -/
def dWeight (n : A2 4096 1024) (d : A2 4096 5632) : A3 4 1024 1408 := fun i =>
  ∑ t : Fin 4096, n (ix2 t (i 1)) * d (ix2 t (⟨(i 0).val * 1408 + (i 2).val, by have h0 : (i 0).val < 4 := (i 0).isLt; have h2 : (i 2).val < 1408 := (i 2).isLt; omega⟩ : Fin 5632))

/-- One block's product, in the first call and in the second. -/
theorem pay0_apply (a : Vec Ideal S4096x512 .bf16) (d : Vec Ideal S4096x1408 .bf16) (z : Fin 1) (k : Fin 512) (l : Fin 1408) :
    k0_pay1 a d (ix3 z k l) = ∑ t : Fin 4096, a (ix2 t k) * d (ix2 t l) := by
  unfold k0_pay1
  pointwise
theorem pay1_apply (a : Vec Ideal S4096x512 .bf16) (d : Vec Ideal S4096x1408 .bf16) (z : Fin 1) (k : Fin 512) (l : Fin 1408) :
    k1_pay1 a d (ix3 z k l) = ∑ t : Fin 4096, a (ix2 t k) * d (ix2 t l) := by
  unfold k1_pay1
  pointwise

/-- A product of 512 input features with 1408 columns is a part of the gradient's block `b`. -/
theorem point (n : A2 4096 1024) (d : A2 4096 5632) (x : Vec Ideal S4096x512 .bf16) (y : Vec Ideal S4096x1408 .bf16) (b : Fin 4)
    (r : Fin 2) (k : Fin 512) (l : Fin 1408)
    (ha : ∀ i (k : Fin 512), x (ix2 i k) = n (ix2 i (⟨r.val * 512 + k.val, by omega⟩ : Fin 1024)))
    (hb : ∀ i (l : Fin 1408), y (ix2 i l) = d (ix2 i (⟨b.val * 1408 + l.val, by omega⟩ : Fin 5632))) :
    ∑ i : Fin 4096, x (ix2 i k) * y (ix2 i l) = dWeight n d (ix3 b (⟨r.val * 512 + k.val, by omega⟩ : Fin 1024) l) :=
  Finset.sum_congr rfl fun i _ => congrArg₂ (· * ·) (ha i k) (hb i l)

variable (m : (ℓ : Loc nD τ sig) → Buf (Elt Ideal) ℓ) (ρ : Dev nD → PrngReg) (c : Dev nD)

/-- The arguments: the normalised activation, and the gradient of the product. -/
abbrev argN : A2 4096 1024 := m ((c : Thread nD τ).loc main_arg0)
abbrev argD : A2 4096 5632 := m ((c : Thread nD τ).loc main_arg1)

/-- Where each window's block stands at a grid point, in the first call and in the second. -/
theorem idx0 : ∀ t : Fin grid0.N, win0_0.index t = ![0, t.val % 2] ∧ win0_1.index t = ![0, t.val / 2]
    ∧ win0_2.index t = ![t.val / 2, t.val % 2, 0] := by
  decide +kernel
theorem idx1 : ∀ t : Fin grid1.N, win1_0.index t = ![0, t.val % 2] ∧ win1_1.index t = ![0, t.val / 2]
    ∧ win1_2.index t = ![2 + t.val / 2, t.val % 2, 0] := by
  decide +kernel
/-- Every grid point of either call writes its block back. -/
theorem flush0 : ∀ t : Fin grid0.N, win0_2.flush t = true := by decide +kernel
theorem flush1 : ∀ t : Fin grid1.N, win1_2.flush t = true := by decide +kernel

/-- The half of the columns each call takes. -/
theorem half0 (i : Fin 4096) (l : Fin 2816) :
    W1 m ρ c (Proc.devRef .tc main_v0) (ix2 i l) = argD m c (ix2 i (⟨l.val, by omega⟩ : Fin 5632)) := by
  simp only [W1, hostOps0]
  entry_read
  pointwise
theorem half1 (i : Fin 4096) (l : Fin 2816) :
    W3 m ρ c (Proc.devRef .tc main_v2) (ix2 i l) = argD m c (ix2 i (⟨2816 + l.val, by omega⟩ : Fin 5632)) := by
  refine Eq.trans ?_ (congrFun (W2_args m ρ c main_arg1 (by decide)) _)
  simp only [W3, hostOps1]
  entry_read
  pointwise
/-- The second call finds in its result array what the first call left. -/
theorem carried : W3 m ρ c (Proc.devRef .tc main_v3) = (dat0 (V1 m ρ) c).arrAt 2 cfg0.N := by
  refine Eq.trans ?_ (W2_arr m ρ c 2)
  simp only [W3, hostOps1]
  entry_read
  rfl

theorem blk0_n (t : Fin 4) (i : Fin 4096) (k : Fin 512) :
    iblk0 (V1 m ρ) c 0 t (ix2 i k) = argN m c (ix2 i (⟨t.val % 2 * 512 + k.val, by omega⟩ : Fin 1024)) := by
  refine Eq.trans ?_ (congrFun (W1_args m ρ c main_arg0 (by decide)) _)
  blk_ext [iblk0, idx0 t]
theorem blk0_d (t : Fin 4) (i : Fin 4096) (l : Fin 1408) :
    iblk0 (V1 m ρ) c 1 t (ix2 i l) = argD m c (ix2 i (⟨t.val / 2 * 1408 + l.val, by omega⟩ : Fin 5632)) := by
  refine Eq.trans ?_ (half0 m ρ c i ⟨t.val / 2 * 1408 + l.val, by omega⟩)
  blk_ext [iblk0, idx0 t]
theorem blk1_n (t : Fin 4) (i : Fin 4096) (k : Fin 512) :
    iblk1 (V3 m ρ) c 0 t (ix2 i k) = argN m c (ix2 i (⟨t.val % 2 * 512 + k.val, by omega⟩ : Fin 1024)) := by
  refine Eq.trans ?_ (congrFun (W3_args m ρ c main_arg0 (by decide)) _)
  blk_ext [iblk1, idx1 t]
theorem blk1_d (t : Fin 4) (i : Fin 4096) (l : Fin 1408) :
    iblk1 (V3 m ρ) c 1 t (ix2 i l) = argD m c (ix2 i (⟨(2 + t.val / 2) * 1408 + l.val, by omega⟩ : Fin 5632)) := by
  refine Eq.trans ?_ ((half1 m ρ c i ⟨t.val / 2 * 1408 + l.val, by omega⟩).trans ?_)
  · blk_ext [iblk1, idx1 t]
  · exact congrArg (fun q : Fin 5632 => argD m c (ix2 i q)) (Fin.ext (by dsimp only; omega))

/-- What the body of the second call leaves in its result window at a point. -/
theorem outsAt_eq (V : (c : Dev nD) → (b : Ref sig .tc) → Buf (Elt Ideal) ((c : Thread nD τ).loc b)) (t : Fin cfg1.N) :
    outsAt1 V c t = k1_pay1 (iblk1 V c 0 t) (iblk1 V c 1 t) := by
  unfold outsAt1 out1_A_2
  frame_out

/-- What a point of the first call writes back is the gradient's block. -/
theorem flushed0 (t : Fin cfg0.N) (hf : (cfg0.win 2).flush t = true) : (dat0 (V1 m ρ) c).flushed 2 t
    = ((cfg0.win 2).blk t).view.read (Elt Ideal) (dWeight (argN m c) (argD m c)) := by
  funext y
  blk_simp
  rw [after0_2]
  unfold out0_2
  frame_out
  idx_vars y
  have ht : t.val < 4 := t.isLt
  refine Eq.trans ?_ (congrArg (dWeight (argN m c) (argD m c)) (?_ : ix3 (⟨t.val / 2, by omega⟩ : Fin 4) (⟨t.val % 2 * 512 + y1.val, by omega⟩ : Fin 1024) y2 = _))
  · refine (pay0_apply _ _ _ _ _).trans ?_
    exact point _ _ _ _ ⟨t.val / 2, by omega⟩ ⟨t.val % 2, by omega⟩ y1 y2 (blk0_n m ρ c t) (blk0_d m ρ c t)
  · blk_ext [idx0 t]
/-- What a point of the second call writes back is the gradient's block. -/
theorem flushed1 (t : Fin cfg1.N) (hf : (cfg1.win 2).flush t = true) : (dat1 (V3 m ρ) c).flushed 2 t
    = ((cfg1.win 2).blk t).view.read (Elt Ideal) (dWeight (argN m c) (argD m c)) := by
  funext y
  blk_simp
  rw [after1_2, outsAt_eq]
  idx_vars y
  have ht : t.val < 4 := t.isLt
  refine Eq.trans ?_ (congrArg (dWeight (argN m c) (argD m c)) (?_ : ix3 (⟨2 + t.val / 2, by omega⟩ : Fin 4) (⟨t.val % 2 * 512 + y1.val, by omega⟩ : Fin 1024) y2 = _))
  · refine (pay1_apply _ _ _ _ _).trans ?_
    exact point _ _ _ _ ⟨2 + t.val / 2, by omega⟩ ⟨t.val % 2, by omega⟩ y1 y2 (blk1_n m ρ c t) (blk1_d m ρ c t)
  · blk_ext [idx1 t]

/-- The first call's blocks contain every index of blocks 0 and 1, the second call's every index of blocks 2 and 3. -/
theorem mem0 (i : S4x1024x1408.Idx) (h : (i 0).val < 2) : ∃ t : Fin cfg0.N, (cfg0.win 2).flush t = true ∧ i ∈ ((cfg0.win 2).blk t).view.set := by
  have h1 : (i 1).val < 1024 := (i 1).isLt
  have h2 : (i 2).val < 1408 := (i 2).isLt
  obtain ⟨t, ht⟩ : ∃ t : Fin 4, t.val = (i 0).val * 2 + (i 1).val / 512 := ⟨⟨(i 0).val * 2 + (i 1).val / 512, by omega⟩, rfl⟩
  have e0 : win0_2.index t 0 = t.val / 2 := congrFun (idx0 t).2.2 0
  have e1 : win0_2.index t 1 = t.val % 2 := congrFun (idx0 t).2.2 1
  have e2 : win0_2.index t 2 = 0 := congrFun (idx0 t).2.2 2
  refine ⟨t, flush0 t, ?_⟩
  mem_blk
  rw [e0, e1, e2]
  refine ⟨?_, ?_, ?_⟩ <;> omega
theorem mem1 (i : S4x1024x1408.Idx) (h : 2 ≤ (i 0).val) : ∃ t : Fin cfg1.N, (cfg1.win 2).flush t = true ∧ i ∈ ((cfg1.win 2).blk t).view.set := by
  have h0 : (i 0).val < 4 := (i 0).isLt
  have h1 : (i 1).val < 1024 := (i 1).isLt
  have h2 : (i 2).val < 1408 := (i 2).isLt
  obtain ⟨t, ht⟩ : ∃ t : Fin 4, t.val = ((i 0).val - 2) * 2 + (i 1).val / 512 := ⟨⟨((i 0).val - 2) * 2 + (i 1).val / 512, by omega⟩, rfl⟩
  have e0 : win1_2.index t 0 = 2 + t.val / 2 := congrFun (idx1 t).2.2 0
  have e1 : win1_2.index t 1 = t.val % 2 := congrFun (idx1 t).2.2 1
  have e2 : win1_2.index t 2 = 0 := congrFun (idx1 t).2.2 2
  refine ⟨t, flush1 t, ?_⟩
  mem_blk
  rw [e0, e1, e2]
  refine ⟨?_, ?_, ?_⟩ <;> omega

/-- The result array after both calls is the whole gradient. -/
theorem result : (dat1 (V3 m ρ) c).arrAt 2 cfg1.N = dWeight (argN m c) (argD m c) := by
  funext i
  refine ((dat1 (V3 m ρ) c).arrAt_eq_piecewise 2 _ (flushed1 m ρ c) i).trans ?_
  split
  · rfl
  · rename_i h
    have h0 : (i 0).val < 2 := by
      by_contra h2
      exact h (mem1 i (by omega))
    rw [A_eq1]
    refine (congrFun (carried m ρ c) i).trans ?_
    refine ((dat0 (V1 m ρ) c).arrAt_eq_piecewise 2 _ (flushed0 m ρ c) i).trans ?_
    exact if_pos (mem0 i h0)

section Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
set_option backward.isDefEq.respectTransparency.types false in
/-- The run: the result array ends with the gradient, and the arguments as they were. -/
theorem run : θ_run defs (onTc (τ := τ) (main (F := Ideal))) ⟨m, fun _ => 0, ρ⟩ (fun r => ∀ c : Dev nD,
      r.2.mem ((c.tc : Thread nD τ).loc main_v3) = dWeight (argN m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v3 (by decide))).trans ((W4_arr m ρ c 2).trans (result m ρ c)),
       (h c _ (mem_uc main_arg0 (by decide))).trans (W4_main_arg0 m ρ c),
       (h c _ (mem_uc main_arg1 (by decide))).trans (W4_main_arg1 m ρ c)⟩)

end Run

end Cert.MixWeight

end
-- ==== Proof.MixWeight.Reference.lean ====
/- What the reference of the gradient of the mixer's wide weight computes, and the claims about both programs. -/
module

public import proofs.«01_k».proof.Defs
public import proofs.«01_k».proof.Proof.Gen.Reference6Ideal.Run
public import proofs.«01_k».proof.Proof.MixWeight.Kernel
public import Idealize.ShloMosaic.Lib.Claim

@[expose] public section

set_option maxRecDepth 16384

noncomputable section

namespace Cert.MixWeight

open Cert.FfnWeight (A2 A3)
open Idealize.ShloMosaic Idealize.ShloMosaic.TcCoe Idealize.SL.Sem

section Ref
open Cert.Reference6Ideal Cert.Reference6Ideal.Value Cert.Reference6Ideal.Gen Idealize.ShloMosaic.StableHlo

/-- The reference's result. -/
theorem ref_weight (n : A2 4096 1024) (d : A2 4096 5632) : (truncf .bf16 (transpose S4x1024x1408 [1, 0, 2] (shapeCast _ (transpose S1024x5632 [1, 0]
      (Host.dotGeneral (F := Ideal) (φ₁ := .f32) (φ₂ := .f32) dot_S4096x5632_S4096x1024_S5632x1024_0_0_1_1_n_n none
        (extf (F := Ideal) (φ := .bf16) .f32 d bitsLt_bf16_f32) (extf (F := Ideal) (φ := .bf16) .f32 n bitsLt_bf16_f32))
      transposes_S5632x1024_S1024x5632_1_0) shapeCasts_S1024x5632_S1024x4x1408) transposes_S1024x4x1408_S4x1024x1408_1_0_2) bitsLt_bf16_f32 : A3 4 1024 1408)
    = dWeight n d := by
  funext i
  idx_vars i
  unfold dWeight
  pointwise
  exact Finset.sum_congr rfl fun t _ => mul_comm _ _

end Ref

/-- The reference ends with its arguments as they were, and it has no semaphores. -/
theorem frame_reference : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

/-- Equal results: `dWeight` of the arguments. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => dWeight (argN m c) (argD m c), ?_, ?_⟩
  · exact run m ρ
  · refine (θ_run _ _ _).mono (fun r h c => ⟨(h c).1.trans ?_, (h c).2⟩) (Cert.Reference6Ideal.Value.run (F := Ideal) m' ρ')
    obtain ⟨h0, h1⟩ := hagree c
    exact (ref_weight _ _).trans (congrArg₂ dWeight h0 h1)

end Cert.MixWeight

end
-- ==== Proof.OutWeight.Kernel.lean ====
/- The gradient of a square weight whose rows the step keeps in four blocks of 256, and what the call for it leaves in its
   result array. One grid point handles one of the four blocks. -/
module

public import proofs.«01_k».proof.Proof.Gen.Kernel7Ideal.Value
public import proofs.«01_k».proof.Proof.FfnWeight.Spec
public import Idealize.ShloMosaic.Lib.KernelVsHost
public import Idealize.ShloMosaic.Lib.Pipeline.ValueKit

@[expose] public section

set_option maxRecDepth 16384

noncomputable section

namespace Cert.OutWeight

open Cert.FfnWeight (A2 A3)
open Cert.Kernel7Ideal Cert.Kernel7Ideal.Gen Idealize.ShloMosaic Idealize.ShloMosaic.TcCoe Idealize.SL.Sem

/-- The gradient of the weight: for each input feature and each column the sum over the tokens. -/
def dWeight (a d : A2 4096 1024) : A3 4 256 1024 := fun i =>
  ∑ t : Fin 4096, a (ix2 t (⟨(i 0).val * 256 + (i 1).val, by have h0 : (i 0).val < 4 := (i 0).isLt; have h1 : (i 1).val < 256 := (i 1).isLt; omega⟩ : Fin 1024)) * d (ix2 t (i 2))

/-- One block's product. -/
theorem pay1_apply (a : Vec Ideal S4096x256 .bf16) (d : Vec Ideal S4096x1024 .bf16) (z : Fin 1) (k : Fin 256) (l : Fin 1024) :
    k0_pay1 a d (ix3 z k l) = ∑ t : Fin 4096, a (ix2 t k) * d (ix2 t l) := by
  unfold k0_pay1
  pointwise

/-- A block's product is the gradient's block. -/
theorem point (a d : A2 4096 1024) (x : Vec Ideal S4096x256 .bf16) (y : Vec Ideal S4096x1024 .bf16) (t : Fin 4) (k : Fin 256)
    (l : Fin 1024) (ha : ∀ i (k : Fin 256), x (ix2 i k) = a (ix2 i (⟨t.val * 256 + k.val, by omega⟩ : Fin 1024)))
    (hb : ∀ i l, y (ix2 i l) = d (ix2 i l)) :
    ∑ i : Fin 4096, x (ix2 i k) * y (ix2 i l) = dWeight a d (ix3 t k l) :=
  Finset.sum_congr rfl fun i _ => congrArg₂ (· * ·) (ha i k) (hb i l)

variable (m : (ℓ : Loc nD τ sig) → Buf (Elt Ideal) ℓ) (c : Dev nD)

/-- The arguments: the product's left operand, and the gradient of its result. -/
abbrev argA : A2 4096 1024 := m ((c : Thread nD τ).loc main_arg0)
abbrev argD : A2 4096 1024 := m ((c : Thread nD τ).loc main_arg1)

/-- Where each window's block stands at a grid point. -/
theorem idx : ∀ t : Fin grid0.N, win0_0.index t = ![0, t.val] ∧ win0_1.index t = ![0, 0] ∧ win0_2.index t = ![t.val, 0, 0] := by
  decide +kernel

theorem blk_d (t : Fin grid0.N) (i : Fin 4096) (l : Fin 1024) : iblk m c 1 t (ix2 i l) = argD m c (ix2 i l) := by
  blk_ext [iblk, V, idx t]
theorem blk_a (t : Fin 4) (i : Fin 4096) (k : Fin 256) :
    iblk m c 0 t (ix2 i k) = argA m c (ix2 i (⟨t.val * 256 + k.val, by omega⟩ : Fin 1024)) := by
  blk_ext [iblk, V, idx t]

theorem arr2 : (dats m 0 c).arrAt 2 (cfgs 0).N = dWeight (argA m c) (argD m c) := by
  refine (dats m 0 c).arrAt_eq_of_covers 2 _ (by decide +kernel) fun t hf y => ?_
  blk_simp
  rw [after0_2]
  unfold out0_2
  frame_out
  idx_vars y
  refine Eq.trans ?_ (congrArg (dWeight (argA m c) (argD m c)) (?_ : ix3 t y1 y2 = _))
  · refine (pay1_apply _ _ _ _ _).trans ?_
    exact point _ _ _ _ t y1 y2 (blk_a m c t) (blk_d m c t)
  · blk_ext [idx t]

end Cert.OutWeight

end
-- ==== Proof.OutWeight.Reference.lean ====
/- What the reference of a square weight's gradient computes, and the claims about both programs. -/
module

public import proofs.«01_k».proof.Defs
public import proofs.«01_k».proof.Proof.Gen.Reference7Ideal.Run
public import proofs.«01_k».proof.Proof.OutWeight.Kernel
public import Idealize.ShloMosaic.Lib.Claim

@[expose] public section

set_option maxRecDepth 16384

noncomputable section

namespace Cert.OutWeight

open Cert.FfnWeight (A2 A3)
open Idealize.ShloMosaic Idealize.ShloMosaic.TcCoe Idealize.SL.Sem

section Ref
open Cert.Reference7Ideal Cert.Reference7Ideal.Value Cert.Reference7Ideal.Gen Idealize.ShloMosaic.StableHlo

/-- The reference's result. -/
theorem ref_weight (a d : A2 4096 1024) : (truncf .bf16 (shapeCast _ (transpose S1024x1024 [1, 0] (Host.dotGeneral (F := Ideal) (φ₁ := .f32) (φ₂ := .f32)
      dot_S4096x1024_S4096x1024_S1024x1024_0_0_1_1_n_n none (extf (F := Ideal) (φ := .bf16) .f32 d bitsLt_bf16_f32) (extf (F := Ideal) (φ := .bf16) .f32 a bitsLt_bf16_f32))
      transposes_S1024x1024_S1024x1024_1_0) shapeCasts_S1024x1024_S4x256x1024) bitsLt_bf16_f32 : A3 4 256 1024)
    = dWeight a d := by
  funext i
  idx_vars i
  unfold dWeight
  pointwise
  exact Finset.sum_congr rfl fun t _ => mul_comm _ _

end Ref

/-- The reference ends with its arguments as they were, and it has no semaphores. -/
theorem frame_reference : Cert.quiescent_Reference7Ideal (hReference7Ideal := Cert.Reference7Ideal.Gen.facts) := fun m ρ _ =>
  (θ_run _ _ _).mono (fun r h => ⟨fun c => (h c).2, sem_eq_zero_of_no_sems (by decide) r.2⟩)
    (Cert.Reference7Ideal.Value.run (F := Ideal) m ρ)

/-- Equal results: `dWeight` of the arguments. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => dWeight (argA m c) (argD m c), ?_, ?_⟩
  · exact (θ_run _ _ _).mono (fun r h c => ⟨(h c).1.trans (arr2 m c), (h c).2⟩) (Cert.Kernel7Ideal.Value.run_blocks (F := Ideal) m ρ)
  · refine (θ_run _ _ _).mono (fun r h c => ⟨(h c).1.trans ?_, (h c).2⟩) (Cert.Reference7Ideal.Value.run (F := Ideal) m' ρ')
    obtain ⟨h0, h1⟩ := hagree c
    exact (ref_weight _ _).trans (congrArg₂ dWeight h0 h1)

end Cert.OutWeight

end
-- ==== Proof.FfnIn.Body.lean ====
/- The run of the call that normalises the feed-forward's input and multiplies it by the gate's and the up-projection's weights. The grid walks the four
   blocks of 1024 tokens, and for each the four blocks of the weight's columns. At the first column block of a token block the
   body stores the normalised tokens, both into the result and into a buffer it keeps; at the other column blocks it reads
   that buffer and leaves the result's block as it is, until the block is written back after the last one. -/
module

public import proofs.«01_k».proof.Proof.Gen.Kernel8Ideal.Frame
public import proofs.«01_k».proof.Proof.Gen.Kernel8Ideal.Skeleton
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.Kernel8Ideal.Body

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The schedule -/

/-- The body normalises at the points that start a token block. -/
theorem first : ∀ t : Fin cfg0.N, k0_cond1 (grid0.coords t) = 1#1 ↔ t.val % 4 = 0 := by decide +kernel

/-- At the other points it stores nothing into the normalised tokens' block, -/
theorem idle_other : ∀ t : Fin cfg0.N, ¬t.val % 4 = 0 → cfg0.idle 4 (grid0.coords t) = true := by decide +kernel
/-- and at the points that start a token block it does. -/
theorem live_first : ∀ t : Fin cfg0.N, t.val % 4 = 0 → cfg0.idle 4 (grid0.coords t) = false := by decide +kernel
/-- The block is written back after the last column block, and not before. -/
theorem flush_last : ∀ t : Fin cfg0.N, t.val % 4 = 3 → (cfg0.win 4).flush t = true := fun t h => (flush0_4 t).mpr h
theorem noFlush_other : ∀ t : Fin cfg0.N, ¬t.val % 4 = 3 → (cfg0.win 4).flush t = false := fun t h =>
  Bool.eq_false_iff.mpr fun h' => h ((flush0_4 t).mp h')

/-- The block holds nothing of this token block's exactly before the point that starts it. -/
def freshTab : ℕ → Bool := fun n => n % 4 == 0
theorem freshTab_step : ∀ t : Fin cfg0.N,
    freshTab (t.val + 1) = ((cfg0.win 4).flush t || (cfg0.idle 4 (cfg0.grid.coords t) && freshTab t.val)) := by decide +kernel
theorem fresh_eq (t : Fin cfg0.N) : cfg0.fresh 4 t.val = freshTab t.val :=
  Pipeline.Cfg.fresh_tab cfg0 4 freshTab rfl freshTab_step t.val (Nat.le_of_lt t.isLt)

/-- The point that starts the token block of a point. -/
def start (n : ℕ) (h : n < cfg0.N) : Fin cfg0.N := ⟨n - n % 4, Nat.lt_of_le_of_lt (Nat.sub_le _ _) h⟩

/-! ## The body -/

/-- One staging buffer of each result, and the kept buffer, through which contents are stated. -/
abbrev VO4 : View sig .tc .vmem S1024x1024 .bf16 := (Memref.whole cc0_stg4_0 : Memref sig .tc .vmem S1024x1024 .bf16).view
abbrev VO5 : View sig .tc .vmem S1024x768 .bf16 := (Memref.whole cc0_stg5_0 : Memref sig .tc .vmem S1024x768 .bf16).view
abbrev VO6 : View sig .tc .vmem S1024x768 .bf16 := (Memref.whole cc0_stg6_0 : Memref sig .tc .vmem S1024x768 .bf16).view
abbrev VO7 : View sig .tc .vmem S1024x768 .bf16 := (Memref.whole cc0_stg7_0 : Memref sig .tc .vmem S1024x768 .bf16).view
abbrev kept : Memref sig .tc .vmem S1024x1024 .bf16 := Memref.whole cc0_scratch0

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x768x1024 .bf16) (harg4 : arg4.IsWhole) (arg5 : Memref sig .tc .vmem S1x768x1024 .bf16) (harg5 : arg5.IsWhole) (arg6 : Memref sig .tc .vmem S1024x1024 .bf16) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x768 .bf16) (harg9 : arg9.IsWhole) (arg10 : Memref sig .tc .vmem S1024x1024 .bf16) (harg10 : arg10.IsWhole)
  (x0 : Vec F S1024x1024 .f32) (x1 : Vec F S1x1024 .f32) (x2 : Vec F S1x768x1024 .bf16) (x3 : Vec F S1x768x1024 .bf16) (xs : Vec F S1024x1024 .bf16)

set_option maxHeartbeats 2000000 in
/-- At a point that starts a token block, from the inputs' buffers and the others at anything, the body runs and
    leaves the inputs as they were and the stored rectangles written over what the others held. -/
def runFirst (hc : k0_cond1 i = 1#1) :
    Σ' (L4 : List (View.Piece (Elt F) S1024x1024 .bf16)), Σ' (L5 : List (View.Piece (Elt F) S1024x768 .bf16)), Σ' (L6 : List (View.Piece (Elt F) S1024x768 .bf16)), Σ' (L7 : List (View.Piece (Elt F) S1024x768 .bf16)), { LS : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_ffn_in i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_ffn_in_eq_skeleton]; unfold cc0_ffn_in_skel
    unfold owns
    iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, ⟨%d7, %f7, %hf7, H7⟩, ⟨%ds, %fs, %hfs, HS⟩, Hk⟩
    obtain rfl := harg2.eq_unread hf0; obtain rfl := harg3.eq_unread hf1; obtain rfl := harg4.eq_unread hf2; obtain rfl := harg5.eq_unread hf3
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact HS

set_option maxHeartbeats 2000000 in
/-- At another point, the kept buffer at `xs` and the normalised tokens' block at `x`: both come back as they were. -/
def runOther (hc : ¬k0_cond1 i = 1#1) :
    Σ' (L5 : List (View.Piece (Elt F) S1024x768 .bf16)), Σ' (L6 : List (View.Piece (Elt F) S1024x768 .bf16)), { L7 : List (View.Piece (Elt F) S1024x768 .bf16) //
      ∀ (x : Vec F S1024x1024 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs) -∗ K ⟨⟩))
          ⊢ wp frame (wpE (defs₀ (F := F)) Variants.none c none) E (cc0_ffn_in i arg2 harg2 arg3 harg3 arg4 harg4 arg5 harg5 arg6 harg6 arg7 harg7 arg8 harg8 arg9 harg9 arg10 harg10) K } := by
  refine ⟨?_, ?_, ?_, fun x E K => ?run⟩
  case run =>
    simp only [cc0_ffn_in_eq_skeleton]; unfold cc0_ffn_in_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS

/-- The stores cover the blocks. -/
theorem cover4 (hc : k0_cond1 i = 1#1) (y : S1024x1024.Idx) :
    ∃ pc ∈ (runFirst c i arg2 harg2 arg3 harg3 arg4 harg4 arg5 harg5 arg6 harg6 arg7 harg7 arg8 harg8 arg9 harg9 arg10 harg10 x0 x1 x2 x3 hc).1, y ∈ pc.1.set :=
  View.cover_of_tiledL (runFirst c i arg2 harg2 arg3 harg3 arg4 harg4 arg5 harg5 arg6 harg6 arg7 harg7 arg8 harg8 arg9 harg9 arg10 harg10 x0 x1 x2 x3 hc).1 S1024x1024.size (by sl_kernel_rfl) y
theorem cover5 (hc : k0_cond1 i = 1#1) (y : S1024x768.Idx) :
    ∃ pc ∈ (runFirst c i arg2 harg2 arg3 harg3 arg4 harg4 arg5 harg5 arg6 harg6 arg7 harg7 arg8 harg8 arg9 harg9 arg10 harg10 x0 x1 x2 x3 hc).2.1, y ∈ pc.1.set :=
  View.cover_of_tiledL (runFirst c i arg2 harg2 arg3 harg3 arg4 harg4 arg5 harg5 arg6 harg6 arg7 harg7 arg8 harg8 arg9 harg9 arg10 harg10 x0 x1 x2 x3 hc).2.1 S1024x768.size (by sl_kernel_rfl) y
theorem cover6 (hc : k0_cond1 i = 1#1) (y : S1024x768.Idx) :
    ∃ pc ∈ (runFirst c i arg2 harg2 arg3 harg3 arg4 harg4 arg5 harg5 arg6 harg6 arg7 harg7 arg8 harg8 arg9 harg9 arg10 harg10 x0 x1 x2 x3 hc).2.2.1, y ∈ pc.1.set :=
  View.cover_of_tiledL (runFirst c i arg2 harg2 arg3 harg3 arg4 harg4 arg5 harg5 arg6 harg6 arg7 harg7 arg8 harg8 arg9 harg9 arg10 harg10 x0 x1 x2 x3 hc).2.2.1 S1024x768.size (by sl_kernel_rfl) y
theorem cover7 (hc : k0_cond1 i = 1#1) (y : S1024x768.Idx) :
    ∃ pc ∈ (runFirst c i arg2 harg2 arg3 harg3 arg4 harg4 arg5 harg5 arg6 harg6 arg7 harg7 arg8 harg8 arg9 harg9 arg10 harg10 x0 x1 x2 x3 hc).2.2.2.1, y ∈ pc.1.set :=
  View.cover_of_tiledL (runFirst c i arg2 harg2 arg3 harg3 arg4 harg4 arg5 harg5 arg6 harg6 arg7 harg7 arg8 harg8 arg9 harg9 arg10 harg10 x0 x1 x2 x3 hc).2.2.2.1 S1024x768.size (by sl_kernel_rfl) y
theorem coverS (hc : k0_cond1 i = 1#1) (y : S1024x1024.Idx) :
    ∃ pc ∈ (runFirst c i arg2 harg2 arg3 harg3 arg4 harg4 arg5 harg5 arg6 harg6 arg7 harg7 arg8 harg8 arg9 harg9 arg10 harg10 x0 x1 x2 x3 hc).2.2.2.2.1, y ∈ pc.1.set :=
  View.cover_of_tiledL (runFirst c i arg2 harg2 arg3 harg3 arg4 harg4 arg5 harg5 arg6 harg6 arg7 harg7 arg8 harg8 arg9 harg9 arg10 harg10 x0 x1 x2 x3 hc).2.2.2.2.1 S1024x1024.size (by sl_kernel_rfl) y
theorem cover5' (hc : ¬k0_cond1 i = 1#1) (y : S1024x768.Idx) :
    ∃ pc ∈ (runOther c i arg2 harg2 arg3 harg3 arg4 harg4 arg5 harg5 arg6 harg6 arg7 harg7 arg8 harg8 arg9 harg9 arg10 harg10 x0 x1 x2 x3 xs hc).1, y ∈ pc.1.set :=
  View.cover_of_tiledL (runOther c i arg2 harg2 arg3 harg3 arg4 harg4 arg5 harg5 arg6 harg6 arg7 harg7 arg8 harg8 arg9 harg9 arg10 harg10 x0 x1 x2 x3 xs hc).1 S1024x768.size (by sl_kernel_rfl) y
theorem cover6' (hc : ¬k0_cond1 i = 1#1) (y : S1024x768.Idx) :
    ∃ pc ∈ (runOther c i arg2 harg2 arg3 harg3 arg4 harg4 arg5 harg5 arg6 harg6 arg7 harg7 arg8 harg8 arg9 harg9 arg10 harg10 x0 x1 x2 x3 xs hc).2.1, y ∈ pc.1.set :=
  View.cover_of_tiledL (runOther c i arg2 harg2 arg3 harg3 arg4 harg4 arg5 harg5 arg6 harg6 arg7 harg7 arg8 harg8 arg9 harg9 arg10 harg10 x0 x1 x2 x3 xs hc).2.1 S1024x768.size (by sl_kernel_rfl) y
theorem cover7' (hc : ¬k0_cond1 i = 1#1) (y : S1024x768.Idx) :
    ∃ pc ∈ (runOther c i arg2 harg2 arg3 harg3 arg4 harg4 arg5 harg5 arg6 harg6 arg7 harg7 arg8 harg8 arg9 harg9 arg10 harg10 x0 x1 x2 x3 xs hc).2.2.1, y ∈ pc.1.set :=
  View.cover_of_tiledL (runOther c i arg2 harg2 arg3 harg3 arg4 harg4 arg5 harg5 arg6 harg6 arg7 harg7 arg8 harg8 arg9 harg9 arg10 harg10 x0 x1 x2 x3 xs hc).2.2.1 S1024x768.size (by sl_kernel_rfl) y

/-- What the stores of a point that starts a token block leave: the normalised tokens twice, and the products with the weight's blocks. -/
theorem first4 (hc : k0_cond1 i = 1#1) :
    VO4.read (Elt F) (VO4.writes (Elt F) VO4.junk (runFirst c i arg2 harg2 arg3 harg3 arg4 harg4 arg5 harg5 arg6 harg6 arg7 harg7 arg8 harg8 arg9 harg9 arg10 harg10 x0 x1 x2 x3 hc).1) = k0_pay1 x0 x1 := by
  frame_out
theorem first5 (hc : k0_cond1 i = 1#1) :
    VO5.read (Elt F) (VO5.writes (Elt F) VO5.junk (runFirst c i arg2 harg2 arg3 harg3 arg4 harg4 arg5 harg5 arg6 harg6 arg7 harg7 arg8 harg8 arg9 harg9 arg10 harg10 x0 x1 x2 x3 hc).2.1) = k0_pay3 (k0_pay2 x0 x1) x2 := by
  frame_out
theorem first6 (hc : k0_cond1 i = 1#1) :
    VO6.read (Elt F) (VO6.writes (Elt F) VO6.junk (runFirst c i arg2 harg2 arg3 harg3 arg4 harg4 arg5 harg5 arg6 harg6 arg7 harg7 arg8 harg8 arg9 harg9 arg10 harg10 x0 x1 x2 x3 hc).2.2.1) = k0_pay4 (k0_pay2 x0 x1) x3 := by
  frame_out
theorem first7 (hc : k0_cond1 i = 1#1) :
    VO7.read (Elt F) (VO7.writes (Elt F) VO7.junk (runFirst c i arg2 harg2 arg3 harg3 arg4 harg4 arg5 harg5 arg6 harg6 arg7 harg7 arg8 harg8 arg9 harg9 arg10 harg10 x0 x1 x2 x3 hc).2.2.2.1) = k0_pay5 (k0_pay2 x0 x1) x2 x3 := by
  frame_out
theorem firstS (hc : k0_cond1 i = 1#1) :
    VO4.read (Elt F) (VO4.writes (Elt F) VO4.junk (runFirst c i arg2 harg2 arg3 harg3 arg4 harg4 arg5 harg5 arg6 harg6 arg7 harg7 arg8 harg8 arg9 harg9 arg10 harg10 x0 x1 x2 x3 hc).2.2.2.2.1) = k0_pay2 x0 x1 := by
  frame_out

/-- What another point's stores leave: the same products, of the kept buffer. -/
theorem other5 (hc : ¬k0_cond1 i = 1#1) :
    VO5.read (Elt F) (VO5.writes (Elt F) VO5.junk (runOther c i arg2 harg2 arg3 harg3 arg4 harg4 arg5 harg5 arg6 harg6 arg7 harg7 arg8 harg8 arg9 harg9 arg10 harg10 x0 x1 x2 x3 xs hc).1) = k0_pay3 xs x2 := by
  frame_out
theorem other6 (hc : ¬k0_cond1 i = 1#1) :
    VO6.read (Elt F) (VO6.writes (Elt F) VO6.junk (runOther c i arg2 harg2 arg3 harg3 arg4 harg4 arg5 harg5 arg6 harg6 arg7 harg7 arg8 harg8 arg9 harg9 arg10 harg10 x0 x1 x2 x3 xs hc).2.1) = k0_pay4 xs x3 := by
  frame_out
theorem other7 (hc : ¬k0_cond1 i = 1#1) :
    VO7.read (Elt F) (VO7.writes (Elt F) VO7.junk (runOther c i arg2 harg2 arg3 harg3 arg4 harg4 arg5 harg5 arg6 harg6 arg7 harg7 arg8 harg8 arg9 harg9 arg10 harg10 x0 x1 x2 x3 xs hc).2.2.1) = k0_pay5 xs x2 x3 := by
  frame_out

end

/-! ## What the buffers hold after each point -/

/-- The normalised tokens of a point's token block, as the point that starts the token block stores them, -/
def tokens (c : Dev nD) (n : ℕ) (h : n < cfg0.N) : Vec F S1024x1024 .bf16 :=
  k0_pay1 (iblk m c 0 (start n h)) (iblk m c 1 (start n h))
/-- and the same in the kept buffer. -/
def keptAt (c : Dev nD) (n : ℕ) (h : n < cfg0.N) : Vec F S1024x1024 .bf16 :=
  k0_pay2 (iblk m c 0 (start n h)) (iblk m c 1 (start n h))

/-- A point that starts a token block is that block's first. -/
theorem start_first (t : Fin cfg0.N) (h : t.val % 4 = 0) : start t.val t.isLt = t := by
  apply Fin.ext; show t.val - t.val % 4 = t.val; omega
/-- Another point shares it with the point before. -/
theorem start_other (t : Fin cfg0.N) (h : ¬t.val % 4 = 0) :
    start t.val t.isLt = start (t.val - 1) (Nat.lt_of_le_of_lt (Nat.sub_le _ _) t.isLt) := by
  apply Fin.ext; show t.val - t.val % 4 = (t.val - 1) - (t.val - 1) % 4; omega

/-- What is held between points: at first whatever the buffers held, afterwards the kept buffer's named contents. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) kept fullShare (keptAt m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) kept fullShare (keptAt m c n hn) ∗ (∃ r, prngReg c r)) := rfl
theorem PhiS_pos (c : Dev nD) (n : ℕ) (h : n ≤ cfg0.N) (hz : n ≠ 0) :
    PhiS m c n h = iprop(owns (c : Thread nD τ) kept fullShare (keptAt m c (n - 1) (by omega)) ∗ (∃ r, prngReg c r)) := by
  cases n with
  | zero => exact absurd rfl hz
  | succ n => rfl

/-- At first the kept buffer is held at some contents. -/
theorem PhiA_eq (c : Dev nD) :
    (Pipeline.ΦA spec0 c : sProp (MT nD τ sig Unit (Elt F) ℕ (UR sig nD τ) ℕ))
      = iprop((∃ d, owns (c : Thread nD τ) kept fullShare d) ∗ (∃ r, prngReg c r)) := by
  unfold Pipeline.ΦA; rw [scopedRest0_eq]; simp only [kept, owns_whole]; rfl

/-- So before any point the kept buffer is held at some contents. -/
theorem PhiS_any (c : Dev nD) (n : ℕ) (h : n ≤ cfg0.N) :
    PhiS m c n h ⊢ iprop((∃ d, owns (c : Thread nD τ) kept fullShare d) ∗ (∃ r, prngReg c r)) := by
  by_cases hz : n = 0
  · rw [PhiS_zero m c n h hz, PhiA_eq]
  · rw [PhiS_pos m c n h hz]
    iintro ⟨HS, Hg⟩
    isplitl [HS]
    · iexists _; iexact HS
    iexact Hg

/-- The buffers of the call's windows after each point: the inputs' blocks, the normalised tokens of the point's token
    block, and the products of those with the point's blocks of the weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tokens m c t.val t.isLt
    | ⟨5, _⟩ => k0_pay3 (keptAt m c t.val t.isLt) (iblk m c 2 t)
    | ⟨6, _⟩ => k0_pay4 (keptAt m c t.val t.isLt) (iblk m c 3 t)
    | ⟨7, _⟩ => k0_pay5 (keptAt m c t.val t.isLt) (iblk m c 2 t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = tokens m c t.val t.isLt := by dsimp only [dats]
theorem after_5 (c : Dev nD) (t : Fin cfg0.N) : (dats m 0 c).after 5 t = k0_pay3 (keptAt m c t.val t.isLt) (iblk m c 2 t) := by dsimp only [dats]
theorem after_6 (c : Dev nD) (t : Fin cfg0.N) : (dats m 0 c).after 6 t = k0_pay4 (keptAt m c t.val t.isLt) (iblk m c 3 t) := by dsimp only [dats]
theorem after_7 (c : Dev nD) (t : Fin cfg0.N) : (dats m 0 c).after 7 t = k0_pay5 (keptAt m c t.val t.isLt) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The normalised tokens' block carries from point to point within a token block, -/
theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have h0 : ¬t.val % 4 = 0 := fun h => by rw [live_first t h] at hi; exact Bool.false_ne_true hi
  rw [after_4, after_4]
  unfold tokens
  rw [start_other t h0]
/-- so at a point that does not start one the body finds it there. -/
theorem before_4 (c : Dev nD) (t : Fin cfg0.N) (h0 : ¬t.val % 4 = 0) (d) :
    (dats m 0 c).before 4 t d = tokens m c t.val t.isLt := by
  rw [Dat.before_out_traj _ 4 rfl (fun _ _ => rfl) (carry m c) t.val t rfl d,
    if_neg (by rw [fresh_eq t]; unfold freshTab; simpa using h0), after_4]
  unfold tokens
  rw [start_other t h0]

/-! ## The body at a point -/

abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)
abbrev ms_4 (t : Fin cfg0.N) := win0_4.stage (cfg0.slots t 4)
abbrev ms_5 (t : Fin cfg0.N) := win0_5.stage (cfg0.slots t 5)
abbrev ms_6 (t : Fin cfg0.N) := win0_6.stage (cfg0.slots t 6)
abbrev ms_7 (t : Fin cfg0.N) := win0_7.stage (cfg0.slots t 7)

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))
/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_0 (c : Dev nD) (t : Fin cfg0.N) :
    (dats m 0 c).leavesExact 0 t = owns (c : Thread nD τ) (ms_0 t) fullShare ((dats m 0 c).after 0 t) := by
  unfold Dat.leavesExact; rw [show cfg0.idle 0 (cfg0.grid.coords t) = false from rfl]
theorem leaves_1 (c : Dev nD) (t : Fin cfg0.N) :
    (dats m 0 c).leavesExact 1 t = owns (c : Thread nD τ) (ms_1 t) fullShare ((dats m 0 c).after 1 t) := by
  unfold Dat.leavesExact; rw [show cfg0.idle 1 (cfg0.grid.coords t) = false from rfl]
theorem leaves_2 (c : Dev nD) (t : Fin cfg0.N) :
    (dats m 0 c).leavesExact 2 t = owns (c : Thread nD τ) (ms_2 t) fullShare ((dats m 0 c).after 2 t) := by
  unfold Dat.leavesExact; rw [show cfg0.idle 2 (cfg0.grid.coords t) = false from rfl]
theorem leaves_3 (c : Dev nD) (t : Fin cfg0.N) :
    (dats m 0 c).leavesExact 3 t = owns (c : Thread nD τ) (ms_3 t) fullShare ((dats m 0 c).after 3 t) := by
  unfold Dat.leavesExact; rw [show cfg0.idle 3 (cfg0.grid.coords t) = false from rfl]
theorem leaves_5 (c : Dev nD) (t : Fin cfg0.N) :
    (dats m 0 c).leavesExact 5 t = owns (c : Thread nD τ) (ms_5 t) fullShare ((dats m 0 c).after 5 t) := by
  unfold Dat.leavesExact; rw [show cfg0.idle 5 (cfg0.grid.coords t) = false from rfl]
theorem leaves_6 (c : Dev nD) (t : Fin cfg0.N) :
    (dats m 0 c).leavesExact 6 t = owns (c : Thread nD τ) (ms_6 t) fullShare ((dats m 0 c).after 6 t) := by
  unfold Dat.leavesExact; rw [show cfg0.idle 6 (cfg0.grid.coords t) = false from rfl]
theorem leaves_7 (c : Dev nD) (t : Fin cfg0.N) :
    (dats m 0 c).leavesExact 7 t = owns (c : Thread nD τ) (ms_7 t) fullShare ((dats m 0 c).after 7 t) := by
  unfold Dat.leavesExact; rw [show cfg0.idle 7 (cfg0.grid.coords t) = false from rfl]

set_option maxHeartbeats 4000000 in
/-- The body at any point, by the two kinds of points. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, after_0, leaves_1, after_1, leaves_2, after_2, leaves_3, after_3, leaves_5, after_5, leaves_6, after_6, leaves_7, after_7]
  by_cases h0 : t.val % 4 = 0
  · rw [show (dats m 0 c).leavesExact 4 t = owns (c : Thread nD τ) (ms_4 t) fullShare ((dats m 0 c).after 4 t) from by
      unfold Dat.leavesExact; rw [live_first t h0], after_4]
    unfold tokens keptAt
    rw [start_first t h0]
    refine (BIClass.sep_mono (PhiS_any m c t.val _) (BI.Entails.refl _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) _ _ _ _ _ _ _ _ _ _ _ _ _ _ _ _ _ _ (iblk m c 0 t) (iblk m c 1 t) (iblk m c 2 t) (iblk m c 3 t) ((first t).mpr h0)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, ⟨%e4, H4⟩, ⟨%e5, H5⟩, ⟨%e6, H6⟩, ⟨%e7, H7⟩, ⟨%es, HS⟩⟩
    isplitl [HS Hg]
    · isplitl [HS]
      · unfold owns; iexists _; isplitr
        swap; · iexact HS
        ipureintro; exact (View.read_writes_of_cover _ _ VO4 VO4.junk _ (coverS c _ _ _ _ _ _ _ _ _ _ _ _ _ _ _ _ _ _ _ (iblk m c 0 t) (iblk m c 1 t) (iblk m c 2 t) (iblk m c 3 t) _)).trans (firstS c _ _ _ _ _ _ _ _ _ _ _ _ _ _ _ _ _ _ _ (iblk m c 0 t) (iblk m c 1 t) (iblk m c 2 t) (iblk m c 3 t) _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_of_cover _ _ VO4 VO4.junk _ (cover4 c _ _ _ _ _ _ _ _ _ _ _ _ _ _ _ _ _ _ _ (iblk m c 0 t) (iblk m c 1 t) (iblk m c 2 t) (iblk m c 3 t) _)).trans (first4 c _ _ _ _ _ _ _ _ _ _ _ _ _ _ _ _ _ _ _ (iblk m c 0 t) (iblk m c 1 t) (iblk m c 2 t) (iblk m c 3 t) _)
    isplitl [H5]
    · unfold owns; iexists _; isplitr
      swap; · iexact H5
      ipureintro; exact (View.read_writes_of_cover _ _ VO5 VO5.junk _ (cover5 c _ _ _ _ _ _ _ _ _ _ _ _ _ _ _ _ _ _ _ (iblk m c 0 t) (iblk m c 1 t) (iblk m c 2 t) (iblk m c 3 t) _)).trans (first5 c _ _ _ _ _ _ _ _ _ _ _ _ _ _ _ _ _ _ _ (iblk m c 0 t) (iblk m c 1 t) (iblk m c 2 t) (iblk m c 3 t) _)
    isplitl [H6]
    · unfold owns; iexists _; isplitr
      swap; · iexact H6
      ipureintro; exact (View.read_writes_of_cover _ _ VO6 VO6.junk _ (cover6 c _ _ _ _ _ _ _ _ _ _ _ _ _ _ _ _ _ _ _ (iblk m c 0 t) (iblk m c 1 t) (iblk m c 2 t) (iblk m c 3 t) _)).trans (first6 c _ _ _ _ _ _ _ _ _ _ _ _ _ _ _ _ _ _ _ (iblk m c 0 t) (iblk m c 1 t) (iblk m c 2 t) (iblk m c 3 t) _)
    unfold owns; iexists _; isplitr
    swap; · iexact H7
    ipureintro; exact (View.read_writes_of_cover _ _ VO7 VO7.junk _ (cover7 c _ _ _ _ _ _ _ _ _ _ _ _ _ _ _ _ _ _ _ (iblk m c 0 t) (iblk m c 1 t) (iblk m c 2 t) (iblk m c 3 t) _)).trans (first7 c _ _ _ _ _ _ _ _ _ _ _ _ _ _ _ _ _ _ _ (iblk m c 0 t) (iblk m c 1 t) (iblk m c 2 t) (iblk m c 3 t) _)
  · have hz : t.val ≠ 0 := fun h => h0 (by rw [h])
    have hk : keptAt m c (t.val - 1) (Nat.lt_of_le_of_lt (Nat.sub_le _ _) t.isLt) = keptAt m c t.val t.isLt := by
      unfold keptAt; rw [start_other t h0]
    have hl : owns (c : Thread nD τ) (ms_4 t) fullShare (tokens m c t.val t.isLt) ⊢ (dats m 0 c).leavesExact 4 t := by
      by_cases h3 : t.val % 4 = 3
      · rw [show (dats m 0 c).leavesExact 4 t = owns (c : Thread nD τ) (ms_4 t) fullShare ((dats m 0 c).after 4 t) from by
          unfold Dat.leavesExact; rw [idle_other t h0, flush_last t h3], after_4]
      · rw [Dat.leavesExact_idle (dats m 0 c) 4 t (idle_other t h0) (noFlush_other t h3)]
        simp only [before_4 m c t h0]
        iintro H
        iexists (fun _ => default); iexact H
    simp only [before_4 m c t h0]
    rw [PhiS_pos m c _ _ hz, hk]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runOther c (grid0.coords t) _ _ _ _ _ _ _ _ _ _ _ _ _ _ _ _ _ _ (iblk m c 0 t) (iblk m c 1 t) (iblk m c 2 t) (iblk m c 3 t) (keptAt m c t.val t.isLt) (fun h => h0 ((first t).mp h))).2.2.2 (tokens m c t.val t.isLt) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, ⟨%e5, H5⟩, ⟨%e6, H6⟩, ⟨%e7, H7⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply hl; iexact H4
    isplitl [H5]
    · unfold owns; iexists _; isplitr
      swap; · iexact H5
      ipureintro; exact (View.read_writes_of_cover _ _ VO5 VO5.junk _ (cover5' c _ _ _ _ _ _ _ _ _ _ _ _ _ _ _ _ _ _ _ (iblk m c 0 t) (iblk m c 1 t) (iblk m c 2 t) (iblk m c 3 t) _ _)).trans (other5 c _ _ _ _ _ _ _ _ _ _ _ _ _ _ _ _ _ _ _ (iblk m c 0 t) (iblk m c 1 t) (iblk m c 2 t) (iblk m c 3 t) _ _)
    isplitl [H6]
    · unfold owns; iexists _; isplitr
      swap; · iexact H6
      ipureintro; exact (View.read_writes_of_cover _ _ VO6 VO6.junk _ (cover6' c _ _ _ _ _ _ _ _ _ _ _ _ _ _ _ _ _ _ _ (iblk m c 0 t) (iblk m c 1 t) (iblk m c 2 t) (iblk m c 3 t) _ _)).trans (other6 c _ _ _ _ _ _ _ _ _ _ _ _ _ _ _ _ _ _ _ (iblk m c 0 t) (iblk m c 1 t) (iblk m c 2 t) (iblk m c 3 t) _ _)
    unfold owns; iexists _; isplitr
    swap; · iexact H7
    ipureintro; exact (View.read_writes_of_cover _ _ VO7 VO7.junk _ (cover7' c _ _ _ _ _ _ _ _ _ _ _ _ _ _ _ _ _ _ _ (iblk m c 0 t) (iblk m c 1 t) (iblk m c 2 t) (iblk m c 3 t) _ _)).trans (other7 c _ _ _ _ _ _ _ _ _ _ _ _ _ _ _ _ _ _ _ (iblk m c 0 t) (iblk m c 1 t) (iblk m c 2 t) (iblk m c 3 t) _ _)

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_any m c _ _

/-! ## The run -/

set_option backward.isDefEq.respectTransparency.types false in
/-- Every run of the call ends with its arrays as the points leave them, everything else as it was, and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run of the call ends, with the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.Kernel8Ideal.Body

end
-- ==== Proof.FfnIn.Kernel.lean ====
/- The feed-forward block's input: the normalised tokens, their products with the gate and up weights, and the activation,
   and what the call for them leaves in its four result arrays. One grid point handles 1024 tokens and one of the four
   blocks of 704 columns, filled with zeros to 768. -/
module

public import proofs.«01_k».proof.Proof.FfnIn.Body
public import proofs.«01_k».proof.Proof.FfnBack.Spec
public import proofs.«01_k».proof.Proof.ConvBwd.Spec
public import Idealize.ShloMosaic.Lib.KernelVsHost
public import Idealize.ShloMosaic.Lib.Pipeline.ValueKit

@[expose] public section

set_option maxRecDepth 16384

noncomputable section

namespace Cert.FfnIn

open Cert.FfnWeight (A2 A3 shardCol)
open Cert.FfnBack (mul_padded)
open Cert.Kernel8Ideal Cert.Kernel8Ideal.Gen Cert.Kernel8Ideal.Body Idealize.ShloMosaic Idealize.ShloMosaic.TcCoe Idealize.SL.Sem

/-- A token's feature over the root of the token's mean square, times the feature's gain. -/
def norm (h : A2 4096 1024) (g : Fin 1024 → EReal) (t : Fin 4096) (l : Fin 1024) : EReal :=
  h (ix2 t l) * Norm.inv (fun j => h (ix2 t j)) * g l

/-- The normalised tokens: the first result. -/
def normed (h : A2 4096 1024) (g : Fin 1024 → EReal) : A2 4096 1024 := fun y => norm h g (y 0) (y 1)

/-- Their product with one column of a weight. -/
def prod (h : A2 4096 1024) (g : Fin 1024 → EReal) (w : A2 1024 2816) (t : Fin 4096) (j : Fin 2816) : EReal :=
  ∑ k : Fin 1024, norm h g t k * w (ix2 k j)

/-- The gate through x ↦ x / (1 + exp (-x)), times the other product. -/
def act (h : A2 4096 1024) (g : Fin 1024 → EReal) (wg wu : A2 1024 2816) (t : Fin 4096) (j : Fin 2816) : EReal :=
  prod h g wg t j * Ideal.logistic (prod h g wg t j) * prod h g wu t j

/-- 2816 columns as the step keeps them: four blocks of 704 columns, each followed by 64 columns of zeros. -/
def blocks (f : Fin 4096 → Fin 2816 → EReal) : A2 4096 3072 := fun y =>
  if h : (y 1).val % 768 < 704 then f (y 0) (shardCol ⟨(y 1).val / 768, by have := (y 1).isLt; change _ < 3072 at this; omega⟩ ((y 1).val % 768) h) else 0

theorem blocks_apply (f : Fin 4096 → Fin 2816 → EReal) (t : Fin 4096) (b : Fin 4) (k : Fin 768) :
    blocks f (ix2 t (⟨b.val * 768 + k.val, by omega⟩ : Fin 3072)) = if h : k.val < 704 then f t (shardCol b k.val h) else 0 := by
  have e1 : (b.val * 768 + k.val) % 768 = k.val := by omega
  have e2 : (b.val * 768 + k.val) / 768 = b.val := by omega
  unfold blocks
  by_cases h : k.val < 704
  · refine (dif_pos (show (b.val * 768 + k.val) % 768 < 704 by omega)).trans (Eq.trans ?_ (dif_pos h).symm)
    exact congrArg (f t) (Fin.ext (by show (b.val * 768 + k.val) / 768 * 704 + (b.val * 768 + k.val) % 768 = b.val * 704 + k.val; rw [e1, e2]))
  · rw [dif_neg h]
    exact dif_neg (show ¬ (b.val * 768 + k.val) % 768 < 704 by omega)

/-- One block of normalised tokens, as stored into the result and into the kept buffer. -/
theorem pay1_apply (h : Vec Ideal S1024x1024 .f32) (g : Vec Ideal S1x1024 .f32) (i l : Fin 1024) :
    k0_pay1 h g (ix2 i l) = h (ix2 i l) * Norm.inv (fun j => h (ix2 i j)) * g (ix2 0 l) := by
  unfold k0_pay1
  pointwise
  rfl
theorem pay2_apply (h : Vec Ideal S1024x1024 .f32) (g : Vec Ideal S1x1024 .f32) (i l : Fin 1024) :
    k0_pay2 h g (ix2 i l) = k0_pay1 h g (ix2 i l) := by
  unfold k0_pay2
  pointwise
/-- One block's two products, and the activation. -/
theorem pay3_apply (n : Vec Ideal S1024x1024 .bf16) (w : Vec Ideal S1x768x1024 .bf16) (i : Fin 1024) (l : Fin 768) :
    k0_pay3 n w (ix2 i l) = ∑ k : Fin 1024, n (ix2 i k) * w (ix3 0 l k) := by
  unfold k0_pay3
  pointwise
theorem pay4_apply (n : Vec Ideal S1024x1024 .bf16) (w : Vec Ideal S1x768x1024 .bf16) (i : Fin 1024) (l : Fin 768) :
    k0_pay4 n w (ix2 i l) = ∑ k : Fin 1024, n (ix2 i k) * w (ix3 0 l k) := by
  unfold k0_pay4
  pointwise
theorem pay5_apply (n : Vec Ideal S1024x1024 .bf16) (w v : Vec Ideal S1x768x1024 .bf16) (i : Fin 1024) (l : Fin 768) :
    k0_pay5 n w v (ix2 i l) = k0_pay3 n w (ix2 i l) * Ideal.logistic (k0_pay3 n w (ix2 i l)) * k0_pay4 n v (ix2 i l) := by
  unfold k0_pay5
  pointwise
  exact congrArg (fun z => _ * z * _) (ConvBwd.sigmoid_eq _)

variable (m : (ℓ : Loc nD τ sig) → Buf (Elt Ideal) ℓ) (c : Dev nD)

/-- The arguments: the tokens, the gains, the two weights. -/
abbrev argH : A2 4096 1024 := m ((c : Thread nD τ).loc main_arg0)
abbrev argG : Fin 1024 → EReal := fun l => (m ((c : Thread nD τ).loc main_arg1) : (⟨1, ![1024]⟩ : Shape).Idx → EReal) (ix1 l)
abbrev argW : A2 1024 2816 := m ((c : Thread nD τ).loc main_arg2)
abbrev argU : A2 1024 2816 := m ((c : Thread nD τ).loc main_arg3)

/-- Where each window's block stands at a grid point. -/
theorem idx : ∀ t : Fin grid0.N, win0_0.index t = ![t.val / 4, 0] ∧ win0_1.index t = ![0, 0] ∧ win0_2.index t = ![t.val % 4, 0, 0]
    ∧ win0_3.index t = ![t.val % 4, 0, 0] ∧ win0_4.index t = ![t.val / 4, 0] ∧ win0_5.index t = ![t.val / 4, t.val % 4]
    ∧ win0_6.index t = ![t.val / 4, t.val % 4] ∧ win0_7.index t = ![t.val / 4, t.val % 4] := by
  decide +kernel

/-- The arguments as the host code prepares them. -/
theorem gains_row (l : Fin 1024) : V m c main_v0 (ix2 0 l) = argG m c l := by
  unfold V
  simp only [List.flatten_cons, List.flatten_nil, hostOps0, List.cons_append, List.nil_append, List.append_nil]
  entry_read
  pointwise
theorem padded_w (b : Fin 4) (k : Fin 768) (l : Fin 1024) :
    V m c main_v4 (ix3 b k l) = if h : k.val < 704 then argW m c (ix2 l (shardCol b k.val h)) else 0 := by
  unfold V
  simp only [List.flatten_cons, List.flatten_nil, hostOps0, List.cons_append, List.nil_append, List.append_nil]
  entry_read
  pointwise
theorem padded_u (b : Fin 4) (k : Fin 768) (l : Fin 1024) :
    V m c main_v8 (ix3 b k l) = if h : k.val < 704 then argU m c (ix2 l (shardCol b k.val h)) else 0 := by
  unfold V
  simp only [List.flatten_cons, List.flatten_nil, hostOps0, List.cons_append, List.nil_append, List.append_nil]
  entry_read
  pointwise

abbrev rowOf (t : Fin 16) (i : Fin 1024) : Fin 4096 := ⟨t.val / 4 * 1024 + i.val, by omega⟩
abbrev blkOf (t : Fin 16) : Fin 4 := ⟨t.val % 4, by omega⟩
abbrev colOf (t : Fin 16) (l : Fin 768) : Fin 3072 := ⟨(blkOf t).val * 768 + l.val, by omega⟩

theorem blk_h (t : Fin 16) (i l : Fin 1024) : iblk m c 0 t (ix2 i l) = argH m c (ix2 (rowOf t i) l) := by
  blk_ext [iblk, V, idx t]
theorem blk_g (t : Fin 16) (l : Fin 1024) : iblk m c 1 t (ix2 0 l) = argG m c l := by
  refine Eq.trans ?_ (gains_row m c l)
  blk_ext [iblk, idx t]
theorem blk_w (t : Fin 16) (k : Fin 768) (l : Fin 1024) :
    iblk m c 2 t (ix3 0 k l) = if h : k.val < 704 then argW m c (ix2 l (shardCol (blkOf t) k.val h)) else 0 := by
  refine Eq.trans ?_ (padded_w m c (blkOf t) k l)
  blk_ext [iblk, idx t]
theorem blk_u (t : Fin 16) (k : Fin 768) (l : Fin 1024) :
    iblk m c 3 t (ix3 0 k l) = if h : k.val < 704 then argU m c (ix2 l (shardCol (blkOf t) k.val h)) else 0 := by
  refine Eq.trans ?_ (padded_u m c (blkOf t) k l)
  blk_ext [iblk, idx t]

/-- The tokens a point's token block stores. -/
theorem tokens_apply (t : Fin 16) (i l : Fin 1024) : tokens m c t.val t.isLt (ix2 i l) = norm (argH m c) (argG m c) (rowOf t i) l := by
  have hs : ∀ i, rowOf (start t.val t.isLt) i = rowOf t i := fun i => Fin.ext (by
    show (t.val - t.val % 4) / 4 * 1024 + i.val = t.val / 4 * 1024 + i.val; omega)
  refine (pay1_apply _ _ _ _).trans ?_
  unfold norm
  rw [← hs i]
  exact congrArg₂ (· * ·) (congrArg₂ (· * ·) (blk_h m c _ i l) (congrArg Norm.inv (funext fun j => blk_h m c _ i j))) (blk_g m c _ l)

theorem kept_apply (t : Fin 16) (i l : Fin 1024) : keptAt m c t.val t.isLt (ix2 i l) = norm (argH m c) (argG m c) (rowOf t i) l :=
  (pay2_apply _ _ _ _).trans (tokens_apply m c t i l)

/-- The product of a row with a column that is zero from 704 on. -/
theorem sum_row (n : Fin 1024 → EReal) {w : Fin 1024 → EReal} {k : ℕ} {f : k < 704 → Fin 1024 → EReal}
    (hw : ∀ l, w l = if h : k < 704 then f h l else 0) : (∑ l, n l * w l) = if h : k < 704 then ∑ l, n l * f h l else 0 := by
  by_cases h : k < 704
  · rw [dif_pos h]
    exact Finset.sum_congr rfl fun l _ => congrArg (n l * ·) ((hw l).trans (dif_pos h))
  · rw [dif_neg h]
    exact Finset.sum_eq_zero fun l _ => by rw [hw l, dif_neg h, mul_zero]

theorem gate_block (t : Fin 16) (i : Fin 1024) (l : Fin 768) : k0_pay3 (keptAt m c t.val t.isLt) (iblk m c 2 t) (ix2 i l)
    = if h : l.val < 704 then prod (argH m c) (argG m c) (argW m c) (rowOf t i) (shardCol (blkOf t) l.val h) else 0 := by
  refine (pay3_apply _ _ _ _).trans ?_
  refine (Finset.sum_congr rfl fun k _ => congrArg (· * _) (kept_apply m c t i k)).trans ?_
  exact sum_row (norm (argH m c) (argG m c) (rowOf t i)) (blk_w m c t l)
theorem up_block (t : Fin 16) (i : Fin 1024) (l : Fin 768) : k0_pay4 (keptAt m c t.val t.isLt) (iblk m c 3 t) (ix2 i l)
    = if h : l.val < 704 then prod (argH m c) (argG m c) (argU m c) (rowOf t i) (shardCol (blkOf t) l.val h) else 0 := by
  refine (pay4_apply _ _ _ _).trans ?_
  refine (Finset.sum_congr rfl fun k _ => congrArg (· * _) (kept_apply m c t i k)).trans ?_
  exact sum_row (norm (argH m c) (argG m c) (rowOf t i)) (blk_u m c t l)
theorem act_block (t : Fin 16) (i : Fin 1024) (l : Fin 768) : k0_pay5 (keptAt m c t.val t.isLt) (iblk m c 2 t) (iblk m c 3 t) (ix2 i l)
    = if h : l.val < 704 then act (argH m c) (argG m c) (argW m c) (argU m c) (rowOf t i) (shardCol (blkOf t) l.val h) else 0 := by
  refine (pay5_apply _ _ _ _ _).trans ?_
  rw [gate_block, up_block]
  by_cases h : l.val < 704
  · simp only [dif_pos h]
    rfl
  · simp only [dif_neg h, zero_mul]

theorem arr4 : (dats m 0 c).arrAt 4 (cfgs 0).N = normed (argH m c) (argG m c) := by
  refine (dats m 0 c).arrAt_eq_of_covers 4 _ (by decide +kernel) fun t hf y => ?_
  blk_simp
  rw [after_4]
  idx_vars y
  refine Eq.trans ?_ (congrArg (normed (argH m c) (argG m c)) (?_ : ix2 (rowOf t y0) y1 = _))
  · exact tokens_apply m c t y0 y1
  · blk_ext [idx t]

theorem arr5 : (dats m 0 c).arrAt 5 (cfgs 0).N = blocks (prod (argH m c) (argG m c) (argW m c)) := by
  refine (dats m 0 c).arrAt_eq_of_covers 5 _ (by decide +kernel) fun t hf y => ?_
  blk_simp
  rw [after_5]
  idx_vars y
  refine Eq.trans ?_ (congrArg (blocks (prod (argH m c) (argG m c) (argW m c))) (?_ : ix2 (rowOf t y0) (colOf t y1) = _))
  · exact (gate_block m c t y0 y1).trans (blocks_apply _ _ (blkOf t) y1).symm
  · blk_ext [idx t]

theorem arr6 : (dats m 0 c).arrAt 6 (cfgs 0).N = blocks (prod (argH m c) (argG m c) (argU m c)) := by
  refine (dats m 0 c).arrAt_eq_of_covers 6 _ (by decide +kernel) fun t hf y => ?_
  blk_simp
  rw [after_6]
  idx_vars y
  refine Eq.trans ?_ (congrArg (blocks (prod (argH m c) (argG m c) (argU m c))) (?_ : ix2 (rowOf t y0) (colOf t y1) = _))
  · exact (up_block m c t y0 y1).trans (blocks_apply _ _ (blkOf t) y1).symm
  · blk_ext [idx t]

theorem arr7 : (dats m 0 c).arrAt 7 (cfgs 0).N = blocks (act (argH m c) (argG m c) (argW m c) (argU m c)) := by
  refine (dats m 0 c).arrAt_eq_of_covers 7 _ (by decide +kernel) fun t hf y => ?_
  blk_simp
  rw [after_7]
  idx_vars y
  refine Eq.trans ?_ (congrArg (blocks (act (argH m c) (argG m c) (argW m c) (argU m c))) (?_ : ix2 (rowOf t y0) (colOf t y1) = _))
  · exact (act_block m c t y0 y1).trans (blocks_apply _ _ (blkOf t) y1).symm
  · blk_ext [idx t]

/-- Every run of the call ends with the four results in its arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v9_0) = normed (argH m c) (argG m c)
      ∧ r.2.mem ((c : Thread nD τ).loc main_v9_1) = blocks (prod (argH m c) (argG m c) (argW m c))
      ∧ r.2.mem ((c : Thread nD τ).loc main_v9_2) = blocks (prod (argH m c) (argG m c) (argU m c))
      ∧ r.2.mem ((c : Thread nD τ).loc main_v9_3) = blocks (act (argH m c) (argG m c) (argW m c) (argU m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1.trans (arr4 m c), (h.1 c).2.1.trans (arr5 m c), (h.1 c).2.2.1.trans (arr6 m c),
      (h.1 c).2.2.2.trans (arr7 m c), h.2 c⟩)
    (θ_run_and (Q₁ := fun r => ∀ c : Dev nD, r.2.mem ((c : Thread nD τ).loc main_v9_0) = (dats m 0 c).arrAt 4 (cfgs 0).N
        ∧ r.2.mem ((c : Thread nD τ).loc main_v9_1) = (dats m 0 c).arrAt 5 (cfgs 0).N
        ∧ r.2.mem ((c : Thread nD τ).loc main_v9_2) = (dats m 0 c).arrAt 6 (cfgs 0).N
        ∧ r.2.mem ((c : Thread nD τ).loc main_v9_3) = (dats m 0 c).arrAt 7 (cfgs 0).N)
      ((θ_run defs _ _).mono (fun r h c => ⟨(h c).1 4, (h c).1 5, (h c).1 6, (h c).1 7⟩) (run_main m ρ)) (unchanged m ρ))

end Cert.FfnIn

end
-- ==== Proof.FfnIn.Reference.lean ====
/- What the reference of the feed-forward block's input computes, and the claims about both programs. -/
module

public import proofs.«01_k».proof.Defs
public import proofs.«01_k».proof.Proof.Gen.Reference8Ideal.Run
public import proofs.«01_k».proof.Proof.FfnIn.Kernel
public import Idealize.ShloMosaic.Lib.Claim

@[expose] public section

set_option maxRecDepth 16384

noncomputable section

namespace Cert.FfnIn

open Cert.FfnWeight (A2 shardCol)
open Idealize.ShloMosaic Idealize.ShloMosaic.TcCoe Idealize.SL.Sem

section Ref
open Cert.Reference8Ideal Cert.Reference8Ideal.Value Cert.Reference8Ideal.Gen Idealize.ShloMosaic.StableHlo

variable (h : A2 4096 1024) (g : (⟨1, ![1024]⟩ : Shape).Idx → EReal) (w u : A2 1024 2816)

/-- The inverse root of each token's mean square. -/
def rInv : Vec Ideal S4096x1 .f32 :=
  Host.rsqrt (F := Ideal) (φ := .f32) (addf (Host.divf (broadcastInDim S4096x1 ![0] bcast_S4096_S4096x1_0 (Host.reduceAdd (F := Ideal) (φ := .f32) (mulf (F := Ideal) (φ := .f32) h h) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))

theorem rInv_apply (t : Fin 4096) (z : Fin 1) : rInv h (ix2 t z) = Norm.inv (fun j => h (ix2 t j)) := by
  unfold rInv Norm.inv Norm.meanSq
  pointwise

/-- The normalised tokens. -/
def rNorm : Vec Ideal S4096x1024 .f32 :=
  mulf (F := Ideal) (φ := .f32) (mulf (F := Ideal) (φ := .f32) h (broadcastInDim S4096x1024 ![0, 1] bcast_S4096x1_S4096x1024_0_1 (rInv h)))
    (broadcastInDim (α := Elt Ideal .f32) S4096x1024 ![0, 1] bcast_S1x1024_S4096x1024_0_1 (broadcastInDim (α := Elt Ideal .f32) S1x1024 ![1] bcast_S1024_S1x1024_1 g))

theorem rNorm_apply (t : Fin 4096) (l : Fin 1024) : rNorm h g (ix2 t l) = norm h (fun l => g (ix1 l)) t l := by
  unfold rNorm norm
  pointwise
  simp only [rInv_apply]

/-- Their product with a weight. -/
def rProd : Vec Ideal S4096x2816 .f32 :=
  Host.dotGeneral (F := Ideal) (φ₁ := .f32) (φ₂ := .f32) dot_S4096x1024_S1024x2816_S4096x2816_1_0_0_1_n_n none (rNorm h g) (extf (F := Ideal) (φ := .bf16) .f32 w bitsLt_bf16_f32)

theorem rProd_apply (t : Fin 4096) (j : Fin 2816) : rProd h g w (ix2 t j) = prod h (fun l => g (ix1 l)) w t j := by
  unfold rProd prod
  pointwise
  simp only [rNorm_apply]

/-- The activation. -/
def rAct : Vec Ideal S4096x2816 .f32 :=
  mulf (F := Ideal) (φ := .f32) (mulf (F := Ideal) (φ := .f32) (rProd h g w) (Host.divf (broadcastInDim S4096x2816 ![] bcast_S_S4096x2816 (constant S_ .f32 0x3F800000#32))
    (addf (broadcastInDim S4096x2816 ![] bcast_S_S4096x2816 (constant S_ .f32 0x3F800000#32)) (Host.exp (Host.negf (rProd h g w)))))) (rProd h g u)

theorem rAct_apply (t : Fin 4096) (j : Fin 2816) : rAct h g w u (ix2 t j) = act h (fun l => g (ix1 l)) w u t j := by
  unfold rAct act
  pointwise
  simp only [rProd_apply]
  rfl

theorem ref_normed : (truncf (F := Ideal) (φ := .f32) .bf16 (rNorm h g) bitsLt_bf16_f32 : A2 4096 1024) = normed h fun l => g (ix1 l) := by
  funext y
  idx_vars y
  pointwise
  exact rNorm_apply h g y0 y1

/-- The columns in four blocks, the zeros after each. -/
theorem ref_blocks (x : Vec Ideal S4096x2816 .f32) (f : Fin 4096 → Fin 2816 → EReal) (hx : ∀ t j, x (ix2 t j) = f t j) :
    (truncf (F := Ideal) (φ := .f32) .bf16 (shapeCast _ (pad S4096x4x768 ![0, 0, 0] ![0, 0, 64] ![0, 0, 0] (shapeCast _ x shapeCasts_S4096x2816_S4096x4x704)
      (sitofp .f32 (constantI S_ 32 0#32)) pads_S4096x4x704_S4096x4x768_000_000_0640 h_S_) shapeCasts_S4096x4x768_S4096x3072) bitsLt_bf16_f32 : A2 4096 3072) = blocks f := by
  funext y
  idx_vars y
  obtain ⟨b, k, rfl⟩ : ∃ (b : Fin 4) (k : Fin 768), y1 = ⟨b.val * 768 + k.val, by omega⟩ :=
    ⟨⟨y1.val / 768, by omega⟩, ⟨y1.val % 768, by omega⟩, Fin.ext (by show y1.val = y1.val / 768 * 768 + y1.val % 768; omega)⟩
  refine Eq.trans ?_ (blocks_apply f y0 b k).symm
  simp only [← hx]
  pointwise
  exact dite_congr rfl (fun _ => rfl) fun _ => by
    show (((0#32 : BitVec 32).toInt : ℝ) : EReal) = 0
    simp

end Ref

/-- Equal arguments give equal functions. -/
theorem normed_congr {h h' : A2 4096 1024} {g g' : Fin 1024 → EReal} (e0 : h = h') (e1 : g = g') : normed h g = normed h' g' := by
  subst e0 e1
  rfl
theorem prod_congr {h h' : A2 4096 1024} {g g' : Fin 1024 → EReal} {w w' : A2 1024 2816} (e0 : h = h') (e1 : g = g') (e2 : w = w') :
    blocks (prod h g w) = blocks (prod h' g' w') := by
  subst e0 e1 e2
  rfl
theorem act_congr {h h' : A2 4096 1024} {g g' : Fin 1024 → EReal} {w w' u u' : A2 1024 2816} (e0 : h = h') (e1 : g = g') (e2 : w = w')
    (e3 : u = u') : blocks (act h g w u) = blocks (act h' g' w' u') := by
  subst e0 e1 e2 e3
  rfl

/-- The reference ends with its arguments as they were, and it has no semaphores. -/
theorem frame_reference : Cert.quiescent_Reference8Ideal (hReference8Ideal := Cert.Reference8Ideal.Gen.facts) := fun m ρ _ =>
  (θ_run _ _ _).mono (fun r h => ⟨fun c => (h c).2.2.2.2, sem_eq_zero_of_no_sems (by decide) r.2⟩)
    (Cert.Reference8Ideal.Value.run (F := Ideal) m ρ)

/-- Equal results: the normalised tokens, the two products and the activation of the arguments. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => normed (argH m c) (argG m c), fun c => blocks (prod (argH m c) (argG m c) (argW m c)),
    fun c => blocks (prod (argH m c) (argG m c) (argU m c)), fun c => blocks (act (argH m c) (argG m c) (argW m c) (argU m c)), ?_, ?_⟩
  · exact run m ρ
  · refine (θ_run _ _ _).mono (fun r h c => ⟨(h c).1.trans ?_, (h c).2.1.trans ?_, (h c).2.2.1.trans ?_, (h c).2.2.2.1.trans ?_, (h c).2.2.2.2⟩)
      (Cert.Reference8Ideal.Value.run (F := Ideal) m' ρ')
    · obtain ⟨h0, h1, h2, h3⟩ := hagree c
      exact (ref_normed _ _).trans (normed_congr h0 (funext fun l => congrFun h1 (ix1 l)))
    · obtain ⟨h0, h1, h2, h3⟩ := hagree c
      exact (ref_blocks _ _ (rProd_apply _ _ _)).trans (prod_congr h0 (funext fun l => congrFun h1 (ix1 l)) h2)
    · obtain ⟨h0, h1, h2, h3⟩ := hagree c
      exact (ref_blocks _ _ (rProd_apply _ _ _)).trans (prod_congr h0 (funext fun l => congrFun h1 (ix1 l)) h3)
    · obtain ⟨h0, h1, h2, h3⟩ := hagree c
      exact (ref_blocks _ _ (rAct_apply _ _ _ _)).trans (act_congr h0 (funext fun l => congrFun h1 (ix1 l)) h2 h3)

end Cert.FfnIn

end
-- ==== Proof.MixIn.Body.lean ====
/- The run of the call that normalises the mixer's input and multiplies it by the wide input weight. The grid walks the four
   blocks of 1024 tokens, and for each the four blocks of the weight's columns. At the first column block of a token block the
   body stores the normalised tokens, both into the result and into a buffer it keeps; at the other column blocks it reads
   that buffer and leaves the result's block as it is, until the block is written back after the last one. -/
module

public import proofs.«01_k».proof.Proof.Gen.Kernel9Ideal.Frame
public import proofs.«01_k».proof.Proof.Gen.Kernel9Ideal.Skeleton
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.Kernel9Ideal.Body

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The schedule -/

/-- The body normalises at the points that start a token block. -/
theorem first : ∀ t : Fin cfg0.N, k0_cond1 (grid0.coords t) = 1#1 ↔ t.val % 4 = 0 := by decide +kernel

/-- At the other points it stores nothing into the normalised tokens' block, -/
theorem idle_other : ∀ t : Fin cfg0.N, ¬t.val % 4 = 0 → cfg0.idle 3 (grid0.coords t) = true := by decide +kernel
/-- and at the points that start a token block it does. -/
theorem live_first : ∀ t : Fin cfg0.N, t.val % 4 = 0 → cfg0.idle 3 (grid0.coords t) = false := by decide +kernel
/-- The block is written back after the last column block, and not before. -/
theorem flush_last : ∀ t : Fin cfg0.N, t.val % 4 = 3 → (cfg0.win 3).flush t = true := fun t h => (flush0_3 t).mpr h
theorem noFlush_other : ∀ t : Fin cfg0.N, ¬t.val % 4 = 3 → (cfg0.win 3).flush t = false := fun t h =>
  Bool.eq_false_iff.mpr fun h' => h ((flush0_3 t).mp h')

/-- The block holds nothing of this token block's exactly before the point that starts it. -/
def freshTab : ℕ → Bool := fun n => n % 4 == 0
theorem freshTab_step : ∀ t : Fin cfg0.N,
    freshTab (t.val + 1) = ((cfg0.win 3).flush t || (cfg0.idle 3 (cfg0.grid.coords t) && freshTab t.val)) := by decide +kernel
theorem fresh_eq (t : Fin cfg0.N) : cfg0.fresh 3 t.val = freshTab t.val :=
  Pipeline.Cfg.fresh_tab cfg0 3 freshTab rfl freshTab_step t.val (Nat.le_of_lt t.isLt)

/-- The point that starts the token block of a point. -/
def start (n : ℕ) (h : n < cfg0.N) : Fin cfg0.N := ⟨n - n % 4, Nat.lt_of_le_of_lt (Nat.sub_le _ _) h⟩

/-! ## The body -/

/-- One staging buffer of each result, and the kept buffer, through which contents are stated. -/
abbrev VO3 : View sig .tc .vmem S1024x1024 .bf16 := (Memref.whole cc0_stg3_0 : Memref sig .tc .vmem S1024x1024 .bf16).view
abbrev VO4 : View sig .tc .vmem S1024x1408 .bf16 := (Memref.whole cc0_stg4_0 : Memref sig .tc .vmem S1024x1408 .bf16).view
abbrev kept : Memref sig .tc .vmem S1024x1024 .bf16 := Memref.whole cc0_scratch0

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1024x1024 .bf16) (harg5 : arg5.IsWhole) (arg6 : Memref sig .tc .vmem S1024x1408 .bf16) (harg6 : arg6.IsWhole) (arg7 : Memref sig .tc .vmem S1024x1024 .bf16) (harg7 : arg7.IsWhole)
  (x0 : Vec F S1024x1024 .f32) (x1 : Vec F S1x1024 .f32) (x2 : Vec F S1x1024x1408 .bf16) (xs : Vec F S1024x1024 .bf16)

set_option maxHeartbeats 2000000 in
/-- At a point that starts a token block, from the inputs' buffers and the others at anything, the body runs and
    leaves the inputs as they were and the stored rectangles written over what the others held. -/
def runFirst (hc : k0_cond1 i = 1#1) :
    Σ' (L3 : List (View.Piece (Elt F) S1024x1024 .bf16)), Σ' (L4 : List (View.Piece (Elt F) S1024x1408 .bf16)), { LS : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0_mix_in i arg2 harg2 arg3 harg3 arg4 harg4 arg5 harg5 arg6 harg6 arg7 harg7) K } := by
  refine ⟨?_, ?_, ?_, fun E K => ?run⟩
  case run =>
    simp only [cc0_mix_in_eq_skeleton]; unfold cc0_mix_in_skel
    unfold owns
    iintro ⟨⟨%f0, %hf0, H0⟩, ⟨%f1, %hf1, H1⟩, ⟨%f2, %hf2, H2⟩, ⟨%d3, %f3, %hf3, H3⟩, ⟨%d4, %f4, %hf4, H4⟩, ⟨%ds, %fs, %hfs, HS⟩, Hk⟩
    obtain rfl := harg2.eq_unread hf0; obtain rfl := harg3.eq_unread hf1; obtain rfl := harg4.eq_unread hf2
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

set_option maxHeartbeats 2000000 in
/-- At another point, the kept buffer at `xs` and the normalised tokens' block at `x`: both come back as they were. -/
def runOther (hc : ¬k0_cond1 i = 1#1) :
    { L4 : List (View.Piece (Elt F) S1024x1408 .bf16) //
      ∀ (x : Vec F S1024x1024 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0_mix_in i arg2 harg2 arg3 harg3 arg4 harg4 arg5 harg5 arg6 harg6 arg7 harg7) K } := by
  refine ⟨?_, fun x E K => ?run⟩
  case run =>
    simp only [cc0_mix_in_eq_skeleton]; unfold cc0_mix_in_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

/-- The stores cover the blocks. -/
theorem cover3 (hc : k0_cond1 i = 1#1) (y : S1024x1024.Idx) :
    ∃ pc ∈ (runFirst c i arg2 harg2 arg3 harg3 arg4 harg4 arg5 harg5 arg6 harg6 arg7 harg7 x0 x1 x2 hc).1, y ∈ pc.1.set :=
  View.cover_of_tiledL (runFirst c i arg2 harg2 arg3 harg3 arg4 harg4 arg5 harg5 arg6 harg6 arg7 harg7 x0 x1 x2 hc).1 S1024x1024.size (by sl_kernel_rfl) y
theorem cover4 (hc : k0_cond1 i = 1#1) (y : S1024x1408.Idx) :
    ∃ pc ∈ (runFirst c i arg2 harg2 arg3 harg3 arg4 harg4 arg5 harg5 arg6 harg6 arg7 harg7 x0 x1 x2 hc).2.1, y ∈ pc.1.set :=
  View.cover_of_tiledL (runFirst c i arg2 harg2 arg3 harg3 arg4 harg4 arg5 harg5 arg6 harg6 arg7 harg7 x0 x1 x2 hc).2.1 S1024x1408.size (by sl_kernel_rfl) y
theorem coverS (hc : k0_cond1 i = 1#1) (y : S1024x1024.Idx) :
    ∃ pc ∈ (runFirst c i arg2 harg2 arg3 harg3 arg4 harg4 arg5 harg5 arg6 harg6 arg7 harg7 x0 x1 x2 hc).2.2.1, y ∈ pc.1.set :=
  View.cover_of_tiledL (runFirst c i arg2 harg2 arg3 harg3 arg4 harg4 arg5 harg5 arg6 harg6 arg7 harg7 x0 x1 x2 hc).2.2.1 S1024x1024.size (by sl_kernel_rfl) y
theorem cover4' (hc : ¬k0_cond1 i = 1#1) (y : S1024x1408.Idx) :
    ∃ pc ∈ (runOther c i arg2 harg2 arg3 harg3 arg4 harg4 arg5 harg5 arg6 harg6 arg7 harg7 x0 x1 x2 xs hc).1, y ∈ pc.1.set :=
  View.cover_of_tiledL (runOther c i arg2 harg2 arg3 harg3 arg4 harg4 arg5 harg5 arg6 harg6 arg7 harg7 x0 x1 x2 xs hc).1 S1024x1408.size (by sl_kernel_rfl) y

/-- What the stores of a point that starts a token block leave: the normalised tokens twice, and the products with the weight's blocks. -/
theorem first3 (hc : k0_cond1 i = 1#1) :
    VO3.read (Elt F) (VO3.writes (Elt F) VO3.junk (runFirst c i arg2 harg2 arg3 harg3 arg4 harg4 arg5 harg5 arg6 harg6 arg7 harg7 x0 x1 x2 hc).1) = k0_pay1 x0 x1 := by
  frame_out
theorem first4 (hc : k0_cond1 i = 1#1) :
    VO4.read (Elt F) (VO4.writes (Elt F) VO4.junk (runFirst c i arg2 harg2 arg3 harg3 arg4 harg4 arg5 harg5 arg6 harg6 arg7 harg7 x0 x1 x2 hc).2.1) = k0_pay3 (k0_pay2 x0 x1) x2 := by
  frame_out
theorem firstS (hc : k0_cond1 i = 1#1) :
    VO3.read (Elt F) (VO3.writes (Elt F) VO3.junk (runFirst c i arg2 harg2 arg3 harg3 arg4 harg4 arg5 harg5 arg6 harg6 arg7 harg7 x0 x1 x2 hc).2.2.1) = k0_pay2 x0 x1 := by
  frame_out

/-- What another point's stores leave: the same products, of the kept buffer. -/
theorem other4 (hc : ¬k0_cond1 i = 1#1) :
    VO4.read (Elt F) (VO4.writes (Elt F) VO4.junk (runOther c i arg2 harg2 arg3 harg3 arg4 harg4 arg5 harg5 arg6 harg6 arg7 harg7 x0 x1 x2 xs hc).1) = k0_pay3 xs x2 := by
  frame_out

end

/-! ## What the buffers hold after each point -/

/-- The normalised tokens of a point's token block, as the point that starts the token block stores them, -/
def tokens (c : Dev nD) (n : ℕ) (h : n < cfg0.N) : Vec F S1024x1024 .bf16 :=
  k0_pay1 (iblk m c 0 (start n h)) (iblk m c 1 (start n h))
/-- and the same in the kept buffer. -/
def keptAt (c : Dev nD) (n : ℕ) (h : n < cfg0.N) : Vec F S1024x1024 .bf16 :=
  k0_pay2 (iblk m c 0 (start n h)) (iblk m c 1 (start n h))

/-- A point that starts a token block is that block's first. -/
theorem start_first (t : Fin cfg0.N) (h : t.val % 4 = 0) : start t.val t.isLt = t := by
  apply Fin.ext; show t.val - t.val % 4 = t.val; omega
/-- Another point shares it with the point before. -/
theorem start_other (t : Fin cfg0.N) (h : ¬t.val % 4 = 0) :
    start t.val t.isLt = start (t.val - 1) (Nat.lt_of_le_of_lt (Nat.sub_le _ _) t.isLt) := by
  apply Fin.ext; show t.val - t.val % 4 = (t.val - 1) - (t.val - 1) % 4; omega

/-- What is held between points: at first whatever the buffers held, afterwards the kept buffer's named contents. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) kept fullShare (keptAt m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) kept fullShare (keptAt m c n hn) ∗ (∃ r, prngReg c r)) := rfl
theorem PhiS_pos (c : Dev nD) (n : ℕ) (h : n ≤ cfg0.N) (hz : n ≠ 0) :
    PhiS m c n h = iprop(owns (c : Thread nD τ) kept fullShare (keptAt m c (n - 1) (by omega)) ∗ (∃ r, prngReg c r)) := by
  cases n with
  | zero => exact absurd rfl hz
  | succ n => rfl

/-- At first the kept buffer is held at some contents. -/
theorem PhiA_eq (c : Dev nD) :
    (Pipeline.ΦA spec0 c : sProp (MT nD τ sig Unit (Elt F) ℕ (UR sig nD τ) ℕ))
      = iprop((∃ d, owns (c : Thread nD τ) kept fullShare d) ∗ (∃ r, prngReg c r)) := by
  unfold Pipeline.ΦA; rw [scopedRest0_eq]; simp only [kept, owns_whole]; rfl

/-- So before any point the kept buffer is held at some contents. -/
theorem PhiS_any (c : Dev nD) (n : ℕ) (h : n ≤ cfg0.N) :
    PhiS m c n h ⊢ iprop((∃ d, owns (c : Thread nD τ) kept fullShare d) ∗ (∃ r, prngReg c r)) := by
  by_cases hz : n = 0
  · rw [PhiS_zero m c n h hz, PhiA_eq]
  · rw [PhiS_pos m c n h hz]
    iintro ⟨HS, Hg⟩
    isplitl [HS]
    · iexists _; iexact HS
    iexact Hg

/-- The buffers of the call's windows after each point: the inputs' blocks, the normalised tokens of the point's token
    block, and the products of those with the point's blocks of the weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tokens m c t.val t.isLt
    | ⟨4, _⟩ => k0_pay3 (keptAt m c t.val t.isLt) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tokens m c t.val t.isLt := by dsimp only [dats]
theorem after_4 (c : Dev nD) (t : Fin cfg0.N) : (dats m 0 c).after 4 t = k0_pay3 (keptAt m c t.val t.isLt) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The normalised tokens' block carries from point to point within a token block, -/
theorem carry (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have h0 : ¬t.val % 4 = 0 := fun h => by rw [live_first t h] at hi; exact Bool.false_ne_true hi
  rw [after_3, after_3]
  unfold tokens
  rw [start_other t h0]
/-- so at a point that does not start one the body finds it there. -/
theorem before_3 (c : Dev nD) (t : Fin cfg0.N) (h0 : ¬t.val % 4 = 0) (d) :
    (dats m 0 c).before 3 t d = tokens m c t.val t.isLt := by
  rw [Dat.before_out_traj _ 3 rfl (fun _ _ => rfl) (carry m c) t.val t rfl d,
    if_neg (by rw [fresh_eq t]; unfold freshTab; simpa using h0), after_3]
  unfold tokens
  rw [start_other t h0]

/-! ## The body at a point -/

abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)
abbrev ms_4 (t : Fin cfg0.N) := win0_4.stage (cfg0.slots t 4)

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))
/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) :
    (dats m 0 c).leavesExact 0 t = owns (c : Thread nD τ) (ms_0 t) fullShare ((dats m 0 c).after 0 t) := by
  unfold Dat.leavesExact; rw [show cfg0.idle 0 (cfg0.grid.coords t) = false from rfl]
theorem leaves_1 (c : Dev nD) (t : Fin cfg0.N) :
    (dats m 0 c).leavesExact 1 t = owns (c : Thread nD τ) (ms_1 t) fullShare ((dats m 0 c).after 1 t) := by
  unfold Dat.leavesExact; rw [show cfg0.idle 1 (cfg0.grid.coords t) = false from rfl]
theorem leaves_2 (c : Dev nD) (t : Fin cfg0.N) :
    (dats m 0 c).leavesExact 2 t = owns (c : Thread nD τ) (ms_2 t) fullShare ((dats m 0 c).after 2 t) := by
  unfold Dat.leavesExact; rw [show cfg0.idle 2 (cfg0.grid.coords t) = false from rfl]
theorem leaves_4 (c : Dev nD) (t : Fin cfg0.N) :
    (dats m 0 c).leavesExact 4 t = owns (c : Thread nD τ) (ms_4 t) fullShare ((dats m 0 c).after 4 t) := by
  unfold Dat.leavesExact; rw [show cfg0.idle 4 (cfg0.grid.coords t) = false from rfl]

set_option maxHeartbeats 4000000 in
/-- The body at any point, by the two kinds of points. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, after_0, leaves_1, after_1, leaves_2, after_2, leaves_4, after_4]
  by_cases h0 : t.val % 4 = 0
  · rw [show (dats m 0 c).leavesExact 3 t = owns (c : Thread nD τ) (ms_3 t) fullShare ((dats m 0 c).after 3 t) from by
      unfold Dat.leavesExact; rw [live_first t h0], after_3]
    unfold tokens keptAt
    rw [start_first t h0]
    refine (BIClass.sep_mono (PhiS_any m c t.val _) (BI.Entails.refl _)).trans ?_
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ (iblk m c 0 t) (iblk m c 1 t) (iblk m c 2 t) ((first t).mpr h0)).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, ⟨%es, HS⟩⟩
    isplitl [HS Hg]
    · isplitl [HS]
      · unfold owns; iexists _; isplitr
        swap; · iexact HS
        ipureintro; exact (View.read_writes_of_cover _ _ VO3 VO3.junk _ (coverS c _ _ _ _ _ _ _ _ _ _ _ _ _ (iblk m c 0 t) (iblk m c 1 t) (iblk m c 2 t) _)).trans (firstS c _ _ _ _ _ _ _ _ _ _ _ _ _ (iblk m c 0 t) (iblk m c 1 t) (iblk m c 2 t) _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_of_cover _ _ VO3 VO3.junk _ (cover3 c _ _ _ _ _ _ _ _ _ _ _ _ _ (iblk m c 0 t) (iblk m c 1 t) (iblk m c 2 t) _)).trans (first3 c _ _ _ _ _ _ _ _ _ _ _ _ _ (iblk m c 0 t) (iblk m c 1 t) (iblk m c 2 t) _)
    unfold owns; iexists _; isplitr
    swap; · iexact H4
    ipureintro; exact (View.read_writes_of_cover _ _ VO4 VO4.junk _ (cover4 c _ _ _ _ _ _ _ _ _ _ _ _ _ (iblk m c 0 t) (iblk m c 1 t) (iblk m c 2 t) _)).trans (first4 c _ _ _ _ _ _ _ _ _ _ _ _ _ (iblk m c 0 t) (iblk m c 1 t) (iblk m c 2 t) _)
  · have hz : t.val ≠ 0 := fun h => h0 (by rw [h])
    have hk : keptAt m c (t.val - 1) (Nat.lt_of_le_of_lt (Nat.sub_le _ _) t.isLt) = keptAt m c t.val t.isLt := by
      unfold keptAt; rw [start_other t h0]
    have hl : owns (c : Thread nD τ) (ms_3 t) fullShare (tokens m c t.val t.isLt) ⊢ (dats m 0 c).leavesExact 3 t := by
      by_cases h3 : t.val % 4 = 3
      · rw [show (dats m 0 c).leavesExact 3 t = owns (c : Thread nD τ) (ms_3 t) fullShare ((dats m 0 c).after 3 t) from by
          unfold Dat.leavesExact; rw [idle_other t h0, flush_last t h3], after_3]
      · rw [Dat.leavesExact_idle (dats m 0 c) 3 t (idle_other t h0) (noFlush_other t h3)]
        simp only [before_3 m c t h0]
        iintro H
        iexists (fun _ => default); iexact H
    simp only [before_3 m c t h0]
    rw [PhiS_pos m c _ _ hz, hk]
    iintro ⟨⟨HS, Hg⟩, Ho, ⟨%d0, H0⟩, ⟨%d1, H1⟩, ⟨%d2, H2⟩, ⟨%d3, H3⟩, ⟨%d4, H4⟩⟩
    iapply ((runOther c (grid0.coords t) _ _ _ _ _ _ _ _ _ _ _ _ (iblk m c 0 t) (iblk m c 1 t) (iblk m c 2 t) (keptAt m c t.val t.isLt) (fun h => h0 ((first t).mp h))).2 (tokens m c t.val t.isLt) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iapply hl; iexact H3
    unfold owns; iexists _; isplitr
    swap; · iexact H4
    ipureintro; exact (View.read_writes_of_cover _ _ VO4 VO4.junk _ (cover4' c _ _ _ _ _ _ _ _ _ _ _ _ _ (iblk m c 0 t) (iblk m c 1 t) (iblk m c 2 t) _ _)).trans (other4 c _ _ _ _ _ _ _ _ _ _ _ _ _ (iblk m c 0 t) (iblk m c 1 t) (iblk m c 2 t) _ _)

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_any m c _ _

/-! ## The run -/

set_option backward.isDefEq.respectTransparency.types false in
/-- Every run of the call ends with its arrays as the points leave them, everything else as it was, and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run of the call ends, with the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Kernel9Ideal.Body

end
-- ==== Proof.MixIn.Kernel.lean ====
/- The mixer's input: the normalised tokens, their product with the wide input weight, and what the call for both leaves in
   its two result arrays. One grid point handles 1024 tokens and 1408 columns of the weight. -/
module

public import proofs.«01_k».proof.Proof.MixIn.Body
public import proofs.«01_k».proof.Proof.FfnWeight.Spec
public import proofs.«01_k».proof.Proof.Norm.Math
public import Idealize.ShloMosaic.Lib.KernelVsHost
public import Idealize.ShloMosaic.Lib.Pipeline.ValueKit

@[expose] public section

set_option maxRecDepth 16384

noncomputable section

namespace Cert.MixIn

open Cert.FfnWeight (A2)
open Cert.Kernel9Ideal Cert.Kernel9Ideal.Gen Cert.Kernel9Ideal.Body Idealize.ShloMosaic Idealize.ShloMosaic.TcCoe Idealize.SL.Sem

/-- A token's feature over the root of the token's mean square, times the feature's gain. -/
def norm (h : A2 4096 1024) (g : Fin 1024 → EReal) (t : Fin 4096) (l : Fin 1024) : EReal :=
  h (ix2 t l) * Norm.inv (fun j => h (ix2 t j)) * g l

/-- The normalised tokens: the first result. -/
def normed (h : A2 4096 1024) (g : Fin 1024 → EReal) : A2 4096 1024 := fun y => norm h g (y 0) (y 1)

/-- Their product with the weight: the second result. -/
def wide (h : A2 4096 1024) (g : Fin 1024 → EReal) (w : A2 1024 5632) : A2 4096 5632 := fun y =>
  ∑ k : Fin 1024, norm h g (y 0) k * w (ix2 k (y 1))

/-- One block of normalised tokens, as stored into the result and into the kept buffer. -/
theorem pay1_apply (h : Vec Ideal S1024x1024 .f32) (g : Vec Ideal S1x1024 .f32) (i l : Fin 1024) :
    k0_pay1 h g (ix2 i l) = h (ix2 i l) * Norm.inv (fun j => h (ix2 i j)) * g (ix2 0 l) := by
  unfold k0_pay1
  pointwise
  rfl
theorem pay2_apply (h : Vec Ideal S1024x1024 .f32) (g : Vec Ideal S1x1024 .f32) (i l : Fin 1024) :
    k0_pay2 h g (ix2 i l) = k0_pay1 h g (ix2 i l) := by
  unfold k0_pay2
  pointwise
/-- One block's product. -/
theorem pay3_apply (n : Vec Ideal S1024x1024 .bf16) (w : Vec Ideal S1x1024x1408 .bf16) (i : Fin 1024) (l : Fin 1408) :
    k0_pay3 n w (ix2 i l) = ∑ k : Fin 1024, n (ix2 i k) * w (ix3 0 k l) := by
  unfold k0_pay3
  pointwise

variable (m : (ℓ : Loc nD τ sig) → Buf (Elt Ideal) ℓ) (c : Dev nD)

/-- The arguments: the tokens, the gains, the weight. -/
abbrev argH : A2 4096 1024 := m ((c : Thread nD τ).loc main_arg0)
abbrev argG : Fin 1024 → EReal := fun l => (m ((c : Thread nD τ).loc main_arg1) : (⟨1, ![1024]⟩ : Shape).Idx → EReal) (ix1 l)
abbrev argW : A2 1024 5632 := m ((c : Thread nD τ).loc main_arg2)

/-- Where each window's block stands at a grid point. -/
theorem idx : ∀ t : Fin grid0.N, win0_0.index t = ![t.val / 4, 0] ∧ win0_1.index t = ![0, 0] ∧ win0_2.index t = ![t.val % 4, 0, 0]
    ∧ win0_3.index t = ![t.val / 4, 0] ∧ win0_4.index t = ![t.val / 4, t.val % 4] := by
  decide +kernel

/-- The arguments as the host code prepares them. -/
theorem gains_row (l : Fin 1024) : V m c main_v0 (ix2 0 l) = argG m c l := by
  unfold V
  simp only [List.flatten_cons, List.flatten_nil, hostOps0, List.cons_append, List.nil_append, List.append_nil]
  entry_read
  pointwise
theorem weight_block (b : Fin 4) (k : Fin 1024) (l : Fin 1408) :
    V m c main_v2 (ix3 b k l) = argW m c (ix2 k (⟨b.val * 1408 + l.val, by omega⟩ : Fin 5632)) := by
  unfold V
  simp only [List.flatten_cons, List.flatten_nil, hostOps0, List.cons_append, List.nil_append, List.append_nil]
  entry_read
  pointwise

abbrev rowOf (t : Fin 16) (i : Fin 1024) : Fin 4096 := ⟨t.val / 4 * 1024 + i.val, by omega⟩
abbrev colOf (t : Fin 16) (l : Fin 1408) : Fin 5632 := ⟨t.val % 4 * 1408 + l.val, by omega⟩

theorem blk_h (t : Fin 16) (i l : Fin 1024) : iblk m c 0 t (ix2 i l) = argH m c (ix2 (rowOf t i) l) := by
  blk_ext [iblk, V, idx t]
theorem blk_g (t : Fin 16) (l : Fin 1024) : iblk m c 1 t (ix2 0 l) = argG m c l := by
  refine Eq.trans ?_ (gains_row m c l)
  blk_ext [iblk, idx t]
theorem blk_w (t : Fin 16) (k : Fin 1024) (l : Fin 1408) : iblk m c 2 t (ix3 0 k l) = argW m c (ix2 k (colOf t l)) := by
  refine Eq.trans ?_ (weight_block m c ⟨t.val % 4, by omega⟩ k l)
  blk_ext [iblk, idx t]

/-- The tokens a point's token block stores. -/
theorem tokens_apply (t : Fin 16) (i l : Fin 1024) : tokens m c t.val t.isLt (ix2 i l) = norm (argH m c) (argG m c) (rowOf t i) l := by
  have hs : ∀ i, rowOf (start t.val t.isLt) i = rowOf t i := fun i => Fin.ext (by
    show (t.val - t.val % 4) / 4 * 1024 + i.val = t.val / 4 * 1024 + i.val; omega)
  refine (pay1_apply _ _ _ _).trans ?_
  unfold norm
  rw [← hs i]
  exact congrArg₂ (· * ·) (congrArg₂ (· * ·) (blk_h m c _ i l) (congrArg Norm.inv (funext fun j => blk_h m c _ i j))) (blk_g m c _ l)

theorem kept_apply (t : Fin 16) (i l : Fin 1024) : keptAt m c t.val t.isLt (ix2 i l) = norm (argH m c) (argG m c) (rowOf t i) l :=
  (pay2_apply _ _ _ _).trans (tokens_apply m c t i l)

theorem arr3 : (dats m 0 c).arrAt 3 (cfgs 0).N = normed (argH m c) (argG m c) := by
  refine (dats m 0 c).arrAt_eq_of_covers 3 _ (by decide +kernel) fun t hf y => ?_
  blk_simp
  rw [after_3]
  idx_vars y
  refine Eq.trans ?_ (congrArg (normed (argH m c) (argG m c)) (?_ : ix2 (rowOf t y0) y1 = _))
  · exact tokens_apply m c t y0 y1
  · blk_ext [idx t]

theorem arr4 : (dats m 0 c).arrAt 4 (cfgs 0).N = wide (argH m c) (argG m c) (argW m c) := by
  refine (dats m 0 c).arrAt_eq_of_covers 4 _ (by decide +kernel) fun t hf y => ?_
  blk_simp
  rw [after_4]
  idx_vars y
  refine Eq.trans ?_ (congrArg (wide (argH m c) (argG m c) (argW m c)) (?_ : ix2 (rowOf t y0) (colOf t y1) = _))
  · refine (pay3_apply _ _ _ _).trans ?_
    exact Finset.sum_congr rfl fun k _ => congrArg₂ (· * ·) (kept_apply m c t y0 k) (blk_w m c t k y1)
  · blk_ext [idx t]

/-- Every run of the call ends with the two results in its arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v3_0) = normed (argH m c) (argG m c)
      ∧ r.2.mem ((c : Thread nD τ).loc main_v3_1) = wide (argH m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1.trans (arr3 m c), (h.1 c).2.trans (arr4 m c), h.2 c⟩)
    (θ_run_and (Q₁ := fun r => ∀ c : Dev nD, r.2.mem ((c : Thread nD τ).loc main_v3_0) = (dats m 0 c).arrAt 3 (cfgs 0).N
        ∧ r.2.mem ((c : Thread nD τ).loc main_v3_1) = (dats m 0 c).arrAt 4 (cfgs 0).N)
      ((θ_run defs _ _).mono (fun r h c => ⟨(h c).1 3, (h c).1 4⟩) (run_main m ρ)) (unchanged m ρ))

end Cert.MixIn

end
-- ==== Proof.MixIn.Reference.lean ====
/- What the reference of the mixer's input computes, and the claims about both programs. -/
module

public import proofs.«01_k».proof.Defs
public import proofs.«01_k».proof.Proof.Gen.Reference9Ideal.Run
public import proofs.«01_k».proof.Proof.MixIn.Kernel
public import Idealize.ShloMosaic.Lib.Claim

@[expose] public section

set_option maxRecDepth 16384

noncomputable section

namespace Cert.MixIn

open Cert.FfnWeight (A2)
open Idealize.ShloMosaic Idealize.ShloMosaic.TcCoe Idealize.SL.Sem

section Ref
open Cert.Reference9Ideal Cert.Reference9Ideal.Value Cert.Reference9Ideal.Gen Idealize.ShloMosaic.StableHlo

variable (h : A2 4096 1024) (g : (⟨1, ![1024]⟩ : Shape).Idx → EReal) (w : A2 1024 5632)

/-- The inverse root of each token's mean square. -/
def rInv : Vec Ideal S4096x1 .f32 :=
  Host.rsqrt (F := Ideal) (φ := .f32) (addf (Host.divf (broadcastInDim S4096x1 ![0] bcast_S4096_S4096x1_0 (Host.reduceAdd (F := Ideal) (φ := .f32) (mulf (F := Ideal) (φ := .f32) h h) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32)))

theorem rInv_apply (t : Fin 4096) (z : Fin 1) : rInv h (ix2 t z) = Norm.inv (fun j => h (ix2 t j)) := by
  unfold rInv Norm.inv Norm.meanSq
  pointwise

/-- The normalised tokens. -/
def rNorm : Vec Ideal S4096x1024 .f32 :=
  mulf (F := Ideal) (φ := .f32) (mulf (F := Ideal) (φ := .f32) h (broadcastInDim S4096x1024 ![0, 1] bcast_S4096x1_S4096x1024_0_1 (rInv h)))
    (broadcastInDim (α := Elt Ideal .f32) S4096x1024 ![0, 1] bcast_S1x1024_S4096x1024_0_1 (broadcastInDim (α := Elt Ideal .f32) S1x1024 ![1] bcast_S1024_S1x1024_1 g))

theorem rNorm_apply (t : Fin 4096) (l : Fin 1024) : rNorm h g (ix2 t l) = norm h (fun l => g (ix1 l)) t l := by
  unfold rNorm norm
  pointwise
  simp only [rInv_apply]

theorem ref_normed : (truncf (F := Ideal) (φ := .f32) .bf16 (rNorm h g) bitsLt_bf16_f32 : A2 4096 1024) = normed h fun l => g (ix1 l) := by
  funext y
  idx_vars y
  pointwise
  exact rNorm_apply h g y0 y1

theorem ref_wide : (truncf (F := Ideal) (φ := .f32) .bf16 (Host.dotGeneral (F := Ideal) (φ₁ := .f32) (φ₂ := .f32) dot_S4096x1024_S1024x5632_S4096x5632_1_0_0_1_n_n none (rNorm h g)
      (extf (F := Ideal) (φ := .bf16) .f32 w bitsLt_bf16_f32)) bitsLt_bf16_f32 : A2 4096 5632) = wide h (fun l => g (ix1 l)) w := by
  funext y
  idx_vars y
  unfold wide
  pointwise
  simp only [rNorm_apply]

end Ref

/-- Equal arguments give equal functions. -/
theorem normed_congr {h h' : A2 4096 1024} {g g' : Fin 1024 → EReal} (e0 : h = h') (e1 : g = g') : normed h g = normed h' g' := by
  subst e0 e1
  rfl
theorem wide_congr {h h' : A2 4096 1024} {g g' : Fin 1024 → EReal} {w w' : A2 1024 5632} (e0 : h = h') (e1 : g = g') (e2 : w = w') :
    wide h g w = wide h' g' w' := by
  subst e0 e1 e2
  rfl

/-- The reference ends with its arguments as they were, and it has no semaphores. -/
theorem frame_reference : Cert.quiescent_Reference9Ideal (hReference9Ideal := Cert.Reference9Ideal.Gen.facts) := fun m ρ _ =>
  (θ_run _ _ _).mono (fun r h => ⟨fun c => (h c).2.2, sem_eq_zero_of_no_sems (by decide) r.2⟩)
    (Cert.Reference9Ideal.Value.run (F := Ideal) m ρ)

/-- Equal results: `normed` and `wide` of the arguments. -/
theorem algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => normed (argH m c) (argG m c), fun c => wide (argH m c) (argG m c) (argW m c), ?_, ?_⟩
  · exact run m ρ
  · refine (θ_run _ _ _).mono (fun r h c => ⟨(h c).1.trans ?_, (h c).2.1.trans ?_, (h c).2.2⟩) (Cert.Reference9Ideal.Value.run (F := Ideal) m' ρ')
    · obtain ⟨h0, h1, h2⟩ := hagree c
      exact (ref_normed _ _).trans (normed_congr h0 (funext fun l => congrFun h1 (ix1 l)))
    · obtain ⟨h0, h1, h2⟩ := hagree c
      exact (ref_wide _ _ _).trans (wide_congr h0 (funext fun l => congrFun h1 (ix1 l)) h2)

end Cert.MixIn

end
-- ==== Proof.BranchWeight.Kernel.lean ====
/- The gradients of the three branches' output weights, 512 by 1024 each, whose columns the step keeps in four blocks of 256,
   and what the one call for the three leaves in its result arrays. One grid point handles one block of each weight. -/
module

public import proofs.«01_k».proof.Proof.Gen.Kernel11Ideal.Value
public import proofs.«01_k».proof.Proof.FfnWeight.Spec
public import Idealize.ShloMosaic.Lib.KernelVsHost
public import Idealize.ShloMosaic.Lib.Pipeline.ValueKit

@[expose] public section

set_option maxRecDepth 16384

noncomputable section

namespace Cert.BranchWeight

open Cert.FfnWeight (A2 A3)
open Cert.Kernel11Ideal Cert.Kernel11Ideal.Gen Idealize.ShloMosaic Idealize.ShloMosaic.TcCoe Idealize.SL.Sem

/-- The gradient of a branch's weight: for each input feature and each column the sum over the tokens. -/
def dWeight (a : A2 4096 512) (d : A2 4096 1024) : A3 4 512 256 := fun i =>
  ∑ t : Fin 4096, a (ix2 t (i 1)) * d (ix2 t (⟨(i 0).val * 256 + (i 2).val, by have h0 : (i 0).val < 4 := (i 0).isLt; have h1 : (i 2).val < 256 := (i 2).isLt; omega⟩ : Fin 1024))

/-- One block's product. -/
theorem pay1_apply (a : Vec Ideal S4096x512 .bf16) (d : Vec Ideal S4096x256 .bf16) (z : Fin 1) (k : Fin 512) (l : Fin 256) :
    k0_pay1 a d (ix3 z k l) = ∑ t : Fin 4096, a (ix2 t k) * d (ix2 t l) := by
  unfold k0_pay1
  pointwise

/-- The three branches have the same block product. -/
theorem pay2_eq (a : Vec Ideal S4096x512 .bf16) (d : Vec Ideal S4096x256 .bf16) : k0_pay2 a d = k0_pay1 a d := rfl
theorem pay3_eq (a : Vec Ideal S4096x512 .bf16) (d : Vec Ideal S4096x256 .bf16) : k0_pay3 a d = k0_pay1 a d := rfl

/-- A block's product is the gradient's block. -/
theorem point (a : A2 4096 512) (d : A2 4096 1024) (x : Vec Ideal S4096x512 .bf16) (y : Vec Ideal S4096x256 .bf16) (t : Fin 4)
    (k : Fin 512) (l : Fin 256) (ha : ∀ i (k : Fin 512), x (ix2 i k) = a (ix2 i k))
    (hb : ∀ i (l : Fin 256), y (ix2 i l) = d (ix2 i (⟨t.val * 256 + l.val, by omega⟩ : Fin 1024))) :
    ∑ i : Fin 4096, x (ix2 i k) * y (ix2 i l) = dWeight a d (ix3 t k l) :=
  Finset.sum_congr rfl fun i _ => congrArg₂ (· * ·) (ha i k) (hb i l)

variable (m : (ℓ : Loc nD τ sig) → Buf (Elt Ideal) ℓ) (c : Dev nD)

/-- The arguments: the three branches' activations, and the gradients of their products. -/
abbrev argA0 : A2 4096 512 := m ((c : Thread nD τ).loc main_arg0)
abbrev argA1 : A2 4096 512 := m ((c : Thread nD τ).loc main_arg1)
abbrev argA2 : A2 4096 512 := m ((c : Thread nD τ).loc main_arg2)
abbrev argD0 : A2 4096 1024 := m ((c : Thread nD τ).loc main_arg3)
abbrev argD1 : A2 4096 1024 := m ((c : Thread nD τ).loc main_arg4)
abbrev argD2 : A2 4096 1024 := m ((c : Thread nD τ).loc main_arg5)

/-- Where each window's block stands at a grid point. -/
theorem idx : ∀ t : Fin grid0.N, win0_0.index t = ![0, 0] ∧ win0_1.index t = ![0, 0] ∧ win0_2.index t = ![0, 0]
    ∧ win0_3.index t = ![0, t.val] ∧ win0_4.index t = ![0, t.val] ∧ win0_5.index t = ![0, t.val]
    ∧ win0_6.index t = ![t.val, 0, 0] ∧ win0_7.index t = ![t.val, 0, 0] ∧ win0_8.index t = ![t.val, 0, 0] := by
  decide +kernel

theorem blk_a0 (t : Fin grid0.N) (i : Fin 4096) (l : Fin 512) : iblk m c 0 t (ix2 i l) = argA0 m c (ix2 i l) := by
  blk_ext [iblk, V, idx t]
theorem blk_d0 (t : Fin 4) (i : Fin 4096) (k : Fin 256) :
    iblk m c 3 t (ix2 i k) = argD0 m c (ix2 i (⟨t.val * 256 + k.val, by omega⟩ : Fin 1024)) := by
  blk_ext [iblk, V, idx t]
theorem blk_a1 (t : Fin grid0.N) (i : Fin 4096) (l : Fin 512) : iblk m c 1 t (ix2 i l) = argA1 m c (ix2 i l) := by
  blk_ext [iblk, V, idx t]
theorem blk_d1 (t : Fin 4) (i : Fin 4096) (k : Fin 256) :
    iblk m c 4 t (ix2 i k) = argD1 m c (ix2 i (⟨t.val * 256 + k.val, by omega⟩ : Fin 1024)) := by
  blk_ext [iblk, V, idx t]
theorem blk_a2 (t : Fin grid0.N) (i : Fin 4096) (l : Fin 512) : iblk m c 2 t (ix2 i l) = argA2 m c (ix2 i l) := by
  blk_ext [iblk, V, idx t]
theorem blk_d2 (t : Fin 4) (i : Fin 4096) (k : Fin 256) :
    iblk m c 5 t (ix2 i k) = argD2 m c (ix2 i (⟨t.val * 256 + k.val, by omega⟩ : Fin 1024)) := by
  blk_ext [iblk, V, idx t]

theorem arr6 : (dats m 0 c).arrAt 6 (cfgs 0).N = dWeight (argA0 m c) (argD0 m c) := by
  refine (dats m 0 c).arrAt_eq_of_covers 6 _ (by decide +kernel) fun t hf y => ?_
  blk_simp
  rw [after0_6]
  unfold out0_6
  frame_out
  idx_vars y
  refine Eq.trans ?_ (congrArg (dWeight (argA0 m c) (argD0 m c)) (?_ : ix3 t y1 y2 = _))
  · refine (pay1_apply _ _ _ _ _).trans ?_
    exact point _ _ _ _ t y1 y2 (blk_a0 m c t) (blk_d0 m c t)
  · blk_ext [idx t]

theorem arr7 : (dats m 0 c).arrAt 7 (cfgs 0).N = dWeight (argA1 m c) (argD1 m c) := by
  refine (dats m 0 c).arrAt_eq_of_covers 7 _ (by decide +kernel) fun t hf y => ?_
  blk_simp
  rw [after0_7]
  unfold out0_7
  frame_out
  idx_vars y
  refine Eq.trans ?_ (congrArg (dWeight (argA1 m c) (argD1 m c)) (?_ : ix3 t y1 y2 = _))
  · refine (pay1_apply _ _ _ _ _).trans ?_
    exact point _ _ _ _ t y1 y2 (blk_a1 m c t) (blk_d1 m c t)
  · blk_ext [idx t]

theorem arr8 : (dats m 0 c).arrAt 8 (cfgs 0).N = dWeight (argA2 m c) (argD2 m c) := by
  refine (dats m 0 c).arrAt_eq_of_covers 8 _ (by decide +kernel) fun t hf y => ?_
  blk_simp
  rw [after0_8]
  unfold out0_8
  frame_out
  idx_vars y
  refine Eq.trans ?_ (congrArg (dWeight (argA2 m c) (argD2 m c)) (?_ : ix3 t y1 y2 = _))
  · refine (pay1_apply _ _ _ _ _).trans ?_
    exact point _ _ _ _ t y1 y2 (blk_a2 m c t) (blk_d2 m c t)
  · blk_ext [idx t]

end Cert.BranchWeight

end
-- ==== Proof.BranchWeight.Reference.lean ====
/- What the reference of the three branch weights' gradients computes, and the claims about both programs. -/
module

public import proofs.«01_k».proof.Defs
public import proofs.«01_k».proof.Proof.Gen.Reference11Ideal.Run
public import proofs.«01_k».proof.Proof.BranchWeight.Kernel
public import Idealize.ShloMosaic.Lib.Claim

@[expose] public section

set_option maxRecDepth 16384

noncomputable section

namespace Cert.BranchWeight

open Cert.FfnWeight (A2 A3)
open Idealize.ShloMosaic Idealize.ShloMosaic.TcCoe Idealize.SL.Sem

section Ref
open Cert.Reference11Ideal Cert.Reference11Ideal.Value Cert.Reference11Ideal.Gen Idealize.ShloMosaic.StableHlo

/-- Each of the reference's results. -/
theorem ref_weight (a : A2 4096 512) (d : A2 4096 1024) : (truncf .bf16 (transpose S4x512x256 [1, 0, 2] (shapeCast _ (transpose S512x1024 [1, 0]
      (Host.dotGeneral (F := Ideal) (φ₁ := .f32) (φ₂ := .f32) dot_S4096x1024_S4096x512_S1024x512_0_0_1_1_n_n none (extf (F := Ideal) (φ := .bf16) .f32 d bitsLt_bf16_f32)
        (extf (F := Ideal) (φ := .bf16) .f32 a bitsLt_bf16_f32))
      transposes_S1024x512_S512x1024_1_0) shapeCasts_S512x1024_S512x4x256) transposes_S512x4x256_S4x512x256_1_0_2) bitsLt_bf16_f32 : A3 4 512 256)
    = dWeight a d := by
  funext i
  idx_vars i
  unfold dWeight
  pointwise
  exact Finset.sum_congr rfl fun t _ => mul_comm _ _

end Ref

/-- The reference ends with its arguments as they were, and it has no semaphores. -/
theorem frame_reference : Cert.quiescent_Reference11Ideal (hReference11Ideal := Cert.Reference11Ideal.Gen.facts) := fun m ρ _ =>
  (θ_run _ _ _).mono (fun r h => ⟨fun c => (h c).2.2.2, sem_eq_zero_of_no_sems (by decide) r.2⟩)
    (Cert.Reference11Ideal.Value.run (F := Ideal) m ρ)

/-- Equal results: `dWeight` of each branch's arguments. -/
theorem algebraic : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => dWeight (argA0 m c) (argD0 m c), fun c => dWeight (argA1 m c) (argD1 m c), fun c => dWeight (argA2 m c) (argD2 m c), ?_, ?_⟩
  · exact (θ_run _ _ _).mono (fun r h c => ⟨(h c).1.trans (arr6 m c), (h c).2.1.trans (arr7 m c), (h c).2.2.1.trans (arr8 m c), (h c).2.2.2⟩)
      (Cert.Kernel11Ideal.Value.run_blocks (F := Ideal) m ρ)
  · refine (θ_run _ _ _).mono (fun r h c => ⟨(h c).1.trans ?_, (h c).2.1.trans ?_, (h c).2.2.1.trans ?_, (h c).2.2.2⟩)
      (Cert.Reference11Ideal.Value.run (F := Ideal) m' ρ')
    all_goals obtain ⟨h0, h1, h2, h3, h4, h5⟩ := hagree c
    · exact (ref_weight _ _).trans (congrArg₂ dWeight h0 h3)
    · exact (ref_weight _ _).trans (congrArg₂ dWeight h1 h4)
    · exact (ref_weight _ _).trans (congrArg₂ dWeight h2 h5)

end Cert.BranchWeight

end
-- ==== Proof.ProjWeight.Kernel.lean ====
/- The gradient of a 256-by-1024 weight whose columns the step keeps in four blocks of 256, and what the call for it leaves
   in its result array. One grid point handles one of the four blocks. -/
module

public import proofs.«01_k».proof.Proof.Gen.Kernel13Ideal.Value
public import proofs.«01_k».proof.Proof.FfnWeight.Spec
public import Idealize.ShloMosaic.Lib.KernelVsHost
public import Idealize.ShloMosaic.Lib.Pipeline.ValueKit

@[expose] public section

set_option maxRecDepth 16384

noncomputable section

namespace Cert.ProjWeight

open Cert.FfnWeight (A2 A3)
open Cert.Kernel13Ideal Cert.Kernel13Ideal.Gen Idealize.ShloMosaic Idealize.ShloMosaic.TcCoe Idealize.SL.Sem

/-- The gradient of the weight: for each input feature and each column the sum over the tokens. -/
def dWeight (a : A2 4096 256) (d : A2 4096 1024) : A3 4 256 256 := fun i =>
  ∑ t : Fin 4096, a (ix2 t (i 1)) * d (ix2 t (⟨(i 0).val * 256 + (i 2).val, by have h0 : (i 0).val < 4 := (i 0).isLt; have h1 : (i 2).val < 256 := (i 2).isLt; omega⟩ : Fin 1024))

/-- One block's product. -/
theorem pay1_apply (a : Vec Ideal S4096x256 .f32) (d : Vec Ideal S4096x256 .bf16) (z : Fin 1) (k l : Fin 256) :
    k0_pay1 a d (ix3 z k l) = ∑ t : Fin 4096, a (ix2 t k) * d (ix2 t l) := by
  unfold k0_pay1
  pointwise

/-- A block's product is the gradient's block. -/
theorem point (a : A2 4096 256) (d : A2 4096 1024) (x : Vec Ideal S4096x256 .f32) (y : Vec Ideal S4096x256 .bf16) (t : Fin 4)
    (k l : Fin 256) (ha : ∀ i (k : Fin 256), x (ix2 i k) = a (ix2 i k))
    (hb : ∀ i (l : Fin 256), y (ix2 i l) = d (ix2 i (⟨t.val * 256 + l.val, by omega⟩ : Fin 1024))) :
    ∑ i : Fin 4096, x (ix2 i k) * y (ix2 i l) = dWeight a d (ix3 t k l) :=
  Finset.sum_congr rfl fun i _ => congrArg₂ (· * ·) (ha i k) (hb i l)

variable (m : (ℓ : Loc nD τ sig) → Buf (Elt Ideal) ℓ) (c : Dev nD)

/-- The arguments: the product's left operand, and the gradient of its result. -/
abbrev argA : A2 4096 256 := m ((c : Thread nD τ).loc main_arg0)
abbrev argD : A2 4096 1024 := m ((c : Thread nD τ).loc main_arg1)

/-- Where each window's block stands at a grid point. -/
theorem idx : ∀ t : Fin grid0.N, win0_0.index t = ![0, 0] ∧ win0_1.index t = ![0, t.val] ∧ win0_2.index t = ![t.val, 0, 0] := by
  decide +kernel

theorem blk_a (t : Fin grid0.N) (i : Fin 4096) (l : Fin 256) : iblk m c 0 t (ix2 i l) = argA m c (ix2 i l) := by
  blk_ext [iblk, V, idx t]
theorem blk_d (t : Fin 4) (i : Fin 4096) (k : Fin 256) :
    iblk m c 1 t (ix2 i k) = argD m c (ix2 i (⟨t.val * 256 + k.val, by omega⟩ : Fin 1024)) := by
  blk_ext [iblk, V, idx t]

theorem arr2 : (dats m 0 c).arrAt 2 (cfgs 0).N = dWeight (argA m c) (argD m c) := by
  refine (dats m 0 c).arrAt_eq_of_covers 2 _ (by decide +kernel) fun t hf y => ?_
  blk_simp
  rw [after0_2]
  unfold out0_2
  frame_out
  idx_vars y
  refine Eq.trans ?_ (congrArg (dWeight (argA m c) (argD m c)) (?_ : ix3 t y1 y2 = _))
  · refine (pay1_apply _ _ _ _ _).trans ?_
    exact point _ _ _ _ t y1 y2 (blk_a m c t) (blk_d m c t)
  · blk_ext [idx t]

end Cert.ProjWeight

end
-- ==== Proof.ProjWeight.Reference.lean ====
/- What the reference of the weight's gradient computes, and the claims about both programs. -/
module

public import proofs.«01_k».proof.Defs
public import proofs.«01_k».proof.Proof.Gen.Reference13Ideal.Run
public import proofs.«01_k».proof.Proof.ProjWeight.Kernel
public import Idealize.ShloMosaic.Lib.Claim

@[expose] public section

set_option maxRecDepth 16384

noncomputable section

namespace Cert.ProjWeight

open Cert.FfnWeight (A2 A3)
open Idealize.ShloMosaic Idealize.ShloMosaic.TcCoe Idealize.SL.Sem

section Ref
open Cert.Reference13Ideal Cert.Reference13Ideal.Value Cert.Reference13Ideal.Gen Idealize.ShloMosaic.StableHlo

/-- The reference's result. -/
theorem ref_weight (a : A2 4096 256) (d : A2 4096 1024) : (truncf .bf16 (transpose S4x256x256 [1, 0, 2] (shapeCast _ (transpose S256x1024 [1, 0]
      (Host.dotGeneral (F := Ideal) (φ₁ := .f32) (φ₂ := .f32) dot_S4096x1024_S4096x256_S1024x256_0_0_1_1_n_n none (extf (F := Ideal) (φ := .bf16) .f32 d bitsLt_bf16_f32) a)
      transposes_S1024x256_S256x1024_1_0) shapeCasts_S256x1024_S256x4x256) transposes_S256x4x256_S4x256x256_1_0_2) bitsLt_bf16_f32 : A3 4 256 256)
    = dWeight a d := by
  funext i
  idx_vars i
  unfold dWeight
  pointwise
  exact Finset.sum_congr rfl fun t _ => mul_comm _ _

end Ref

/-- The reference ends with its arguments as they were, and it has no semaphores. -/
theorem frame_reference : Cert.quiescent_Reference13Ideal (hReference13Ideal := Cert.Reference13Ideal.Gen.facts) := fun m ρ _ =>
  (θ_run _ _ _).mono (fun r h => ⟨fun c => (h c).2, sem_eq_zero_of_no_sems (by decide) r.2⟩)
    (Cert.Reference13Ideal.Value.run (F := Ideal) m ρ)

/-- Equal results: `dWeight` of the arguments. -/
theorem algebraic : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => dWeight (argA m c) (argD m c), ?_, ?_⟩
  · exact (θ_run _ _ _).mono (fun r h c => ⟨(h c).1.trans (arr2 m c), (h c).2⟩) (Cert.Kernel13Ideal.Value.run_blocks (F := Ideal) m ρ)
  · refine (θ_run _ _ _).mono (fun r h c => ⟨(h c).1.trans ?_, (h c).2⟩) (Cert.Reference13Ideal.Value.run (F := Ideal) m' ρ')
    obtain ⟨h0, h1⟩ := hagree c
    exact (ref_weight _ _).trans (congrArg₂ dWeight h0 h1)

end Cert.ProjWeight

end
-- ==== Proof.Adam.Spec.lean ====
/- One AdamW step on a weight, element by element: the new first and second moments from the old ones and the gradient,
   and the weight's change. -/
module

public import Idealize.ShloMosaic.Lib.Pipeline.ValueKit

@[expose] public section

noncomputable section

namespace Cert.Adam

open Idealize.ShloMosaic

/-- Arrays of rank three as functions of an index. -/
abbrev A3 (a b c : ℕ) := (⟨3, ![a, b, c]⟩ : Shape).Idx → EReal

/-- The new first moment of an element, of the old one and the gradient. -/
def mean (m g : EReal) : EReal := Ideal.ofBits FTy.f32 0x3F666666#32 * m + Ideal.ofBits FTy.f32 0x3DCCCCCD#32 * g

/-- The new second moment of an element. -/
def square (v g : EReal) : EReal := Ideal.ofBits FTy.f32 0x3F7FBE77#32 * v + Ideal.ofBits FTy.f32 0x3A83126F#32 * (g * g)

/-- The change of an element: minus the learning rate times the sum of the corrected first moment over the root of the
    corrected second moment, and the decayed weight. -/
def change (w g m v : EReal) : EReal :=
  Ideal.ofBits FTy.f32 0xBA83126F#32
    * (Ideal.div (Ideal.div (mean m g) (Ideal.ofBits FTy.f32 0x3F26BD02#32))
          (Ideal.sqrt (Ideal.div (square v g) (Ideal.ofBits FTy.f32 0x3C231ACC#32)) + Ideal.ofBits FTy.f32 0x322BCC77#32)
        + Ideal.ofBits FTy.f32 0x3C23D70A#32 * w)

/-- The three results of a step on whole arrays. -/
def means {s : Shape} (g m : s.Idx → EReal) : s.Idx → EReal := fun i => mean (m i) (g i)
def squares {s : Shape} (g v : s.Idx → EReal) : s.Idx → EReal := fun i => square (v i) (g i)
def changes {s : Shape} (w g m v : s.Idx → EReal) : s.Idx → EReal := fun i => change (w i) (g i) (m i) (v i)

end Cert.Adam

end
-- ==== Proof.Adam15.Kernel.lean ====
/- One AdamW step on the mixer's wide first weight, in two calls: the first works on layers 1 to 3, the second on layer 0 in the arrays the
   first left. -/
module

public import proofs.«01_k».proof.Proof.Gen.Kernel15Ideal.Frame
public import proofs.«01_k».proof.Proof.Adam.Spec
public import Idealize.ShloMosaic.Lib.KernelVsHost
public import Idealize.ShloMosaic.Lib.Pipeline.ValueKit

@[expose] public section

set_option maxRecDepth 16384

noncomputable section

namespace Cert.Adam15

open Cert.Adam
open Cert.Kernel15Ideal Cert.Kernel15Ideal.Gen Idealize.ShloMosaic Idealize.ShloMosaic.TcCoe Idealize.SL.Sem

/-- The first call's stored blocks, element by element. -/
theorem pay0_change (g w p v : Vec Ideal S1x256x1408 .f32) (z : Fin 1) (r : Fin 256) (l : Fin 1408) :
    k0_pay2 (k0_pay8 g w p v) (ix3 z r l) = change (w (ix3 z r l)) (g (ix3 z r l)) (p (ix3 z r l)) (v (ix3 z r l)) := by
  obtain rfl : z = 0 := Subsingleton.elim _ _
  unfold k0_pay2 k0_pay8 k0_pay6 k0_pay7 k0_pay5 change mean square
  pointwise
theorem pay0_mean (g p : Vec Ideal S1x256x1408 .f32) (z : Fin 1) (r : Fin 256) (l : Fin 1408) :
    k0_pay3 (k0_pay6 g p) (ix3 z r l) = mean (p (ix3 z r l)) (g (ix3 z r l)) := by
  obtain rfl : z = 0 := Subsingleton.elim _ _
  unfold k0_pay3 k0_pay6 k0_pay5 mean
  pointwise
theorem pay0_square (g v : Vec Ideal S1x256x1408 .f32) (z : Fin 1) (r : Fin 256) (l : Fin 1408) :
    k0_pay4 (k0_pay7 g v) (ix3 z r l) = square (v (ix3 z r l)) (g (ix3 z r l)) := by
  obtain rfl : z = 0 := Subsingleton.elim _ _
  unfold k0_pay4 k0_pay7 k0_pay5 square
  pointwise

/-- The second call's stored blocks, element by element. -/
theorem pay1_change (g w p v : Vec Ideal S1x256x1408 .f32) (z : Fin 1) (r : Fin 256) (l : Fin 1408) :
    k1_pay2 (k1_pay8 g w p v) (ix3 z r l) = change (w (ix3 z r l)) (g (ix3 z r l)) (p (ix3 z r l)) (v (ix3 z r l)) := by
  obtain rfl : z = 0 := Subsingleton.elim _ _
  unfold k1_pay2 k1_pay8 k1_pay6 k1_pay7 k1_pay5 change mean square
  pointwise
theorem pay1_mean (g p : Vec Ideal S1x256x1408 .f32) (z : Fin 1) (r : Fin 256) (l : Fin 1408) :
    k1_pay3 (k1_pay6 g p) (ix3 z r l) = mean (p (ix3 z r l)) (g (ix3 z r l)) := by
  obtain rfl : z = 0 := Subsingleton.elim _ _
  unfold k1_pay3 k1_pay6 k1_pay5 mean
  pointwise
theorem pay1_square (g v : Vec Ideal S1x256x1408 .f32) (z : Fin 1) (r : Fin 256) (l : Fin 1408) :
    k1_pay4 (k1_pay7 g v) (ix3 z r l) = square (v (ix3 z r l)) (g (ix3 z r l)) := by
  obtain rfl : z = 0 := Subsingleton.elim _ _
  unfold k1_pay4 k1_pay7 k1_pay5 square
  pointwise

variable (m : (ℓ : Loc nD τ sig) → Buf (Elt Ideal) ℓ) (ρ : Dev nD → PrngReg) (c : Dev nD)

/-- The arguments: the weight, its gradient and its two moments. -/
abbrev argW : A3 4 1024 1408 := m ((c : Thread nD τ).loc main_arg0)
abbrev argG : A3 4 1024 1408 := m ((c : Thread nD τ).loc main_arg1)
abbrev argM : A3 4 1024 1408 := m ((c : Thread nD τ).loc main_arg2)
abbrev argV : A3 4 1024 1408 := m ((c : Thread nD τ).loc main_arg3)

theorem idx0_0 : ∀ t : Fin grid0.N, win0_0.index t = ![1 + t.val / 4, t.val % 4, 0] := by decide +kernel
theorem idx0_1 : ∀ t : Fin grid0.N, win0_1.index t = ![1 + t.val / 4, t.val % 4, 0] := by decide +kernel
theorem idx0_2 : ∀ t : Fin grid0.N, win0_2.index t = ![1 + t.val / 4, t.val % 4, 0] := by decide +kernel
theorem idx0_3 : ∀ t : Fin grid0.N, win0_3.index t = ![1 + t.val / 4, t.val % 4, 0] := by decide +kernel
theorem idx0_5 : ∀ t : Fin grid0.N, win0_5.index t = ![1 + t.val / 4, t.val % 4, 0] := by decide +kernel
theorem idx0_6 : ∀ t : Fin grid0.N, win0_6.index t = ![1 + t.val / 4, t.val % 4, 0] := by decide +kernel
theorem idx0_7 : ∀ t : Fin grid0.N, win0_7.index t = ![1 + t.val / 4, t.val % 4, 0] := by decide +kernel
theorem flush0_5 : ∀ t : Fin grid0.N, win0_5.flush t = true := by decide +kernel
theorem flush0_6 : ∀ t : Fin grid0.N, win0_6.flush t = true := by decide +kernel
theorem flush0_7 : ∀ t : Fin grid0.N, win0_7.flush t = true := by decide +kernel
theorem idx1_0 : ∀ t : Fin grid1.N, win1_0.index t = ![0, t.val, 0] := by decide +kernel
theorem idx1_1 : ∀ t : Fin grid1.N, win1_1.index t = ![0, t.val, 0] := by decide +kernel
theorem idx1_2 : ∀ t : Fin grid1.N, win1_2.index t = ![0, t.val, 0] := by decide +kernel
theorem idx1_3 : ∀ t : Fin grid1.N, win1_3.index t = ![0, t.val, 0] := by decide +kernel
theorem idx1_5 : ∀ t : Fin grid1.N, win1_5.index t = ![0, t.val, 0] := by decide +kernel
theorem idx1_6 : ∀ t : Fin grid1.N, win1_6.index t = ![0, t.val, 0] := by decide +kernel
theorem idx1_7 : ∀ t : Fin grid1.N, win1_7.index t = ![0, t.val, 0] := by decide +kernel
theorem flush1_5 : ∀ t : Fin grid1.N, win1_5.flush t = true := by decide +kernel
theorem flush1_6 : ∀ t : Fin grid1.N, win1_6.flush t = true := by decide +kernel
theorem flush1_7 : ∀ t : Fin grid1.N, win1_7.flush t = true := by decide +kernel

/-- The blocks the two calls read are the arguments' at their layer and tile. -/
theorem blk0_0 (t : Fin 12) (z : Fin 1) (r : Fin 256) (l : Fin 1408) :
    iblk0 (V0 m ρ) c 0 t (ix3 z r l) = argW m c (ix3 (⟨1 + t.val / 4, by omega⟩ : Fin 4) (⟨t.val % 4 * 256 + r.val, by omega⟩ : Fin 1024) l) := by
  refine Eq.trans ?_ (congrFun (W0_args m ρ c main_arg0 (by decide)) _)
  obtain rfl : z = 0 := Subsingleton.elim _ _
  blk_ext [iblk0, idx0_0 t]
theorem blk0_1 (t : Fin 12) (z : Fin 1) (r : Fin 256) (l : Fin 1408) :
    iblk0 (V0 m ρ) c 1 t (ix3 z r l) = argG m c (ix3 (⟨1 + t.val / 4, by omega⟩ : Fin 4) (⟨t.val % 4 * 256 + r.val, by omega⟩ : Fin 1024) l) := by
  refine Eq.trans ?_ (congrFun (W0_args m ρ c main_arg1 (by decide)) _)
  obtain rfl : z = 0 := Subsingleton.elim _ _
  blk_ext [iblk0, idx0_1 t]
theorem blk0_2 (t : Fin 12) (z : Fin 1) (r : Fin 256) (l : Fin 1408) :
    iblk0 (V0 m ρ) c 2 t (ix3 z r l) = argM m c (ix3 (⟨1 + t.val / 4, by omega⟩ : Fin 4) (⟨t.val % 4 * 256 + r.val, by omega⟩ : Fin 1024) l) := by
  refine Eq.trans ?_ (congrFun (W0_args m ρ c main_arg2 (by decide)) _)
  obtain rfl : z = 0 := Subsingleton.elim _ _
  blk_ext [iblk0, idx0_2 t]
theorem blk0_3 (t : Fin 12) (z : Fin 1) (r : Fin 256) (l : Fin 1408) :
    iblk0 (V0 m ρ) c 3 t (ix3 z r l) = argV m c (ix3 (⟨1 + t.val / 4, by omega⟩ : Fin 4) (⟨t.val % 4 * 256 + r.val, by omega⟩ : Fin 1024) l) := by
  refine Eq.trans ?_ (congrFun (W0_args m ρ c main_arg3 (by decide)) _)
  obtain rfl : z = 0 := Subsingleton.elim _ _
  blk_ext [iblk0, idx0_3 t]
theorem blk1_0 (t : Fin 4) (z : Fin 1) (r : Fin 256) (l : Fin 1408) :
    iblk1 (V2 m ρ) c 0 t (ix3 z r l) = argW m c (ix3 (0 : Fin 4) (⟨t.val * 256 + r.val, by omega⟩ : Fin 1024) l) := by
  refine Eq.trans ?_ (congrFun (W2_args m ρ c main_arg0 (by decide)) _)
  obtain rfl : z = 0 := Subsingleton.elim _ _
  blk_ext [iblk1, idx1_0 t]
theorem blk1_1 (t : Fin 4) (z : Fin 1) (r : Fin 256) (l : Fin 1408) :
    iblk1 (V2 m ρ) c 1 t (ix3 z r l) = argG m c (ix3 (0 : Fin 4) (⟨t.val * 256 + r.val, by omega⟩ : Fin 1024) l) := by
  refine Eq.trans ?_ (congrFun (W2_args m ρ c main_arg1 (by decide)) _)
  obtain rfl : z = 0 := Subsingleton.elim _ _
  blk_ext [iblk1, idx1_1 t]
theorem blk1_2 (t : Fin 4) (z : Fin 1) (r : Fin 256) (l : Fin 1408) :
    iblk1 (V2 m ρ) c 2 t (ix3 z r l) = argM m c (ix3 (0 : Fin 4) (⟨t.val * 256 + r.val, by omega⟩ : Fin 1024) l) := by
  refine Eq.trans ?_ (congrFun (W2_args m ρ c main_arg2 (by decide)) _)
  obtain rfl : z = 0 := Subsingleton.elim _ _
  blk_ext [iblk1, idx1_2 t]
theorem blk1_3 (t : Fin 4) (z : Fin 1) (r : Fin 256) (l : Fin 1408) :
    iblk1 (V2 m ρ) c 3 t (ix3 z r l) = argV m c (ix3 (0 : Fin 4) (⟨t.val * 256 + r.val, by omega⟩ : Fin 1024) l) := by
  refine Eq.trans ?_ (congrFun (W2_args m ρ c main_arg3 (by decide)) _)
  obtain rfl : z = 0 := Subsingleton.elim _ _
  blk_ext [iblk1, idx1_3 t]

/-- What the second call's body leaves in its result windows at a point. -/
theorem outsAt_eq (V : (c : Dev nD) → (b : Ref sig .tc) → Buf (Elt Ideal) ((c : Thread nD τ).loc b)) (t : Fin cfg1.N) :
    (outsAt1 V c t).2.1 = k1_pay2 (k1_pay8 (iblk1 V c 1 t) (iblk1 V c 0 t) (iblk1 V c 2 t) (iblk1 V c 3 t))
    ∧ (outsAt1 V c t).2.2.1 = k1_pay3 (k1_pay6 (iblk1 V c 1 t) (iblk1 V c 2 t))
    ∧ (outsAt1 V c t).2.2.2 = k1_pay4 (k1_pay7 (iblk1 V c 1 t) (iblk1 V c 3 t)) := by
  unfold outsAt1 out1_A_5 out1_A_6 out1_A_7
  refine ⟨?_, ?_, ?_⟩ <;> frame_out

/-- What a point of the first call writes back into result 1. -/
theorem flushed0_5 (t : Fin cfg0.N) (hf : (cfg0.win 5).flush t = true) : (dat0 (V0 m ρ) c).flushed 5 t
    = ((cfg0.win 5).blk t).view.read (Elt Ideal) (changes (argW m c) (argG m c) (argM m c) (argV m c)) := by
  funext y
  blk_simp
  rw [after0_5]
  unfold out0_5
  frame_out
  idx_vars y
  have ht : t.val < 12 := t.isLt
  refine Eq.trans ?_ (congrArg (changes (argW m c) (argG m c) (argM m c) (argV m c)) (?_ : ix3 (⟨1 + t.val / 4, by omega⟩ : Fin 4) (⟨t.val % 4 * 256 + y1.val, by omega⟩ : Fin 1024) y2 = _))
  · exact (pay0_change _ _ _ _ _ _ _).trans ((congrArg₂ (fun a b => change a b _ _) (blk0_0 m ρ c t _ y1 y2) (blk0_1 m ρ c t _ y1 y2)).trans (congrArg₂ (change _ _) (blk0_2 m ρ c t _ y1 y2) (blk0_3 m ρ c t _ y1 y2)))
  · blk_ext [idx0_5 t]
/-- What a point of the second call writes back into result 1. -/
theorem flushed1_5 (t : Fin cfg1.N) (hf : (cfg1.win 5).flush t = true) : (dat1 (V2 m ρ) c).flushed 5 t
    = ((cfg1.win 5).blk t).view.read (Elt Ideal) (changes (argW m c) (argG m c) (argM m c) (argV m c)) := by
  funext y
  blk_simp
  rw [after1_5, (outsAt_eq c (V2 m ρ) t).1]
  idx_vars y
  have ht : t.val < 4 := t.isLt
  refine Eq.trans ?_ (congrArg (changes (argW m c) (argG m c) (argM m c) (argV m c)) (?_ : ix3 (0 : Fin 4) (⟨t.val * 256 + y1.val, by omega⟩ : Fin 1024) y2 = _))
  · exact (pay1_change _ _ _ _ _ _ _).trans ((congrArg₂ (fun a b => change a b _ _) (blk1_0 m ρ c t _ y1 y2) (blk1_1 m ρ c t _ y1 y2)).trans (congrArg₂ (change _ _) (blk1_2 m ρ c t _ y1 y2) (blk1_3 m ρ c t _ y1 y2)))
  · blk_ext [idx1_5 t]
/-- The first call's blocks of result 1 contain every index of layers 1 to 3, the second call's every index of layer 0. -/
theorem mem0_5 (i : S4x1024x1408.Idx) (h : 1 ≤ (i 0).val) : ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 1408 := (i 2).isLt
  obtain ⟨t, ht⟩ : ∃ t : Fin 12, t.val = ((i 0).val - 1) * 4 + (i 1).val / 256 := ⟨⟨((i 0).val - 1) * 4 + (i 1).val / 256, by omega⟩, rfl⟩
  have e0 : win0_5.index t 0 = 1 + t.val / 4 := congrFun (idx0_5 t) 0
  have e1 : win0_5.index t 1 = t.val % 4 := congrFun (idx0_5 t) 1
  have e2 : win0_5.index t 2 = 0 := congrFun (idx0_5 t) 2
  refine ⟨t, flush0_5 t, ?_⟩
  mem_blk
  rw [e0, e1, e2]
  refine ⟨?_, ?_, ?_⟩ <;> omega
theorem mem1_5 (i : S4x1024x1408.Idx) (h : (i 0).val < 1) : ∃ t : Fin cfg1.N, (cfg1.win 5).flush t = true ∧ i ∈ ((cfg1.win 5).blk t).view.set := by
  have h1 : (i 1).val < 1024 := (i 1).isLt
  have h2 : (i 2).val < 1408 := (i 2).isLt
  obtain ⟨t, ht⟩ : ∃ t : Fin 4, t.val = (i 1).val / 256 := ⟨⟨(i 1).val / 256, by omega⟩, rfl⟩
  have e0 : win1_5.index t 0 = 0 := congrFun (idx1_5 t) 0
  have e1 : win1_5.index t 1 = t.val := congrFun (idx1_5 t) 1
  have e2 : win1_5.index t 2 = 0 := congrFun (idx1_5 t) 2
  refine ⟨t, flush1_5 t, ?_⟩
  mem_blk
  rw [e0, e1, e2]
  refine ⟨?_, ?_, ?_⟩ <;> omega
/-- The second call finds in result 1 what the first call left. -/
theorem carried_5 : W2 m ρ c (Proc.devRef .tc main_v1_1) = (dat0 (V0 m ρ) c).arrAt 5 cfg0.N := by
  refine Eq.trans ?_ (W1_arr m ρ c 5)
  simp only [W2, hostOps1]
  entry_read
  rfl
/-- Result 1 after both calls. -/
theorem result_5 : (dat1 (V2 m ρ) c).arrAt 5 cfg1.N = changes (argW m c) (argG m c) (argM m c) (argV m c) := by
  funext i
  refine ((dat1 (V2 m ρ) c).arrAt_eq_piecewise 5 (changes (argW m c) (argG m c) (argM m c) (argV m c)) (flushed1_5 m ρ c) i).trans ?_
  split
  · rfl
  · rename_i h
    have h0 : 1 ≤ (i 0).val := by
      by_contra h2
      exact h (mem1_5 i (by omega))
    rw [A_eq1]
    refine (congrFun (carried_5 m ρ c) i).trans ?_
    refine ((dat0 (V0 m ρ) c).arrAt_eq_piecewise 5 (changes (argW m c) (argG m c) (argM m c) (argV m c)) (flushed0_5 m ρ c) i).trans ?_
    exact if_pos (mem0_5 i h0)

/-- What a point of the first call writes back into result 2. -/
theorem flushed0_6 (t : Fin cfg0.N) (hf : (cfg0.win 6).flush t = true) : (dat0 (V0 m ρ) c).flushed 6 t
    = ((cfg0.win 6).blk t).view.read (Elt Ideal) (means (argG m c) (argM m c)) := by
  funext y
  blk_simp
  rw [after0_6]
  unfold out0_6
  frame_out
  idx_vars y
  have ht : t.val < 12 := t.isLt
  refine Eq.trans ?_ (congrArg (means (argG m c) (argM m c)) (?_ : ix3 (⟨1 + t.val / 4, by omega⟩ : Fin 4) (⟨t.val % 4 * 256 + y1.val, by omega⟩ : Fin 1024) y2 = _))
  · exact (pay0_mean _ _ _ _ _).trans (congrArg₂ mean (blk0_2 m ρ c t _ y1 y2) (blk0_1 m ρ c t _ y1 y2))
  · blk_ext [idx0_6 t]
/-- What a point of the second call writes back into result 2. -/
theorem flushed1_6 (t : Fin cfg1.N) (hf : (cfg1.win 6).flush t = true) : (dat1 (V2 m ρ) c).flushed 6 t
    = ((cfg1.win 6).blk t).view.read (Elt Ideal) (means (argG m c) (argM m c)) := by
  funext y
  blk_simp
  rw [after1_6, (outsAt_eq c (V2 m ρ) t).2.1]
  idx_vars y
  have ht : t.val < 4 := t.isLt
  refine Eq.trans ?_ (congrArg (means (argG m c) (argM m c)) (?_ : ix3 (0 : Fin 4) (⟨t.val * 256 + y1.val, by omega⟩ : Fin 1024) y2 = _))
  · exact (pay1_mean _ _ _ _ _).trans (congrArg₂ mean (blk1_2 m ρ c t _ y1 y2) (blk1_1 m ρ c t _ y1 y2))
  · blk_ext [idx1_6 t]
/-- The first call's blocks of result 2 contain every index of layers 1 to 3, the second call's every index of layer 0. -/
theorem mem0_6 (i : S4x1024x1408.Idx) (h : 1 ≤ (i 0).val) : ∃ t : Fin cfg0.N, (cfg0.win 6).flush t = true ∧ i ∈ ((cfg0.win 6).blk t).view.set := by
  have h0 : (i 0).val < 4 := (i 0).isLt
  have h1 : (i 1).val < 1024 := (i 1).isLt
  have h2 : (i 2).val < 1408 := (i 2).isLt
  obtain ⟨t, ht⟩ : ∃ t : Fin 12, t.val = ((i 0).val - 1) * 4 + (i 1).val / 256 := ⟨⟨((i 0).val - 1) * 4 + (i 1).val / 256, by omega⟩, rfl⟩
  have e0 : win0_6.index t 0 = 1 + t.val / 4 := congrFun (idx0_6 t) 0
  have e1 : win0_6.index t 1 = t.val % 4 := congrFun (idx0_6 t) 1
  have e2 : win0_6.index t 2 = 0 := congrFun (idx0_6 t) 2
  refine ⟨t, flush0_6 t, ?_⟩
  mem_blk
  rw [e0, e1, e2]
  refine ⟨?_, ?_, ?_⟩ <;> omega
theorem mem1_6 (i : S4x1024x1408.Idx) (h : (i 0).val < 1) : ∃ t : Fin cfg1.N, (cfg1.win 6).flush t = true ∧ i ∈ ((cfg1.win 6).blk t).view.set := by
  have h1 : (i 1).val < 1024 := (i 1).isLt
  have h2 : (i 2).val < 1408 := (i 2).isLt
  obtain ⟨t, ht⟩ : ∃ t : Fin 4, t.val = (i 1).val / 256 := ⟨⟨(i 1).val / 256, by omega⟩, rfl⟩
  have e0 : win1_6.index t 0 = 0 := congrFun (idx1_6 t) 0
  have e1 : win1_6.index t 1 = t.val := congrFun (idx1_6 t) 1
  have e2 : win1_6.index t 2 = 0 := congrFun (idx1_6 t) 2
  refine ⟨t, flush1_6 t, ?_⟩
  mem_blk
  rw [e0, e1, e2]
  refine ⟨?_, ?_, ?_⟩ <;> omega
/-- The second call finds in result 2 what the first call left. -/
theorem carried_6 : W2 m ρ c (Proc.devRef .tc main_v1_2) = (dat0 (V0 m ρ) c).arrAt 6 cfg0.N := by
  refine Eq.trans ?_ (W1_arr m ρ c 6)
  simp only [W2, hostOps1]
  entry_read
  rfl
/-- Result 2 after both calls. -/
theorem result_6 : (dat1 (V2 m ρ) c).arrAt 6 cfg1.N = means (argG m c) (argM m c) := by
  funext i
  refine ((dat1 (V2 m ρ) c).arrAt_eq_piecewise 6 (means (argG m c) (argM m c)) (flushed1_6 m ρ c) i).trans ?_
  split
  · rfl
  · rename_i h
    have h0 : 1 ≤ (i 0).val := by
      by_contra h2
      exact h (mem1_6 i (by omega))
    rw [A_eq1]
    refine (congrFun (carried_6 m ρ c) i).trans ?_
    refine ((dat0 (V0 m ρ) c).arrAt_eq_piecewise 6 (means (argG m c) (argM m c)) (flushed0_6 m ρ c) i).trans ?_
    exact if_pos (mem0_6 i h0)

/-- What a point of the first call writes back into result 3. -/
theorem flushed0_7 (t : Fin cfg0.N) (hf : (cfg0.win 7).flush t = true) : (dat0 (V0 m ρ) c).flushed 7 t
    = ((cfg0.win 7).blk t).view.read (Elt Ideal) (squares (argG m c) (argV m c)) := by
  funext y
  blk_simp
  rw [after0_7]
  unfold out0_7
  frame_out
  idx_vars y
  have ht : t.val < 12 := t.isLt
  refine Eq.trans ?_ (congrArg (squares (argG m c) (argV m c)) (?_ : ix3 (⟨1 + t.val / 4, by omega⟩ : Fin 4) (⟨t.val % 4 * 256 + y1.val, by omega⟩ : Fin 1024) y2 = _))
  · exact (pay0_square _ _ _ _ _).trans (congrArg₂ square (blk0_3 m ρ c t _ y1 y2) (blk0_1 m ρ c t _ y1 y2))
  · blk_ext [idx0_7 t]
/-- What a point of the second call writes back into result 3. -/
theorem flushed1_7 (t : Fin cfg1.N) (hf : (cfg1.win 7).flush t = true) : (dat1 (V2 m ρ) c).flushed 7 t
    = ((cfg1.win 7).blk t).view.read (Elt Ideal) (squares (argG m c) (argV m c)) := by
  funext y
  blk_simp
  rw [after1_7, (outsAt_eq c (V2 m ρ) t).2.2]
  idx_vars y
  have ht : t.val < 4 := t.isLt
  refine Eq.trans ?_ (congrArg (squares (argG m c) (argV m c)) (?_ : ix3 (0 : Fin 4) (⟨t.val * 256 + y1.val, by omega⟩ : Fin 1024) y2 = _))
  · exact (pay1_square _ _ _ _ _).trans (congrArg₂ square (blk1_3 m ρ c t _ y1 y2) (blk1_1 m ρ c t _ y1 y2))
  · blk_ext [idx1_7 t]
/-- The first call's blocks of result 3 contain every index of layers 1 to 3, the second call's every index of layer 0. -/
theorem mem0_7 (i : S4x1024x1408.Idx) (h : 1 ≤ (i 0).val) : ∃ t : Fin cfg0.N, (cfg0.win 7).flush t = true ∧ i ∈ ((cfg0.win 7).blk t).view.set := by
  have h0 : (i 0).val < 4 := (i 0).isLt
  have h1 : (i 1).val < 1024 := (i 1).isLt
  have h2 : (i 2).val < 1408 := (i 2).isLt
  obtain ⟨t, ht⟩ : ∃ t : Fin 12, t.val = ((i 0).val - 1) * 4 + (i 1).val / 256 := ⟨⟨((i 0).val - 1) * 4 + (i 1).val / 256, by omega⟩, rfl⟩
  have e0 : win0_7.index t 0 = 1 + t.val / 4 := congrFun (idx0_7 t) 0
  have e1 : win0_7.index t 1 = t.val % 4 := congrFun (idx0_7 t) 1
  have e2 : win0_7.index t 2 = 0 := congrFun (idx0_7 t) 2
  refine ⟨t, flush0_7 t, ?_⟩
  mem_blk
  rw [e0, e1, e2]
  refine ⟨?_, ?_, ?_⟩ <;> omega
theorem mem1_7 (i : S4x1024x1408.Idx) (h : (i 0).val < 1) : ∃ t : Fin cfg1.N, (cfg1.win 7).flush t = true ∧ i ∈ ((cfg1.win 7).blk t).view.set := by
  have h1 : (i 1).val < 1024 := (i 1).isLt
  have h2 : (i 2).val < 1408 := (i 2).isLt
  obtain ⟨t, ht⟩ : ∃ t : Fin 4, t.val = (i 1).val / 256 := ⟨⟨(i 1).val / 256, by omega⟩, rfl⟩
  have e0 : win1_7.index t 0 = 0 := congrFun (idx1_7 t) 0
  have e1 : win1_7.index t 1 = t.val := congrFun (idx1_7 t) 1
  have e2 : win1_7.index t 2 = 0 := congrFun (idx1_7 t) 2
  refine ⟨t, flush1_7 t, ?_⟩
  mem_blk
  rw [e0, e1, e2]
  refine ⟨?_, ?_, ?_⟩ <;> omega
/-- The second call finds in result 3 what the first call left. -/
theorem carried_7 : W2 m ρ c (Proc.devRef .tc main_v1_3) = (dat0 (V0 m ρ) c).arrAt 7 cfg0.N := by
  refine Eq.trans ?_ (W1_arr m ρ c 7)
  simp only [W2, hostOps1]
  entry_read
  rfl
/-- Result 3 after both calls. -/
theorem result_7 : (dat1 (V2 m ρ) c).arrAt 7 cfg1.N = squares (argG m c) (argV m c) := by
  funext i
  refine ((dat1 (V2 m ρ) c).arrAt_eq_piecewise 7 (squares (argG m c) (argV m c)) (flushed1_7 m ρ c) i).trans ?_
  split
  · rfl
  · rename_i h
    have h0 : 1 ≤ (i 0).val := by
      by_contra h2
      exact h (mem1_7 i (by omega))
    rw [A_eq1]
    refine (congrFun (carried_7 m ρ c) i).trans ?_
    refine ((dat0 (V0 m ρ) c).arrAt_eq_piecewise 7 (squares (argG m c) (argV m c)) (flushed0_7 m ρ c) i).trans ?_
    exact if_pos (mem0_7 i h0)

section Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
set_option backward.isDefEq.respectTransparency.types false in
/-- The run: the three results end with the step's, and the arguments as they were. -/
theorem run : θ_run defs (onTc (τ := τ) (main (F := Ideal))) ⟨m, fun _ => 0, ρ⟩ (fun r => ∀ c : Dev nD,
      r.2.mem ((c.tc : Thread nD τ).loc main_v1_1) = changes (argW m c) (argG m c) (argM m c) (argV m c)
      ∧ r.2.mem ((c.tc : Thread nD τ).loc main_v1_2) = means (argG m c) (argM m c)
      ∧ r.2.mem ((c.tc : Thread nD τ).loc main_v1_3) = squares (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_1 (by decide))).trans ((W3_arr m ρ c 5).trans (result_5 m ρ c)),
       (h c _ (mem_uc main_v1_2 (by decide))).trans ((W3_arr m ρ c 6).trans (result_6 m ρ c)),
       (h c _ (mem_uc main_v1_3 (by decide))).trans ((W3_arr m ρ c 7).trans (result_7 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Run

end Cert.Adam15

end
-- ==== Proof.Adam15.Reference.lean ====
/- What the reference of the step on the mixer's wide first weight computes, and the claims about both programs. -/
module

public import proofs.«01_k».proof.Defs
public import proofs.«01_k».proof.Proof.Gen.Reference15Ideal.Run
public import proofs.«01_k».proof.Proof.Adam15.Kernel
public import Idealize.ShloMosaic.Lib.Claim

@[expose] public section

set_option maxRecDepth 16384

noncomputable section

namespace Cert.Adam15

open Cert.Adam
open Idealize.ShloMosaic Idealize.ShloMosaic.TcCoe Idealize.SL.Sem

section Ref
open Cert.Reference15Ideal Cert.Reference15Ideal.Value Cert.Reference15Ideal.Gen Idealize.ShloMosaic.StableHlo

/-- The reference's new moments and its change of the weight. -/
theorem ref_mean (g p : A3 4 1024 1408) : (addf (F := Ideal) (φ := .f32) (mulf (F := Ideal) (φ := .f32) (broadcastInDim S4x1024x1408 ![] bcast_S_S4x1024x1408 (constant (F := Ideal) S_ .f32 0x3F666666#32)) p) (mulf (F := Ideal) (φ := .f32) (broadcastInDim S4x1024x1408 ![] bcast_S_S4x1024x1408 (constant (F := Ideal) S_ .f32 0x3DCCCCCD#32)) g) : A3 4 1024 1408) = means g p := by
  funext i
  idx_vars i
  unfold means mean
  pointwise
theorem ref_square (g v : A3 4 1024 1408) : (addf (F := Ideal) (φ := .f32) (mulf (F := Ideal) (φ := .f32) (broadcastInDim S4x1024x1408 ![] bcast_S_S4x1024x1408 (constant (F := Ideal) S_ .f32 0x3F7FBE77#32)) v) (mulf (F := Ideal) (φ := .f32) (broadcastInDim S4x1024x1408 ![] bcast_S_S4x1024x1408 (constant (F := Ideal) S_ .f32 0x3A83126F#32)) (mulf (F := Ideal) (φ := .f32) g g)) : A3 4 1024 1408) = squares g v := by
  funext i
  idx_vars i
  unfold squares square
  pointwise
theorem ref_change (w g p v : A3 4 1024 1408) : (mulf (F := Ideal) (φ := .f32) (broadcastInDim S4x1024x1408 ![] bcast_S_S4x1024x1408 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x1024x1408 ![] bcast_S_S4x1024x1408 (constant (F := Ideal) S_ .f32 0x3F666666#32)) p) (mulf (F := Ideal) (φ := .f32) (broadcastInDim S4x1024x1408 ![] bcast_S_S4x1024x1408 (constant (F := Ideal) S_ .f32 0x3DCCCCCD#32)) g)) (broadcastInDim S4x1024x1408 ![] bcast_S_S4x1024x1408 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x1024x1408 ![] bcast_S_S4x1024x1408 (constant (F := Ideal) S_ .f32 0x3F7FBE77#32)) v) (mulf (F := Ideal) (φ := .f32) (broadcastInDim S4x1024x1408 ![] bcast_S_S4x1024x1408 (constant (F := Ideal) S_ .f32 0x3A83126F#32)) (mulf (F := Ideal) (φ := .f32) g g))) (broadcastInDim S4x1024x1408 ![] bcast_S_S4x1024x1408 (constant (F := Ideal) S_ .f32 0x3C231ACC#32)))) (broadcastInDim S4x1024x1408 ![] bcast_S_S4x1024x1408 (constant (F := Ideal) S_ .f32 0x322BCC77#32)))) (mulf (F := Ideal) (φ := .f32) (broadcastInDim S4x1024x1408 ![] bcast_S_S4x1024x1408 (constant (F := Ideal) S_ .f32 0x3C23D70A#32)) w)) : A3 4 1024 1408) = changes w g p v := by
  funext i
  idx_vars i
  unfold changes change mean square
  pointwise

end Ref

/-- The reference ends with its arguments as they were, and it has no semaphores. -/
theorem frame_reference : Cert.quiescent_Reference15Ideal (hReference15Ideal := Cert.Reference15Ideal.Gen.facts) := fun m ρ _ =>
  (θ_run _ _ _).mono (fun r h => ⟨fun c => (h c).2.2.2, sem_eq_zero_of_no_sems (by decide) r.2⟩)
    (Cert.Reference15Ideal.Value.run (F := Ideal) m ρ)

/-- Equal results: the step's, of the arguments. -/
theorem algebraic : Cert.algebraic_Kernel15Ideal_Reference15Ideal (hKernel15Ideal := Cert.Kernel15Ideal.Gen.facts)
    (hReference15Ideal := Cert.Reference15Ideal.Gen.facts) := by
  intro m ρ m' ρ' _ hagree
  refine ⟨fun c => changes (argW m c) (argG m c) (argM m c) (argV m c), fun c => means (argG m c) (argM m c), fun c => squares (argG m c) (argV m c), ?_, ?_⟩
  · exact run m ρ
  · refine (θ_run _ _ _).mono (fun r h c => ⟨(h c).1.trans ?_, (h c).2.1.trans ?_, (h c).2.2.1.trans ?_, (h c).2.2.2⟩) (Cert.Reference15Ideal.Value.run (F := Ideal) m' ρ')
    all_goals obtain ⟨h0, h1, h2, h3⟩ := hagree c
    · refine (ref_change _ _ _ _).trans ?_
      rw [h0, h1, h2, h3]
    · exact (ref_mean _ _).trans (congrArg₂ means h1 h2)
    · exact (ref_square _ _).trans (congrArg₂ squares h1 h3)

end Cert.Adam15

end
-- ==== Proof.Adam16.Kernel.lean ====
/- One AdamW step on a branch's second weight, in two calls: the first works on layers 1 to 3, the second on layer 0 in the arrays the
   first left. -/
module

public import proofs.«01_k».proof.Proof.Gen.Kernel16Ideal.Frame
public import proofs.«01_k».proof.Proof.Adam.Spec
public import Idealize.ShloMosaic.Lib.KernelVsHost
public import Idealize.ShloMosaic.Lib.Pipeline.ValueKit

@[expose] public section

set_option maxRecDepth 16384

noncomputable section

namespace Cert.Adam16

open Cert.Adam
open Cert.Kernel16Ideal Cert.Kernel16Ideal.Gen Idealize.ShloMosaic Idealize.ShloMosaic.TcCoe Idealize.SL.Sem

/-- The first call's stored blocks, element by element. -/
theorem pay0_change (g w p v : Vec Ideal S1x512x256 .f32) (z : Fin 1) (r : Fin 512) (l : Fin 256) :
    k0_pay2 (k0_pay8 g w p v) (ix3 z r l) = change (w (ix3 z r l)) (g (ix3 z r l)) (p (ix3 z r l)) (v (ix3 z r l)) := by
  obtain rfl : z = 0 := Subsingleton.elim _ _
  unfold k0_pay2 k0_pay8 k0_pay6 k0_pay7 k0_pay5 change mean square
  pointwise
theorem pay0_mean (g p : Vec Ideal S1x512x256 .f32) (z : Fin 1) (r : Fin 512) (l : Fin 256) :
    k0_pay3 (k0_pay6 g p) (ix3 z r l) = mean (p (ix3 z r l)) (g (ix3 z r l)) := by
  obtain rfl : z = 0 := Subsingleton.elim _ _
  unfold k0_pay3 k0_pay6 k0_pay5 mean
  pointwise
theorem pay0_square (g v : Vec Ideal S1x512x256 .f32) (z : Fin 1) (r : Fin 512) (l : Fin 256) :
    k0_pay4 (k0_pay7 g v) (ix3 z r l) = square (v (ix3 z r l)) (g (ix3 z r l)) := by
  obtain rfl : z = 0 := Subsingleton.elim _ _
  unfold k0_pay4 k0_pay7 k0_pay5 square
  pointwise

/-- The second call's stored blocks, element by element. -/
theorem pay1_change (g w p v : Vec Ideal S1x512x256 .f32) (z : Fin 1) (r : Fin 512) (l : Fin 256) :
    k1_pay2 (k1_pay8 g w p v) (ix3 z r l) = change (w (ix3 z r l)) (g (ix3 z r l)) (p (ix3 z r l)) (v (ix3 z r l)) := by
  obtain rfl : z = 0 := Subsingleton.elim _ _
  unfold k1_pay2 k1_pay8 k1_pay6 k1_pay7 k1_pay5 change mean square
  pointwise
theorem pay1_mean (g p : Vec Ideal S1x512x256 .f32) (z : Fin 1) (r : Fin 512) (l : Fin 256) :
    k1_pay3 (k1_pay6 g p) (ix3 z r l) = mean (p (ix3 z r l)) (g (ix3 z r l)) := by
  obtain rfl : z = 0 := Subsingleton.elim _ _
  unfold k1_pay3 k1_pay6 k1_pay5 mean
  pointwise
theorem pay1_square (g v : Vec Ideal S1x512x256 .f32) (z : Fin 1) (r : Fin 512) (l : Fin 256) :
    k1_pay4 (k1_pay7 g v) (ix3 z r l) = square (v (ix3 z r l)) (g (ix3 z r l)) := by
  obtain rfl : z = 0 := Subsingleton.elim _ _
  unfold k1_pay4 k1_pay7 k1_pay5 square
  pointwise

variable (m : (ℓ : Loc nD τ sig) → Buf (Elt Ideal) ℓ) (ρ : Dev nD → PrngReg) (c : Dev nD)

/-- The arguments: the weight, its gradient and its two moments. -/
abbrev argW : A3 4 512 256 := m ((c : Thread nD τ).loc main_arg0)
abbrev argG : A3 4 512 256 := m ((c : Thread nD τ).loc main_arg1)
abbrev argM : A3 4 512 256 := m ((c : Thread nD τ).loc main_arg2)
abbrev argV : A3 4 512 256 := m ((c : Thread nD τ).loc main_arg3)

theorem idx0_0 : ∀ t : Fin grid0.N, win0_0.index t = ![1 + t.val / 1, t.val % 1, 0] := by decide +kernel
theorem idx0_1 : ∀ t : Fin grid0.N, win0_1.index t = ![1 + t.val / 1, t.val % 1, 0] := by decide +kernel
theorem idx0_2 : ∀ t : Fin grid0.N, win0_2.index t = ![1 + t.val / 1, t.val % 1, 0] := by decide +kernel
theorem idx0_3 : ∀ t : Fin grid0.N, win0_3.index t = ![1 + t.val / 1, t.val % 1, 0] := by decide +kernel
theorem idx0_5 : ∀ t : Fin grid0.N, win0_5.index t = ![1 + t.val / 1, t.val % 1, 0] := by decide +kernel
theorem idx0_6 : ∀ t : Fin grid0.N, win0_6.index t = ![1 + t.val / 1, t.val % 1, 0] := by decide +kernel
theorem idx0_7 : ∀ t : Fin grid0.N, win0_7.index t = ![1 + t.val / 1, t.val % 1, 0] := by decide +kernel
theorem flush0_5 : ∀ t : Fin grid0.N, win0_5.flush t = true := by decide +kernel
theorem flush0_6 : ∀ t : Fin grid0.N, win0_6.flush t = true := by decide +kernel
theorem flush0_7 : ∀ t : Fin grid0.N, win0_7.flush t = true := by decide +kernel
theorem idx1_0 : ∀ t : Fin grid1.N, win1_0.index t = ![0, t.val, 0] := by decide +kernel
theorem idx1_1 : ∀ t : Fin grid1.N, win1_1.index t = ![0, t.val, 0] := by decide +kernel
theorem idx1_2 : ∀ t : Fin grid1.N, win1_2.index t = ![0, t.val, 0] := by decide +kernel
theorem idx1_3 : ∀ t : Fin grid1.N, win1_3.index t = ![0, t.val, 0] := by decide +kernel
theorem idx1_5 : ∀ t : Fin grid1.N, win1_5.index t = ![0, t.val, 0] := by decide +kernel
theorem idx1_6 : ∀ t : Fin grid1.N, win1_6.index t = ![0, t.val, 0] := by decide +kernel
theorem idx1_7 : ∀ t : Fin grid1.N, win1_7.index t = ![0, t.val, 0] := by decide +kernel
theorem flush1_5 : ∀ t : Fin grid1.N, win1_5.flush t = true := by decide +kernel
theorem flush1_6 : ∀ t : Fin grid1.N, win1_6.flush t = true := by decide +kernel
theorem flush1_7 : ∀ t : Fin grid1.N, win1_7.flush t = true := by decide +kernel

/-- The blocks the two calls read are the arguments' at their layer and tile. -/
theorem blk0_0 (t : Fin 3) (z : Fin 1) (r : Fin 512) (l : Fin 256) :
    iblk0 (V0 m ρ) c 0 t (ix3 z r l) = argW m c (ix3 (⟨1 + t.val / 1, by omega⟩ : Fin 4) (⟨t.val % 1 * 512 + r.val, by omega⟩ : Fin 512) l) := by
  refine Eq.trans ?_ (congrFun (W0_args m ρ c main_arg0 (by decide)) _)
  obtain rfl : z = 0 := Subsingleton.elim _ _
  blk_ext [iblk0, idx0_0 t]
theorem blk0_1 (t : Fin 3) (z : Fin 1) (r : Fin 512) (l : Fin 256) :
    iblk0 (V0 m ρ) c 1 t (ix3 z r l) = argG m c (ix3 (⟨1 + t.val / 1, by omega⟩ : Fin 4) (⟨t.val % 1 * 512 + r.val, by omega⟩ : Fin 512) l) := by
  refine Eq.trans ?_ (congrFun (W0_args m ρ c main_arg1 (by decide)) _)
  obtain rfl : z = 0 := Subsingleton.elim _ _
  blk_ext [iblk0, idx0_1 t]
theorem blk0_2 (t : Fin 3) (z : Fin 1) (r : Fin 512) (l : Fin 256) :
    iblk0 (V0 m ρ) c 2 t (ix3 z r l) = argM m c (ix3 (⟨1 + t.val / 1, by omega⟩ : Fin 4) (⟨t.val % 1 * 512 + r.val, by omega⟩ : Fin 512) l) := by
  refine Eq.trans ?_ (congrFun (W0_args m ρ c main_arg2 (by decide)) _)
  obtain rfl : z = 0 := Subsingleton.elim _ _
  blk_ext [iblk0, idx0_2 t]
theorem blk0_3 (t : Fin 3) (z : Fin 1) (r : Fin 512) (l : Fin 256) :
    iblk0 (V0 m ρ) c 3 t (ix3 z r l) = argV m c (ix3 (⟨1 + t.val / 1, by omega⟩ : Fin 4) (⟨t.val % 1 * 512 + r.val, by omega⟩ : Fin 512) l) := by
  refine Eq.trans ?_ (congrFun (W0_args m ρ c main_arg3 (by decide)) _)
  obtain rfl : z = 0 := Subsingleton.elim _ _
  blk_ext [iblk0, idx0_3 t]
theorem blk1_0 (t : Fin 1) (z : Fin 1) (r : Fin 512) (l : Fin 256) :
    iblk1 (V2 m ρ) c 0 t (ix3 z r l) = argW m c (ix3 (0 : Fin 4) (⟨t.val * 512 + r.val, by omega⟩ : Fin 512) l) := by
  refine Eq.trans ?_ (congrFun (W2_args m ρ c main_arg0 (by decide)) _)
  obtain rfl : z = 0 := Subsingleton.elim _ _
  blk_ext [iblk1, idx1_0 t]
theorem blk1_1 (t : Fin 1) (z : Fin 1) (r : Fin 512) (l : Fin 256) :
    iblk1 (V2 m ρ) c 1 t (ix3 z r l) = argG m c (ix3 (0 : Fin 4) (⟨t.val * 512 + r.val, by omega⟩ : Fin 512) l) := by
  refine Eq.trans ?_ (congrFun (W2_args m ρ c main_arg1 (by decide)) _)
  obtain rfl : z = 0 := Subsingleton.elim _ _
  blk_ext [iblk1, idx1_1 t]
theorem blk1_2 (t : Fin 1) (z : Fin 1) (r : Fin 512) (l : Fin 256) :
    iblk1 (V2 m ρ) c 2 t (ix3 z r l) = argM m c (ix3 (0 : Fin 4) (⟨t.val * 512 + r.val, by omega⟩ : Fin 512) l) := by
  refine Eq.trans ?_ (congrFun (W2_args m ρ c main_arg2 (by decide)) _)
  obtain rfl : z = 0 := Subsingleton.elim _ _
  blk_ext [iblk1, idx1_2 t]
theorem blk1_3 (t : Fin 1) (z : Fin 1) (r : Fin 512) (l : Fin 256) :
    iblk1 (V2 m ρ) c 3 t (ix3 z r l) = argV m c (ix3 (0 : Fin 4) (⟨t.val * 512 + r.val, by omega⟩ : Fin 512) l) := by
  refine Eq.trans ?_ (congrFun (W2_args m ρ c main_arg3 (by decide)) _)
  obtain rfl : z = 0 := Subsingleton.elim _ _
  blk_ext [iblk1, idx1_3 t]

/-- What the second call's body leaves in its result windows at a point. -/
theorem outsAt_eq (V : (c : Dev nD) → (b : Ref sig .tc) → Buf (Elt Ideal) ((c : Thread nD τ).loc b)) (t : Fin cfg1.N) :
    (outsAt1 V c t).2.1 = k1_pay2 (k1_pay8 (iblk1 V c 1 t) (iblk1 V c 0 t) (iblk1 V c 2 t) (iblk1 V c 3 t))
    ∧ (outsAt1 V c t).2.2.1 = k1_pay3 (k1_pay6 (iblk1 V c 1 t) (iblk1 V c 2 t))
    ∧ (outsAt1 V c t).2.2.2 = k1_pay4 (k1_pay7 (iblk1 V c 1 t) (iblk1 V c 3 t)) := by
  unfold outsAt1 out1_A_5 out1_A_6 out1_A_7
  refine ⟨?_, ?_, ?_⟩ <;> frame_out

/-- What a point of the first call writes back into result 1. -/
theorem flushed0_5 (t : Fin cfg0.N) (hf : (cfg0.win 5).flush t = true) : (dat0 (V0 m ρ) c).flushed 5 t
    = ((cfg0.win 5).blk t).view.read (Elt Ideal) (changes (argW m c) (argG m c) (argM m c) (argV m c)) := by
  funext y
  blk_simp
  rw [after0_5]
  unfold out0_5
  frame_out
  idx_vars y
  have ht : t.val < 3 := t.isLt
  refine Eq.trans ?_ (congrArg (changes (argW m c) (argG m c) (argM m c) (argV m c)) (?_ : ix3 (⟨1 + t.val / 1, by omega⟩ : Fin 4) (⟨t.val % 1 * 512 + y1.val, by omega⟩ : Fin 512) y2 = _))
  · exact (pay0_change _ _ _ _ _ _ _).trans ((congrArg₂ (fun a b => change a b _ _) (blk0_0 m ρ c t _ y1 y2) (blk0_1 m ρ c t _ y1 y2)).trans (congrArg₂ (change _ _) (blk0_2 m ρ c t _ y1 y2) (blk0_3 m ρ c t _ y1 y2)))
  · blk_ext [idx0_5 t]
/-- What a point of the second call writes back into result 1. -/
theorem flushed1_5 (t : Fin cfg1.N) (hf : (cfg1.win 5).flush t = true) : (dat1 (V2 m ρ) c).flushed 5 t
    = ((cfg1.win 5).blk t).view.read (Elt Ideal) (changes (argW m c) (argG m c) (argM m c) (argV m c)) := by
  funext y
  blk_simp
  rw [after1_5, (outsAt_eq c (V2 m ρ) t).1]
  idx_vars y
  have ht : t.val < 1 := t.isLt
  refine Eq.trans ?_ (congrArg (changes (argW m c) (argG m c) (argM m c) (argV m c)) (?_ : ix3 (0 : Fin 4) (⟨t.val * 512 + y1.val, by omega⟩ : Fin 512) y2 = _))
  · exact (pay1_change _ _ _ _ _ _ _).trans ((congrArg₂ (fun a b => change a b _ _) (blk1_0 m ρ c t _ y1 y2) (blk1_1 m ρ c t _ y1 y2)).trans (congrArg₂ (change _ _) (blk1_2 m ρ c t _ y1 y2) (blk1_3 m ρ c t _ y1 y2)))
  · blk_ext [idx1_5 t]
/-- The first call's blocks of result 1 contain every index of layers 1 to 3, the second call's every index of layer 0. -/
theorem mem0_5 (i : S4x512x256.Idx) (h : 1 ≤ (i 0).val) : ∃ t : Fin cfg0.N, (cfg0.win 5).flush t = true ∧ i ∈ ((cfg0.win 5).blk t).view.set := by
  have h0 : (i 0).val < 4 := (i 0).isLt
  have h1 : (i 1).val < 512 := (i 1).isLt
  have h2 : (i 2).val < 256 := (i 2).isLt
  obtain ⟨t, ht⟩ : ∃ t : Fin 3, t.val = ((i 0).val - 1) * 1 + (i 1).val / 512 := ⟨⟨((i 0).val - 1) * 1 + (i 1).val / 512, by omega⟩, rfl⟩
  have e0 : win0_5.index t 0 = 1 + t.val / 1 := congrFun (idx0_5 t) 0
  have e1 : win0_5.index t 1 = t.val % 1 := congrFun (idx0_5 t) 1
  have e2 : win0_5.index t 2 = 0 := congrFun (idx0_5 t) 2
  refine ⟨t, flush0_5 t, ?_⟩
  mem_blk
  rw [e0, e1, e2]
  refine ⟨?_, ?_, ?_⟩ <;> omega
theorem mem1_5 (i : S4x512x256.Idx) (h : (i 0).val < 1) : ∃ t : Fin cfg1.N, (cfg1.win 5).flush t = true ∧ i ∈ ((cfg1.win 5).blk t).view.set := by
  have h1 : (i 1).val < 512 := (i 1).isLt
  have h2 : (i 2).val < 256 := (i 2).isLt
  obtain ⟨t, ht⟩ : ∃ t : Fin 1, t.val = (i 1).val / 512 := ⟨⟨(i 1).val / 512, by omega⟩, rfl⟩
  have e0 : win1_5.index t 0 = 0 := congrFun (idx1_5 t) 0
  have e1 : win1_5.index t 1 = t.val := congrFun (idx1_5 t) 1
  have e2 : win1_5.index t 2 = 0 := congrFun (idx1_5 t) 2
  refine ⟨t, flush1_5 t, ?_⟩
  mem_blk
  rw [e0, e1, e2]
  refine ⟨?_, ?_, ?_⟩ <;> omega
/-- The second call finds in result 1 what the first call left. -/
theorem carried_5 : W2 m ρ c (Proc.devRef .tc main_v1_1) = (dat0 (V0 m ρ) c).arrAt 5 cfg0.N := by
  refine Eq.trans ?_ (W1_arr m ρ c 5)
  simp only [W2, hostOps1]
  entry_read
  rfl
/-- Result 1 after both calls. -/
theorem result_5 : (dat1 (V2 m ρ) c).arrAt 5 cfg1.N = changes (argW m c) (argG m c) (argM m c) (argV m c) := by
  funext i
  refine ((dat1 (V2 m ρ) c).arrAt_eq_piecewise 5 (changes (argW m c) (argG m c) (argM m c) (argV m c)) (flushed1_5 m ρ c) i).trans ?_
  split
  · rfl
  · rename_i h
    have h0 : 1 ≤ (i 0).val := by
      by_contra h2
      exact h (mem1_5 i (by omega))
    rw [A_eq1]
    refine (congrFun (carried_5 m ρ c) i).trans ?_
    refine ((dat0 (V0 m ρ) c).arrAt_eq_piecewise 5 (changes (argW m c) (argG m c) (argM m c) (argV m c)) (flushed0_5 m ρ c) i).trans ?_
    exact if_pos (mem0_5 i h0)

/-- What a point of the first call writes back into result 2. -/
theorem flushed0_6 (t : Fin cfg0.N) (hf : (cfg0.win 6).flush t = true) : (dat0 (V0 m ρ) c).flushed 6 t
    = ((cfg0.win 6).blk t).view.read (Elt Ideal) (means (argG m c) (argM m c)) := by
  funext y
  blk_simp
  rw [after0_6]
  unfold out0_6
  frame_out
  idx_vars y
  have ht : t.val < 3 := t.isLt
  refine Eq.trans ?_ (congrArg (means (argG m c) (argM m c)) (?_ : ix3 (⟨1 + t.val / 1, by omega⟩ : Fin 4) (⟨t.val % 1 * 512 + y1.val, by omega⟩ : Fin 512) y2 = _))
  · exact (pay0_mean _ _ _ _ _).trans (congrArg₂ mean (blk0_2 m ρ c t _ y1 y2) (blk0_1 m ρ c t _ y1 y2))
  · blk_ext [idx0_6 t]
/-- What a point of the second call writes back into result 2. -/
theorem flushed1_6 (t : Fin cfg1.N) (hf : (cfg1.win 6).flush t = true) : (dat1 (V2 m ρ) c).flushed 6 t
    = ((cfg1.win 6).blk t).view.read (Elt Ideal) (means (argG m c) (argM m c)) := by
  funext y
  blk_simp
  rw [after1_6, (outsAt_eq c (V2 m ρ) t).2.1]
  idx_vars y
  have ht : t.val < 1 := t.isLt
  refine Eq.trans ?_ (congrArg (means (argG m c) (argM m c)) (?_ : ix3 (0 : Fin 4) (⟨t.val * 512 + y1.val, by omega⟩ : Fin 512) y2 = _))
  · exact (pay1_mean _ _ _ _ _).trans (congrArg₂ mean (blk1_2 m ρ c t _ y1 y2) (blk1_1 m ρ c t _ y1 y2))
  · blk_ext [idx1_6 t]
/-- The first call's blocks of result 2 contain every index of layers 1 to 3, the second call's every index of layer 0. -/
theorem mem0_6 (i : S4x512x256.Idx) (h : 1 ≤ (i 0).val) : ∃ t : Fin cfg0.N, (cfg0.win 6).flush t = true ∧ i ∈ ((cfg0.win 6).blk t).view.set := by
  have h0 : (i 0).val < 4 := (i 0).isLt
  have h1 : (i 1).val < 512 := (i 1).isLt
  have h2 : (i 2).val < 256 := (i 2).isLt
  obtain ⟨t, ht⟩ : ∃ t : Fin 3, t.val = ((i 0).val - 1) * 1 + (i 1).val / 512 := ⟨⟨((i 0).val - 1) * 1 + (i 1).val / 512, by omega⟩, rfl⟩
  have e0 : win0_6.index t 0 = 1 + t.val / 1 := congrFun (idx0_6 t) 0
  have e1 : win0_6.index t 1 = t.val % 1 := congrFun (idx0_6 t) 1
  have e2 : win0_6.index t 2 = 0 := congrFun (idx0_6 t) 2
  refine ⟨t, flush0_6 t, ?_⟩
  mem_blk
  rw [e0, e1, e2]
  refine ⟨?_, ?_, ?_⟩ <;> omega
theorem mem1_6 (i : S4x512x256.Idx) (h : (i 0).val < 1) : ∃ t : Fin cfg1.N, (cfg1.win 6).flush t = true ∧ i ∈ ((cfg1.win 6).blk t).view.set := by
  have h1 : (i 1).val < 512 := (i 1).isLt
  have h2 : (i 2).val < 256 := (i 2).isLt
  obtain ⟨t, ht⟩ : ∃ t : Fin 1, t.val = (i 1).val / 512 := ⟨⟨(i 1).val / 512, by omega⟩, rfl⟩
  have e0 : win1_6.index t 0 = 0 := congrFun (idx1_6 t) 0
  have e1 : win1_6.index t 1 = t.val := congrFun (idx1_6 t) 1
  have e2 : win1_6.index t 2 = 0 := congrFun (idx1_6 t) 2
  refine ⟨t, flush1_6 t, ?_⟩
  mem_blk
  rw [e0, e1, e2]
  refine ⟨?_, ?_, ?_⟩ <;> omega
/-- The second call finds in result 2 what the first call left. -/
theorem carried_6 : W2 m ρ c (Proc.devRef .tc main_v1_2) = (dat0 (V0 m ρ) c).arrAt 6 cfg0.N := by
  refine Eq.trans ?_ (W1_arr m ρ c 6)
  simp only [W2, hostOps1]
  entry_read
  rfl
/-- Result 2 after both calls. -/
theorem result_6 : (dat1 (V2 m ρ) c).arrAt 6 cfg1.N = means (argG m c) (argM m c) := by
  funext i
  refine ((dat1 (V2 m ρ) c).arrAt_eq_piecewise 6 (means (argG m c) (argM m c)) (flushed1_6 m ρ c) i).trans ?_
  split
  · rfl
  · rename_i h
    have h0 : 1 ≤ (i 0).val := by
      by_contra h2
      exact h (mem1_6 i (by omega))
    rw [A_eq1]
    refine (congrFun (carried_6 m ρ c) i).trans ?_
    refine ((dat0 (V0 m ρ) c).arrAt_eq_piecewise 6 (means (argG m c) (argM m c)) (flushed0_6 m ρ c) i).trans ?_
    exact if_pos (mem0_6 i h0)

/-- What a point of the first call writes back into result 3. -/
theorem flushed0_7 (t : Fin cfg0.N) (hf : (cfg0.win 7).flush t = true) : (dat0 (V0 m ρ) c).flushed 7 t
    = ((cfg0.win 7).blk t).view.read (Elt Ideal) (squares (argG m c) (argV m c)) := by
  funext y
  blk_simp
  rw [after0_7]
  unfold out0_7
  frame_out
  idx_vars y
  have ht : t.val < 3 := t.isLt
  refine Eq.trans ?_ (congrArg (squares (argG m c) (argV m c)) (?_ : ix3 (⟨1 + t.val / 1, by omega⟩ : Fin 4) (⟨t.val % 1 * 512 + y1.val, by omega⟩ : Fin 512) y2 = _))
  · exact (pay0_square _ _ _ _ _).trans (congrArg₂ square (blk0_3 m ρ c t _ y1 y2) (blk0_1 m ρ c t _ y1 y2))
  · blk_ext [idx0_7 t]
/-- What a point of the second call writes back into result 3. -/
theorem flushed1_7 (t : Fin cfg1.N) (hf : (cfg1.win 7).flush t = true) : (dat1 (V2 m ρ) c).flushed 7 t
    = ((cfg1.win 7).blk t).view.read (Elt Ideal) (squares (argG m c) (argV m c)) := by
  funext y
  blk_simp
  rw [after1_7, (outsAt_eq c (V2 m ρ) t).2.2]
  idx_vars y
  have ht : t.val < 1 := t.isLt
  refine Eq.trans ?_ (congrArg (squares (argG m c) (argV m c)) (?_ : ix3 (0 : Fin 4) (⟨t.val * 512 + y1.val, by omega⟩ : Fin 512) y2 = _))
  · exact (pay1_square _ _ _ _ _).trans (congrArg₂ square (blk1_3 m ρ c t _ y1 y2) (blk1_1 m ρ c t _ y1 y2))
  · blk_ext [idx1_7 t]
/-- The first call's blocks of result 3 contain every index of layers 1 to 3, the second call's every index of layer 0. -/
theorem mem0_7 (i : S4x512x256.Idx) (h : 1 ≤ (i 0).val) : ∃ t : Fin cfg0.N, (cfg0.win 7).flush t = true ∧ i ∈ ((cfg0.win 7).blk t).view.set := by
  have h0 : (i 0).val < 4 := (i 0).isLt
  have h1 : (i 1).val < 512 := (i 1).isLt
  have h2 : (i 2).val < 256 := (i 2).isLt
  obtain ⟨t, ht⟩ : ∃ t : Fin 3, t.val = ((i 0).val - 1) * 1 + (i 1).val / 512 := ⟨⟨((i 0).val - 1) * 1 + (i 1).val / 512, by omega⟩, rfl⟩
  have e0 : win0_7.index t 0 = 1 + t.val / 1 := congrFun (idx0_7 t) 0
  have e1 : win0_7.index t 1 = t.val % 1 := congrFun (idx0_7 t) 1
  have e2 : win0_7.index t 2 = 0 := congrFun (idx0_7 t) 2
  refine ⟨t, flush0_7 t, ?_⟩
  mem_blk
  rw [e0, e1, e2]
  refine ⟨?_, ?_, ?_⟩ <;> omega
theorem mem1_7 (i : S4x512x256.Idx) (h : (i 0).val < 1) : ∃ t : Fin cfg1.N, (cfg1.win 7).flush t = true ∧ i ∈ ((cfg1.win 7).blk t).view.set := by
  have h1 : (i 1).val < 512 := (i 1).isLt
  have h2 : (i 2).val < 256 := (i 2).isLt
  obtain ⟨t, ht⟩ : ∃ t : Fin 1, t.val = (i 1).val / 512 := ⟨⟨(i 1).val / 512, by omega⟩, rfl⟩
  have e0 : win1_7.index t 0 = 0 := congrFun (idx1_7 t) 0
  have e1 : win1_7.index t 1 = t.val := congrFun (idx1_7 t) 1
  have e2 : win1_7.index t 2 = 0 := congrFun (idx1_7 t) 2
  refine ⟨t, flush1_7 t, ?_⟩
  mem_blk
  rw [e0, e1, e2]
  refine ⟨?_, ?_, ?_⟩ <;> omega
/-- The second call finds in result 3 what the first call left. -/
theorem carried_7 : W2 m ρ c (Proc.devRef .tc main_v1_3) = (dat0 (V0 m ρ) c).arrAt 7 cfg0.N := by
  refine Eq.trans ?_ (W1_arr m ρ c 7)
  simp only [W2, hostOps1]
  entry_read
  rfl
/-- Result 3 after both calls. -/
theorem result_7 : (dat1 (V2 m ρ) c).arrAt 7 cfg1.N = squares (argG m c) (argV m c) := by
  funext i
  refine ((dat1 (V2 m ρ) c).arrAt_eq_piecewise 7 (squares (argG m c) (argV m c)) (flushed1_7 m ρ c) i).trans ?_
  split
  · rfl
  · rename_i h
    have h0 : 1 ≤ (i 0).val := by
      by_contra h2
      exact h (mem1_7 i (by omega))
    rw [A_eq1]
    refine (congrFun (carried_7 m ρ c) i).trans ?_
    refine ((dat0 (V0 m ρ) c).arrAt_eq_piecewise 7 (squares (argG m c) (argV m c)) (flushed0_7 m ρ c) i).trans ?_
    exact if_pos (mem0_7 i h0)

section Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
set_option backward.isDefEq.respectTransparency.types false in
/-- The run: the three results end with the step's, and the arguments as they were. -/
theorem run : θ_run defs (onTc (τ := τ) (main (F := Ideal))) ⟨m, fun _ => 0, ρ⟩ (fun r => ∀ c : Dev nD,
      r.2.mem ((c.tc : Thread nD τ).loc main_v1_1) = changes (argW m c) (argG m c) (argM m c) (argV m c)
      ∧ r.2.mem ((c.tc : Thread nD τ).loc main_v1_2) = means (argG m c) (argM m c)
      ∧ r.2.mem ((c.tc : Thread nD τ).loc main_v1_3) = squares (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_1 (by decide))).trans ((W3_arr m ρ c 5).trans (result_5 m ρ c)),
       (h c _ (mem_uc main_v1_2 (by decide))).trans ((W3_arr m ρ c 6).trans (result_6 m ρ c)),
       (h c _ (mem_uc main_v1_3 (by decide))).trans ((W3_arr m ρ c 7).trans (result_7 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Run

end Cert.Adam16

end
-- ==== Proof.Adam16.Reference.lean ====
/- What the reference of the step on a branch's second weight computes, and the claims about both programs. -/
module

public import proofs.«01_k».proof.Defs
public import proofs.«01_k».proof.Proof.Gen.Reference16Ideal.Run
public import proofs.«01_k».proof.Proof.Adam16.Kernel
public import Idealize.ShloMosaic.Lib.Claim

@[expose] public section

set_option maxRecDepth 16384

noncomputable section

namespace Cert.Adam16

open Cert.Adam
open Idealize.ShloMosaic Idealize.ShloMosaic.TcCoe Idealize.SL.Sem

section Ref
open Cert.Reference16Ideal Cert.Reference16Ideal.Value Cert.Reference16Ideal.Gen Idealize.ShloMosaic.StableHlo

/-- The reference's new moments and its change of the weight. -/
theorem ref_mean (g p : A3 4 512 256) : (addf (F := Ideal) (φ := .f32) (mulf (F := Ideal) (φ := .f32) (broadcastInDim S4x512x256 ![] bcast_S_S4x512x256 (constant (F := Ideal) S_ .f32 0x3F666666#32)) p) (mulf (F := Ideal) (φ := .f32) (broadcastInDim S4x512x256 ![] bcast_S_S4x512x256 (constant (F := Ideal) S_ .f32 0x3DCCCCCD#32)) g) : A3 4 512 256) = means g p := by
  funext i
  idx_vars i
  unfold means mean
  pointwise
theorem ref_square (g v : A3 4 512 256) : (addf (F := Ideal) (φ := .f32) (mulf (F := Ideal) (φ := .f32) (broadcastInDim S4x512x256 ![] bcast_S_S4x512x256 (constant (F := Ideal) S_ .f32 0x3F7FBE77#32)) v) (mulf (F := Ideal) (φ := .f32) (broadcastInDim S4x512x256 ![] bcast_S_S4x512x256 (constant (F := Ideal) S_ .f32 0x3A83126F#32)) (mulf (F := Ideal) (φ := .f32) g g)) : A3 4 512 256) = squares g v := by
  funext i
  idx_vars i
  unfold squares square
  pointwise
theorem ref_change (w g p v : A3 4 512 256) : (mulf (F := Ideal) (φ := .f32) (broadcastInDim S4x512x256 ![] bcast_S_S4x512x256 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x512x256 ![] bcast_S_S4x512x256 (constant (F := Ideal) S_ .f32 0x3F666666#32)) p) (mulf (F := Ideal) (φ := .f32) (broadcastInDim S4x512x256 ![] bcast_S_S4x512x256 (constant (F := Ideal) S_ .f32 0x3DCCCCCD#32)) g)) (broadcastInDim S4x512x256 ![] bcast_S_S4x512x256 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x512x256 ![] bcast_S_S4x512x256 (constant (F := Ideal) S_ .f32 0x3F7FBE77#32)) v) (mulf (F := Ideal) (φ := .f32) (broadcastInDim S4x512x256 ![] bcast_S_S4x512x256 (constant (F := Ideal) S_ .f32 0x3A83126F#32)) (mulf (F := Ideal) (φ := .f32) g g))) (broadcastInDim S4x512x256 ![] bcast_S_S4x512x256 (constant (F := Ideal) S_ .f32 0x3C231ACC#32)))) (broadcastInDim S4x512x256 ![] bcast_S_S4x512x256 (constant (F := Ideal) S_ .f32 0x322BCC77#32)))) (mulf (F := Ideal) (φ := .f32) (broadcastInDim S4x512x256 ![] bcast_S_S4x512x256 (constant (F := Ideal) S_ .f32 0x3C23D70A#32)) w)) : A3 4 512 256) = changes w g p v := by
  funext i
  idx_vars i
  unfold changes change mean square
  pointwise

end Ref

/-- The reference ends with its arguments as they were, and it has no semaphores. -/
theorem frame_reference : Cert.quiescent_Reference16Ideal (hReference16Ideal := Cert.Reference16Ideal.Gen.facts) := fun m ρ _ =>
  (θ_run _ _ _).mono (fun r h => ⟨fun c => (h c).2.2.2, sem_eq_zero_of_no_sems (by decide) r.2⟩)
    (Cert.Reference16Ideal.Value.run (F := Ideal) m ρ)

/-- Equal results: the step's, of the arguments. -/
theorem algebraic : Cert.algebraic_Kernel16Ideal_Reference16Ideal (hKernel16Ideal := Cert.Kernel16Ideal.Gen.facts)
    (hReference16Ideal := Cert.Reference16Ideal.Gen.facts) := by
  intro m ρ m' ρ' _ hagree
  refine ⟨fun c => changes (argW m c) (argG m c) (argM m c) (argV m c), fun c => means (argG m c) (argM m c), fun c => squares (argG m c) (argV m c), ?_, ?_⟩
  · exact run m ρ
  · refine (θ_run _ _ _).mono (fun r h c => ⟨(h c).1.trans ?_, (h c).2.1.trans ?_, (h c).2.2.1.trans ?_, (h c).2.2.2⟩) (Cert.Reference16Ideal.Value.run (F := Ideal) m' ρ')
    all_goals obtain ⟨h0, h1, h2, h3⟩ := hagree c
    · refine (ref_change _ _ _ _).trans ?_
      rw [h0, h1, h2, h3]
    · exact (ref_mean _ _).trans (congrArg₂ means h1 h2)
    · exact (ref_square _ _).trans (congrArg₂ squares h1 h3)

end Cert.Adam16

end
-- ==== Proof.Adam17.Kernel.lean ====
/- One AdamW step on a weight of 256 rows and 1024 columns, in two calls: the first works on layers 1 to 3, the second on layer 0 in the arrays the
   first left. -/
module

public import proofs.«01_k».proof.Proof.Gen.Kernel17Ideal.Frame
public import proofs.«01_k».proof.Proof.Adam.Spec
public import Idealize.ShloMosaic.Lib.KernelVsHost
public import Idealize.ShloMosaic.Lib.Pipeline.ValueKit

@[expose] public section

set_option maxRecDepth 16384

noncomputable section

namespace Cert.Adam17

open Cert.Adam
open Cert.Kernel17Ideal Cert.Kernel17Ideal.Gen Idealize.ShloMosaic Idealize.ShloMosaic.TcCoe Idealize.SL.Sem

/-- The first call's stored blocks, element by element. -/
theorem pay0_change (g w p v : Vec Ideal S1x256x1024 .f32) (z : Fin 1) (r : Fin 256) (l : Fin 1024) :
    k0_pay2 (k0_pay8 g w p v) (ix3 z r l) = change (w (ix3 z r l)) (g (ix3 z r l)) (p (ix3 z r l)) (v (ix3 z r l)) := by
  obtain rfl : z = 0 := Subsingleton.elim _ _
  unfold k0_pay2 k0_pay8 k0_pay6 k0_pay7 k0_pay5 change mean square
  pointwise
theorem pay0_mean (g p : Vec Ideal S1x256x1024 .f32) (z : Fin 1) (r : Fin 256) (l : Fin 1024) :
    k0_pay3 (k0_pay6 g p) (ix3 z r l) = mean (p (ix3 z r l)) (g (ix3 z r l)) := by
  obtain rfl : z = 0 := Subsingleton.elim _ _
  unfold k0_pay3 k0_pay6 k0_pay5 mean
  pointwise
theorem pay0_square (g v : Vec Ideal S1x256x1024 .f32) (z : Fin 1) (r : Fin 256) (l : Fin 1024) :
    k0_pay4 (k0_pay7 g v) (ix3 z r l) = square (v (ix3 z r l)) (g (ix3 z r l)) := by
  obtain rfl : z = 0 := Subsingleton.elim _ _
  unfold k0_pay4 k0_pay7 k0_pay5 square
  pointwise

/-- The second call's stored blocks, element by element. -/
theorem pay1_change (g w p v : Vec Ideal S1x256x1024 .f32) (z : Fin 1) (r : Fin 256) (l : Fin 1024) :
    k1_pay2 (k1_pay8 g w p v) (ix3 z r l) = change (w (ix3 z r l)) (g (ix3 z r l)) (p (ix3 z r l)) (v (ix3 z r l)) := by
  obtain rfl : z = 0 := Subsingleton.elim _ _
  unfold k1_pay2 k1_pay8 k1_pay6 k1_pay7 k1_pay5 change mean square
  pointwise
theorem pay1_mean (g p : Vec Ideal S1x256x1024 .f32) (z : Fin 1) (r : Fin 256) (l : Fin 1024) :
    k1_pay3 (k1_pay6 g p) (ix3 z r l) = mean (p (ix3 z r l)) (g (ix3 z r l)) := by
  obtain rfl : z = 0 := Subsingleton.elim _ _
  unfold k1_pay3 k1_pay6 k1_pay5 mean
  pointwise
theorem pay1_square (g v : Vec Ideal S1x256x1024 .f32) (z : Fin 1) (r : Fin 256) (l : Fin 1024) :
    k1_pay4 (k1_pay7 g v) (ix3 z r l) = square (v (ix3 z r l)) (g (ix3 z r l)) := by
  obtain rfl : z = 0 := Subsingleton.elim _ _
  unfold k1_pay4 k1_pay7 k1_pay5 square
  pointwise

variable (m : (ℓ : Loc nD τ sig) → Buf (Elt Ideal) ℓ) (ρ : Dev nD → PrngReg) (c : Dev nD)

/-- The arguments: the weight, its gradient and its two moments. -/
abbrev argW : A3 4 256 1024 := m ((c : Thread nD τ).loc main_arg0)
abbrev argG : A3 4 256 1024 := m ((c : Thread nD τ).loc main_arg1)
abbrev argM : A3 4 256 1024 := m ((c : Thread nD τ).loc main_arg2)
abbrev argV : A3 4 256 1024 := m ((c : Thread nD τ).loc main_arg3)

theorem idx0_0 : ∀ t : Fin grid0.N, win0_0.index t = ![1 + t.val / 1, t.val % 1, 0] := by decide +kernel
theorem idx0_1 : ∀ t : Fin grid0.N, win0_1.index t = ![1 + t.val / 1, t.val % 1, 0] := by decide +kernel
theorem idx0_2 : ∀ t : Fin grid0.N, win0_2.index t = ![1 + t.val / 1, t.val % 1, 0] := by decide +kernel
theorem idx0_3 : ∀ t : Fin grid0.N, win0_3.index t = ![1 + t.val / 1, t.val % 1, 0] := by decide +kernel
theorem idx0_5 : ∀ t : Fin grid0.N, win0_5.index t = ![1 + t.val / 1, t.val % 1, 0] := by decide +kernel
theorem idx0_6 : ∀ t : Fin grid0.N, win0_6.index t = ![1 + t.val / 1, t.val % 1, 0] := by decide +kernel
theorem idx0_7 : ∀ t : Fin grid0.N, win0_7.index t = ![1 + t.val / 1, t.val % 1, 0] := by decide +kernel
theorem flush0_5 : ∀ t : Fin grid0.N, win0_5.flush t = true := by decide +kernel
theorem flush0_6 : ∀ t : Fin grid0.N, win0_6.flush t = true := by decide +kernel
theorem flush0_7 : ∀ t : Fin grid0.N, win0_7.flush t = true := by decide +kernel
theorem idx1_0 : ∀ t : Fin grid1.N, win1_0.index t = ![0, t.val, 0] := by decide +kernel
theorem idx1_1 : ∀ t : Fin grid1.N, win1_1.index t = ![0, t.val, 0] := by decide +kernel
theorem idx1_2 : ∀ t : Fin grid1.N, win1_2.index t = ![0, t.val, 0] := by decide +kernel
theorem idx1_3 : ∀ t : Fin grid1.N, win1_3.index t = ![0, t.val, 0] := by decide +kernel
theorem idx1_5 : ∀ t : Fin grid1.N, win1_5.index t = ![0, t.val, 0] := by decide +kernel
theorem idx1_6 : ∀ t : Fin grid1.N, win1_6.index t = ![0, t.val, 0] := by decide +kernel
theorem idx1_7 : ∀ t : Fin grid1.N, win1_7.index t = ![0, t.val, 0] := by decide +kernel
theorem flush1_5 : ∀ t : Fin grid1.N, win1_5.flush t = true := by decide +kernel
theorem flush1_6 : ∀ t : Fin grid1.N, win1_6.flush t = true := by decide +kernel
theorem flush1_7 : ∀ t : Fin grid1.N, win1_7.flush t = true := by decide +kernel

/-- The blocks the two calls read are the arguments' at their layer and tile. -/
theorem blk0_0 (t : Fin 3) (z : Fin 1) (r : Fin 256) (l : Fin 1024) :
    iblk0 (V0 m ρ) c 0 t (ix3 z r l) = argW m c (ix3 (⟨1 + t.val / 1, by omega⟩ : Fin 4) (⟨t.val % 1 * 256 + r.val, by omega⟩ : Fin 256) l) := by
  refine Eq.trans ?_ (congrFun (W0_args m ρ c main_arg0 (by decide)) _)
  obtain rfl : z = 0 := Subsingleton.elim _ _
  blk_ext [iblk0, idx0_0 t]
theorem blk0_1 (t : Fin 3) (z : Fin 1) (r : Fin 256) (l : Fin 1024) :
    iblk0 (V0 m ρ) c 1 t (ix3 z r l) = argG m c (ix3 (⟨1 + t.val / 1, by omega⟩ : Fin 4) (⟨t.val % 1 * 256 + r.val, by omega⟩ : Fin 256) l) := by
  refine Eq.trans ?_ (congrFun (W0_args m ρ c main_arg1 (by decide)) _)
  obtain rfl : z = 0 := Subsingleton.elim _ _
  blk_ext [iblk0, idx0_1 t]
theorem blk0_2 (t : Fin 3) (z : Fin 1) (r : Fin 256) (l : Fin 1024) :
    iblk0 (V0 m ρ) c 2 t (ix3 z r l) = argM m c (ix3 (⟨1 + t.val / 1, by omega⟩ : Fin 4) (⟨t.val % 1 * 256 + r.val, by omega⟩ : Fin 256) l) := by
  refine Eq.trans ?_ (congrFun (W0_args m ρ c main_arg2 (by decide)) _)
  obtain rfl : z = 0 := Subsingleton.elim _ _
  blk_ext [iblk0, idx0_2 t]
theorem blk0_3 (t : Fin 3) (z : Fin 1) (r : Fin 256) (l : Fin 1024) :
    iblk0 (V0 m ρ) c 3 t (ix3 z r l) = argV m c (ix3 (⟨1 + t.val / 1, by omega⟩ : Fin 4) (⟨t.val % 1 * 256 + r.val, by omega⟩ : Fin 256) l) := by
  refine Eq.trans ?_ (congrFun (W0_args m ρ c main_arg3 (by decide)) _)
  obtain rfl : z = 0 := Subsingleton.elim _ _
  blk_ext [iblk0, idx0_3 t]
theorem blk1_0 (t : Fin 1) (z : Fin 1) (r : Fin 256) (l : Fin 1024) :
    iblk1 (V2 m ρ) c 0 t (ix3 z r l) = argW m c (ix3 (0 : Fin 4) (⟨t.val * 256 + r.val, by omega⟩ : Fin 256) l) := by
  refine Eq.trans ?_ (congrFun (W2_args m ρ c main_arg0 (by decide)) _)
  obtain rfl : z = 0 := Subsingleton.elim _ _
  blk_ext [iblk1, idx1_0 t]
theorem blk1_1 (t : Fin 1) (z : Fin 1) (r : Fin 256) (l : Fin 1024) :
    iblk1 (V2 m ρ) c 1 t (ix3 z r l) = argG m c (ix3 (0 : Fin 4) (⟨t.val * 256 + r.val, by omega⟩ : Fin 256) l) := by
  refine Eq.trans ?_ (congrFun (W2_args m ρ c main_arg1 (by decide)) _)
  obtain rfl : z = 0 := Subsingleton.elim _ _
  blk_ext [iblk1, idx1_1 t]
theorem blk1_2 (t : Fin 1) (z : Fin 1) (r : Fin 256) (l : Fin 1024) :
    iblk1 (V2 m ρ) c 2 t (ix3 z r l) = argM m c (ix3 (0 : Fin 4) (⟨t.val * 256 + r.val, by omega⟩ : Fin 256) l) := by
  refine Eq.trans ?_ (congrFun (W2_args m ρ c main_arg2 (by decide)) _)
  obtain rfl : z = 0 := Subsingleton.elim _ _
  blk_ext [iblk1, idx1_2 t]
theorem blk1_3 (t : Fin 1) (z : Fin 1) (r : Fin 256) (l : Fin 1024) :
    iblk1 (V2 m ρ) c 3 t (ix3 z r l) = argV m c (ix3 (0 : Fin 4) (⟨t.val * 256 + r.val, by omega⟩ : Fin 256) l) := by
  refine Eq.trans ?_ (congrFun (W2_args m ρ c main_arg3 (by decide)) _)
  obtain rfl : z = 0 := Subsingleton.elim _ _
  blk_ext [iblk1, idx1_3 t]

/-- What the second call's body leaves in its result windows at a point. -/
theorem outsAt_eq (V : (c : Dev nD) → (b : Ref sig .tc) → Buf (Elt Ideal) ((c : Thread nD τ).loc b)) (t : Fin cfg1.N) :
    (outsAt1 V c t).2.1 = k1_pay2 (k1_pay8 (iblk1 V c 1 t) (iblk1 V c 0 t) (iblk1 V c 2 t) (iblk1 V c 3 t))
    ∧ (outsAt1 V c t).2.2.1 = k1_pay3 (k1_pay6 (iblk1 V c 1 t) (iblk1 V c 2 t))
    ∧ (outsAt1 V c t).2.2.2 = k1_pay4 (k1_pay7 (iblk1 V c 1 t) (iblk1 V c 3 t)) := by
  unfold outsAt1 out1_A_5 out1_A_6 out1_A_7
  refine ⟨?_, ?_, ?_⟩ <;> frame_out

/-- What a point of the first call writes back into result 1. -/
theorem flushed0_5 (t : Fin cfg0.N) (hf : (cfg0.win 5).flush t = true) : (dat0 (V0 m ρ) c).flushed 5 t
    = ((cfg0.win 5).blk t).view.read (Elt Ideal) (changes (argW m c) (argG m c) (argM m c) (argV m c)) := by
  funext y
  blk_simp
  rw [after0_5]
  unfold out0_5
  frame_out
  idx_vars y
  have ht : t.val < 3 := t.isLt
  refine Eq.trans ?_ (congrArg (changes (argW m c) (argG m c) (argM m c) (argV m c)) (?_ : ix3 (⟨1 + t.val / 1, by omega⟩ : Fin 4) (⟨t.val % 1 * 256 + y1.val, by omega⟩ : Fin 256) y2 = _))
  · exact (pay0_change _ _ _ _ _ _ _).trans ((congrArg₂ (fun a b => change a b _ _) (blk0_0 m ρ c t _ y1 y2) (blk0_1 m ρ c t _ y1 y2)).trans (congrArg₂ (change _ _) (blk0_2 m ρ c t _ y1 y2) (blk0_3 m ρ c t _ y1 y2)))
  · blk_ext [idx0_5 t]
/-- What a point of the second call writes back into result 1. -/
theorem flushed1_5 (t : Fin cfg1.N) (hf : (cfg1.win 5).flush t = true) : (dat1 (V2 m ρ) c).flushed 5 t
    = ((cfg1.win 5).blk t).view.read (Elt Ideal) (changes (argW m c) (argG m c) (argM m c) (argV m c)) := by
  funext y
  blk_simp
  rw [after1_5, (outsAt_eq c (V2 m ρ) t).1]
  idx_vars y
  have ht : t.val < 1 := t.isLt
  refine Eq.trans ?_ (congrArg (changes (argW m c) (argG m c) (argM m c) (argV m c)) (?_ : ix3 (0 : Fin 4) (⟨t.val * 256 + y1.val, by omega⟩ : Fin 256) y2 = _))
  · exact (pay1_change _ _ _ _ _ _ _).trans ((congrArg₂ (fun a b => change a b _ _) (blk1_0 m ρ c t _ y1 y2) (blk1_1 m ρ c t _ y1 y2)).trans (congrArg₂ (change _ _) (blk1_2 m ρ c t _ y1 y2) (blk1_3 m ρ c t _ y1 y2)))
  · blk_ext [idx1_5 t]
/-- The first call's blocks of result 1 contain every index of layers 1 to 3, the second call's every index of layer 0. -/
theorem mem0_5 (i : S4x256x1024.Idx) (h : 1 ≤ (i 0).val) : ∃ t : Fin cfg0.N, (cfg0.win 5).flush t = true ∧ i ∈ ((cfg0.win 5).blk t).view.set := by
  have h0 : (i 0).val < 4 := (i 0).isLt
  have h1 : (i 1).val < 256 := (i 1).isLt
  have h2 : (i 2).val < 1024 := (i 2).isLt
  obtain ⟨t, ht⟩ : ∃ t : Fin 3, t.val = ((i 0).val - 1) * 1 + (i 1).val / 256 := ⟨⟨((i 0).val - 1) * 1 + (i 1).val / 256, by omega⟩, rfl⟩
  have e0 : win0_5.index t 0 = 1 + t.val / 1 := congrFun (idx0_5 t) 0
  have e1 : win0_5.index t 1 = t.val % 1 := congrFun (idx0_5 t) 1
  have e2 : win0_5.index t 2 = 0 := congrFun (idx0_5 t) 2
  refine ⟨t, flush0_5 t, ?_⟩
  mem_blk
  rw [e0, e1, e2]
  refine ⟨?_, ?_, ?_⟩ <;> omega
theorem mem1_5 (i : S4x256x1024.Idx) (h : (i 0).val < 1) : ∃ t : Fin cfg1.N, (cfg1.win 5).flush t = true ∧ i ∈ ((cfg1.win 5).blk t).view.set := by
  have h1 : (i 1).val < 256 := (i 1).isLt
  have h2 : (i 2).val < 1024 := (i 2).isLt
  obtain ⟨t, ht⟩ : ∃ t : Fin 1, t.val = (i 1).val / 256 := ⟨⟨(i 1).val / 256, by omega⟩, rfl⟩
  have e0 : win1_5.index t 0 = 0 := congrFun (idx1_5 t) 0
  have e1 : win1_5.index t 1 = t.val := congrFun (idx1_5 t) 1
  have e2 : win1_5.index t 2 = 0 := congrFun (idx1_5 t) 2
  refine ⟨t, flush1_5 t, ?_⟩
  mem_blk
  rw [e0, e1, e2]
  refine ⟨?_, ?_, ?_⟩ <;> omega
/-- The second call finds in result 1 what the first call left. -/
theorem carried_5 : W2 m ρ c (Proc.devRef .tc main_v1_1) = (dat0 (V0 m ρ) c).arrAt 5 cfg0.N := by
  refine Eq.trans ?_ (W1_arr m ρ c 5)
  simp only [W2, hostOps1]
  entry_read
  rfl
/-- Result 1 after both calls. -/
theorem result_5 : (dat1 (V2 m ρ) c).arrAt 5 cfg1.N = changes (argW m c) (argG m c) (argM m c) (argV m c) := by
  funext i
  refine ((dat1 (V2 m ρ) c).arrAt_eq_piecewise 5 (changes (argW m c) (argG m c) (argM m c) (argV m c)) (flushed1_5 m ρ c) i).trans ?_
  split
  · rfl
  · rename_i h
    have h0 : 1 ≤ (i 0).val := by
      by_contra h2
      exact h (mem1_5 i (by omega))
    rw [A_eq1]
    refine (congrFun (carried_5 m ρ c) i).trans ?_
    refine ((dat0 (V0 m ρ) c).arrAt_eq_piecewise 5 (changes (argW m c) (argG m c) (argM m c) (argV m c)) (flushed0_5 m ρ c) i).trans ?_
    exact if_pos (mem0_5 i h0)

/-- What a point of the first call writes back into result 2. -/
theorem flushed0_6 (t : Fin cfg0.N) (hf : (cfg0.win 6).flush t = true) : (dat0 (V0 m ρ) c).flushed 6 t
    = ((cfg0.win 6).blk t).view.read (Elt Ideal) (means (argG m c) (argM m c)) := by
  funext y
  blk_simp
  rw [after0_6]
  unfold out0_6
  frame_out
  idx_vars y
  have ht : t.val < 3 := t.isLt
  refine Eq.trans ?_ (congrArg (means (argG m c) (argM m c)) (?_ : ix3 (⟨1 + t.val / 1, by omega⟩ : Fin 4) (⟨t.val % 1 * 256 + y1.val, by omega⟩ : Fin 256) y2 = _))
  · exact (pay0_mean _ _ _ _ _).trans (congrArg₂ mean (blk0_2 m ρ c t _ y1 y2) (blk0_1 m ρ c t _ y1 y2))
  · blk_ext [idx0_6 t]
/-- What a point of the second call writes back into result 2. -/
theorem flushed1_6 (t : Fin cfg1.N) (hf : (cfg1.win 6).flush t = true) : (dat1 (V2 m ρ) c).flushed 6 t
    = ((cfg1.win 6).blk t).view.read (Elt Ideal) (means (argG m c) (argM m c)) := by
  funext y
  blk_simp
  rw [after1_6, (outsAt_eq c (V2 m ρ) t).2.1]
  idx_vars y
  have ht : t.val < 1 := t.isLt
  refine Eq.trans ?_ (congrArg (means (argG m c) (argM m c)) (?_ : ix3 (0 : Fin 4) (⟨t.val * 256 + y1.val, by omega⟩ : Fin 256) y2 = _))
  · exact (pay1_mean _ _ _ _ _).trans (congrArg₂ mean (blk1_2 m ρ c t _ y1 y2) (blk1_1 m ρ c t _ y1 y2))
  · blk_ext [idx1_6 t]
/-- The first call's blocks of result 2 contain every index of layers 1 to 3, the second call's every index of layer 0. -/
theorem mem0_6 (i : S4x256x1024.Idx) (h : 1 ≤ (i 0).val) : ∃ t : Fin cfg0.N, (cfg0.win 6).flush t = true ∧ i ∈ ((cfg0.win 6).blk t).view.set := by
  have h0 : (i 0).val < 4 := (i 0).isLt
  have h1 : (i 1).val < 256 := (i 1).isLt
  have h2 : (i 2).val < 1024 := (i 2).isLt
  obtain ⟨t, ht⟩ : ∃ t : Fin 3, t.val = ((i 0).val - 1) * 1 + (i 1).val / 256 := ⟨⟨((i 0).val - 1) * 1 + (i 1).val / 256, by omega⟩, rfl⟩
  have e0 : win0_6.index t 0 = 1 + t.val / 1 := congrFun (idx0_6 t) 0
  have e1 : win0_6.index t 1 = t.val % 1 := congrFun (idx0_6 t) 1
  have e2 : win0_6.index t 2 = 0 := congrFun (idx0_6 t) 2
  refine ⟨t, flush0_6 t, ?_⟩
  mem_blk
  rw [e0, e1, e2]
  refine ⟨?_, ?_, ?_⟩ <;> omega
theorem mem1_6 (i : S4x256x1024.Idx) (h : (i 0).val < 1) : ∃ t : Fin cfg1.N, (cfg1.win 6).flush t = true ∧ i ∈ ((cfg1.win 6).blk t).view.set := by
  have h1 : (i 1).val < 256 := (i 1).isLt
  have h2 : (i 2).val < 1024 := (i 2).isLt
  obtain ⟨t, ht⟩ : ∃ t : Fin 1, t.val = (i 1).val / 256 := ⟨⟨(i 1).val / 256, by omega⟩, rfl⟩
  have e0 : win1_6.index t 0 = 0 := congrFun (idx1_6 t) 0
  have e1 : win1_6.index t 1 = t.val := congrFun (idx1_6 t) 1
  have e2 : win1_6.index t 2 = 0 := congrFun (idx1_6 t) 2
  refine ⟨t, flush1_6 t, ?_⟩
  mem_blk
  rw [e0, e1, e2]
  refine ⟨?_, ?_, ?_⟩ <;> omega
/-- The second call finds in result 2 what the first call left. -/
theorem carried_6 : W2 m ρ c (Proc.devRef .tc main_v1_2) = (dat0 (V0 m ρ) c).arrAt 6 cfg0.N := by
  refine Eq.trans ?_ (W1_arr m ρ c 6)
  simp only [W2, hostOps1]
  entry_read
  rfl
/-- Result 2 after both calls. -/
theorem result_6 : (dat1 (V2 m ρ) c).arrAt 6 cfg1.N = means (argG m c) (argM m c) := by
  funext i
  refine ((dat1 (V2 m ρ) c).arrAt_eq_piecewise 6 (means (argG m c) (argM m c)) (flushed1_6 m ρ c) i).trans ?_
  split
  · rfl
  · rename_i h
    have h0 : 1 ≤ (i 0).val := by
      by_contra h2
      exact h (mem1_6 i (by omega))
    rw [A_eq1]
    refine (congrFun (carried_6 m ρ c) i).trans ?_
    refine ((dat0 (V0 m ρ) c).arrAt_eq_piecewise 6 (means (argG m c) (argM m c)) (flushed0_6 m ρ c) i).trans ?_
    exact if_pos (mem0_6 i h0)

/-- What a point of the first call writes back into result 3. -/
theorem flushed0_7 (t : Fin cfg0.N) (hf : (cfg0.win 7).flush t = true) : (dat0 (V0 m ρ) c).flushed 7 t
    = ((cfg0.win 7).blk t).view.read (Elt Ideal) (squares (argG m c) (argV m c)) := by
  funext y
  blk_simp
  rw [after0_7]
  unfold out0_7
  frame_out
  idx_vars y
  have ht : t.val < 3 := t.isLt
  refine Eq.trans ?_ (congrArg (squares (argG m c) (argV m c)) (?_ : ix3 (⟨1 + t.val / 1, by omega⟩ : Fin 4) (⟨t.val % 1 * 256 + y1.val, by omega⟩ : Fin 256) y2 = _))
  · exact (pay0_square _ _ _ _ _).trans (congrArg₂ square (blk0_3 m ρ c t _ y1 y2) (blk0_1 m ρ c t _ y1 y2))
  · blk_ext [idx0_7 t]
/-- What a point of the second call writes back into result 3. -/
theorem flushed1_7 (t : Fin cfg1.N) (hf : (cfg1.win 7).flush t = true) : (dat1 (V2 m ρ) c).flushed 7 t
    = ((cfg1.win 7).blk t).view.read (Elt Ideal) (squares (argG m c) (argV m c)) := by
  funext y
  blk_simp
  rw [after1_7, (outsAt_eq c (V2 m ρ) t).2.2]
  idx_vars y
  have ht : t.val < 1 := t.isLt
  refine Eq.trans ?_ (congrArg (squares (argG m c) (argV m c)) (?_ : ix3 (0 : Fin 4) (⟨t.val * 256 + y1.val, by omega⟩ : Fin 256) y2 = _))
  · exact (pay1_square _ _ _ _ _).trans (congrArg₂ square (blk1_3 m ρ c t _ y1 y2) (blk1_1 m ρ c t _ y1 y2))
  · blk_ext [idx1_7 t]
/-- The first call's blocks of result 3 contain every index of layers 1 to 3, the second call's every index of layer 0. -/
theorem mem0_7 (i : S4x256x1024.Idx) (h : 1 ≤ (i 0).val) : ∃ t : Fin cfg0.N, (cfg0.win 7).flush t = true ∧ i ∈ ((cfg0.win 7).blk t).view.set := by
  have h0 : (i 0).val < 4 := (i 0).isLt
  have h1 : (i 1).val < 256 := (i 1).isLt
  have h2 : (i 2).val < 1024 := (i 2).isLt
  obtain ⟨t, ht⟩ : ∃ t : Fin 3, t.val = ((i 0).val - 1) * 1 + (i 1).val / 256 := ⟨⟨((i 0).val - 1) * 1 + (i 1).val / 256, by omega⟩, rfl⟩
  have e0 : win0_7.index t 0 = 1 + t.val / 1 := congrFun (idx0_7 t) 0
  have e1 : win0_7.index t 1 = t.val % 1 := congrFun (idx0_7 t) 1
  have e2 : win0_7.index t 2 = 0 := congrFun (idx0_7 t) 2
  refine ⟨t, flush0_7 t, ?_⟩
  mem_blk
  rw [e0, e1, e2]
  refine ⟨?_, ?_, ?_⟩ <;> omega
theorem mem1_7 (i : S4x256x1024.Idx) (h : (i 0).val < 1) : ∃ t : Fin cfg1.N, (cfg1.win 7).flush t = true ∧ i ∈ ((cfg1.win 7).blk t).view.set := by
  have h1 : (i 1).val < 256 := (i 1).isLt
  have h2 : (i 2).val < 1024 := (i 2).isLt
  obtain ⟨t, ht⟩ : ∃ t : Fin 1, t.val = (i 1).val / 256 := ⟨⟨(i 1).val / 256, by omega⟩, rfl⟩
  have e0 : win1_7.index t 0 = 0 := congrFun (idx1_7 t) 0
  have e1 : win1_7.index t 1 = t.val := congrFun (idx1_7 t) 1
  have e2 : win1_7.index t 2 = 0 := congrFun (idx1_7 t) 2
  refine ⟨t, flush1_7 t, ?_⟩
  mem_blk
  rw [e0, e1, e2]
  refine ⟨?_, ?_, ?_⟩ <;> omega
/-- The second call finds in result 3 what the first call left. -/
theorem carried_7 : W2 m ρ c (Proc.devRef .tc main_v1_3) = (dat0 (V0 m ρ) c).arrAt 7 cfg0.N := by
  refine Eq.trans ?_ (W1_arr m ρ c 7)
  simp only [W2, hostOps1]
  entry_read
  rfl
/-- Result 3 after both calls. -/
theorem result_7 : (dat1 (V2 m ρ) c).arrAt 7 cfg1.N = squares (argG m c) (argV m c) := by
  funext i
  refine ((dat1 (V2 m ρ) c).arrAt_eq_piecewise 7 (squares (argG m c) (argV m c)) (flushed1_7 m ρ c) i).trans ?_
  split
  · rfl
  · rename_i h
    have h0 : 1 ≤ (i 0).val := by
      by_contra h2
      exact h (mem1_7 i (by omega))
    rw [A_eq1]
    refine (congrFun (carried_7 m ρ c) i).trans ?_
    refine ((dat0 (V0 m ρ) c).arrAt_eq_piecewise 7 (squares (argG m c) (argV m c)) (flushed0_7 m ρ c) i).trans ?_
    exact if_pos (mem0_7 i h0)

section Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
set_option backward.isDefEq.respectTransparency.types false in
/-- The run: the three results end with the step's, and the arguments as they were. -/
theorem run : θ_run defs (onTc (τ := τ) (main (F := Ideal))) ⟨m, fun _ => 0, ρ⟩ (fun r => ∀ c : Dev nD,
      r.2.mem ((c.tc : Thread nD τ).loc main_v1_1) = changes (argW m c) (argG m c) (argM m c) (argV m c)
      ∧ r.2.mem ((c.tc : Thread nD τ).loc main_v1_2) = means (argG m c) (argM m c)
      ∧ r.2.mem ((c.tc : Thread nD τ).loc main_v1_3) = squares (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_1 (by decide))).trans ((W3_arr m ρ c 5).trans (result_5 m ρ c)),
       (h c _ (mem_uc main_v1_2 (by decide))).trans ((W3_arr m ρ c 6).trans (result_6 m ρ c)),
       (h c _ (mem_uc main_v1_3 (by decide))).trans ((W3_arr m ρ c 7).trans (result_7 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Run

end Cert.Adam17

end
-- ==== Proof.Adam17.Reference.lean ====
/- What the reference of the step on a weight of 256 rows and 1024 columns computes, and the claims about both programs. -/
module

public import proofs.«01_k».proof.Defs
public import proofs.«01_k».proof.Proof.Gen.Reference17Ideal.Run
public import proofs.«01_k».proof.Proof.Adam17.Kernel
public import Idealize.ShloMosaic.Lib.Claim

@[expose] public section

set_option maxRecDepth 16384

noncomputable section

namespace Cert.Adam17

open Cert.Adam
open Idealize.ShloMosaic Idealize.ShloMosaic.TcCoe Idealize.SL.Sem

section Ref
open Cert.Reference17Ideal Cert.Reference17Ideal.Value Cert.Reference17Ideal.Gen Idealize.ShloMosaic.StableHlo

/-- The reference's new moments and its change of the weight. -/
theorem ref_mean (g p : A3 4 256 1024) : (addf (F := Ideal) (φ := .f32) (mulf (F := Ideal) (φ := .f32) (broadcastInDim S4x256x1024 ![] bcast_S_S4x256x1024 (constant (F := Ideal) S_ .f32 0x3F666666#32)) p) (mulf (F := Ideal) (φ := .f32) (broadcastInDim S4x256x1024 ![] bcast_S_S4x256x1024 (constant (F := Ideal) S_ .f32 0x3DCCCCCD#32)) g) : A3 4 256 1024) = means g p := by
  funext i
  idx_vars i
  unfold means mean
  pointwise
theorem ref_square (g v : A3 4 256 1024) : (addf (F := Ideal) (φ := .f32) (mulf (F := Ideal) (φ := .f32) (broadcastInDim S4x256x1024 ![] bcast_S_S4x256x1024 (constant (F := Ideal) S_ .f32 0x3F7FBE77#32)) v) (mulf (F := Ideal) (φ := .f32) (broadcastInDim S4x256x1024 ![] bcast_S_S4x256x1024 (constant (F := Ideal) S_ .f32 0x3A83126F#32)) (mulf (F := Ideal) (φ := .f32) g g)) : A3 4 256 1024) = squares g v := by
  funext i
  idx_vars i
  unfold squares square
  pointwise
theorem ref_change (w g p v : A3 4 256 1024) : (mulf (F := Ideal) (φ := .f32) (broadcastInDim S4x256x1024 ![] bcast_S_S4x256x1024 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x256x1024 ![] bcast_S_S4x256x1024 (constant (F := Ideal) S_ .f32 0x3F666666#32)) p) (mulf (F := Ideal) (φ := .f32) (broadcastInDim S4x256x1024 ![] bcast_S_S4x256x1024 (constant (F := Ideal) S_ .f32 0x3DCCCCCD#32)) g)) (broadcastInDim S4x256x1024 ![] bcast_S_S4x256x1024 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x256x1024 ![] bcast_S_S4x256x1024 (constant (F := Ideal) S_ .f32 0x3F7FBE77#32)) v) (mulf (F := Ideal) (φ := .f32) (broadcastInDim S4x256x1024 ![] bcast_S_S4x256x1024 (constant (F := Ideal) S_ .f32 0x3A83126F#32)) (mulf (F := Ideal) (φ := .f32) g g))) (broadcastInDim S4x256x1024 ![] bcast_S_S4x256x1024 (constant (F := Ideal) S_ .f32 0x3C231ACC#32)))) (broadcastInDim S4x256x1024 ![] bcast_S_S4x256x1024 (constant (F := Ideal) S_ .f32 0x322BCC77#32)))) (mulf (F := Ideal) (φ := .f32) (broadcastInDim S4x256x1024 ![] bcast_S_S4x256x1024 (constant (F := Ideal) S_ .f32 0x3C23D70A#32)) w)) : A3 4 256 1024) = changes w g p v := by
  funext i
  idx_vars i
  unfold changes change mean square
  pointwise

end Ref

/-- The reference ends with its arguments as they were, and it has no semaphores. -/
theorem frame_reference : Cert.quiescent_Reference17Ideal (hReference17Ideal := Cert.Reference17Ideal.Gen.facts) := fun m ρ _ =>
  (θ_run _ _ _).mono (fun r h => ⟨fun c => (h c).2.2.2, sem_eq_zero_of_no_sems (by decide) r.2⟩)
    (Cert.Reference17Ideal.Value.run (F := Ideal) m ρ)

/-- Equal results: the step's, of the arguments. -/
theorem algebraic : Cert.algebraic_Kernel17Ideal_Reference17Ideal (hKernel17Ideal := Cert.Kernel17Ideal.Gen.facts)
    (hReference17Ideal := Cert.Reference17Ideal.Gen.facts) := by
  intro m ρ m' ρ' _ hagree
  refine ⟨fun c => changes (argW m c) (argG m c) (argM m c) (argV m c), fun c => means (argG m c) (argM m c), fun c => squares (argG m c) (argV m c), ?_, ?_⟩
  · exact run m ρ
  · refine (θ_run _ _ _).mono (fun r h c => ⟨(h c).1.trans ?_, (h c).2.1.trans ?_, (h c).2.2.1.trans ?_, (h c).2.2.2⟩) (Cert.Reference17Ideal.Value.run (F := Ideal) m' ρ')
    all_goals obtain ⟨h0, h1, h2, h3⟩ := hagree c
    · refine (ref_change _ _ _ _).trans ?_
      rw [h0, h1, h2, h3]
    · exact (ref_mean _ _).trans (congrArg₂ means h1 h2)
    · exact (ref_square _ _).trans (congrArg₂ squares h1 h3)

end Cert.Adam17

end
-- ==== Proof.Adam18.Kernel.lean ====
/- One AdamW step on a weight of 256 rows and 256 columns, in two calls: the first works on layers 1 to 3, the second on layer 0 in the arrays the
   first left. -/
module

public import proofs.«01_k».proof.Proof.Gen.Kernel18Ideal.Frame
public import proofs.«01_k».proof.Proof.Adam.Spec
public import Idealize.ShloMosaic.Lib.KernelVsHost
public import Idealize.ShloMosaic.Lib.Pipeline.ValueKit

@[expose] public section

set_option maxRecDepth 16384

noncomputable section

namespace Cert.Adam18

open Cert.Adam
open Cert.Kernel18Ideal Cert.Kernel18Ideal.Gen Idealize.ShloMosaic Idealize.ShloMosaic.TcCoe Idealize.SL.Sem

/-- The first call's stored blocks, element by element. -/
theorem pay0_change (g w p v : Vec Ideal S1x256x256 .f32) (z : Fin 1) (r : Fin 256) (l : Fin 256) :
    k0_pay2 (k0_pay8 g w p v) (ix3 z r l) = change (w (ix3 z r l)) (g (ix3 z r l)) (p (ix3 z r l)) (v (ix3 z r l)) := by
  obtain rfl : z = 0 := Subsingleton.elim _ _
  unfold k0_pay2 k0_pay8 k0_pay6 k0_pay7 k0_pay5 change mean square
  pointwise
theorem pay0_mean (g p : Vec Ideal S1x256x256 .f32) (z : Fin 1) (r : Fin 256) (l : Fin 256) :
    k0_pay3 (k0_pay6 g p) (ix3 z r l) = mean (p (ix3 z r l)) (g (ix3 z r l)) := by
  obtain rfl : z = 0 := Subsingleton.elim _ _
  unfold k0_pay3 k0_pay6 k0_pay5 mean
  pointwise
theorem pay0_square (g v : Vec Ideal S1x256x256 .f32) (z : Fin 1) (r : Fin 256) (l : Fin 256) :
    k0_pay4 (k0_pay7 g v) (ix3 z r l) = square (v (ix3 z r l)) (g (ix3 z r l)) := by
  obtain rfl : z = 0 := Subsingleton.elim _ _
  unfold k0_pay4 k0_pay7 k0_pay5 square
  pointwise

/-- The second call's stored blocks, element by element. -/
theorem pay1_change (g w p v : Vec Ideal S1x256x256 .f32) (z : Fin 1) (r : Fin 256) (l : Fin 256) :
    k1_pay2 (k1_pay8 g w p v) (ix3 z r l) = change (w (ix3 z r l)) (g (ix3 z r l)) (p (ix3 z r l)) (v (ix3 z r l)) := by
  obtain rfl : z = 0 := Subsingleton.elim _ _
  unfold k1_pay2 k1_pay8 k1_pay6 k1_pay7 k1_pay5 change mean square
  pointwise
theorem pay1_mean (g p : Vec Ideal S1x256x256 .f32) (z : Fin 1) (r : Fin 256) (l : Fin 256) :
    k1_pay3 (k1_pay6 g p) (ix3 z r l) = mean (p (ix3 z r l)) (g (ix3 z r l)) := by
  obtain rfl : z = 0 := Subsingleton.elim _ _
  unfold k1_pay3 k1_pay6 k1_pay5 mean
  pointwise
theorem pay1_square (g v : Vec Ideal S1x256x256 .f32) (z : Fin 1) (r : Fin 256) (l : Fin 256) :
    k1_pay4 (k1_pay7 g v) (ix3 z r l) = square (v (ix3 z r l)) (g (ix3 z r l)) := by
  obtain rfl : z = 0 := Subsingleton.elim _ _
  unfold k1_pay4 k1_pay7 k1_pay5 square
  pointwise

variable (m : (ℓ : Loc nD τ sig) → Buf (Elt Ideal) ℓ) (ρ : Dev nD → PrngReg) (c : Dev nD)

/-- The arguments: the weight, its gradient and its two moments. -/
abbrev argW : A3 4 256 256 := m ((c : Thread nD τ).loc main_arg0)
abbrev argG : A3 4 256 256 := m ((c : Thread nD τ).loc main_arg1)
abbrev argM : A3 4 256 256 := m ((c : Thread nD τ).loc main_arg2)
abbrev argV : A3 4 256 256 := m ((c : Thread nD τ).loc main_arg3)

theorem idx0_0 : ∀ t : Fin grid0.N, win0_0.index t = ![1 + t.val / 1, t.val % 1, 0] := by decide +kernel
theorem idx0_1 : ∀ t : Fin grid0.N, win0_1.index t = ![1 + t.val / 1, t.val % 1, 0] := by decide +kernel
theorem idx0_2 : ∀ t : Fin grid0.N, win0_2.index t = ![1 + t.val / 1, t.val % 1, 0] := by decide +kernel
theorem idx0_3 : ∀ t : Fin grid0.N, win0_3.index t = ![1 + t.val / 1, t.val % 1, 0] := by decide +kernel
theorem idx0_5 : ∀ t : Fin grid0.N, win0_5.index t = ![1 + t.val / 1, t.val % 1, 0] := by decide +kernel
theorem idx0_6 : ∀ t : Fin grid0.N, win0_6.index t = ![1 + t.val / 1, t.val % 1, 0] := by decide +kernel
theorem idx0_7 : ∀ t : Fin grid0.N, win0_7.index t = ![1 + t.val / 1, t.val % 1, 0] := by decide +kernel
theorem flush0_5 : ∀ t : Fin grid0.N, win0_5.flush t = true := by decide +kernel
theorem flush0_6 : ∀ t : Fin grid0.N, win0_6.flush t = true := by decide +kernel
theorem flush0_7 : ∀ t : Fin grid0.N, win0_7.flush t = true := by decide +kernel
theorem idx1_0 : ∀ t : Fin grid1.N, win1_0.index t = ![0, t.val, 0] := by decide +kernel
theorem idx1_1 : ∀ t : Fin grid1.N, win1_1.index t = ![0, t.val, 0] := by decide +kernel
theorem idx1_2 : ∀ t : Fin grid1.N, win1_2.index t = ![0, t.val, 0] := by decide +kernel
theorem idx1_3 : ∀ t : Fin grid1.N, win1_3.index t = ![0, t.val, 0] := by decide +kernel
theorem idx1_5 : ∀ t : Fin grid1.N, win1_5.index t = ![0, t.val, 0] := by decide +kernel
theorem idx1_6 : ∀ t : Fin grid1.N, win1_6.index t = ![0, t.val, 0] := by decide +kernel
theorem idx1_7 : ∀ t : Fin grid1.N, win1_7.index t = ![0, t.val, 0] := by decide +kernel
theorem flush1_5 : ∀ t : Fin grid1.N, win1_5.flush t = true := by decide +kernel
theorem flush1_6 : ∀ t : Fin grid1.N, win1_6.flush t = true := by decide +kernel
theorem flush1_7 : ∀ t : Fin grid1.N, win1_7.flush t = true := by decide +kernel

/-- The blocks the two calls read are the arguments' at their layer and tile. -/
theorem blk0_0 (t : Fin 3) (z : Fin 1) (r : Fin 256) (l : Fin 256) :
    iblk0 (V0 m ρ) c 0 t (ix3 z r l) = argW m c (ix3 (⟨1 + t.val / 1, by omega⟩ : Fin 4) (⟨t.val % 1 * 256 + r.val, by omega⟩ : Fin 256) l) := by
  refine Eq.trans ?_ (congrFun (W0_args m ρ c main_arg0 (by decide)) _)
  obtain rfl : z = 0 := Subsingleton.elim _ _
  blk_ext [iblk0, idx0_0 t]
theorem blk0_1 (t : Fin 3) (z : Fin 1) (r : Fin 256) (l : Fin 256) :
    iblk0 (V0 m ρ) c 1 t (ix3 z r l) = argG m c (ix3 (⟨1 + t.val / 1, by omega⟩ : Fin 4) (⟨t.val % 1 * 256 + r.val, by omega⟩ : Fin 256) l) := by
  refine Eq.trans ?_ (congrFun (W0_args m ρ c main_arg1 (by decide)) _)
  obtain rfl : z = 0 := Subsingleton.elim _ _
  blk_ext [iblk0, idx0_1 t]
theorem blk0_2 (t : Fin 3) (z : Fin 1) (r : Fin 256) (l : Fin 256) :
    iblk0 (V0 m ρ) c 2 t (ix3 z r l) = argM m c (ix3 (⟨1 + t.val / 1, by omega⟩ : Fin 4) (⟨t.val % 1 * 256 + r.val, by omega⟩ : Fin 256) l) := by
  refine Eq.trans ?_ (congrFun (W0_args m ρ c main_arg2 (by decide)) _)
  obtain rfl : z = 0 := Subsingleton.elim _ _
  blk_ext [iblk0, idx0_2 t]
theorem blk0_3 (t : Fin 3) (z : Fin 1) (r : Fin 256) (l : Fin 256) :
    iblk0 (V0 m ρ) c 3 t (ix3 z r l) = argV m c (ix3 (⟨1 + t.val / 1, by omega⟩ : Fin 4) (⟨t.val % 1 * 256 + r.val, by omega⟩ : Fin 256) l) := by
  refine Eq.trans ?_ (congrFun (W0_args m ρ c main_arg3 (by decide)) _)
  obtain rfl : z = 0 := Subsingleton.elim _ _
  blk_ext [iblk0, idx0_3 t]
theorem blk1_0 (t : Fin 1) (z : Fin 1) (r : Fin 256) (l : Fin 256) :
    iblk1 (V2 m ρ) c 0 t (ix3 z r l) = argW m c (ix3 (0 : Fin 4) (⟨t.val * 256 + r.val, by omega⟩ : Fin 256) l) := by
  refine Eq.trans ?_ (congrFun (W2_args m ρ c main_arg0 (by decide)) _)
  obtain rfl : z = 0 := Subsingleton.elim _ _
  blk_ext [iblk1, idx1_0 t]
theorem blk1_1 (t : Fin 1) (z : Fin 1) (r : Fin 256) (l : Fin 256) :
    iblk1 (V2 m ρ) c 1 t (ix3 z r l) = argG m c (ix3 (0 : Fin 4) (⟨t.val * 256 + r.val, by omega⟩ : Fin 256) l) := by
  refine Eq.trans ?_ (congrFun (W2_args m ρ c main_arg1 (by decide)) _)
  obtain rfl : z = 0 := Subsingleton.elim _ _
  blk_ext [iblk1, idx1_1 t]
theorem blk1_2 (t : Fin 1) (z : Fin 1) (r : Fin 256) (l : Fin 256) :
    iblk1 (V2 m ρ) c 2 t (ix3 z r l) = argM m c (ix3 (0 : Fin 4) (⟨t.val * 256 + r.val, by omega⟩ : Fin 256) l) := by
  refine Eq.trans ?_ (congrFun (W2_args m ρ c main_arg2 (by decide)) _)
  obtain rfl : z = 0 := Subsingleton.elim _ _
  blk_ext [iblk1, idx1_2 t]
theorem blk1_3 (t : Fin 1) (z : Fin 1) (r : Fin 256) (l : Fin 256) :
    iblk1 (V2 m ρ) c 3 t (ix3 z r l) = argV m c (ix3 (0 : Fin 4) (⟨t.val * 256 + r.val, by omega⟩ : Fin 256) l) := by
  refine Eq.trans ?_ (congrFun (W2_args m ρ c main_arg3 (by decide)) _)
  obtain rfl : z = 0 := Subsingleton.elim _ _
  blk_ext [iblk1, idx1_3 t]

/-- What the second call's body leaves in its result windows at a point. -/
theorem outsAt_eq (V : (c : Dev nD) → (b : Ref sig .tc) → Buf (Elt Ideal) ((c : Thread nD τ).loc b)) (t : Fin cfg1.N) :
    (outsAt1 V c t).2.1 = k1_pay2 (k1_pay8 (iblk1 V c 1 t) (iblk1 V c 0 t) (iblk1 V c 2 t) (iblk1 V c 3 t))
    ∧ (outsAt1 V c t).2.2.1 = k1_pay3 (k1_pay6 (iblk1 V c 1 t) (iblk1 V c 2 t))
    ∧ (outsAt1 V c t).2.2.2 = k1_pay4 (k1_pay7 (iblk1 V c 1 t) (iblk1 V c 3 t)) := by
  unfold outsAt1 out1_A_5 out1_A_6 out1_A_7
  refine ⟨?_, ?_, ?_⟩ <;> frame_out

/-- What a point of the first call writes back into result 1. -/
theorem flushed0_5 (t : Fin cfg0.N) (hf : (cfg0.win 5).flush t = true) : (dat0 (V0 m ρ) c).flushed 5 t
    = ((cfg0.win 5).blk t).view.read (Elt Ideal) (changes (argW m c) (argG m c) (argM m c) (argV m c)) := by
  funext y
  blk_simp
  rw [after0_5]
  unfold out0_5
  frame_out
  idx_vars y
  have ht : t.val < 3 := t.isLt
  refine Eq.trans ?_ (congrArg (changes (argW m c) (argG m c) (argM m c) (argV m c)) (?_ : ix3 (⟨1 + t.val / 1, by omega⟩ : Fin 4) (⟨t.val % 1 * 256 + y1.val, by omega⟩ : Fin 256) y2 = _))
  · exact (pay0_change _ _ _ _ _ _ _).trans ((congrArg₂ (fun a b => change a b _ _) (blk0_0 m ρ c t _ y1 y2) (blk0_1 m ρ c t _ y1 y2)).trans (congrArg₂ (change _ _) (blk0_2 m ρ c t _ y1 y2) (blk0_3 m ρ c t _ y1 y2)))
  · blk_ext [idx0_5 t]
/-- What a point of the second call writes back into result 1. -/
theorem flushed1_5 (t : Fin cfg1.N) (hf : (cfg1.win 5).flush t = true) : (dat1 (V2 m ρ) c).flushed 5 t
    = ((cfg1.win 5).blk t).view.read (Elt Ideal) (changes (argW m c) (argG m c) (argM m c) (argV m c)) := by
  funext y
  blk_simp
  rw [after1_5, (outsAt_eq c (V2 m ρ) t).1]
  idx_vars y
  have ht : t.val < 1 := t.isLt
  refine Eq.trans ?_ (congrArg (changes (argW m c) (argG m c) (argM m c) (argV m c)) (?_ : ix3 (0 : Fin 4) (⟨t.val * 256 + y1.val, by omega⟩ : Fin 256) y2 = _))
  · exact (pay1_change _ _ _ _ _ _ _).trans ((congrArg₂ (fun a b => change a b _ _) (blk1_0 m ρ c t _ y1 y2) (blk1_1 m ρ c t _ y1 y2)).trans (congrArg₂ (change _ _) (blk1_2 m ρ c t _ y1 y2) (blk1_3 m ρ c t _ y1 y2)))
  · blk_ext [idx1_5 t]
/-- The first call's blocks of result 1 contain every index of layers 1 to 3, the second call's every index of layer 0. -/
theorem mem0_5 (i : S4x256x256.Idx) (h : 1 ≤ (i 0).val) : ∃ t : Fin cfg0.N, (cfg0.win 5).flush t = true ∧ i ∈ ((cfg0.win 5).blk t).view.set := by
  have h0 : (i 0).val < 4 := (i 0).isLt
  have h1 : (i 1).val < 256 := (i 1).isLt
  have h2 : (i 2).val < 256 := (i 2).isLt
  obtain ⟨t, ht⟩ : ∃ t : Fin 3, t.val = ((i 0).val - 1) * 1 + (i 1).val / 256 := ⟨⟨((i 0).val - 1) * 1 + (i 1).val / 256, by omega⟩, rfl⟩
  have e0 : win0_5.index t 0 = 1 + t.val / 1 := congrFun (idx0_5 t) 0
  have e1 : win0_5.index t 1 = t.val % 1 := congrFun (idx0_5 t) 1
  have e2 : win0_5.index t 2 = 0 := congrFun (idx0_5 t) 2
  refine ⟨t, flush0_5 t, ?_⟩
  mem_blk
  rw [e0, e1, e2]
  refine ⟨?_, ?_, ?_⟩ <;> omega
theorem mem1_5 (i : S4x256x256.Idx) (h : (i 0).val < 1) : ∃ t : Fin cfg1.N, (cfg1.win 5).flush t = true ∧ i ∈ ((cfg1.win 5).blk t).view.set := by
  have h1 : (i 1).val < 256 := (i 1).isLt
  have h2 : (i 2).val < 256 := (i 2).isLt
  obtain ⟨t, ht⟩ : ∃ t : Fin 1, t.val = (i 1).val / 256 := ⟨⟨(i 1).val / 256, by omega⟩, rfl⟩
  have e0 : win1_5.index t 0 = 0 := congrFun (idx1_5 t) 0
  have e1 : win1_5.index t 1 = t.val := congrFun (idx1_5 t) 1
  have e2 : win1_5.index t 2 = 0 := congrFun (idx1_5 t) 2
  refine ⟨t, flush1_5 t, ?_⟩
  mem_blk
  rw [e0, e1, e2]
  refine ⟨?_, ?_, ?_⟩ <;> omega
/-- The second call finds in result 1 what the first call left. -/
theorem carried_5 : W2 m ρ c (Proc.devRef .tc main_v1_1) = (dat0 (V0 m ρ) c).arrAt 5 cfg0.N := by
  refine Eq.trans ?_ (W1_arr m ρ c 5)
  simp only [W2, hostOps1]
  entry_read
  rfl
/-- Result 1 after both calls. -/
theorem result_5 : (dat1 (V2 m ρ) c).arrAt 5 cfg1.N = changes (argW m c) (argG m c) (argM m c) (argV m c) := by
  funext i
  refine ((dat1 (V2 m ρ) c).arrAt_eq_piecewise 5 (changes (argW m c) (argG m c) (argM m c) (argV m c)) (flushed1_5 m ρ c) i).trans ?_
  split
  · rfl
  · rename_i h
    have h0 : 1 ≤ (i 0).val := by
      by_contra h2
      exact h (mem1_5 i (by omega))
    rw [A_eq1]
    refine (congrFun (carried_5 m ρ c) i).trans ?_
    refine ((dat0 (V0 m ρ) c).arrAt_eq_piecewise 5 (changes (argW m c) (argG m c) (argM m c) (argV m c)) (flushed0_5 m ρ c) i).trans ?_
    exact if_pos (mem0_5 i h0)

/-- What a point of the first call writes back into result 2. -/
theorem flushed0_6 (t : Fin cfg0.N) (hf : (cfg0.win 6).flush t = true) : (dat0 (V0 m ρ) c).flushed 6 t
    = ((cfg0.win 6).blk t).view.read (Elt Ideal) (means (argG m c) (argM m c)) := by
  funext y
  blk_simp
  rw [after0_6]
  unfold out0_6
  frame_out
  idx_vars y
  have ht : t.val < 3 := t.isLt
  refine Eq.trans ?_ (congrArg (means (argG m c) (argM m c)) (?_ : ix3 (⟨1 + t.val / 1, by omega⟩ : Fin 4) (⟨t.val % 1 * 256 + y1.val, by omega⟩ : Fin 256) y2 = _))
  · exact (pay0_mean _ _ _ _ _).trans (congrArg₂ mean (blk0_2 m ρ c t _ y1 y2) (blk0_1 m ρ c t _ y1 y2))
  · blk_ext [idx0_6 t]
/-- What a point of the second call writes back into result 2. -/
theorem flushed1_6 (t : Fin cfg1.N) (hf : (cfg1.win 6).flush t = true) : (dat1 (V2 m ρ) c).flushed 6 t
    = ((cfg1.win 6).blk t).view.read (Elt Ideal) (means (argG m c) (argM m c)) := by
  funext y
  blk_simp
  rw [after1_6, (outsAt_eq c (V2 m ρ) t).2.1]
  idx_vars y
  have ht : t.val < 1 := t.isLt
  refine Eq.trans ?_ (congrArg (means (argG m c) (argM m c)) (?_ : ix3 (0 : Fin 4) (⟨t.val * 256 + y1.val, by omega⟩ : Fin 256) y2 = _))
  · exact (pay1_mean _ _ _ _ _).trans (congrArg₂ mean (blk1_2 m ρ c t _ y1 y2) (blk1_1 m ρ c t _ y1 y2))
  · blk_ext [idx1_6 t]
/-- The first call's blocks of result 2 contain every index of layers 1 to 3, the second call's every index of layer 0. -/
theorem mem0_6 (i : S4x256x256.Idx) (h : 1 ≤ (i 0).val) : ∃ t : Fin cfg0.N, (cfg0.win 6).flush t = true ∧ i ∈ ((cfg0.win 6).blk t).view.set := by
  have h0 : (i 0).val < 4 := (i 0).isLt
  have h1 : (i 1).val < 256 := (i 1).isLt
  have h2 : (i 2).val < 256 := (i 2).isLt
  obtain ⟨t, ht⟩ : ∃ t : Fin 3, t.val = ((i 0).val - 1) * 1 + (i 1).val / 256 := ⟨⟨((i 0).val - 1) * 1 + (i 1).val / 256, by omega⟩, rfl⟩
  have e0 : win0_6.index t 0 = 1 + t.val / 1 := congrFun (idx0_6 t) 0
  have e1 : win0_6.index t 1 = t.val % 1 := congrFun (idx0_6 t) 1
  have e2 : win0_6.index t 2 = 0 := congrFun (idx0_6 t) 2
  refine ⟨t, flush0_6 t, ?_⟩
  mem_blk
  rw [e0, e1, e2]
  refine ⟨?_, ?_, ?_⟩ <;> omega
theorem mem1_6 (i : S4x256x256.Idx) (h : (i 0).val < 1) : ∃ t : Fin cfg1.N, (cfg1.win 6).flush t = true ∧ i ∈ ((cfg1.win 6).blk t).view.set := by
  have h1 : (i 1).val < 256 := (i 1).isLt
  have h2 : (i 2).val < 256 := (i 2).isLt
  obtain ⟨t, ht⟩ : ∃ t : Fin 1, t.val = (i 1).val / 256 := ⟨⟨(i 1).val / 256, by omega⟩, rfl⟩
  have e0 : win1_6.index t 0 = 0 := congrFun (idx1_6 t) 0
  have e1 : win1_6.index t 1 = t.val := congrFun (idx1_6 t) 1
  have e2 : win1_6.index t 2 = 0 := congrFun (idx1_6 t) 2
  refine ⟨t, flush1_6 t, ?_⟩
  mem_blk
  rw [e0, e1, e2]
  refine ⟨?_, ?_, ?_⟩ <;> omega
/-- The second call finds in result 2 what the first call left. -/
theorem carried_6 : W2 m ρ c (Proc.devRef .tc main_v1_2) = (dat0 (V0 m ρ) c).arrAt 6 cfg0.N := by
  refine Eq.trans ?_ (W1_arr m ρ c 6)
  simp only [W2, hostOps1]
  entry_read
  rfl
/-- Result 2 after both calls. -/
theorem result_6 : (dat1 (V2 m ρ) c).arrAt 6 cfg1.N = means (argG m c) (argM m c) := by
  funext i
  refine ((dat1 (V2 m ρ) c).arrAt_eq_piecewise 6 (means (argG m c) (argM m c)) (flushed1_6 m ρ c) i).trans ?_
  split
  · rfl
  · rename_i h
    have h0 : 1 ≤ (i 0).val := by
      by_contra h2
      exact h (mem1_6 i (by omega))
    rw [A_eq1]
    refine (congrFun (carried_6 m ρ c) i).trans ?_
    refine ((dat0 (V0 m ρ) c).arrAt_eq_piecewise 6 (means (argG m c) (argM m c)) (flushed0_6 m ρ c) i).trans ?_
    exact if_pos (mem0_6 i h0)

/-- What a point of the first call writes back into result 3. -/
theorem flushed0_7 (t : Fin cfg0.N) (hf : (cfg0.win 7).flush t = true) : (dat0 (V0 m ρ) c).flushed 7 t
    = ((cfg0.win 7).blk t).view.read (Elt Ideal) (squares (argG m c) (argV m c)) := by
  funext y
  blk_simp
  rw [after0_7]
  unfold out0_7
  frame_out
  idx_vars y
  have ht : t.val < 3 := t.isLt
  refine Eq.trans ?_ (congrArg (squares (argG m c) (argV m c)) (?_ : ix3 (⟨1 + t.val / 1, by omega⟩ : Fin 4) (⟨t.val % 1 * 256 + y1.val, by omega⟩ : Fin 256) y2 = _))
  · exact (pay0_square _ _ _ _ _).trans (congrArg₂ square (blk0_3 m ρ c t _ y1 y2) (blk0_1 m ρ c t _ y1 y2))
  · blk_ext [idx0_7 t]
/-- What a point of the second call writes back into result 3. -/
theorem flushed1_7 (t : Fin cfg1.N) (hf : (cfg1.win 7).flush t = true) : (dat1 (V2 m ρ) c).flushed 7 t
    = ((cfg1.win 7).blk t).view.read (Elt Ideal) (squares (argG m c) (argV m c)) := by
  funext y
  blk_simp
  rw [after1_7, (outsAt_eq c (V2 m ρ) t).2.2]
  idx_vars y
  have ht : t.val < 1 := t.isLt
  refine Eq.trans ?_ (congrArg (squares (argG m c) (argV m c)) (?_ : ix3 (0 : Fin 4) (⟨t.val * 256 + y1.val, by omega⟩ : Fin 256) y2 = _))
  · exact (pay1_square _ _ _ _ _).trans (congrArg₂ square (blk1_3 m ρ c t _ y1 y2) (blk1_1 m ρ c t _ y1 y2))
  · blk_ext [idx1_7 t]
/-- The first call's blocks of result 3 contain every index of layers 1 to 3, the second call's every index of layer 0. -/
theorem mem0_7 (i : S4x256x256.Idx) (h : 1 ≤ (i 0).val) : ∃ t : Fin cfg0.N, (cfg0.win 7).flush t = true ∧ i ∈ ((cfg0.win 7).blk t).view.set := by
  have h0 : (i 0).val < 4 := (i 0).isLt
  have h1 : (i 1).val < 256 := (i 1).isLt
  have h2 : (i 2).val < 256 := (i 2).isLt
  obtain ⟨t, ht⟩ : ∃ t : Fin 3, t.val = ((i 0).val - 1) * 1 + (i 1).val / 256 := ⟨⟨((i 0).val - 1) * 1 + (i 1).val / 256, by omega⟩, rfl⟩
  have e0 : win0_7.index t 0 = 1 + t.val / 1 := congrFun (idx0_7 t) 0
  have e1 : win0_7.index t 1 = t.val % 1 := congrFun (idx0_7 t) 1
  have e2 : win0_7.index t 2 = 0 := congrFun (idx0_7 t) 2
  refine ⟨t, flush0_7 t, ?_⟩
  mem_blk
  rw [e0, e1, e2]
  refine ⟨?_, ?_, ?_⟩ <;> omega
theorem mem1_7 (i : S4x256x256.Idx) (h : (i 0).val < 1) : ∃ t : Fin cfg1.N, (cfg1.win 7).flush t = true ∧ i ∈ ((cfg1.win 7).blk t).view.set := by
  have h1 : (i 1).val < 256 := (i 1).isLt
  have h2 : (i 2).val < 256 := (i 2).isLt
  obtain ⟨t, ht⟩ : ∃ t : Fin 1, t.val = (i 1).val / 256 := ⟨⟨(i 1).val / 256, by omega⟩, rfl⟩
  have e0 : win1_7.index t 0 = 0 := congrFun (idx1_7 t) 0
  have e1 : win1_7.index t 1 = t.val := congrFun (idx1_7 t) 1
  have e2 : win1_7.index t 2 = 0 := congrFun (idx1_7 t) 2
  refine ⟨t, flush1_7 t, ?_⟩
  mem_blk
  rw [e0, e1, e2]
  refine ⟨?_, ?_, ?_⟩ <;> omega
/-- The second call finds in result 3 what the first call left. -/
theorem carried_7 : W2 m ρ c (Proc.devRef .tc main_v1_3) = (dat0 (V0 m ρ) c).arrAt 7 cfg0.N := by
  refine Eq.trans ?_ (W1_arr m ρ c 7)
  simp only [W2, hostOps1]
  entry_read
  rfl
/-- Result 3 after both calls. -/
theorem result_7 : (dat1 (V2 m ρ) c).arrAt 7 cfg1.N = squares (argG m c) (argV m c) := by
  funext i
  refine ((dat1 (V2 m ρ) c).arrAt_eq_piecewise 7 (squares (argG m c) (argV m c)) (flushed1_7 m ρ c) i).trans ?_
  split
  · rfl
  · rename_i h
    have h0 : 1 ≤ (i 0).val := by
      by_contra h2
      exact h (mem1_7 i (by omega))
    rw [A_eq1]
    refine (congrFun (carried_7 m ρ c) i).trans ?_
    refine ((dat0 (V0 m ρ) c).arrAt_eq_piecewise 7 (squares (argG m c) (argV m c)) (flushed0_7 m ρ c) i).trans ?_
    exact if_pos (mem0_7 i h0)

section Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
set_option backward.isDefEq.respectTransparency.types false in
/-- The run: the three results end with the step's, and the arguments as they were. -/
theorem run : θ_run defs (onTc (τ := τ) (main (F := Ideal))) ⟨m, fun _ => 0, ρ⟩ (fun r => ∀ c : Dev nD,
      r.2.mem ((c.tc : Thread nD τ).loc main_v1_1) = changes (argW m c) (argG m c) (argM m c) (argV m c)
      ∧ r.2.mem ((c.tc : Thread nD τ).loc main_v1_2) = means (argG m c) (argM m c)
      ∧ r.2.mem ((c.tc : Thread nD τ).loc main_v1_3) = squares (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v1_1 (by decide))).trans ((W3_arr m ρ c 5).trans (result_5 m ρ c)),
       (h c _ (mem_uc main_v1_2 (by decide))).trans ((W3_arr m ρ c 6).trans (result_6 m ρ c)),
       (h c _ (mem_uc main_v1_3 (by decide))).trans ((W3_arr m ρ c 7).trans (result_7 m ρ c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Run

end Cert.Adam18

end
-- ==== Proof.Adam18.Reference.lean ====
/- What the reference of the step on a weight of 256 rows and 256 columns computes, and the claims about both programs. -/
module

public import proofs.«01_k».proof.Defs
public import proofs.«01_k».proof.Proof.Gen.Reference18Ideal.Run
public import proofs.«01_k».proof.Proof.Adam18.Kernel
public import Idealize.ShloMosaic.Lib.Claim

@[expose] public section

set_option maxRecDepth 16384

noncomputable section

namespace Cert.Adam18

open Cert.Adam
open Idealize.ShloMosaic Idealize.ShloMosaic.TcCoe Idealize.SL.Sem

section Ref
open Cert.Reference18Ideal Cert.Reference18Ideal.Value Cert.Reference18Ideal.Gen Idealize.ShloMosaic.StableHlo

/-- The reference's new moments and its change of the weight. -/
theorem ref_mean (g p : A3 4 256 256) : (addf (F := Ideal) (φ := .f32) (mulf (F := Ideal) (φ := .f32) (broadcastInDim S4x256x256 ![] bcast_S_S4x256x256 (constant (F := Ideal) S_ .f32 0x3F666666#32)) p) (mulf (F := Ideal) (φ := .f32) (broadcastInDim S4x256x256 ![] bcast_S_S4x256x256 (constant (F := Ideal) S_ .f32 0x3DCCCCCD#32)) g) : A3 4 256 256) = means g p := by
  funext i
  idx_vars i
  unfold means mean
  pointwise
theorem ref_square (g v : A3 4 256 256) : (addf (F := Ideal) (φ := .f32) (mulf (F := Ideal) (φ := .f32) (broadcastInDim S4x256x256 ![] bcast_S_S4x256x256 (constant (F := Ideal) S_ .f32 0x3F7FBE77#32)) v) (mulf (F := Ideal) (φ := .f32) (broadcastInDim S4x256x256 ![] bcast_S_S4x256x256 (constant (F := Ideal) S_ .f32 0x3A83126F#32)) (mulf (F := Ideal) (φ := .f32) g g)) : A3 4 256 256) = squares g v := by
  funext i
  idx_vars i
  unfold squares square
  pointwise
theorem ref_change (w g p v : A3 4 256 256) : (mulf (F := Ideal) (φ := .f32) (broadcastInDim S4x256x256 ![] bcast_S_S4x256x256 (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim S4x256x256 ![] bcast_S_S4x256x256 (constant (F := Ideal) S_ .f32 0x3F666666#32)) p) (mulf (F := Ideal) (φ := .f32) (broadcastInDim S4x256x256 ![] bcast_S_S4x256x256 (constant (F := Ideal) S_ .f32 0x3DCCCCCD#32)) g)) (broadcastInDim S4x256x256 ![] bcast_S_S4x256x256 (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim S4x256x256 ![] bcast_S_S4x256x256 (constant (F := Ideal) S_ .f32 0x3F7FBE77#32)) v) (mulf (F := Ideal) (φ := .f32) (broadcastInDim S4x256x256 ![] bcast_S_S4x256x256 (constant (F := Ideal) S_ .f32 0x3A83126F#32)) (mulf (F := Ideal) (φ := .f32) g g))) (broadcastInDim S4x256x256 ![] bcast_S_S4x256x256 (constant (F := Ideal) S_ .f32 0x3C231ACC#32)))) (broadcastInDim S4x256x256 ![] bcast_S_S4x256x256 (constant (F := Ideal) S_ .f32 0x322BCC77#32)))) (mulf (F := Ideal) (φ := .f32) (broadcastInDim S4x256x256 ![] bcast_S_S4x256x256 (constant (F := Ideal) S_ .f32 0x3C23D70A#32)) w)) : A3 4 256 256) = changes w g p v := by
  funext i
  idx_vars i
  unfold changes change mean square
  pointwise

end Ref

/-- The reference ends with its arguments as they were, and it has no semaphores. -/
theorem frame_reference : Cert.quiescent_Reference18Ideal (hReference18Ideal := Cert.Reference18Ideal.Gen.facts) := fun m ρ _ =>
  (θ_run _ _ _).mono (fun r h => ⟨fun c => (h c).2.2.2, sem_eq_zero_of_no_sems (by decide) r.2⟩)
    (Cert.Reference18Ideal.Value.run (F := Ideal) m ρ)

/-- Equal results: the step's, of the arguments. -/
theorem algebraic : Cert.algebraic_Kernel18Ideal_Reference18Ideal (hKernel18Ideal := Cert.Kernel18Ideal.Gen.facts)
    (hReference18Ideal := Cert.Reference18Ideal.Gen.facts) := by
  intro m ρ m' ρ' _ hagree
  refine ⟨fun c => changes (argW m c) (argG m c) (argM m c) (argV m c), fun c => means (argG m c) (argM m c), fun c => squares (argG m c) (argV m c), ?_, ?_⟩
  · exact run m ρ
  · refine (θ_run _ _ _).mono (fun r h c => ⟨(h c).1.trans ?_, (h c).2.1.trans ?_, (h c).2.2.1.trans ?_, (h c).2.2.2⟩) (Cert.Reference18Ideal.Value.run (F := Ideal) m' ρ')
    all_goals obtain ⟨h0, h1, h2, h3⟩ := hagree c
    · refine (ref_change _ _ _ _).trans ?_
      rw [h0, h1, h2, h3]
    · exact (ref_mean _ _).trans (congrArg₂ means h1 h2)
    · exact (ref_square _ _).trans (congrArg₂ squares h1 h3)

end Cert.Adam18

end
-- ==== Proof.Adam19.Pack.lean ====
/- Eighteen small arrays packed into one: each cut into rows of 128 elements, the rows stacked and filled up with a
   constant. A function applied to every element is the same before the packing and after it. -/
module

public import proofs.«01_k».proof.Proof.Gen.Kernel19Ideal.Launch
public import proofs.«01_k».proof.Proof.Adam.Spec
public import Idealize.ShloMosaic.Lib.KernelVsHost
public import Idealize.ShloMosaic.Lib.Pipeline.ValueKit

@[expose] public section

set_option maxRecDepth 16384

noncomputable section

namespace Cert.Adam19

open Cert.Adam
open Cert.Kernel19Ideal Cert.Kernel19Ideal.Gen Idealize.ShloMosaic

/-- Stacked pieces read at a position: a function of every element may be applied after the reading. -/
theorem concatenateAt_map {α β : Type} (φ : α → β) (t : Shape) (a : Fin t.rank) (j : t.Idx) :
    ∀ (xs : List ((s : Shape) × (s.Idx → α))) (h : ∀ s ∈ xs.map (·.1), s.FitsOff t a)
      (h' : ∀ s ∈ (xs.map fun p => (⟨p.1, fun i => φ (p.2 i)⟩ : (s : Shape) × (s.Idx → β))).map (·.1), s.FitsOff t a)
      (c : ℕ) (hc : c < (axisSizes t a xs).sum)
      (hc' : c < (axisSizes t a (xs.map fun p => (⟨p.1, fun i => φ (p.2 i)⟩ : (s : Shape) × (s.Idx → β)))).sum),
      concatenateAt t a j (xs.map fun p => (⟨p.1, fun i => φ (p.2 i)⟩ : (s : Shape) × (s.Idx → β))) h' c hc'
        = φ (concatenateAt t a j xs h c hc)
  | [], _, _, _, hc, _ => absurd hc (Nat.not_lt_zero _)
  | [p], h, h', c, hc, hc' => by
    simp only [List.map_cons, List.map_nil]
    rw [concatenateAt, concatenateAt]
  | p :: q :: xs, h, h', c, hc, hc' => by
    simp only [List.map_cons]
    rw [concatenateAt, concatenateAt]
    split
    · rfl
    · exact concatenateAt_map φ t a j (q :: xs) _ _ _ _ _

/-- A function of every element commutes with the stacking of pieces. -/
theorem concatenate_map {α β : Type} (φ : α → β) (t : Shape) (a : Fin t.rank) (xs : List ((s : Shape) × (s.Idx → α)))
    (h : Shape.Concatenates (xs.map (·.1)) t a)
    (h' : Shape.Concatenates ((xs.map fun p => (⟨p.1, fun i => φ (p.2 i)⟩ : (s : Shape) × (s.Idx → β))).map (·.1)) t a) (j : t.Idx) :
    concatenate t a (xs.map fun p => (⟨p.1, fun i => φ (p.2 i)⟩ : (s : Shape) × (s.Idx → β))) h' j
      = φ (concatenate t a xs h j) := by
  rw [concatenate_apply, concatenate_apply]
  exact concatenateAt_map φ t a j xs _ _ _ _ _

/-- A function of every element commutes with filling up. -/
theorem pad_map {α β : Type} (φ : α → β) {s : Shape} (t : Shape) (lo hi interior : Fin s.rank → ℕ) (x : s.Idx → α) {u : Shape}
    (v : u.Idx → α) (h : s.Pads lo hi interior t) (hu : 0 < u.numel) (j : t.Idx) :
    pad t lo hi interior (fun i => φ (x i)) (fun i => φ (v i)) h hu j = φ (pad t lo hi interior x v h hu j) := by
  unfold pad
  split <;> rfl

/-- The first sixteen arrays' rows, stacked. -/
def stack16 {α : Type} (x0 : S32x128.Idx → α) (x1 : S32x128.Idx → α) (x2 : S32x128.Idx → α) (x3 : S2048x128.Idx → α) (x4 : S16x128.Idx → α) (x5 : S16x128.Idx → α) (x6 : S16x128.Idx → α) (x7 : S2048x128.Idx → α) (x8 : S16x128.Idx → α) (x9 : S16x128.Idx → α) (x10 : S16x128.Idx → α) (x11 : S16x128.Idx → α) (x12 : S32x128.Idx → α) (x13 : S32x128.Idx → α) (x14 : S32x128.Idx → α) (x15 : S32x128.Idx → α) : S4432x128.Idx → α :=
  concatenate S4432x128 0 [⟨S32x128, x0⟩, ⟨S32x128, x1⟩, ⟨S32x128, x2⟩, ⟨S2048x128, x3⟩, ⟨S16x128, x4⟩, ⟨S16x128, x5⟩, ⟨S16x128, x6⟩, ⟨S2048x128, x7⟩, ⟨S16x128, x8⟩, ⟨S16x128, x9⟩, ⟨S16x128, x10⟩, ⟨S16x128, x11⟩, ⟨S32x128, x12⟩, ⟨S32x128, x13⟩, ⟨S32x128, x14⟩, ⟨S32x128, x15⟩] concatenates_S32x128_S32x128_S32x128_S2048x128_S16x128_S16x128_S16x128_S2048x128_S16x128_S16x128_S16x128_S16x128_S32x128_S32x128_S32x128_S32x128_S4432x128_d0

/-- The last two arrays' rows, stacked. -/
def stack2 {α : Type} (x : S32x128.Idx → α) (y : S124x128.Idx → α) : S156x128.Idx → α :=
  concatenate S156x128 0 [⟨S32x128, x⟩, ⟨S124x128, y⟩] concatenates_S32x128_S124x128_S156x128_d0

/-- All rows, stacked. -/
def stack {α : Type} (x : S4432x128.Idx → α) (y : S156x128.Idx → α) : S4588x128.Idx → α :=
  concatenate S4588x128 0 [⟨S4432x128, x⟩, ⟨S156x128, y⟩] concatenates_S4432x128_S156x128_S4588x128_d0

/-- The rows of all eighteen arrays. -/
def rows {α : Type} (x0 : S4x1024.Idx → α) (x1 : S4x1024.Idx → α) (x2 : S4x1024.Idx → α) (x3 : S4x4x128x128.Idx → α) (x4 : S4x512.Idx → α) (x5 : S4x512.Idx → α) (x6 : S4x512.Idx → α) (x7 : S4x4x128x128.Idx → α) (x8 : S4x4x128.Idx → α) (x9 : S4x512.Idx → α) (x10 : S4x512.Idx → α) (x11 : S4x512.Idx → α) (x12 : S4x1024.Idx → α) (x13 : S4x1024.Idx → α) (x14 : S4x1024.Idx → α) (x15 : S4x1024.Idx → α) (x16 : S4x1024.Idx → α) (x17 : S4x31x1x128.Idx → α) : S4588x128.Idx → α :=
  stack (stack16 (shapeCast S32x128 x0 shapeCasts_S4x1024_S32x128) (shapeCast S32x128 x1 shapeCasts_S4x1024_S32x128) (shapeCast S32x128 x2 shapeCasts_S4x1024_S32x128) (shapeCast S2048x128 x3 shapeCasts_S4x4x128x128_S2048x128) (shapeCast S16x128 x4 shapeCasts_S4x512_S16x128) (shapeCast S16x128 x5 shapeCasts_S4x512_S16x128) (shapeCast S16x128 x6 shapeCasts_S4x512_S16x128) (shapeCast S2048x128 x7 shapeCasts_S4x4x128x128_S2048x128) (shapeCast S16x128 x8 shapeCasts_S4x4x128_S16x128) (shapeCast S16x128 x9 shapeCasts_S4x512_S16x128) (shapeCast S16x128 x10 shapeCasts_S4x512_S16x128) (shapeCast S16x128 x11 shapeCasts_S4x512_S16x128) (shapeCast S32x128 x12 shapeCasts_S4x1024_S32x128) (shapeCast S32x128 x13 shapeCasts_S4x1024_S32x128) (shapeCast S32x128 x14 shapeCasts_S4x1024_S32x128) (shapeCast S32x128 x15 shapeCasts_S4x1024_S32x128))
    (stack2 (shapeCast S32x128 x16 shapeCasts_S4x1024_S32x128) (shapeCast S124x128 x17 shapeCasts_S4x31x1x128_S124x128))

/-- The rows filled up with a constant. -/
def filled {α : Type} (z : S_.Idx → α) (x : S4588x128.Idx → α) : S4608x128.Idx → α :=
  pad S4608x128 ![0, 0] ![20, 0] ![0, 0] x z pads_S4588x128_S4608x128_0200_000 h_S_

/-- The packed array: the rows, filled up, as one leading block. -/
def block {α : Type} (x : S4608x128.Idx → α) : S1x4608x128.Idx → α :=
  broadcastInDim S1x4608x128 ![1, 2] bcast_S4608x128_S1x4608x128_1_2 x

theorem stack16_map {α β : Type} (φ : α → β) (x0 : S32x128.Idx → α) (x1 : S32x128.Idx → α) (x2 : S32x128.Idx → α) (x3 : S2048x128.Idx → α) (x4 : S16x128.Idx → α) (x5 : S16x128.Idx → α) (x6 : S16x128.Idx → α) (x7 : S2048x128.Idx → α) (x8 : S16x128.Idx → α) (x9 : S16x128.Idx → α) (x10 : S16x128.Idx → α) (x11 : S16x128.Idx → α) (x12 : S32x128.Idx → α) (x13 : S32x128.Idx → α) (x14 : S32x128.Idx → α) (x15 : S32x128.Idx → α) :
    stack16 (fun i => φ (x0 i)) (fun i => φ (x1 i)) (fun i => φ (x2 i)) (fun i => φ (x3 i)) (fun i => φ (x4 i)) (fun i => φ (x5 i)) (fun i => φ (x6 i)) (fun i => φ (x7 i)) (fun i => φ (x8 i)) (fun i => φ (x9 i)) (fun i => φ (x10 i)) (fun i => φ (x11 i)) (fun i => φ (x12 i)) (fun i => φ (x13 i)) (fun i => φ (x14 i)) (fun i => φ (x15 i)) = fun j => φ (stack16 x0 x1 x2 x3 x4 x5 x6 x7 x8 x9 x10 x11 x12 x13 x14 x15 j) :=
  funext fun j => concatenate_map φ S4432x128 0 [⟨S32x128, x0⟩, ⟨S32x128, x1⟩, ⟨S32x128, x2⟩, ⟨S2048x128, x3⟩, ⟨S16x128, x4⟩, ⟨S16x128, x5⟩, ⟨S16x128, x6⟩, ⟨S2048x128, x7⟩, ⟨S16x128, x8⟩, ⟨S16x128, x9⟩, ⟨S16x128, x10⟩, ⟨S16x128, x11⟩, ⟨S32x128, x12⟩, ⟨S32x128, x13⟩, ⟨S32x128, x14⟩, ⟨S32x128, x15⟩] _ _ j

theorem stack2_map {α β : Type} (φ : α → β) (x : S32x128.Idx → α) (y : S124x128.Idx → α) :
    stack2 (fun i => φ (x i)) (fun i => φ (y i)) = fun j => φ (stack2 x y j) :=
  funext fun j => concatenate_map φ S156x128 0 [⟨S32x128, x⟩, ⟨S124x128, y⟩] _ _ j

theorem stack_map {α β : Type} (φ : α → β) (x : S4432x128.Idx → α) (y : S156x128.Idx → α) :
    stack (fun i => φ (x i)) (fun i => φ (y i)) = fun j => φ (stack x y j) :=
  funext fun j => concatenate_map φ S4588x128 0 [⟨S4432x128, x⟩, ⟨S156x128, y⟩] _ _ j

/-- A function of every element commutes with stacking all rows. -/
theorem rows_map {α β : Type} (φ : α → β) (x0 : S4x1024.Idx → α) (x1 : S4x1024.Idx → α) (x2 : S4x1024.Idx → α) (x3 : S4x4x128x128.Idx → α) (x4 : S4x512.Idx → α) (x5 : S4x512.Idx → α) (x6 : S4x512.Idx → α) (x7 : S4x4x128x128.Idx → α) (x8 : S4x4x128.Idx → α) (x9 : S4x512.Idx → α) (x10 : S4x512.Idx → α) (x11 : S4x512.Idx → α) (x12 : S4x1024.Idx → α) (x13 : S4x1024.Idx → α) (x14 : S4x1024.Idx → α) (x15 : S4x1024.Idx → α) (x16 : S4x1024.Idx → α) (x17 : S4x31x1x128.Idx → α) :
    rows (fun i => φ (x0 i)) (fun i => φ (x1 i)) (fun i => φ (x2 i)) (fun i => φ (x3 i)) (fun i => φ (x4 i)) (fun i => φ (x5 i)) (fun i => φ (x6 i)) (fun i => φ (x7 i)) (fun i => φ (x8 i)) (fun i => φ (x9 i)) (fun i => φ (x10 i)) (fun i => φ (x11 i)) (fun i => φ (x12 i)) (fun i => φ (x13 i)) (fun i => φ (x14 i)) (fun i => φ (x15 i)) (fun i => φ (x16 i)) (fun i => φ (x17 i)) = fun j => φ (rows x0 x1 x2 x3 x4 x5 x6 x7 x8 x9 x10 x11 x12 x13 x14 x15 x16 x17 j) := by
  refine Eq.trans ?_ (stack_map φ _ _)
  exact congrArg₂ stack (stack16_map φ (shapeCast S32x128 x0 shapeCasts_S4x1024_S32x128) (shapeCast S32x128 x1 shapeCasts_S4x1024_S32x128) (shapeCast S32x128 x2 shapeCasts_S4x1024_S32x128) (shapeCast S2048x128 x3 shapeCasts_S4x4x128x128_S2048x128) (shapeCast S16x128 x4 shapeCasts_S4x512_S16x128) (shapeCast S16x128 x5 shapeCasts_S4x512_S16x128) (shapeCast S16x128 x6 shapeCasts_S4x512_S16x128) (shapeCast S2048x128 x7 shapeCasts_S4x4x128x128_S2048x128) (shapeCast S16x128 x8 shapeCasts_S4x4x128_S16x128) (shapeCast S16x128 x9 shapeCasts_S4x512_S16x128) (shapeCast S16x128 x10 shapeCasts_S4x512_S16x128) (shapeCast S16x128 x11 shapeCasts_S4x512_S16x128) (shapeCast S32x128 x12 shapeCasts_S4x1024_S32x128) (shapeCast S32x128 x13 shapeCasts_S4x1024_S32x128) (shapeCast S32x128 x14 shapeCasts_S4x1024_S32x128) (shapeCast S32x128 x15 shapeCasts_S4x1024_S32x128)) (stack2_map φ (shapeCast S32x128 x16 shapeCasts_S4x1024_S32x128) (shapeCast S124x128 x17 shapeCasts_S4x31x1x128_S124x128))

theorem filled_map {α β : Type} (φ : α → β) (z : S_.Idx → α) (x : S4588x128.Idx → α) :
    filled (fun i => φ (z i)) (fun i => φ (x i)) = fun j => φ (filled z x j) := by
  unfold filled
  exact funext fun j => pad_map φ S4608x128 ![0, 0] ![20, 0] ![0, 0] x z _ _ j

/-- A function of every element commutes with the packing, if it is applied to the constant too. -/
theorem packed_map {α β : Type} (φ : α → β) (z : S_.Idx → α) (x0 : S4x1024.Idx → α) (x1 : S4x1024.Idx → α) (x2 : S4x1024.Idx → α) (x3 : S4x4x128x128.Idx → α) (x4 : S4x512.Idx → α) (x5 : S4x512.Idx → α) (x6 : S4x512.Idx → α) (x7 : S4x4x128x128.Idx → α) (x8 : S4x4x128.Idx → α) (x9 : S4x512.Idx → α) (x10 : S4x512.Idx → α) (x11 : S4x512.Idx → α) (x12 : S4x1024.Idx → α) (x13 : S4x1024.Idx → α) (x14 : S4x1024.Idx → α) (x15 : S4x1024.Idx → α) (x16 : S4x1024.Idx → α) (x17 : S4x31x1x128.Idx → α) :
    block (filled (fun i => φ (z i)) (rows (fun i => φ (x0 i)) (fun i => φ (x1 i)) (fun i => φ (x2 i)) (fun i => φ (x3 i)) (fun i => φ (x4 i)) (fun i => φ (x5 i)) (fun i => φ (x6 i)) (fun i => φ (x7 i)) (fun i => φ (x8 i)) (fun i => φ (x9 i)) (fun i => φ (x10 i)) (fun i => φ (x11 i)) (fun i => φ (x12 i)) (fun i => φ (x13 i)) (fun i => φ (x14 i)) (fun i => φ (x15 i)) (fun i => φ (x16 i)) (fun i => φ (x17 i))))
      = fun j => φ (block (filled z (rows x0 x1 x2 x3 x4 x5 x6 x7 x8 x9 x10 x11 x12 x13 x14 x15 x16 x17)) j) := by
  rw [rows_map]
  exact congrArg block (filled_map φ z (rows x0 x1 x2 x3 x4 x5 x6 x7 x8 x9 x10 x11 x12 x13 x14 x15 x16 x17))

/-- The packed arrays of reals the two programs work with: filled up with zeros. -/
def packed (x0 : S4x1024.Idx → EReal) (x1 : S4x1024.Idx → EReal) (x2 : S4x1024.Idx → EReal) (x3 : S4x4x128x128.Idx → EReal) (x4 : S4x512.Idx → EReal) (x5 : S4x512.Idx → EReal) (x6 : S4x512.Idx → EReal) (x7 : S4x4x128x128.Idx → EReal) (x8 : S4x4x128.Idx → EReal) (x9 : S4x512.Idx → EReal) (x10 : S4x512.Idx → EReal) (x11 : S4x512.Idx → EReal) (x12 : S4x1024.Idx → EReal) (x13 : S4x1024.Idx → EReal) (x14 : S4x1024.Idx → EReal) (x15 : S4x1024.Idx → EReal) (x16 : S4x1024.Idx → EReal) (x17 : S4x31x1x128.Idx → EReal) : S1x4608x128.Idx → EReal :=
  block (filled (sitofp (F := Ideal) .f32 (constantI S_ 32 0#32)) (rows x0 x1 x2 x3 x4 x5 x6 x7 x8 x9 x10 x11 x12 x13 x14 x15 x16 x17))

/-- The packing of a function of four arrays' elements is the function of the four packings, if it is zero at zeros. -/
theorem packed_step (f : EReal → EReal → EReal → EReal → EReal) (hf : f 0 0 0 0 = 0)
    (w0 : S4x1024.Idx → EReal) (w1 : S4x1024.Idx → EReal) (w2 : S4x1024.Idx → EReal) (w3 : S4x4x128x128.Idx → EReal) (w4 : S4x512.Idx → EReal) (w5 : S4x512.Idx → EReal) (w6 : S4x512.Idx → EReal) (w7 : S4x4x128x128.Idx → EReal) (w8 : S4x4x128.Idx → EReal) (w9 : S4x512.Idx → EReal) (w10 : S4x512.Idx → EReal) (w11 : S4x512.Idx → EReal) (w12 : S4x1024.Idx → EReal) (w13 : S4x1024.Idx → EReal) (w14 : S4x1024.Idx → EReal) (w15 : S4x1024.Idx → EReal) (w16 : S4x1024.Idx → EReal) (w17 : S4x31x1x128.Idx → EReal)
    (g0 : S4x1024.Idx → EReal) (g1 : S4x1024.Idx → EReal) (g2 : S4x1024.Idx → EReal) (g3 : S4x4x128x128.Idx → EReal) (g4 : S4x512.Idx → EReal) (g5 : S4x512.Idx → EReal) (g6 : S4x512.Idx → EReal) (g7 : S4x4x128x128.Idx → EReal) (g8 : S4x4x128.Idx → EReal) (g9 : S4x512.Idx → EReal) (g10 : S4x512.Idx → EReal) (g11 : S4x512.Idx → EReal) (g12 : S4x1024.Idx → EReal) (g13 : S4x1024.Idx → EReal) (g14 : S4x1024.Idx → EReal) (g15 : S4x1024.Idx → EReal) (g16 : S4x1024.Idx → EReal) (g17 : S4x31x1x128.Idx → EReal)
    (m0 : S4x1024.Idx → EReal) (m1 : S4x1024.Idx → EReal) (m2 : S4x1024.Idx → EReal) (m3 : S4x4x128x128.Idx → EReal) (m4 : S4x512.Idx → EReal) (m5 : S4x512.Idx → EReal) (m6 : S4x512.Idx → EReal) (m7 : S4x4x128x128.Idx → EReal) (m8 : S4x4x128.Idx → EReal) (m9 : S4x512.Idx → EReal) (m10 : S4x512.Idx → EReal) (m11 : S4x512.Idx → EReal) (m12 : S4x1024.Idx → EReal) (m13 : S4x1024.Idx → EReal) (m14 : S4x1024.Idx → EReal) (m15 : S4x1024.Idx → EReal) (m16 : S4x1024.Idx → EReal) (m17 : S4x31x1x128.Idx → EReal)
    (v0 : S4x1024.Idx → EReal) (v1 : S4x1024.Idx → EReal) (v2 : S4x1024.Idx → EReal) (v3 : S4x4x128x128.Idx → EReal) (v4 : S4x512.Idx → EReal) (v5 : S4x512.Idx → EReal) (v6 : S4x512.Idx → EReal) (v7 : S4x4x128x128.Idx → EReal) (v8 : S4x4x128.Idx → EReal) (v9 : S4x512.Idx → EReal) (v10 : S4x512.Idx → EReal) (v11 : S4x512.Idx → EReal) (v12 : S4x1024.Idx → EReal) (v13 : S4x1024.Idx → EReal) (v14 : S4x1024.Idx → EReal) (v15 : S4x1024.Idx → EReal) (v16 : S4x1024.Idx → EReal) (v17 : S4x31x1x128.Idx → EReal) :
    packed (fun i => f (w0 i) (g0 i) (m0 i) (v0 i)) (fun i => f (w1 i) (g1 i) (m1 i) (v1 i)) (fun i => f (w2 i) (g2 i) (m2 i) (v2 i)) (fun i => f (w3 i) (g3 i) (m3 i) (v3 i)) (fun i => f (w4 i) (g4 i) (m4 i) (v4 i)) (fun i => f (w5 i) (g5 i) (m5 i) (v5 i)) (fun i => f (w6 i) (g6 i) (m6 i) (v6 i)) (fun i => f (w7 i) (g7 i) (m7 i) (v7 i)) (fun i => f (w8 i) (g8 i) (m8 i) (v8 i)) (fun i => f (w9 i) (g9 i) (m9 i) (v9 i)) (fun i => f (w10 i) (g10 i) (m10 i) (v10 i)) (fun i => f (w11 i) (g11 i) (m11 i) (v11 i)) (fun i => f (w12 i) (g12 i) (m12 i) (v12 i)) (fun i => f (w13 i) (g13 i) (m13 i) (v13 i)) (fun i => f (w14 i) (g14 i) (m14 i) (v14 i)) (fun i => f (w15 i) (g15 i) (m15 i) (v15 i)) (fun i => f (w16 i) (g16 i) (m16 i) (v16 i)) (fun i => f (w17 i) (g17 i) (m17 i) (v17 i))
      = fun j => f (packed w0 w1 w2 w3 w4 w5 w6 w7 w8 w9 w10 w11 w12 w13 w14 w15 w16 w17 j) (packed g0 g1 g2 g3 g4 g5 g6 g7 g8 g9 g10 g11 g12 g13 g14 g15 g16 g17 j) (packed m0 m1 m2 m3 m4 m5 m6 m7 m8 m9 m10 m11 m12 m13 m14 m15 m16 m17 j) (packed v0 v1 v2 v3 v4 v5 v6 v7 v8 v9 v10 v11 v12 v13 v14 v15 v16 v17 j) := by
  have hz : (sitofp (F := Ideal) .f32 (constantI S_ 32 0#32) : S_.Idx → EReal) = fun _ => 0 := by
    funext i
    show (((0#32 : BitVec 32).toInt : ℝ) : EReal) = 0
    simp
  unfold packed
  rw [hz]
  funext j
  have e := fun φ : EReal × EReal × EReal × EReal → EReal => congrFun (packed_map φ (fun _ => (0, 0, 0, 0)) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i)) (fun i => (w12 i, g12 i, m12 i, v12 i)) (fun i => (w13 i, g13 i, m13 i, v13 i)) (fun i => (w14 i, g14 i, m14 i, v14 i)) (fun i => (w15 i, g15 i, m15 i, v15 i)) (fun i => (w16 i, g16 i, m16 i, v16 i)) (fun i => (w17 i, g17 i, m17 i, v17 i))) j
  have e0 := e fun q => f q.1 q.2.1 q.2.2.1 q.2.2.2
  have e1 := e fun q => q.1
  have e2 := e fun q => q.2.1
  have e3 := e fun q => q.2.2.1
  have e4 := e fun q => q.2.2.2
  dsimp only at e0 e1 e2 e3 e4
  rw [hf] at e0
  rw [e0, e1, e2, e3, e4]

/-- The step leaves zeros zero. -/
theorem mean_zero : mean 0 0 = 0 := by unfold mean; simp
theorem square_zero : square 0 0 = 0 := by unfold square; simp
theorem ne_zero_1 : Ideal.ofBits FTy.f32 0x3F26BD02#32 ≠ 0 := by
  simp [Ideal.ofBits, Ideal.ieee, -EReal.coe_mul]
theorem ne_zero_2 : Ideal.ofBits FTy.f32 0x3C231ACC#32 ≠ 0 := by
  simp [Ideal.ofBits, Ideal.ieee, -EReal.coe_mul]
theorem ne_zero_3 : Ideal.ofBits FTy.f32 0x322BCC77#32 ≠ 0 := by
  simp [Ideal.ofBits, Ideal.ieee, -EReal.coe_mul]
theorem zero_div {y : EReal} (hy : y ≠ 0) : Ideal.div 0 y = 0 := by
  unfold Ideal.div; rw [if_neg hy, zero_mul]
theorem sqrt_zero : Ideal.sqrt 0 = 0 := by
  show (if (0 : ℝ) < 0 then ⊥ else ((Real.sqrt 0 : ℝ) : EReal)) = 0
  simp
theorem change_zero : change 0 0 0 0 = 0 := by
  unfold change
  rw [mean_zero, square_zero, zero_div ne_zero_1, zero_div ne_zero_2, sqrt_zero, zero_add, zero_div ne_zero_3, mul_zero, add_zero,
    mul_zero]

end Cert.Adam19

end
-- ==== Proof.Adam19.Host.lean ====
/- What the host code hands the call: four packed arrays, of the weights, their gradients and their two moments. -/
module

public import proofs.«01_k».proof.Proof.Gen.Kernel19Ideal.Frame
public import proofs.«01_k».proof.Proof.Adam19.Pack
public import Idealize.ShloMosaic.Lib.StableHlo.Run

@[expose] public section

set_option maxRecDepth 16384

noncomputable section

namespace Cert.Adam19

open Cert.Adam
open Cert.Kernel19Ideal Cert.Kernel19Ideal.Gen Idealize.ShloMosaic Idealize.ShloMosaic.TcCoe Idealize.SL.Sem Idealize.ShloMosaic.StableHlo

/-- The host operations before packing 1 is filled up, with the stacking by its name. -/
def seg0 : List (HloOp τ sig (Elt Ideal)) :=
  [ StableHlo.reshape main_arg0 main_v0 (rfl : (.f32 : EltTy) = .f32) shapeCasts_S4x1024_S32x128,
    StableHlo.reshape main_arg1 main_v1 (rfl : (.f32 : EltTy) = .f32) shapeCasts_S4x1024_S32x128,
    StableHlo.reshape main_arg2 main_v2 (rfl : (.f32 : EltTy) = .f32) shapeCasts_S4x1024_S32x128,
    StableHlo.reshape main_arg3 main_v3 (rfl : (.f32 : EltTy) = .f32) shapeCasts_S4x4x128x128_S2048x128,
    StableHlo.reshape main_arg4 main_v4 (rfl : (.f32 : EltTy) = .f32) shapeCasts_S4x512_S16x128,
    StableHlo.reshape main_arg5 main_v5 (rfl : (.f32 : EltTy) = .f32) shapeCasts_S4x512_S16x128,
    StableHlo.reshape main_arg6 main_v6 (rfl : (.f32 : EltTy) = .f32) shapeCasts_S4x512_S16x128,
    StableHlo.reshape main_arg7 main_v7 (rfl : (.f32 : EltTy) = .f32) shapeCasts_S4x4x128x128_S2048x128,
    StableHlo.reshape main_arg8 main_v8 (rfl : (.f32 : EltTy) = .f32) shapeCasts_S4x4x128_S16x128,
    StableHlo.reshape main_arg9 main_v9 (rfl : (.f32 : EltTy) = .f32) shapeCasts_S4x512_S16x128,
    StableHlo.reshape main_arg10 main_v10 (rfl : (.f32 : EltTy) = .f32) shapeCasts_S4x512_S16x128,
    StableHlo.reshape main_arg11 main_v11 (rfl : (.f32 : EltTy) = .f32) shapeCasts_S4x512_S16x128,
    StableHlo.reshape main_arg12 main_v12 (rfl : (.f32 : EltTy) = .f32) shapeCasts_S4x1024_S32x128,
    StableHlo.reshape main_arg13 main_v13 (rfl : (.f32 : EltTy) = .f32) shapeCasts_S4x1024_S32x128,
    StableHlo.reshape main_arg14 main_v14 (rfl : (.f32 : EltTy) = .f32) shapeCasts_S4x1024_S32x128,
    StableHlo.reshape main_arg15 main_v15 (rfl : (.f32 : EltTy) = .f32) shapeCasts_S4x1024_S32x128,
    StableHlo.reshape main_arg16 main_v16 (rfl : (.f32 : EltTy) = .f32) shapeCasts_S4x1024_S32x128,
    StableHlo.reshape main_arg17 main_v17 (rfl : (.f32 : EltTy) = .f32) shapeCasts_S4x31x1x128_S124x128,
    StableHlo.nary ![main_v0, main_v1, main_v2, main_v3, main_v4, main_v5, main_v6, main_v7, main_v8, main_v9, main_v10, main_v11, main_v12, main_v13, main_v14, main_v15] main_v18 (fun u => (stack16 (u 0 : (⟨S32x128, .f32⟩ : BufTy).Contents (Elt Ideal)) (u 1 : (⟨S32x128, .f32⟩ : BufTy).Contents (Elt Ideal)) (u 2 : (⟨S32x128, .f32⟩ : BufTy).Contents (Elt Ideal)) (u 3 : (⟨S2048x128, .f32⟩ : BufTy).Contents (Elt Ideal)) (u 4 : (⟨S16x128, .f32⟩ : BufTy).Contents (Elt Ideal)) (u 5 : (⟨S16x128, .f32⟩ : BufTy).Contents (Elt Ideal)) (u 6 : (⟨S16x128, .f32⟩ : BufTy).Contents (Elt Ideal)) (u 7 : (⟨S2048x128, .f32⟩ : BufTy).Contents (Elt Ideal)) (u 8 : (⟨S16x128, .f32⟩ : BufTy).Contents (Elt Ideal)) (u 9 : (⟨S16x128, .f32⟩ : BufTy).Contents (Elt Ideal)) (u 10 : (⟨S16x128, .f32⟩ : BufTy).Contents (Elt Ideal)) (u 11 : (⟨S16x128, .f32⟩ : BufTy).Contents (Elt Ideal)) (u 12 : (⟨S32x128, .f32⟩ : BufTy).Contents (Elt Ideal)) (u 13 : (⟨S32x128, .f32⟩ : BufTy).Contents (Elt Ideal)) (u 14 : (⟨S32x128, .f32⟩ : BufTy).Contents (Elt Ideal)) (u 15 : (⟨S32x128, .f32⟩ : BufTy).Contents (Elt Ideal)) : (⟨S4432x128, .f32⟩ : BufTy).Contents (Elt Ideal))),
    StableHlo.binary main_v16 main_v17 main_v19 (stack2 : (⟨S32x128, .f32⟩ : BufTy).Contents (Elt Ideal) → (⟨S124x128, .f32⟩ : BufTy).Contents (Elt Ideal) → (⟨S156x128, .f32⟩ : BufTy).Contents (Elt Ideal)),
    StableHlo.binary main_v18 main_v19 main_v20 (stack : (⟨S4432x128, .f32⟩ : BufTy).Contents (Elt Ideal) → (⟨S156x128, .f32⟩ : BufTy).Contents (Elt Ideal) → (⟨S4588x128, .f32⟩ : BufTy).Contents (Elt Ideal)),
    StableHlo.nullary main_c (constantI S_ 32 0#32) ]
theorem seg0_eq : (hostOps0 : List (HloOp τ sig (Elt Ideal))) = seg0 := rfl

/-- The host operations before packing 2 is filled up, with the stacking by its name. -/
def seg1 : List (HloOp τ sig (Elt Ideal)) :=
  [ StableHlo.unary main_v21 main_v22 (broadcastInDim S1x4608x128 ![1, 2] bcast_S4608x128_S1x4608x128_1_2 : (⟨S4608x128, .f32⟩ : BufTy).Contents (Elt Ideal) → (⟨S1x4608x128, .f32⟩ : BufTy).Contents (Elt Ideal)),
    StableHlo.reshape main_arg18 main_v23 (rfl : (.f32 : EltTy) = .f32) shapeCasts_S4x1024_S32x128,
    StableHlo.reshape main_arg19 main_v24 (rfl : (.f32 : EltTy) = .f32) shapeCasts_S4x1024_S32x128,
    StableHlo.reshape main_arg20 main_v25 (rfl : (.f32 : EltTy) = .f32) shapeCasts_S4x1024_S32x128,
    StableHlo.reshape main_arg21 main_v26 (rfl : (.f32 : EltTy) = .f32) shapeCasts_S4x4x128x128_S2048x128,
    StableHlo.reshape main_arg22 main_v27 (rfl : (.f32 : EltTy) = .f32) shapeCasts_S4x512_S16x128,
    StableHlo.reshape main_arg23 main_v28 (rfl : (.f32 : EltTy) = .f32) shapeCasts_S4x512_S16x128,
    StableHlo.reshape main_arg24 main_v29 (rfl : (.f32 : EltTy) = .f32) shapeCasts_S4x512_S16x128,
    StableHlo.reshape main_arg25 main_v30 (rfl : (.f32 : EltTy) = .f32) shapeCasts_S4x4x128x128_S2048x128,
    StableHlo.reshape main_arg26 main_v31 (rfl : (.f32 : EltTy) = .f32) shapeCasts_S4x4x128_S16x128,
    StableHlo.reshape main_arg27 main_v32 (rfl : (.f32 : EltTy) = .f32) shapeCasts_S4x512_S16x128,
    StableHlo.reshape main_arg28 main_v33 (rfl : (.f32 : EltTy) = .f32) shapeCasts_S4x512_S16x128,
    StableHlo.reshape main_arg29 main_v34 (rfl : (.f32 : EltTy) = .f32) shapeCasts_S4x512_S16x128,
    StableHlo.reshape main_arg30 main_v35 (rfl : (.f32 : EltTy) = .f32) shapeCasts_S4x1024_S32x128,
    StableHlo.reshape main_arg31 main_v36 (rfl : (.f32 : EltTy) = .f32) shapeCasts_S4x1024_S32x128,
    StableHlo.reshape main_arg32 main_v37 (rfl : (.f32 : EltTy) = .f32) shapeCasts_S4x1024_S32x128,
    StableHlo.reshape main_arg33 main_v38 (rfl : (.f32 : EltTy) = .f32) shapeCasts_S4x1024_S32x128,
    StableHlo.reshape main_arg34 main_v39 (rfl : (.f32 : EltTy) = .f32) shapeCasts_S4x1024_S32x128,
    StableHlo.reshape main_arg35 main_v40 (rfl : (.f32 : EltTy) = .f32) shapeCasts_S4x31x1x128_S124x128,
    StableHlo.nary ![main_v23, main_v24, main_v25, main_v26, main_v27, main_v28, main_v29, main_v30, main_v31, main_v32, main_v33, main_v34, main_v35, main_v36, main_v37, main_v38] main_v41 (fun u => (stack16 (u 0 : (⟨S32x128, .f32⟩ : BufTy).Contents (Elt Ideal)) (u 1 : (⟨S32x128, .f32⟩ : BufTy).Contents (Elt Ideal)) (u 2 : (⟨S32x128, .f32⟩ : BufTy).Contents (Elt Ideal)) (u 3 : (⟨S2048x128, .f32⟩ : BufTy).Contents (Elt Ideal)) (u 4 : (⟨S16x128, .f32⟩ : BufTy).Contents (Elt Ideal)) (u 5 : (⟨S16x128, .f32⟩ : BufTy).Contents (Elt Ideal)) (u 6 : (⟨S16x128, .f32⟩ : BufTy).Contents (Elt Ideal)) (u 7 : (⟨S2048x128, .f32⟩ : BufTy).Contents (Elt Ideal)) (u 8 : (⟨S16x128, .f32⟩ : BufTy).Contents (Elt Ideal)) (u 9 : (⟨S16x128, .f32⟩ : BufTy).Contents (Elt Ideal)) (u 10 : (⟨S16x128, .f32⟩ : BufTy).Contents (Elt Ideal)) (u 11 : (⟨S16x128, .f32⟩ : BufTy).Contents (Elt Ideal)) (u 12 : (⟨S32x128, .f32⟩ : BufTy).Contents (Elt Ideal)) (u 13 : (⟨S32x128, .f32⟩ : BufTy).Contents (Elt Ideal)) (u 14 : (⟨S32x128, .f32⟩ : BufTy).Contents (Elt Ideal)) (u 15 : (⟨S32x128, .f32⟩ : BufTy).Contents (Elt Ideal)) : (⟨S4432x128, .f32⟩ : BufTy).Contents (Elt Ideal))),
    StableHlo.binary main_v39 main_v40 main_v42 (stack2 : (⟨S32x128, .f32⟩ : BufTy).Contents (Elt Ideal) → (⟨S124x128, .f32⟩ : BufTy).Contents (Elt Ideal) → (⟨S156x128, .f32⟩ : BufTy).Contents (Elt Ideal)),
    StableHlo.binary main_v41 main_v42 main_v43 (stack : (⟨S4432x128, .f32⟩ : BufTy).Contents (Elt Ideal) → (⟨S156x128, .f32⟩ : BufTy).Contents (Elt Ideal) → (⟨S4588x128, .f32⟩ : BufTy).Contents (Elt Ideal)),
    StableHlo.nullary main_c_0 (constantI S_ 32 0#32) ]
theorem seg1_eq : (hostOps0_2 : List (HloOp τ sig (Elt Ideal))) = seg1 := rfl

/-- The host operations before packing 3 is filled up, with the stacking by its name. -/
def seg2 : List (HloOp τ sig (Elt Ideal)) :=
  [ StableHlo.unary main_v44 main_v45 (broadcastInDim S1x4608x128 ![1, 2] bcast_S4608x128_S1x4608x128_1_2 : (⟨S4608x128, .f32⟩ : BufTy).Contents (Elt Ideal) → (⟨S1x4608x128, .f32⟩ : BufTy).Contents (Elt Ideal)),
    StableHlo.reshape main_arg36 main_v46 (rfl : (.f32 : EltTy) = .f32) shapeCasts_S4x1024_S32x128,
    StableHlo.reshape main_arg37 main_v47 (rfl : (.f32 : EltTy) = .f32) shapeCasts_S4x1024_S32x128,
    StableHlo.reshape main_arg38 main_v48 (rfl : (.f32 : EltTy) = .f32) shapeCasts_S4x1024_S32x128,
    StableHlo.reshape main_arg39 main_v49 (rfl : (.f32 : EltTy) = .f32) shapeCasts_S4x4x128x128_S2048x128,
    StableHlo.reshape main_arg40 main_v50 (rfl : (.f32 : EltTy) = .f32) shapeCasts_S4x512_S16x128,
    StableHlo.reshape main_arg41 main_v51 (rfl : (.f32 : EltTy) = .f32) shapeCasts_S4x512_S16x128,
    StableHlo.reshape main_arg42 main_v52 (rfl : (.f32 : EltTy) = .f32) shapeCasts_S4x512_S16x128,
    StableHlo.reshape main_arg43 main_v53 (rfl : (.f32 : EltTy) = .f32) shapeCasts_S4x4x128x128_S2048x128,
    StableHlo.reshape main_arg44 main_v54 (rfl : (.f32 : EltTy) = .f32) shapeCasts_S4x4x128_S16x128,
    StableHlo.reshape main_arg45 main_v55 (rfl : (.f32 : EltTy) = .f32) shapeCasts_S4x512_S16x128,
    StableHlo.reshape main_arg46 main_v56 (rfl : (.f32 : EltTy) = .f32) shapeCasts_S4x512_S16x128,
    StableHlo.reshape main_arg47 main_v57 (rfl : (.f32 : EltTy) = .f32) shapeCasts_S4x512_S16x128,
    StableHlo.reshape main_arg48 main_v58 (rfl : (.f32 : EltTy) = .f32) shapeCasts_S4x1024_S32x128,
    StableHlo.reshape main_arg49 main_v59 (rfl : (.f32 : EltTy) = .f32) shapeCasts_S4x1024_S32x128,
    StableHlo.reshape main_arg50 main_v60 (rfl : (.f32 : EltTy) = .f32) shapeCasts_S4x1024_S32x128,
    StableHlo.reshape main_arg51 main_v61 (rfl : (.f32 : EltTy) = .f32) shapeCasts_S4x1024_S32x128,
    StableHlo.reshape main_arg52 main_v62 (rfl : (.f32 : EltTy) = .f32) shapeCasts_S4x1024_S32x128,
    StableHlo.reshape main_arg53 main_v63 (rfl : (.f32 : EltTy) = .f32) shapeCasts_S4x31x1x128_S124x128,
    StableHlo.nary ![main_v46, main_v47, main_v48, main_v49, main_v50, main_v51, main_v52, main_v53, main_v54, main_v55, main_v56, main_v57, main_v58, main_v59, main_v60, main_v61] main_v64 (fun u => (stack16 (u 0 : (⟨S32x128, .f32⟩ : BufTy).Contents (Elt Ideal)) (u 1 : (⟨S32x128, .f32⟩ : BufTy).Contents (Elt Ideal)) (u 2 : (⟨S32x128, .f32⟩ : BufTy).Contents (Elt Ideal)) (u 3 : (⟨S2048x128, .f32⟩ : BufTy).Contents (Elt Ideal)) (u 4 : (⟨S16x128, .f32⟩ : BufTy).Contents (Elt Ideal)) (u 5 : (⟨S16x128, .f32⟩ : BufTy).Contents (Elt Ideal)) (u 6 : (⟨S16x128, .f32⟩ : BufTy).Contents (Elt Ideal)) (u 7 : (⟨S2048x128, .f32⟩ : BufTy).Contents (Elt Ideal)) (u 8 : (⟨S16x128, .f32⟩ : BufTy).Contents (Elt Ideal)) (u 9 : (⟨S16x128, .f32⟩ : BufTy).Contents (Elt Ideal)) (u 10 : (⟨S16x128, .f32⟩ : BufTy).Contents (Elt Ideal)) (u 11 : (⟨S16x128, .f32⟩ : BufTy).Contents (Elt Ideal)) (u 12 : (⟨S32x128, .f32⟩ : BufTy).Contents (Elt Ideal)) (u 13 : (⟨S32x128, .f32⟩ : BufTy).Contents (Elt Ideal)) (u 14 : (⟨S32x128, .f32⟩ : BufTy).Contents (Elt Ideal)) (u 15 : (⟨S32x128, .f32⟩ : BufTy).Contents (Elt Ideal)) : (⟨S4432x128, .f32⟩ : BufTy).Contents (Elt Ideal))),
    StableHlo.binary main_v62 main_v63 main_v65 (stack2 : (⟨S32x128, .f32⟩ : BufTy).Contents (Elt Ideal) → (⟨S124x128, .f32⟩ : BufTy).Contents (Elt Ideal) → (⟨S156x128, .f32⟩ : BufTy).Contents (Elt Ideal)),
    StableHlo.binary main_v64 main_v65 main_v66 (stack : (⟨S4432x128, .f32⟩ : BufTy).Contents (Elt Ideal) → (⟨S156x128, .f32⟩ : BufTy).Contents (Elt Ideal) → (⟨S4588x128, .f32⟩ : BufTy).Contents (Elt Ideal)),
    StableHlo.nullary main_c_1 (constantI S_ 32 0#32) ]
theorem seg2_eq : (hostOps0_4 : List (HloOp τ sig (Elt Ideal))) = seg2 := rfl

/-- The host operations before packing 4 is filled up, with the stacking by its name. -/
def seg3 : List (HloOp τ sig (Elt Ideal)) :=
  [ StableHlo.unary main_v67 main_v68 (broadcastInDim S1x4608x128 ![1, 2] bcast_S4608x128_S1x4608x128_1_2 : (⟨S4608x128, .f32⟩ : BufTy).Contents (Elt Ideal) → (⟨S1x4608x128, .f32⟩ : BufTy).Contents (Elt Ideal)),
    StableHlo.reshape main_arg54 main_v69 (rfl : (.f32 : EltTy) = .f32) shapeCasts_S4x1024_S32x128,
    StableHlo.reshape main_arg55 main_v70 (rfl : (.f32 : EltTy) = .f32) shapeCasts_S4x1024_S32x128,
    StableHlo.reshape main_arg56 main_v71 (rfl : (.f32 : EltTy) = .f32) shapeCasts_S4x1024_S32x128,
    StableHlo.reshape main_arg57 main_v72 (rfl : (.f32 : EltTy) = .f32) shapeCasts_S4x4x128x128_S2048x128,
    StableHlo.reshape main_arg58 main_v73 (rfl : (.f32 : EltTy) = .f32) shapeCasts_S4x512_S16x128,
    StableHlo.reshape main_arg59 main_v74 (rfl : (.f32 : EltTy) = .f32) shapeCasts_S4x512_S16x128,
    StableHlo.reshape main_arg60 main_v75 (rfl : (.f32 : EltTy) = .f32) shapeCasts_S4x512_S16x128,
    StableHlo.reshape main_arg61 main_v76 (rfl : (.f32 : EltTy) = .f32) shapeCasts_S4x4x128x128_S2048x128,
    StableHlo.reshape main_arg62 main_v77 (rfl : (.f32 : EltTy) = .f32) shapeCasts_S4x4x128_S16x128,
    StableHlo.reshape main_arg63 main_v78 (rfl : (.f32 : EltTy) = .f32) shapeCasts_S4x512_S16x128,
    StableHlo.reshape main_arg64 main_v79 (rfl : (.f32 : EltTy) = .f32) shapeCasts_S4x512_S16x128,
    StableHlo.reshape main_arg65 main_v80 (rfl : (.f32 : EltTy) = .f32) shapeCasts_S4x512_S16x128,
    StableHlo.reshape main_arg66 main_v81 (rfl : (.f32 : EltTy) = .f32) shapeCasts_S4x1024_S32x128,
    StableHlo.reshape main_arg67 main_v82 (rfl : (.f32 : EltTy) = .f32) shapeCasts_S4x1024_S32x128,
    StableHlo.reshape main_arg68 main_v83 (rfl : (.f32 : EltTy) = .f32) shapeCasts_S4x1024_S32x128,
    StableHlo.reshape main_arg69 main_v84 (rfl : (.f32 : EltTy) = .f32) shapeCasts_S4x1024_S32x128,
    StableHlo.reshape main_arg70 main_v85 (rfl : (.f32 : EltTy) = .f32) shapeCasts_S4x1024_S32x128,
    StableHlo.reshape main_arg71 main_v86 (rfl : (.f32 : EltTy) = .f32) shapeCasts_S4x31x1x128_S124x128,
    StableHlo.nary ![main_v69, main_v70, main_v71, main_v72, main_v73, main_v74, main_v75, main_v76, main_v77, main_v78, main_v79, main_v80, main_v81, main_v82, main_v83, main_v84] main_v87 (fun u => (stack16 (u 0 : (⟨S32x128, .f32⟩ : BufTy).Contents (Elt Ideal)) (u 1 : (⟨S32x128, .f32⟩ : BufTy).Contents (Elt Ideal)) (u 2 : (⟨S32x128, .f32⟩ : BufTy).Contents (Elt Ideal)) (u 3 : (⟨S2048x128, .f32⟩ : BufTy).Contents (Elt Ideal)) (u 4 : (⟨S16x128, .f32⟩ : BufTy).Contents (Elt Ideal)) (u 5 : (⟨S16x128, .f32⟩ : BufTy).Contents (Elt Ideal)) (u 6 : (⟨S16x128, .f32⟩ : BufTy).Contents (Elt Ideal)) (u 7 : (⟨S2048x128, .f32⟩ : BufTy).Contents (Elt Ideal)) (u 8 : (⟨S16x128, .f32⟩ : BufTy).Contents (Elt Ideal)) (u 9 : (⟨S16x128, .f32⟩ : BufTy).Contents (Elt Ideal)) (u 10 : (⟨S16x128, .f32⟩ : BufTy).Contents (Elt Ideal)) (u 11 : (⟨S16x128, .f32⟩ : BufTy).Contents (Elt Ideal)) (u 12 : (⟨S32x128, .f32⟩ : BufTy).Contents (Elt Ideal)) (u 13 : (⟨S32x128, .f32⟩ : BufTy).Contents (Elt Ideal)) (u 14 : (⟨S32x128, .f32⟩ : BufTy).Contents (Elt Ideal)) (u 15 : (⟨S32x128, .f32⟩ : BufTy).Contents (Elt Ideal)) : (⟨S4432x128, .f32⟩ : BufTy).Contents (Elt Ideal))),
    StableHlo.binary main_v85 main_v86 main_v88 (stack2 : (⟨S32x128, .f32⟩ : BufTy).Contents (Elt Ideal) → (⟨S124x128, .f32⟩ : BufTy).Contents (Elt Ideal) → (⟨S156x128, .f32⟩ : BufTy).Contents (Elt Ideal)),
    StableHlo.binary main_v87 main_v88 main_v89 (stack : (⟨S4432x128, .f32⟩ : BufTy).Contents (Elt Ideal) → (⟨S156x128, .f32⟩ : BufTy).Contents (Elt Ideal) → (⟨S4588x128, .f32⟩ : BufTy).Contents (Elt Ideal)),
    StableHlo.nullary main_c_2 (constantI S_ 32 0#32) ]
theorem seg3_eq : (hostOps0_6 : List (HloOp τ sig (Elt Ideal))) = seg3 := rfl

/-- Part 1 of the host operations writes its own results only. -/
theorem keep0 (σ : Valuation τ sig (Elt Ideal)) {r : Ref sig .tc} (hr : r ∉ ([main_v0, main_v1, main_v2, main_v3, main_v4, main_v5, main_v6, main_v7, main_v8, main_v9, main_v10, main_v11, main_v12, main_v13, main_v14, main_v15, main_v16, main_v17, main_v18, main_v19, main_v20, main_c] : List (Ref sig .tc))) :
    after (hostOps0 : List (HloOp τ sig (Elt Ideal))) σ (no_index (Proc.devRef .tc r)) = σ (Proc.devRef .tc r) :=
  after_of_writes_sub _ _ (forall_writes_sub_of_map rfl) hr

/-- Part 2 of the host operations writes its own results only. -/
theorem keep1 (σ : Valuation τ sig (Elt Ideal)) {r : Ref sig .tc} (hr : r ∉ ([main_call0_v0, main_v21] : List (Ref sig .tc))) :
    after (hostOps0_1 : List (HloOp τ sig (Elt Ideal))) σ (no_index (Proc.devRef .tc r)) = σ (Proc.devRef .tc r) :=
  after_of_writes_sub _ _ (forall_writes_sub_of_map rfl) hr

/-- Part 3 of the host operations writes its own results only. -/
theorem keep2 (σ : Valuation τ sig (Elt Ideal)) {r : Ref sig .tc} (hr : r ∉ ([main_v22, main_v23, main_v24, main_v25, main_v26, main_v27, main_v28, main_v29, main_v30, main_v31, main_v32, main_v33, main_v34, main_v35, main_v36, main_v37, main_v38, main_v39, main_v40, main_v41, main_v42, main_v43, main_c_0] : List (Ref sig .tc))) :
    after (hostOps0_2 : List (HloOp τ sig (Elt Ideal))) σ (no_index (Proc.devRef .tc r)) = σ (Proc.devRef .tc r) :=
  after_of_writes_sub _ _ (forall_writes_sub_of_map rfl) hr

/-- Part 4 of the host operations writes its own results only. -/
theorem keep3 (σ : Valuation τ sig (Elt Ideal)) {r : Ref sig .tc} (hr : r ∉ ([main_call1_v0, main_v44] : List (Ref sig .tc))) :
    after (hostOps0_3 : List (HloOp τ sig (Elt Ideal))) σ (no_index (Proc.devRef .tc r)) = σ (Proc.devRef .tc r) :=
  after_of_writes_sub _ _ (forall_writes_sub_of_map rfl) hr

/-- Part 5 of the host operations writes its own results only. -/
theorem keep4 (σ : Valuation τ sig (Elt Ideal)) {r : Ref sig .tc} (hr : r ∉ ([main_v45, main_v46, main_v47, main_v48, main_v49, main_v50, main_v51, main_v52, main_v53, main_v54, main_v55, main_v56, main_v57, main_v58, main_v59, main_v60, main_v61, main_v62, main_v63, main_v64, main_v65, main_v66, main_c_1] : List (Ref sig .tc))) :
    after (hostOps0_4 : List (HloOp τ sig (Elt Ideal))) σ (no_index (Proc.devRef .tc r)) = σ (Proc.devRef .tc r) :=
  after_of_writes_sub _ _ (forall_writes_sub_of_map rfl) hr

/-- Part 6 of the host operations writes its own results only. -/
theorem keep5 (σ : Valuation τ sig (Elt Ideal)) {r : Ref sig .tc} (hr : r ∉ ([main_call2_v0, main_v67] : List (Ref sig .tc))) :
    after (hostOps0_5 : List (HloOp τ sig (Elt Ideal))) σ (no_index (Proc.devRef .tc r)) = σ (Proc.devRef .tc r) :=
  after_of_writes_sub _ _ (forall_writes_sub_of_map rfl) hr

/-- Part 7 of the host operations writes its own results only. -/
theorem keep6 (σ : Valuation τ sig (Elt Ideal)) {r : Ref sig .tc} (hr : r ∉ ([main_v68, main_v69, main_v70, main_v71, main_v72, main_v73, main_v74, main_v75, main_v76, main_v77, main_v78, main_v79, main_v80, main_v81, main_v82, main_v83, main_v84, main_v85, main_v86, main_v87, main_v88, main_v89, main_c_2] : List (Ref sig .tc))) :
    after (hostOps0_6 : List (HloOp τ sig (Elt Ideal))) σ (no_index (Proc.devRef .tc r)) = σ (Proc.devRef .tc r) :=
  after_of_writes_sub _ _ (forall_writes_sub_of_map rfl) hr

/-- Part 8 of the host operations writes its own results only. -/
theorem keep7 (σ : Valuation τ sig (Elt Ideal)) {r : Ref sig .tc} (hr : r ∉ ([main_call3_v0, main_v90] : List (Ref sig .tc))) :
    after (hostOps0_7 : List (HloOp τ sig (Elt Ideal))) σ (no_index (Proc.devRef .tc r)) = σ (Proc.devRef .tc r) :=
  after_of_writes_sub _ _ (forall_writes_sub_of_map rfl) hr

/-- Part 9 of the host operations writes its own results only. -/
theorem keep8 (σ : Valuation τ sig (Elt Ideal)) {r : Ref sig .tc} (hr : r ∉ ([main_v91] : List (Ref sig .tc))) :
    after (hostOps0_8 : List (HloOp τ sig (Elt Ideal))) σ (no_index (Proc.devRef .tc r)) = σ (Proc.devRef .tc r) :=
  after_of_writes_sub _ _ (forall_writes_sub_of_map rfl) hr

set_option maxHeartbeats 2000000 in
/-- The rows of packing 1, stacked. -/
theorem rows0 (σ : Valuation τ sig (Elt Ideal)) : after (hostOps0 : List (HloOp τ sig (Elt Ideal))) σ (no_index (Proc.devRef .tc main_v20))
    = rows (σ (Proc.devRef .tc main_arg0)) (σ (Proc.devRef .tc main_arg1)) (σ (Proc.devRef .tc main_arg2)) (σ (Proc.devRef .tc main_arg3)) (σ (Proc.devRef .tc main_arg4)) (σ (Proc.devRef .tc main_arg5)) (σ (Proc.devRef .tc main_arg6)) (σ (Proc.devRef .tc main_arg7)) (σ (Proc.devRef .tc main_arg8)) (σ (Proc.devRef .tc main_arg9)) (σ (Proc.devRef .tc main_arg10)) (σ (Proc.devRef .tc main_arg11)) (σ (Proc.devRef .tc main_arg12)) (σ (Proc.devRef .tc main_arg13)) (σ (Proc.devRef .tc main_arg14)) (σ (Proc.devRef .tc main_arg15)) (σ (Proc.devRef .tc main_arg16)) (σ (Proc.devRef .tc main_arg17)) := by
  rw [seg0_eq]
  simp only [seg0]
  after_results_simp
  try dsimp only [Matrix.cons_val]
  try after_results_simp
  rfl
theorem const0 (σ : Valuation τ sig (Elt Ideal)) : after (hostOps0 : List (HloOp τ sig (Elt Ideal))) σ (no_index (Proc.devRef .tc main_c))
    = constantI S_ 32 0#32 := by
  rw [seg0_eq]
  simp only [seg0]
  after_results_simp
/-- Packing 1 filled up. -/
theorem fill0 (σ : Valuation τ sig (Elt Ideal)) : after (hostOps0_1 : List (HloOp τ sig (Elt Ideal))) σ (no_index (Proc.devRef .tc main_v21))
    = filled (sitofp (F := Ideal) .f32 (σ (Proc.devRef .tc main_c))) (σ (Proc.devRef .tc main_v20)) := by
  simp only [hostOps0_1]
  after_results_simp
  rfl
theorem block0 (σ : Valuation τ sig (Elt Ideal)) : after (hostOps0_2 : List (HloOp τ sig (Elt Ideal))) σ (no_index (Proc.devRef .tc main_v22))
    = block (σ (Proc.devRef .tc main_v21)) := by
  rw [seg1_eq]
  simp only [seg1]
  after_results_simp
  rfl

set_option maxHeartbeats 2000000 in
/-- The rows of packing 2, stacked. -/
theorem rows1 (σ : Valuation τ sig (Elt Ideal)) : after (hostOps0_2 : List (HloOp τ sig (Elt Ideal))) σ (no_index (Proc.devRef .tc main_v43))
    = rows (σ (Proc.devRef .tc main_arg18)) (σ (Proc.devRef .tc main_arg19)) (σ (Proc.devRef .tc main_arg20)) (σ (Proc.devRef .tc main_arg21)) (σ (Proc.devRef .tc main_arg22)) (σ (Proc.devRef .tc main_arg23)) (σ (Proc.devRef .tc main_arg24)) (σ (Proc.devRef .tc main_arg25)) (σ (Proc.devRef .tc main_arg26)) (σ (Proc.devRef .tc main_arg27)) (σ (Proc.devRef .tc main_arg28)) (σ (Proc.devRef .tc main_arg29)) (σ (Proc.devRef .tc main_arg30)) (σ (Proc.devRef .tc main_arg31)) (σ (Proc.devRef .tc main_arg32)) (σ (Proc.devRef .tc main_arg33)) (σ (Proc.devRef .tc main_arg34)) (σ (Proc.devRef .tc main_arg35)) := by
  rw [seg1_eq]
  simp only [seg1]
  after_results_simp
  try dsimp only [Matrix.cons_val]
  try after_results_simp
  rfl
theorem const1 (σ : Valuation τ sig (Elt Ideal)) : after (hostOps0_2 : List (HloOp τ sig (Elt Ideal))) σ (no_index (Proc.devRef .tc main_c_0))
    = constantI S_ 32 0#32 := by
  rw [seg1_eq]
  simp only [seg1]
  after_results_simp
/-- Packing 2 filled up. -/
theorem fill1 (σ : Valuation τ sig (Elt Ideal)) : after (hostOps0_3 : List (HloOp τ sig (Elt Ideal))) σ (no_index (Proc.devRef .tc main_v44))
    = filled (sitofp (F := Ideal) .f32 (σ (Proc.devRef .tc main_c_0))) (σ (Proc.devRef .tc main_v43)) := by
  simp only [hostOps0_3]
  after_results_simp
  rfl
theorem block1 (σ : Valuation τ sig (Elt Ideal)) : after (hostOps0_4 : List (HloOp τ sig (Elt Ideal))) σ (no_index (Proc.devRef .tc main_v45))
    = block (σ (Proc.devRef .tc main_v44)) := by
  rw [seg2_eq]
  simp only [seg2]
  after_results_simp
  rfl

set_option maxHeartbeats 2000000 in
/-- The rows of packing 3, stacked. -/
theorem rows2 (σ : Valuation τ sig (Elt Ideal)) : after (hostOps0_4 : List (HloOp τ sig (Elt Ideal))) σ (no_index (Proc.devRef .tc main_v66))
    = rows (σ (Proc.devRef .tc main_arg36)) (σ (Proc.devRef .tc main_arg37)) (σ (Proc.devRef .tc main_arg38)) (σ (Proc.devRef .tc main_arg39)) (σ (Proc.devRef .tc main_arg40)) (σ (Proc.devRef .tc main_arg41)) (σ (Proc.devRef .tc main_arg42)) (σ (Proc.devRef .tc main_arg43)) (σ (Proc.devRef .tc main_arg44)) (σ (Proc.devRef .tc main_arg45)) (σ (Proc.devRef .tc main_arg46)) (σ (Proc.devRef .tc main_arg47)) (σ (Proc.devRef .tc main_arg48)) (σ (Proc.devRef .tc main_arg49)) (σ (Proc.devRef .tc main_arg50)) (σ (Proc.devRef .tc main_arg51)) (σ (Proc.devRef .tc main_arg52)) (σ (Proc.devRef .tc main_arg53)) := by
  rw [seg2_eq]
  simp only [seg2]
  after_results_simp
  try dsimp only [Matrix.cons_val]
  try after_results_simp
  rfl
theorem const2 (σ : Valuation τ sig (Elt Ideal)) : after (hostOps0_4 : List (HloOp τ sig (Elt Ideal))) σ (no_index (Proc.devRef .tc main_c_1))
    = constantI S_ 32 0#32 := by
  rw [seg2_eq]
  simp only [seg2]
  after_results_simp
/-- Packing 3 filled up. -/
theorem fill2 (σ : Valuation τ sig (Elt Ideal)) : after (hostOps0_5 : List (HloOp τ sig (Elt Ideal))) σ (no_index (Proc.devRef .tc main_v67))
    = filled (sitofp (F := Ideal) .f32 (σ (Proc.devRef .tc main_c_1))) (σ (Proc.devRef .tc main_v66)) := by
  simp only [hostOps0_5]
  after_results_simp
  rfl
theorem block2 (σ : Valuation τ sig (Elt Ideal)) : after (hostOps0_6 : List (HloOp τ sig (Elt Ideal))) σ (no_index (Proc.devRef .tc main_v68))
    = block (σ (Proc.devRef .tc main_v67)) := by
  rw [seg3_eq]
  simp only [seg3]
  after_results_simp
  rfl

set_option maxHeartbeats 2000000 in
/-- The rows of packing 4, stacked. -/
theorem rows3 (σ : Valuation τ sig (Elt Ideal)) : after (hostOps0_6 : List (HloOp τ sig (Elt Ideal))) σ (no_index (Proc.devRef .tc main_v89))
    = rows (σ (Proc.devRef .tc main_arg54)) (σ (Proc.devRef .tc main_arg55)) (σ (Proc.devRef .tc main_arg56)) (σ (Proc.devRef .tc main_arg57)) (σ (Proc.devRef .tc main_arg58)) (σ (Proc.devRef .tc main_arg59)) (σ (Proc.devRef .tc main_arg60)) (σ (Proc.devRef .tc main_arg61)) (σ (Proc.devRef .tc main_arg62)) (σ (Proc.devRef .tc main_arg63)) (σ (Proc.devRef .tc main_arg64)) (σ (Proc.devRef .tc main_arg65)) (σ (Proc.devRef .tc main_arg66)) (σ (Proc.devRef .tc main_arg67)) (σ (Proc.devRef .tc main_arg68)) (σ (Proc.devRef .tc main_arg69)) (σ (Proc.devRef .tc main_arg70)) (σ (Proc.devRef .tc main_arg71)) := by
  rw [seg3_eq]
  simp only [seg3]
  after_results_simp
  try dsimp only [Matrix.cons_val]
  try after_results_simp
  rfl
theorem const3 (σ : Valuation τ sig (Elt Ideal)) : after (hostOps0_6 : List (HloOp τ sig (Elt Ideal))) σ (no_index (Proc.devRef .tc main_c_2))
    = constantI S_ 32 0#32 := by
  rw [seg3_eq]
  simp only [seg3]
  after_results_simp
/-- Packing 4 filled up. -/
theorem fill3 (σ : Valuation τ sig (Elt Ideal)) : after (hostOps0_7 : List (HloOp τ sig (Elt Ideal))) σ (no_index (Proc.devRef .tc main_v90))
    = filled (sitofp (F := Ideal) .f32 (σ (Proc.devRef .tc main_c_2))) (σ (Proc.devRef .tc main_v89)) := by
  simp only [hostOps0_7]
  after_results_simp
  rfl
theorem block3 (σ : Valuation τ sig (Elt Ideal)) : after (hostOps0_8 : List (HloOp τ sig (Elt Ideal))) σ (no_index (Proc.devRef .tc main_v91))
    = block (σ (Proc.devRef .tc main_v90)) := by
  simp only [hostOps0_8]
  after_results_simp
  rfl

theorem after_app (a b : List (HloOp τ sig (Elt Ideal))) (σ : Valuation τ sig (Elt Ideal)) : after (a ++ b) σ = after b (after a σ) := by
  induction a generalizing σ with
  | nil => rfl
  | cons x a ih => exact ih _

variable (m : (ℓ : Loc nD τ sig) → Buf (Elt Ideal) ℓ) (c : Dev nD)

/-- The call's operand 1: the weights, packed. -/
theorem V_in0 : V m c main_v22 = packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show after (List.flatten [hostOps0, hostOps0_1, hostOps0_2, hostOps0_3, hostOps0_4, hostOps0_5, hostOps0_6, hostOps0_7, hostOps0_8]) (fun b => m (c, b)) (Proc.devRef .tc main_v22) = _
  simp only [List.flatten_cons, List.flatten_nil, List.append_nil, after_app]
  simp (disch := decide) only [keep0, keep1, keep2, keep3, keep4, keep5, keep6, keep7, keep8, rows0, const0, fill0, block0]
  rfl
/-- The call's operand 2: the gradients, packed. -/
theorem V_in1 : V m c main_v45 = packed (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  show after (List.flatten [hostOps0, hostOps0_1, hostOps0_2, hostOps0_3, hostOps0_4, hostOps0_5, hostOps0_6, hostOps0_7, hostOps0_8]) (fun b => m (c, b)) (Proc.devRef .tc main_v45) = _
  simp only [List.flatten_cons, List.flatten_nil, List.append_nil, after_app]
  simp (disch := decide) only [keep0, keep1, keep2, keep3, keep4, keep5, keep6, keep7, keep8, rows1, const1, fill1, block1]
  rfl
/-- The call's operand 3: the first moments, packed. -/
theorem V_in2 : V m c main_v68 = packed (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) := by
  show after (List.flatten [hostOps0, hostOps0_1, hostOps0_2, hostOps0_3, hostOps0_4, hostOps0_5, hostOps0_6, hostOps0_7, hostOps0_8]) (fun b => m (c, b)) (Proc.devRef .tc main_v68) = _
  simp only [List.flatten_cons, List.flatten_nil, List.append_nil, after_app]
  simp (disch := decide) only [keep0, keep1, keep2, keep3, keep4, keep5, keep6, keep7, keep8, rows2, const2, fill2, block2]
  rfl
/-- The call's operand 4: the second moments, packed. -/
theorem V_in3 : V m c main_v91 = packed (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67)) (m ((c : Thread nD τ).loc main_arg68)) (m ((c : Thread nD τ).loc main_arg69)) (m ((c : Thread nD τ).loc main_arg70)) (m ((c : Thread nD τ).loc main_arg71)) := by
  show after (List.flatten [hostOps0, hostOps0_1, hostOps0_2, hostOps0_3, hostOps0_4, hostOps0_5, hostOps0_6, hostOps0_7, hostOps0_8]) (fun b => m (c, b)) (Proc.devRef .tc main_v91) = _
  simp only [List.flatten_cons, List.flatten_nil, List.append_nil, after_app]
  simp (disch := decide) only [keep0, keep1, keep2, keep3, keep4, keep5, keep6, keep7, keep8, rows3, const3, fill3, block3]
  rfl

end Cert.Adam19

end
-- ==== Proof.Adam19.Kernel.lean ====
/- One AdamW step on the eighteen small weights, packed into one array: one call of two tiles. -/
module

public import proofs.«01_k».proof.Proof.Gen.Kernel19Ideal.Value
public import proofs.«01_k».proof.Proof.Adam19.Host
public import Idealize.ShloMosaic.Lib.KernelVsHost
public import Idealize.ShloMosaic.Lib.Pipeline.ValueKit

@[expose] public section

set_option maxRecDepth 16384

noncomputable section

namespace Cert.Adam19

open Cert.Adam
open Cert.Kernel19Ideal Cert.Kernel19Ideal.Gen Idealize.ShloMosaic Idealize.ShloMosaic.TcCoe Idealize.SL.Sem

/-- The call's stored blocks, element by element. -/
theorem pay_change (g w p v : Vec Ideal S1x2304x128 .f32) (z : Fin 1) (r : Fin 2304) (l : Fin 128) :
    k0_pay2 (k0_pay8 g w p v) (ix3 z r l) = change (w (ix3 z r l)) (g (ix3 z r l)) (p (ix3 z r l)) (v (ix3 z r l)) := by
  obtain rfl : z = 0 := Subsingleton.elim _ _
  unfold k0_pay2 k0_pay8 k0_pay6 k0_pay7 k0_pay5 change mean square
  pointwise
theorem pay_mean (g p : Vec Ideal S1x2304x128 .f32) (z : Fin 1) (r : Fin 2304) (l : Fin 128) :
    k0_pay3 (k0_pay6 g p) (ix3 z r l) = mean (p (ix3 z r l)) (g (ix3 z r l)) := by
  obtain rfl : z = 0 := Subsingleton.elim _ _
  unfold k0_pay3 k0_pay6 k0_pay5 mean
  pointwise
theorem pay_square (g v : Vec Ideal S1x2304x128 .f32) (z : Fin 1) (r : Fin 2304) (l : Fin 128) :
    k0_pay4 (k0_pay7 g v) (ix3 z r l) = square (v (ix3 z r l)) (g (ix3 z r l)) := by
  obtain rfl : z = 0 := Subsingleton.elim _ _
  unfold k0_pay4 k0_pay7 k0_pay5 square
  pointwise

theorem change_congr {a a' b b' d d' e e' : EReal} (h₁ : a = a') (h₂ : b = b') (h₃ : d = d') (h₄ : e = e') :
    change a b d e = change a' b' d' e' := by
  rw [h₁, h₂, h₃, h₄]

variable (m : (ℓ : Loc nD τ sig) → Buf (Elt Ideal) ℓ) (ρ : Dev nD → PrngReg) (c : Dev nD)

/-- The weights, packed. -/
def packW : S1x4608x128.Idx → EReal := packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
/-- The gradients, packed. -/
def packG : S1x4608x128.Idx → EReal := packed (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))
/-- The first moments, packed. -/
def packM : S1x4608x128.Idx → EReal := packed (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53))
/-- The second moments, packed. -/
def packV : S1x4608x128.Idx → EReal := packed (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67)) (m ((c : Thread nD τ).loc main_arg68)) (m ((c : Thread nD τ).loc main_arg69)) (m ((c : Thread nD τ).loc main_arg70)) (m ((c : Thread nD τ).loc main_arg71))
theorem idx_0 : ∀ t : Fin grid0.N, win0_0.index t = ![0, t.val, 0] := by decide +kernel
theorem idx_1 : ∀ t : Fin grid0.N, win0_1.index t = ![0, t.val, 0] := by decide +kernel
theorem idx_2 : ∀ t : Fin grid0.N, win0_2.index t = ![0, t.val, 0] := by decide +kernel
theorem idx_3 : ∀ t : Fin grid0.N, win0_3.index t = ![0, t.val, 0] := by decide +kernel
theorem idx_5 : ∀ t : Fin grid0.N, win0_5.index t = ![0, t.val, 0] := by decide +kernel
theorem idx_6 : ∀ t : Fin grid0.N, win0_6.index t = ![0, t.val, 0] := by decide +kernel
theorem idx_7 : ∀ t : Fin grid0.N, win0_7.index t = ![0, t.val, 0] := by decide +kernel

/-- The blocks the call reads are the packed arrays' tiles. -/
theorem blk_0 (t : Fin 2) (z : Fin 1) (r : Fin 2304) (l : Fin 128) :
    iblk m c 0 t (ix3 z r l) = packW m c (ix3 (0 : Fin 1) (⟨t.val * 2304 + r.val, by omega⟩ : Fin 4608) l) := by
  refine Eq.trans ?_ (congrFun (V_in0 m c) _)
  obtain rfl : z = 0 := Subsingleton.elim _ _
  blk_ext [iblk, idx_0 t]
theorem blk_1 (t : Fin 2) (z : Fin 1) (r : Fin 2304) (l : Fin 128) :
    iblk m c 1 t (ix3 z r l) = packG m c (ix3 (0 : Fin 1) (⟨t.val * 2304 + r.val, by omega⟩ : Fin 4608) l) := by
  refine Eq.trans ?_ (congrFun (V_in1 m c) _)
  obtain rfl : z = 0 := Subsingleton.elim _ _
  blk_ext [iblk, idx_1 t]
theorem blk_2 (t : Fin 2) (z : Fin 1) (r : Fin 2304) (l : Fin 128) :
    iblk m c 2 t (ix3 z r l) = packM m c (ix3 (0 : Fin 1) (⟨t.val * 2304 + r.val, by omega⟩ : Fin 4608) l) := by
  refine Eq.trans ?_ (congrFun (V_in2 m c) _)
  obtain rfl : z = 0 := Subsingleton.elim _ _
  blk_ext [iblk, idx_2 t]
theorem blk_3 (t : Fin 2) (z : Fin 1) (r : Fin 2304) (l : Fin 128) :
    iblk m c 3 t (ix3 z r l) = packV m c (ix3 (0 : Fin 1) (⟨t.val * 2304 + r.val, by omega⟩ : Fin 4608) l) := by
  refine Eq.trans ?_ (congrFun (V_in3 m c) _)
  obtain rfl : z = 0 := Subsingleton.elim _ _
  blk_ext [iblk, idx_3 t]

/-- The array the call leaves in window 5: the packed weights' change. -/
theorem arr_5 : (dats m 0 c).arrAt 5 cfg0.N = changes (packW m c) (packG m c) (packM m c) (packV m c) := by
  refine (dats m 0 c).arrAt_eq_of_covers 5 (changes (packW m c) (packG m c) (packM m c) (packV m c)) (by decide +kernel) fun t hf y => ?_
  blk_simp
  rw [after0_5]
  unfold out0_5
  frame_out
  idx_vars y
  have ht : t.val < 2 := t.isLt
  refine Eq.trans ?_ (congrArg (changes (packW m c) (packG m c) (packM m c) (packV m c)) (?_ : ix3 (0 : Fin 1) (⟨t.val * 2304 + y1.val, by omega⟩ : Fin 4608) y2 = _))
  · exact (pay_change _ _ _ _ _ _ _).trans (change_congr (blk_0 m c t _ y1 y2) (blk_1 m c t _ y1 y2) (blk_2 m c t _ y1 y2) (blk_3 m c t _ y1 y2))
  · blk_ext [idx_5 t]

/-- The array the call leaves in window 6: the new first moments. -/
theorem arr_6 : (dats m 0 c).arrAt 6 cfg0.N = means (packG m c) (packM m c) := by
  refine (dats m 0 c).arrAt_eq_of_covers 6 (means (packG m c) (packM m c)) (by decide +kernel) fun t hf y => ?_
  blk_simp
  rw [after0_6]
  unfold out0_6
  frame_out
  idx_vars y
  have ht : t.val < 2 := t.isLt
  refine Eq.trans ?_ (congrArg (means (packG m c) (packM m c)) (?_ : ix3 (0 : Fin 1) (⟨t.val * 2304 + y1.val, by omega⟩ : Fin 4608) y2 = _))
  · exact (pay_mean _ _ _ _ _).trans (congrArg₂ mean (blk_2 m c t _ y1 y2) (blk_1 m c t _ y1 y2))
  · blk_ext [idx_6 t]

/-- The array the call leaves in window 7: the new second moments. -/
theorem arr_7 : (dats m 0 c).arrAt 7 cfg0.N = squares (packG m c) (packV m c) := by
  refine (dats m 0 c).arrAt_eq_of_covers 7 (squares (packG m c) (packV m c)) (by decide +kernel) fun t hf y => ?_
  blk_simp
  rw [after0_7]
  unfold out0_7
  frame_out
  idx_vars y
  have ht : t.val < 2 := t.isLt
  refine Eq.trans ?_ (congrArg (squares (packG m c) (packV m c)) (?_ : ix3 (0 : Fin 1) (⟨t.val * 2304 + y1.val, by omega⟩ : Fin 4608) y2 = _))
  · exact (pay_square _ _ _ _ _).trans (congrArg₂ square (blk_3 m c t _ y1 y2) (blk_1 m c t _ y1 y2))
  · blk_ext [idx_7 t]

/-- The kernel's run: its three results are the step's, of the packed arrays; its arguments are as they were. -/
theorem run : θ_run (defs (F := Ideal)) (onTc (τ := τ) (main (F := Ideal))) ⟨m, fun _ => 0, ρ⟩ fun r => ∀ c : Dev nD,
      r.2.mem ((c : Thread nD τ).loc main_v92_1) = changes (packW m c) (packG m c) (packM m c) (packV m c)
      ∧ r.2.mem ((c : Thread nD τ).loc main_v92_2) = means (packG m c) (packM m c)
      ∧ r.2.mem ((c : Thread nD τ).loc main_v92_3) = squares (packG m c) (packV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36)
      ∧ r.2.mem ((c : Thread nD τ).loc main_arg37) = m ((c : Thread nD τ).loc main_arg37)
      ∧ r.2.mem ((c : Thread nD τ).loc main_arg38) = m ((c : Thread nD τ).loc main_arg38)
      ∧ r.2.mem ((c : Thread nD τ).loc main_arg39) = m ((c : Thread nD τ).loc main_arg39)
      ∧ r.2.mem ((c : Thread nD τ).loc main_arg40) = m ((c : Thread nD τ).loc main_arg40)
      ∧ r.2.mem ((c : Thread nD τ).loc main_arg41) = m ((c : Thread nD τ).loc main_arg41)
      ∧ r.2.mem ((c : Thread nD τ).loc main_arg42) = m ((c : Thread nD τ).loc main_arg42)
      ∧ r.2.mem ((c : Thread nD τ).loc main_arg43) = m ((c : Thread nD τ).loc main_arg43)
      ∧ r.2.mem ((c : Thread nD τ).loc main_arg44) = m ((c : Thread nD τ).loc main_arg44)
      ∧ r.2.mem ((c : Thread nD τ).loc main_arg45) = m ((c : Thread nD τ).loc main_arg45)
      ∧ r.2.mem ((c : Thread nD τ).loc main_arg46) = m ((c : Thread nD τ).loc main_arg46)
      ∧ r.2.mem ((c : Thread nD τ).loc main_arg47) = m ((c : Thread nD τ).loc main_arg47)
      ∧ r.2.mem ((c : Thread nD τ).loc main_arg48) = m ((c : Thread nD τ).loc main_arg48)
      ∧ r.2.mem ((c : Thread nD τ).loc main_arg49) = m ((c : Thread nD τ).loc main_arg49)
      ∧ r.2.mem ((c : Thread nD τ).loc main_arg50) = m ((c : Thread nD τ).loc main_arg50)
      ∧ r.2.mem ((c : Thread nD τ).loc main_arg51) = m ((c : Thread nD τ).loc main_arg51)
      ∧ r.2.mem ((c : Thread nD τ).loc main_arg52) = m ((c : Thread nD τ).loc main_arg52)
      ∧ r.2.mem ((c : Thread nD τ).loc main_arg53) = m ((c : Thread nD τ).loc main_arg53)
      ∧ r.2.mem ((c : Thread nD τ).loc main_arg54) = m ((c : Thread nD τ).loc main_arg54)
      ∧ r.2.mem ((c : Thread nD τ).loc main_arg55) = m ((c : Thread nD τ).loc main_arg55)
      ∧ r.2.mem ((c : Thread nD τ).loc main_arg56) = m ((c : Thread nD τ).loc main_arg56)
      ∧ r.2.mem ((c : Thread nD τ).loc main_arg57) = m ((c : Thread nD τ).loc main_arg57)
      ∧ r.2.mem ((c : Thread nD τ).loc main_arg58) = m ((c : Thread nD τ).loc main_arg58)
      ∧ r.2.mem ((c : Thread nD τ).loc main_arg59) = m ((c : Thread nD τ).loc main_arg59)
      ∧ r.2.mem ((c : Thread nD τ).loc main_arg60) = m ((c : Thread nD τ).loc main_arg60)
      ∧ r.2.mem ((c : Thread nD τ).loc main_arg61) = m ((c : Thread nD τ).loc main_arg61)
      ∧ r.2.mem ((c : Thread nD τ).loc main_arg62) = m ((c : Thread nD τ).loc main_arg62)
      ∧ r.2.mem ((c : Thread nD τ).loc main_arg63) = m ((c : Thread nD τ).loc main_arg63)
      ∧ r.2.mem ((c : Thread nD τ).loc main_arg64) = m ((c : Thread nD τ).loc main_arg64)
      ∧ r.2.mem ((c : Thread nD τ).loc main_arg65) = m ((c : Thread nD τ).loc main_arg65)
      ∧ r.2.mem ((c : Thread nD τ).loc main_arg66) = m ((c : Thread nD τ).loc main_arg66)
      ∧ r.2.mem ((c : Thread nD τ).loc main_arg67) = m ((c : Thread nD τ).loc main_arg67)
      ∧ r.2.mem ((c : Thread nD τ).loc main_arg68) = m ((c : Thread nD τ).loc main_arg68)
      ∧ r.2.mem ((c : Thread nD τ).loc main_arg69) = m ((c : Thread nD τ).loc main_arg69)
      ∧ r.2.mem ((c : Thread nD τ).loc main_arg70) = m ((c : Thread nD τ).loc main_arg70)
      ∧ r.2.mem ((c : Thread nD τ).loc main_arg71) = m ((c : Thread nD τ).loc main_arg71) :=
  (θ_run _ _ _).mono (fun r h c => ⟨(h c).2.1.trans (arr_5 m c), (h c).2.2.1.trans (arr_6 m c), (h c).2.2.2.1.trans (arr_7 m c),
    (h c).2.2.2.2⟩) (Cert.Kernel19Ideal.Value.run_blocks (F := Ideal) m ρ)

end Cert.Adam19

end
-- ==== Proof.Adam19.Reference.lean ====
/- What the reference of the step on the eighteen small weights computes, and the claims about both programs. -/
module

public import proofs.«01_k».proof.Defs
public import proofs.«01_k».proof.Proof.Gen.Reference19Ideal.Run
public import proofs.«01_k».proof.Proof.Adam19.Kernel
public import Idealize.ShloMosaic.Lib.Claim

@[expose] public section

set_option maxRecDepth 16384

noncomputable section

namespace Cert.Adam19

open Cert.Adam
open Idealize.ShloMosaic Idealize.ShloMosaic.TcCoe Idealize.SL.Sem

section Ref
open Cert.Reference19Ideal Cert.Reference19Ideal.Value Cert.Reference19Ideal.Gen Idealize.ShloMosaic.StableHlo

/-- The reference's new moments and its change of one weight, whatever the weight's shape. -/
theorem ref_mean {s : Shape} (hb : S_.BroadcastsInDim s (![] : Fin 0 → Fin s.rank)) (g p : s.Idx → EReal) :
    (addf (F := Ideal) (φ := .f32) (mulf (F := Ideal) (φ := .f32) (broadcastInDim s ![] hb (constant (F := Ideal) S_ .f32 0x3F666666#32)) p) (mulf (F := Ideal) (φ := .f32) (broadcastInDim s ![] hb (constant (F := Ideal) S_ .f32 0x3DCCCCCD#32)) g) : s.Idx → EReal) = means g p := rfl
theorem ref_square {s : Shape} (hb : S_.BroadcastsInDim s (![] : Fin 0 → Fin s.rank)) (g v : s.Idx → EReal) :
    (addf (F := Ideal) (φ := .f32) (mulf (F := Ideal) (φ := .f32) (broadcastInDim s ![] hb (constant (F := Ideal) S_ .f32 0x3F7FBE77#32)) v) (mulf (F := Ideal) (φ := .f32) (broadcastInDim s ![] hb (constant (F := Ideal) S_ .f32 0x3A83126F#32)) (mulf (F := Ideal) (φ := .f32) g g)) : s.Idx → EReal) = squares g v := rfl
theorem ref_change {s : Shape} (hb : S_.BroadcastsInDim s (![] : Fin 0 → Fin s.rank)) (w g p v : s.Idx → EReal) :
    (mulf (F := Ideal) (φ := .f32) (broadcastInDim s ![] hb (constant (F := Ideal) S_ .f32 0xBA83126F#32)) (addf (F := Ideal) (φ := .f32) (Host.divf (F := Ideal) (φ := .f32) (Host.divf (F := Ideal) (φ := .f32) (addf (F := Ideal) (φ := .f32) (mulf (F := Ideal) (φ := .f32) (broadcastInDim s ![] hb (constant (F := Ideal) S_ .f32 0x3F666666#32)) p) (mulf (F := Ideal) (φ := .f32) (broadcastInDim s ![] hb (constant (F := Ideal) S_ .f32 0x3DCCCCCD#32)) g)) (broadcastInDim s ![] hb (constant (F := Ideal) S_ .f32 0x3F26BD02#32))) (addf (F := Ideal) (φ := .f32) (Host.sqrt (F := Ideal) (φ := .f32) (Host.divf (F := Ideal) (φ := .f32) (addf (F := Ideal) (φ := .f32) (mulf (F := Ideal) (φ := .f32) (broadcastInDim s ![] hb (constant (F := Ideal) S_ .f32 0x3F7FBE77#32)) v) (mulf (F := Ideal) (φ := .f32) (broadcastInDim s ![] hb (constant (F := Ideal) S_ .f32 0x3A83126F#32)) (mulf (F := Ideal) (φ := .f32) g g))) (broadcastInDim s ![] hb (constant (F := Ideal) S_ .f32 0x3C231ACC#32)))) (broadcastInDim s ![] hb (constant (F := Ideal) S_ .f32 0x322BCC77#32)))) (mulf (F := Ideal) (φ := .f32) (broadcastInDim s ![] hb (constant (F := Ideal) S_ .f32 0x3C23D70A#32)) w)) : s.Idx → EReal) = changes w g p v := rfl

/-- Packings of equal arrays are equal. -/
theorem packed_congr {x0 y0 x1 y1 x2 y2 x12 y12 x13 y13 x14 y14 x15 y15 x16 y16 : S4x1024.Idx → EReal} {x3 y3 x7 y7 : S4x4x128x128.Idx → EReal}
    {x4 y4 x5 y5 x6 y6 x9 y9 x10 y10 x11 y11 : S4x512.Idx → EReal} {x8 y8 : S4x4x128.Idx → EReal} {x17 y17 : S4x31x1x128.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) :
    packed x0 x1 x2 x3 x4 x5 x6 x7 x8 x9 x10 x11 x12 x13 x14 x15 x16 x17 = packed y0 y1 y2 y3 y4 y5 y6 y7 y8 y9 y10 y11 y12 y13 y14 y15 y16 y17 := by
  rw [h0, h1, h2, h3, h4, h5, h6, h7, h8, h9, h10, h11, h12, h13, h14, h15, h16, h17]

/-- The step of the packed arrays is the packed steps. -/
theorem packed_changes (w0 : S4x1024.Idx → EReal) (w1 : S4x1024.Idx → EReal) (w2 : S4x1024.Idx → EReal) (w3 : S4x4x128x128.Idx → EReal) (w4 : S4x512.Idx → EReal) (w5 : S4x512.Idx → EReal) (w6 : S4x512.Idx → EReal) (w7 : S4x4x128x128.Idx → EReal) (w8 : S4x4x128.Idx → EReal) (w9 : S4x512.Idx → EReal) (w10 : S4x512.Idx → EReal) (w11 : S4x512.Idx → EReal) (w12 : S4x1024.Idx → EReal) (w13 : S4x1024.Idx → EReal) (w14 : S4x1024.Idx → EReal) (w15 : S4x1024.Idx → EReal) (w16 : S4x1024.Idx → EReal) (w17 : S4x31x1x128.Idx → EReal) (g0 : S4x1024.Idx → EReal) (g1 : S4x1024.Idx → EReal) (g2 : S4x1024.Idx → EReal) (g3 : S4x4x128x128.Idx → EReal) (g4 : S4x512.Idx → EReal) (g5 : S4x512.Idx → EReal) (g6 : S4x512.Idx → EReal) (g7 : S4x4x128x128.Idx → EReal) (g8 : S4x4x128.Idx → EReal) (g9 : S4x512.Idx → EReal) (g10 : S4x512.Idx → EReal) (g11 : S4x512.Idx → EReal) (g12 : S4x1024.Idx → EReal) (g13 : S4x1024.Idx → EReal) (g14 : S4x1024.Idx → EReal) (g15 : S4x1024.Idx → EReal) (g16 : S4x1024.Idx → EReal) (g17 : S4x31x1x128.Idx → EReal)
    (p0 : S4x1024.Idx → EReal) (p1 : S4x1024.Idx → EReal) (p2 : S4x1024.Idx → EReal) (p3 : S4x4x128x128.Idx → EReal) (p4 : S4x512.Idx → EReal) (p5 : S4x512.Idx → EReal) (p6 : S4x512.Idx → EReal) (p7 : S4x4x128x128.Idx → EReal) (p8 : S4x4x128.Idx → EReal) (p9 : S4x512.Idx → EReal) (p10 : S4x512.Idx → EReal) (p11 : S4x512.Idx → EReal) (p12 : S4x1024.Idx → EReal) (p13 : S4x1024.Idx → EReal) (p14 : S4x1024.Idx → EReal) (p15 : S4x1024.Idx → EReal) (p16 : S4x1024.Idx → EReal) (p17 : S4x31x1x128.Idx → EReal) (v0 : S4x1024.Idx → EReal) (v1 : S4x1024.Idx → EReal) (v2 : S4x1024.Idx → EReal) (v3 : S4x4x128x128.Idx → EReal) (v4 : S4x512.Idx → EReal) (v5 : S4x512.Idx → EReal) (v6 : S4x512.Idx → EReal) (v7 : S4x4x128x128.Idx → EReal) (v8 : S4x4x128.Idx → EReal) (v9 : S4x512.Idx → EReal) (v10 : S4x512.Idx → EReal) (v11 : S4x512.Idx → EReal) (v12 : S4x1024.Idx → EReal) (v13 : S4x1024.Idx → EReal) (v14 : S4x1024.Idx → EReal) (v15 : S4x1024.Idx → EReal) (v16 : S4x1024.Idx → EReal) (v17 : S4x31x1x128.Idx → EReal) :
    packed (changes w0 g0 p0 v0) (changes w1 g1 p1 v1) (changes w2 g2 p2 v2) (changes w3 g3 p3 v3) (changes w4 g4 p4 v4) (changes w5 g5 p5 v5) (changes w6 g6 p6 v6) (changes w7 g7 p7 v7) (changes w8 g8 p8 v8) (changes w9 g9 p9 v9) (changes w10 g10 p10 v10) (changes w11 g11 p11 v11) (changes w12 g12 p12 v12) (changes w13 g13 p13 v13) (changes w14 g14 p14 v14) (changes w15 g15 p15 v15) (changes w16 g16 p16 v16) (changes w17 g17 p17 v17)
      = changes (packed w0 w1 w2 w3 w4 w5 w6 w7 w8 w9 w10 w11 w12 w13 w14 w15 w16 w17) (packed g0 g1 g2 g3 g4 g5 g6 g7 g8 g9 g10 g11 g12 g13 g14 g15 g16 g17) (packed p0 p1 p2 p3 p4 p5 p6 p7 p8 p9 p10 p11 p12 p13 p14 p15 p16 p17) (packed v0 v1 v2 v3 v4 v5 v6 v7 v8 v9 v10 v11 v12 v13 v14 v15 v16 v17) :=
  packed_step change change_zero w0 w1 w2 w3 w4 w5 w6 w7 w8 w9 w10 w11 w12 w13 w14 w15 w16 w17 g0 g1 g2 g3 g4 g5 g6 g7 g8 g9 g10 g11 g12 g13 g14 g15 g16 g17 p0 p1 p2 p3 p4 p5 p6 p7 p8 p9 p10 p11 p12 p13 p14 p15 p16 p17 v0 v1 v2 v3 v4 v5 v6 v7 v8 v9 v10 v11 v12 v13 v14 v15 v16 v17
theorem packed_means (g0 : S4x1024.Idx → EReal) (g1 : S4x1024.Idx → EReal) (g2 : S4x1024.Idx → EReal) (g3 : S4x4x128x128.Idx → EReal) (g4 : S4x512.Idx → EReal) (g5 : S4x512.Idx → EReal) (g6 : S4x512.Idx → EReal) (g7 : S4x4x128x128.Idx → EReal) (g8 : S4x4x128.Idx → EReal) (g9 : S4x512.Idx → EReal) (g10 : S4x512.Idx → EReal) (g11 : S4x512.Idx → EReal) (g12 : S4x1024.Idx → EReal) (g13 : S4x1024.Idx → EReal) (g14 : S4x1024.Idx → EReal) (g15 : S4x1024.Idx → EReal) (g16 : S4x1024.Idx → EReal) (g17 : S4x31x1x128.Idx → EReal)
    (p0 : S4x1024.Idx → EReal) (p1 : S4x1024.Idx → EReal) (p2 : S4x1024.Idx → EReal) (p3 : S4x4x128x128.Idx → EReal) (p4 : S4x512.Idx → EReal) (p5 : S4x512.Idx → EReal) (p6 : S4x512.Idx → EReal) (p7 : S4x4x128x128.Idx → EReal) (p8 : S4x4x128.Idx → EReal) (p9 : S4x512.Idx → EReal) (p10 : S4x512.Idx → EReal) (p11 : S4x512.Idx → EReal) (p12 : S4x1024.Idx → EReal) (p13 : S4x1024.Idx → EReal) (p14 : S4x1024.Idx → EReal) (p15 : S4x1024.Idx → EReal) (p16 : S4x1024.Idx → EReal) (p17 : S4x31x1x128.Idx → EReal) :
    packed (means g0 p0) (means g1 p1) (means g2 p2) (means g3 p3) (means g4 p4) (means g5 p5) (means g6 p6) (means g7 p7) (means g8 p8) (means g9 p9) (means g10 p10) (means g11 p11) (means g12 p12) (means g13 p13) (means g14 p14) (means g15 p15) (means g16 p16) (means g17 p17) = means (packed g0 g1 g2 g3 g4 g5 g6 g7 g8 g9 g10 g11 g12 g13 g14 g15 g16 g17) (packed p0 p1 p2 p3 p4 p5 p6 p7 p8 p9 p10 p11 p12 p13 p14 p15 p16 p17) :=
  packed_step (fun _ g p _ => mean p g) mean_zero g0 g1 g2 g3 g4 g5 g6 g7 g8 g9 g10 g11 g12 g13 g14 g15 g16 g17 g0 g1 g2 g3 g4 g5 g6 g7 g8 g9 g10 g11 g12 g13 g14 g15 g16 g17 p0 p1 p2 p3 p4 p5 p6 p7 p8 p9 p10 p11 p12 p13 p14 p15 p16 p17 p0 p1 p2 p3 p4 p5 p6 p7 p8 p9 p10 p11 p12 p13 p14 p15 p16 p17
theorem packed_squares (g0 : S4x1024.Idx → EReal) (g1 : S4x1024.Idx → EReal) (g2 : S4x1024.Idx → EReal) (g3 : S4x4x128x128.Idx → EReal) (g4 : S4x512.Idx → EReal) (g5 : S4x512.Idx → EReal) (g6 : S4x512.Idx → EReal) (g7 : S4x4x128x128.Idx → EReal) (g8 : S4x4x128.Idx → EReal) (g9 : S4x512.Idx → EReal) (g10 : S4x512.Idx → EReal) (g11 : S4x512.Idx → EReal) (g12 : S4x1024.Idx → EReal) (g13 : S4x1024.Idx → EReal) (g14 : S4x1024.Idx → EReal) (g15 : S4x1024.Idx → EReal) (g16 : S4x1024.Idx → EReal) (g17 : S4x31x1x128.Idx → EReal)
    (v0 : S4x1024.Idx → EReal) (v1 : S4x1024.Idx → EReal) (v2 : S4x1024.Idx → EReal) (v3 : S4x4x128x128.Idx → EReal) (v4 : S4x512.Idx → EReal) (v5 : S4x512.Idx → EReal) (v6 : S4x512.Idx → EReal) (v7 : S4x4x128x128.Idx → EReal) (v8 : S4x4x128.Idx → EReal) (v9 : S4x512.Idx → EReal) (v10 : S4x512.Idx → EReal) (v11 : S4x512.Idx → EReal) (v12 : S4x1024.Idx → EReal) (v13 : S4x1024.Idx → EReal) (v14 : S4x1024.Idx → EReal) (v15 : S4x1024.Idx → EReal) (v16 : S4x1024.Idx → EReal) (v17 : S4x31x1x128.Idx → EReal) :
    packed (squares g0 v0) (squares g1 v1) (squares g2 v2) (squares g3 v3) (squares g4 v4) (squares g5 v5) (squares g6 v6) (squares g7 v7) (squares g8 v8) (squares g9 v9) (squares g10 v10) (squares g11 v11) (squares g12 v12) (squares g13 v13) (squares g14 v14) (squares g15 v15) (squares g16 v16) (squares g17 v17) = squares (packed g0 g1 g2 g3 g4 g5 g6 g7 g8 g9 g10 g11 g12 g13 g14 g15 g16 g17) (packed v0 v1 v2 v3 v4 v5 v6 v7 v8 v9 v10 v11 v12 v13 v14 v15 v16 v17) :=
  packed_step (fun _ g _ v => square v g) square_zero g0 g1 g2 g3 g4 g5 g6 g7 g8 g9 g10 g11 g12 g13 g14 g15 g16 g17 g0 g1 g2 g3 g4 g5 g6 g7 g8 g9 g10 g11 g12 g13 g14 g15 g16 g17 v0 v1 v2 v3 v4 v5 v6 v7 v8 v9 v10 v11 v12 v13 v14 v15 v16 v17 v0 v1 v2 v3 v4 v5 v6 v7 v8 v9 v10 v11 v12 v13 v14 v15 v16 v17

theorem change_arrays {s : Shape} {w w' g g' p p' v v' : s.Idx → EReal} (h₁ : w = w') (h₂ : g = g') (h₃ : p = p') (h₄ : v = v') :
    changes w g p v = changes w' g' p' v' := by
  rw [h₁, h₂, h₃, h₄]

end Ref

/-- The reference ends with its arguments as they were, and it has no semaphores. -/
theorem frame_reference : Cert.quiescent_Reference19Ideal (hReference19Ideal := Cert.Reference19Ideal.Gen.facts) := fun m ρ _ =>
  (θ_run _ _ _).mono (fun r h => ⟨fun c => (h c).2.2.2, sem_eq_zero_of_no_sems (by decide) r.2⟩)
    (Cert.Reference19Ideal.Value.run (F := Ideal) m ρ)

set_option maxHeartbeats 4000000 in
/-- Equal results: the step's, of the packed arguments. -/
theorem algebraic : Cert.algebraic_Kernel19Ideal_Reference19Ideal (hKernel19Ideal := Cert.Kernel19Ideal.Gen.facts)
    (hReference19Ideal := Cert.Reference19Ideal.Gen.facts) := by
  intro m ρ m' ρ' _ hagree
  refine ⟨fun c => changes (packW m c) (packG m c) (packM m c) (packV m c), fun c => means (packG m c) (packM m c),
    fun c => squares (packG m c) (packV m c), ?_, ?_⟩
  · exact run m ρ
  · refine (θ_run _ _ _).mono (fun r h c => ⟨(h c).1.trans ?_, (h c).2.1.trans ?_, (h c).2.2.1.trans ?_, (h c).2.2.2⟩) (Cert.Reference19Ideal.Value.run (F := Ideal) m' ρ')
    all_goals clear h
    all_goals obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71⟩ := hagree c
    · refine Eq.trans (packed_congr (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _) (ref_change _ _ _ _ _)) ?_
      refine (packed_changes _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
      exact change_arrays (packed_congr h0 h1 h2 h3 h4 h5 h6 h7 h8 h9 h10 h11 h12 h13 h14 h15 h16 h17) (packed_congr h18 h19 h20 h21 h22 h23 h24 h25 h26 h27 h28 h29 h30 h31 h32 h33 h34 h35)
        (packed_congr h36 h37 h38 h39 h40 h41 h42 h43 h44 h45 h46 h47 h48 h49 h50 h51 h52 h53) (packed_congr h54 h55 h56 h57 h58 h59 h60 h61 h62 h63 h64 h65 h66 h67 h68 h69 h70 h71)
    · refine Eq.trans (packed_congr (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _) (ref_mean _ _ _)) ?_
      refine (packed_means _ _ _ _ _ _ _ _ _ _ _ _ _ _ _ _ _ _ _ _ _ _ _ _ _ _ _ _ _ _ _ _ _ _ _ _).trans ?_
      exact congrArg₂ means (packed_congr h18 h19 h20 h21 h22 h23 h24 h25 h26 h27 h28 h29 h30 h31 h32 h33 h34 h35) (packed_congr h36 h37 h38 h39 h40 h41 h42 h43 h44 h45 h46 h47 h48 h49 h50 h51 h52 h53)
    · refine Eq.trans (packed_congr (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _) (ref_square _ _ _)) ?_
      refine (packed_squares _ _ _ _ _ _ _ _ _ _ _ _ _ _ _ _ _ _ _ _ _ _ _ _ _ _ _ _ _ _ _ _ _ _ _ _).trans ?_
      exact congrArg₂ squares (packed_congr h18 h19 h20 h21 h22 h23 h24 h25 h26 h27 h28 h29 h30 h31 h32 h33 h34 h35) (packed_congr h54 h55 h56 h57 h58 h59 h60 h61 h62 h63 h64 h65 h66 h67 h68 h69 h70 h71)

end Cert.Adam19

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.ConvBwd.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnWeight.Reference
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.FfnBack.Reference
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfnOut.Reference
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.MixBack.Reference
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.MixWeight.Reference
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.OutWeight.Reference
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.FfnIn.BodyBits
public import proofs.«01_k».proof.Proof.FfnIn.Reference
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.MixIn.BodyBits
public import proofs.«01_k».proof.Proof.MixIn.Reference
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.BranchWeight.Reference
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.ProjWeight.Reference
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Adam15.Reference
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Adam16.Reference
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Adam17.Reference
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Adam18.Reference
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Adam19.Reference
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel11.Gen.facts, Cert.Kernel11Ideal.Gen.facts, Cert.Reference11Ideal.Gen.facts, Cert.Kernel13.Gen.facts, Cert.Kernel13Ideal.Gen.facts, Cert.Reference13Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts,
  fun m ρ _ => Cert.Kernel.Gen.frame m ρ, fun m ρ _ => Cert.KernelIdeal.Gen.frame m ρ, Cert.ConvBwd.frame_reference,
  fun m ρ _ => Cert.Kernel2.Gen.frame m ρ, fun m ρ _ => Cert.Kernel2Ideal.Gen.frame m ρ, Cert.FfnWeight.frame_reference,
  fun m ρ _ => Cert.Kernel3.Gen.frame m ρ, fun m ρ _ => Cert.Kernel3Ideal.Gen.frame m ρ, Cert.FfnBack.frame_reference,
  fun m ρ _ => Cert.Kernel4.Gen.frame m ρ, fun m ρ _ => Cert.Kernel4Ideal.Gen.frame m ρ, Cert.FfnOut.frame_reference,
  fun m ρ _ => Cert.Kernel5.Gen.frame m ρ, fun m ρ _ => Cert.Kernel5Ideal.Gen.frame m ρ, Cert.MixBack.frame_reference,
  fun m ρ _ => Cert.Kernel6.Gen.frame m ρ, fun m ρ _ => Cert.Kernel6Ideal.Gen.frame m ρ, Cert.MixWeight.frame_reference,
  fun m ρ _ => Cert.Kernel7.Gen.frame m ρ, fun m ρ _ => Cert.Kernel7Ideal.Gen.frame m ρ, Cert.OutWeight.frame_reference,
  fun m ρ _ => Cert.Kernel8.Body.frame m ρ, fun m ρ _ => Cert.Kernel8Ideal.Body.frame m ρ, Cert.FfnIn.frame_reference,
  fun m ρ _ => Cert.Kernel9.Body.frame m ρ, fun m ρ _ => Cert.Kernel9Ideal.Body.frame m ρ, Cert.MixIn.frame_reference,
  fun m ρ _ => Cert.Kernel11.Gen.frame m ρ, fun m ρ _ => Cert.Kernel11Ideal.Gen.frame m ρ, Cert.BranchWeight.frame_reference,
  fun m ρ _ => Cert.Kernel13.Gen.frame m ρ, fun m ρ _ => Cert.Kernel13Ideal.Gen.frame m ρ, Cert.ProjWeight.frame_reference,
  fun m ρ _ => Cert.Kernel15.Gen.frame m ρ, fun m ρ _ => Cert.Kernel15Ideal.Gen.frame m ρ, Cert.Adam15.frame_reference,
  fun m ρ _ => Cert.Kernel16.Gen.frame m ρ, fun m ρ _ => Cert.Kernel16Ideal.Gen.frame m ρ, Cert.Adam16.frame_reference,
  fun m ρ _ => Cert.Kernel17.Gen.frame m ρ, fun m ρ _ => Cert.Kernel17Ideal.Gen.frame m ρ, Cert.Adam17.frame_reference,
  fun m ρ _ => Cert.Kernel18.Gen.frame m ρ, fun m ρ _ => Cert.Kernel18Ideal.Gen.frame m ρ, Cert.Adam18.frame_reference,
  fun m ρ _ => Cert.Kernel19.Gen.frame m ρ, fun m ρ _ => Cert.Kernel19Ideal.Gen.frame m ρ, Cert.Adam19.frame_reference,
  trivial, Cert.ConvBwd.algebraic,
  trivial, Cert.FfnWeight.algebraic,
  trivial, Cert.FfnBack.algebraic,
  trivial, Cert.FfnOut.algebraic,
  trivial, Cert.MixBack.algebraic,
  trivial, Cert.MixWeight.algebraic,
  trivial, Cert.OutWeight.algebraic,
  trivial, Cert.FfnIn.algebraic,
  trivial, Cert.MixIn.algebraic,
  trivial, Cert.BranchWeight.algebraic,
  trivial, Cert.ProjWeight.algebraic,
  trivial, Cert.Adam15.algebraic,
  trivial, Cert.Adam16.algebraic,
  trivial, Cert.Adam17.algebraic,
  trivial, Cert.Adam18.algebraic,
  trivial, Cert.Adam19.algebraic⟩

end Cert.Proof

end
